-- ==== Defs.lean ====
def Pre_Kernel (m : (ℓ : Loc Cert.Kernel.nD Cert.Kernel.τ Cert.Kernel.sig) → Buf (Elt Bits) ℓ) : Prop :=
  True

def Pre_Kernel_finite [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_finite [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel_finite m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  IdealRules.named_const.Statement Cert.Kernel18Ideal.κ "c1" .f32 0x3FC48605#32 ((8388608 / 5463681 : ℝ) : EReal)
  ∧ IdealRules.named_const.Statement Cert.Kernel18Ideal.κ "c2" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  IdealRules.named_const.Statement Cert.Kernel19Ideal.κ "c1" .f32 0x3FC48605#32 ((8388608 / 5463681 : ℝ) : EReal)
  ∧ IdealRules.named_const.Statement Cert.Kernel19Ideal.κ "c2" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "c1" .f32 0x3FC48605#32 ((8388608 / 5463681 : ℝ) : EReal)
  ∧ IdealRules.named_const.Statement Cert.Kernel20Ideal.κ "c2" .f32 0x42C8E6D3#32 ((268435456 / 2672307 : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  IdealRules.named_const.Statement Cert.Kernel21Ideal.κ "c1" .f32 0x3FC48605#32 ((8388608 / 5463681 : ℝ) : EReal)
  ∧ IdealRules.named_const.Statement Cert.Kernel21Ideal.κ "c2" .f32 0x42C8E6D3#32 ((268435456 / 2672307 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_v26) = v1 c
          ∧ r.2.mem ((c.tc : Thread Cert.Reference21Ideal.nD Cert.Reference21Ideal.τ).loc Cert.Reference21Ideal.main_v7) = v2 c
          ∧ r.2.mem ((c.tc : Thread Cert.Reference21Ideal.nD Cert.Reference21Ideal.τ).loc Cert.Reference21Ideal.main_v13) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  IdealRules.named_const.Statement Cert.Kernel22Ideal.κ "c1" .f32 0x3FC48605#32 ((8388608 / 5463681 : ℝ) : EReal)
  ∧ IdealRules.named_const.Statement Cert.Kernel22Ideal.κ "c2" .f32 0x42C8E6D3#32 ((268435456 / 2672307 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_v26) = v1 c
          ∧ r.2.mem ((c.tc : Thread Cert.Reference22Ideal.nD Cert.Reference22Ideal.τ).loc Cert.Reference22Ideal.main_v7) = v2 c
          ∧ r.2.mem ((c.tc : Thread Cert.Reference22Ideal.nD Cert.Reference22Ideal.τ).loc Cert.Reference22Ideal.main_v13) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  IdealRules.named_const.Statement Cert.Kernel23Ideal.κ "c1" .f32 0x3FC48605#32 ((8388608 / 5463681 : ℝ) : EReal)
  ∧ IdealRules.named_const.Statement Cert.Kernel23Ideal.κ "c2" .f32 0x42C8E6D3#32 ((268435456 / 2672307 : ℝ) : EReal)

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def preserves_Kernel25_Kernel25Ideal : Prop :=
  IdealRules.named_const.Statement Cert.Kernel25Ideal.κ "mask" .f32 0xF149F2CA#32 ⊥

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v31) = v0 c
          ∧ r.2.mem ((c.tc : Thread Cert.Reference25Ideal.nD Cert.Reference25Ideal.τ).loc Cert.Reference25Ideal.main_v47) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v38) = v0 c
          ∧ r.2.mem ((c.tc : Thread Cert.Reference26Ideal.nD Cert.Reference26Ideal.τ).loc Cert.Reference26Ideal.main_v39) = v1 c
          ∧ r.2.mem ((c.tc : Thread Cert.Reference26Ideal.nD Cert.Reference26Ideal.τ).loc Cert.Reference26Ideal.main_v43) = v2 c
          ∧ r.2.mem ((c.tc : Thread Cert.Reference26Ideal.nD Cert.Reference26Ideal.τ).loc Cert.Reference26Ideal.main_v16) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v31) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v232) = v0 c
          ∧ r.2.mem ((c.tc : Thread Cert.Reference28Ideal.nD Cert.Reference28Ideal.τ).loc Cert.Reference28Ideal.main_v256) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v167) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts),
    quiescent_Kernel (hKernel := hKernel)
    ∧ quiescent_Kernel_pre_finite (hKernel := hKernel) (hPre_finite := hPre_finite)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite.lean ====
abbrev S4096x5120 : Shape := ⟨2, ![4096, 5120]⟩
abbrev S4096x2048 : Shape := ⟨2, ![4096, 2048]⟩
abbrev S4096x3072 : Shape := ⟨2, ![4096, 3072]⟩
abbrev S_ : Shape := ⟨0, ![]⟩
abbrev S4096x1024 : Shape := ⟨2, ![4096, 1024]⟩

class Facts : Prop where
  slices_S4096x5120_S4096x3072_0_0 : S4096x5120.Slices ![0, 0] S4096x3072
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  h_S_ : 0 < S_.numel
  slices_S4096x2048_S4096x1024_0_0 : S4096x2048.Slices ![0, 0] S4096x1024
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x5120 .bf16) (main_arg1 : FVec F S4096x2048 .bf16) : IVec S_ 1 :=
  let main_v0 : FVec F S4096x3072 .bf16 := (extractStridedSlice S4096x3072 ![0, 0] · slices_S4096x5120_S4096x3072_0_0) main_arg0
  let main_v1 : FVec F S4096x3072 .f32 := (extf .f32 · bitsLt_bf16_f32) main_v0
  let main_v2 : FVec F S4096x3072 .f32 := Host.absf main_v1
  let main_cst : FVec F S_ .f32 := constant S_ .f32 0x7F800000#32
  let main_v3 : FVec F S4096x3072 .f32 := broadcastInDim S4096x3072 ![] bcast_S_S4096x3072 main_cst
  let main_v4 : IVec S4096x3072 1 := cmpf .olt main_v2 main_v3
  let main_c : IVec S_ 1 := constantI S_ 1 1#1
  let main_v5 : IVec S_ 1 := (fun x v => Host.reduce IntOp.andi x v reducesTo_S4096x3072_S_d0_1 h_S_) main_v4 main_c
  let main_v6 : FVec F S4096x1024 .bf16 := (extractStridedSlice S4096x1024 ![0, 0] · slices_S4096x2048_S4096x1024_0_0) main_arg1
  let main_v7 : FVec F S4096x1024 .f32 := (extf .f32 · bitsLt_bf16_f32) main_v6
  let main_v8 : FVec F S4096x1024 .f32 := Host.absf main_v7
  let main_cst_0 : FVec F S_ .f32 := constant S_ .f32 0x7F800000#32
  let main_v9 : FVec F S4096x1024 .f32 := broadcastInDim S4096x1024 ![] bcast_S_S4096x1024 main_cst_0
  let main_v10 : IVec S4096x1024 1 := cmpf .olt main_v8 main_v9
  let main_c_1 : IVec S_ 1 := constantI S_ 1 1#1
  let main_v11 : IVec S_ 1 := (fun x v => Host.reduce IntOp.andi x v reducesTo_S4096x1024_S_d0_1 h_S_) main_v10 main_c_1
  let main_v12 : IVec S_ 1 := andi main_v5 main_v11
  main_v12
-- ==== Kernel.lean ====
abbrev S4096x5120 : Shape := ⟨2, ![4096, 5120]⟩
abbrev S4096x2048 : Shape := ⟨2, ![4096, 2048]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x4096x128 : Shape := ⟨3, ![8, 4096, 128]⟩
abbrev S256x256 : Shape := ⟨2, ![256, 256]⟩
abbrev S4096x256 : Shape := ⟨2, ![4096, 256]⟩
abbrev S2x256x128 : Shape := ⟨3, ![2, 256, 128]⟩
abbrev S256x128 : Shape := ⟨2, ![256, 128]⟩
abbrev S1x256x128 : Shape := ⟨3, ![1, 256, 128]⟩
abbrev S256x1 : Shape := ⟨2, ![256, 1]⟩

abbrev nBuf : Space → Nat
  | .hbm => 48
  | .vmem => 18
  | .smem => 0
  | _ => 0

abbrev bufTy : (tb : Table) → Fin (tcTables nBuf tb) → BufTy
  | .hbm, ⟨0, _⟩ => ⟨S4096x5120, .bf16⟩
  | .hbm, ⟨1, _⟩ => ⟨S4096x2048, .bf16⟩
  | .hbm, ⟨2, _⟩ => ⟨S4096x1024, .bf16⟩
  | .hbm, ⟨3, _⟩ => ⟨S4096x1024, .f32⟩
  | .hbm, ⟨4, _⟩ => ⟨S4096x8x128, .f32⟩
  | .hbm, ⟨5, _⟩ => ⟨S4096x1024, .bf16⟩
  | .hbm, ⟨6, _⟩ => ⟨S4096x1024, .f32⟩
  | .hbm, ⟨7, _⟩ => ⟨S4096x8x128, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S_, .f32⟩
  | .hbm, ⟨38, _⟩ => ⟨S8x4096x4096, .i1⟩
  | .hbm, ⟨39, _⟩ => ⟨S8x4096x4096, .f32⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S8x4096x128, .f32⟩
  | .hbm, ⟨45, _⟩ => ⟨S4096x1024, .bf16⟩
  | .hbm, ⟨46, _⟩ => ⟨S4096x1024, .bf16⟩
  | .hbm, ⟨47, _⟩ => ⟨S4096x1024, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S2x256x128, .f32⟩
  | .local _ .vmem, ⟨9, _⟩ => ⟨S2x256x128, .f32⟩
  | .local _ .vmem, ⟨10, _⟩ => ⟨S256x256, .bf16⟩
  | .local _ .vmem, ⟨11, _⟩ => ⟨S256x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .f32⟩
  | .local _ .vmem, ⟨17, _⟩ => ⟨S4096x256, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_mult1 : BitVec 32 :=
  let c0_i32_13 : BitVec 32 := 0#32
  c0_i32_13
@[reducible] def k0_t1_loop (i : grid0.Coords) : Scf.Loop 32 :=
  let c0_i32_38 : BitVec 32 := 0#32
  let arg1 : BitVec 32 := BitVec.ofNat 32 (i 1).val
  let v96 : BitVec 32 := Scalar.subi arg1 c0_i32_38
  let c1_i32 : BitVec 32 := 1#32
  let v98 : BitVec 32 := Scalar.divsi v96 c1_i32
  let v99 : BitVec 32 := Scalar.muli v98 c1_i32
  let v100 : BitVec 32 := Scalar.addi c0_i32_38 v99
  let c1_i32_39 : BitVec 32 := 1#32
  ⟨c0_i32_38, v100, c1_i32_39⟩
def k0_mult2 (i : grid0.Coords) (k0_t1 : Fin (k0_t1_loop i).trips) : BitVec 32 :=
  let c0_i32_38 : BitVec 32 := 0#32
  let c1_i32_39 : BitVec 32 := 1#32
  let arg12 : BitVec 32 := Scf.iv c0_i32_38 c1_i32_39 k0_t1
  let c1_i32_72 : BitVec 32 := 1#32
  let v198 : BitVec 32 := Scalar.addi arg12 c1_i32_72
  let c256_i32_73 : BitVec 32 := 256#32
  let v199 : BitVec 32 := Scalar.muli v198 c256_i32_73
  v199
def k0_off1 (i : grid0.Coords) (k0_t1 : Fin (k0_t1_loop i).trips) : Fin 2 → Nat :=
  let c0_i32_38 : BitVec 32 := 0#32
  let c1_i32_39 : BitVec 32 := 1#32
  let arg12 : BitVec 32 := Scf.iv c0_i32_38 c1_i32_39 k0_t1
  let c1_i32_72 : BitVec 32 := 1#32
  let v198 : BitVec 32 := Scalar.addi arg12 c1_i32_72
  let c256_i32_73 : BitVec 32 := 256#32
  let v199 : BitVec 32 := Scalar.muli v198 c256_i32_73
  let v200 : BitVec 32 := v199
  let v201 : Index := Scalar.indexCast v200
  let c0_74 : Index := 0#32
  ![v201.toNat, 0]
def k0_mult3 (i : grid0.Coords) (k0_t1 : Fin (k0_t1_loop i).trips) : BitVec 32 :=
  let c0_i32_38 : BitVec 32 := 0#32
  let c1_i32_39 : BitVec 32 := 1#32
  let arg12 : BitVec 32 := Scf.iv c0_i32_38 c1_i32_39 k0_t1
  let c256_i32_79 : BitVec 32 := 256#32
  let v211 : BitVec 32 := Scalar.muli arg12 c256_i32_79
  v211
def k0_off2 (i : grid0.Coords) (k0_t1 : Fin (k0_t1_loop i).trips) : Fin 2 → Nat :=
  let c0_i32_38 : BitVec 32 := 0#32
  let c1_i32_39 : BitVec 32 := 1#32
  let arg12 : BitVec 32 := Scf.iv c0_i32_38 c1_i32_39 k0_t1
  let c256_i32_79 : BitVec 32 := 256#32
  let v211 : BitVec 32 := Scalar.muli arg12 c256_i32_79
  let v212 : BitVec 32 := v211
  let v213 : Index := Scalar.indexCast v212
  let c0_80 : Index := 0#32
  ![v213.toNat, 0]
def k0_mult4 (i : grid0.Coords) (k0_t1 : Fin (k0_t1_loop i).trips) : BitVec 32 :=
  let c0_i32_38 : BitVec 32 := 0#32
  let c1_i32_39 : BitVec 32 := 1#32
  let arg12 : BitVec 32 := Scf.iv c0_i32_38 c1_i32_39 k0_t1
  let c256_i32_100 : BitVec 32 := 256#32
  let v279 : BitVec 32 := Scalar.muli arg12 c256_i32_100
  v279
def k0_mult5 (i : grid0.Coords) (k0_t1 : Fin (k0_t1_loop i).trips) : BitVec 32 :=
  let c0_i32_38 : BitVec 32 := 0#32
  let c1_i32_39 : BitVec 32 := 1#32
  let arg12 : BitVec 32 := Scf.iv c0_i32_38 c1_i32_39 k0_t1
  let c256_i32_102 : BitVec 32 := 256#32
  let v285 : BitVec 32 := Scalar.muli arg12 c256_i32_102
  v285
def k0_off3 (i : grid0.Coords) (k0_t1 : Fin (k0_t1_loop i).trips) : Fin 2 → Nat :=
  let c0_i32_38 : BitVec 32 := 0#32
  let c1_i32_39 : BitVec 32 := 1#32
  let arg12 : BitVec 32 := Scf.iv c0_i32_38 c1_i32_39 k0_t1
  let c256_i32_102 : BitVec 32 := 256#32
  let v285 : BitVec 32 := Scalar.muli arg12 c256_i32_102
  let v286 : BitVec 32 := v285
  let v297 : Index := Scalar.indexCast v286
  let c0_105 : Index := 0#32
  ![v297.toNat, 0]
def k0_off4 (i : grid0.Coords) (k0_t1 : Fin (k0_t1_loop i).trips) : Fin 2 → Nat :=
  let c0_i32_38 : BitVec 32 := 0#32
  let c1_i32_39 : BitVec 32 := 1#32
  let arg12 : BitVec 32 := Scf.iv c0_i32_38 c1_i32_39 k0_t1
  let c256_i32_102 : BitVec 32 := 256#32
  let v285 : BitVec 32 := Scalar.muli arg12 c256_i32_102
  let v286 : BitVec 32 := v285
  let v326 : Index := Scalar.indexCast v286
  let c128_114 : Index := 128#32
  ![v326.toNat, 128]
@[reducible] def k0_t2_loop (i : grid0.Coords) : Scf.Loop 32 :=
  let c0_i32_38 : BitVec 32 := 0#32
  let arg1 : BitVec 32 := BitVec.ofNat 32 (i 1).val
  let v96 : BitVec 32 := Scalar.subi arg1 c0_i32_38
  let c1_i32 : BitVec 32 := 1#32
  let v98 : BitVec 32 := Scalar.divsi v96 c1_i32
  let v99 : BitVec 32 := Scalar.muli v98 c1_i32
  let v100 : BitVec 32 := Scalar.addi c0_i32_38 v99
  let v97 : BitVec 32 := Scalar.addi c0_i32_38 v96
  let c1_i32_40 : BitVec 32 := 1#32
  ⟨v100, v97, c1_i32_40⟩
def k0_mult6 (i : grid0.Coords) (k0_t2 : Fin (k0_t2_loop i).trips) : BitVec 32 :=
  let c0_i32_38 : BitVec 32 := 0#32
  let arg1 : BitVec 32 := BitVec.ofNat 32 (i 1).val
  let v96 : BitVec 32 := Scalar.subi arg1 c0_i32_38
  let c1_i32 : BitVec 32 := 1#32
  let v98 : BitVec 32 := Scalar.divsi v96 c1_i32
  let v99 : BitVec 32 := Scalar.muli v98 c1_i32
  let v100 : BitVec 32 := Scalar.addi c0_i32_38 v99
  let c1_i32_40 : BitVec 32 := 1#32
  let arg12 : BitVec 32 := Scf.iv v100 c1_i32_40 k0_t2
  let c1_i32_72 : BitVec 32 := 1#32
  let v198 : BitVec 32 := Scalar.addi arg12 c1_i32_72
  let c256_i32_73 : BitVec 32 := 256#32
  let v199 : BitVec 32 := Scalar.muli v198 c256_i32_73
  v199
def k0_off5 (i : grid0.Coords) (k0_t2 : Fin (k0_t2_loop i).trips) : Fin 2 → Nat :=
  let c0_i32_38 : BitVec 32 := 0#32
  let arg1 : BitVec 32 := BitVec.ofNat 32 (i 1).val
  let v96 : BitVec 32 := Scalar.subi arg1 c0_i32_38
  let c1_i32 : BitVec 32 := 1#32
  let v98 : BitVec 32 := Scalar.divsi v96 c1_i32
  let v99 : BitVec 32 := Scalar.muli v98 c1_i32
  let v100 : BitVec 32 := Scalar.addi c0_i32_38 v99
  let c1_i32_40 : BitVec 32 := 1#32
  let arg12 : BitVec 32 := Scf.iv v100 c1_i32_40 k0_t2
  let c1_i32_72 : BitVec 32 := 1#32
  let v198 : BitVec 32 := Scalar.addi arg12 c1_i32_72
  let c256_i32_73 : BitVec 32 := 256#32
  let v199 : BitVec 32 := Scalar.muli v198 c256_i32_73
  let v200 : BitVec 32 := v199
  let v201 : Index := Scalar.indexCast v200
  let c0_74 : Index := 0#32
  ![v201.toNat, 0]
def k0_mult7 (i : grid0.Coords) (k0_t2 : Fin (k0_t2_loop i).trips) : BitVec 32 :=
  let c0_i32_38 : BitVec 32 := 0#32
  let arg1 : BitVec 32 := BitVec.ofNat 32 (i 1).val
  let v96 : BitVec 32 := Scalar.subi arg1 c0_i32_38
  let c1_i32 : BitVec 32 := 1#32
  let v98 : BitVec 32 := Scalar.divsi v96 c1_i32
  let v99 : BitVec 32 := Scalar.muli v98 c1_i32
  let v100 : BitVec 32 := Scalar.addi c0_i32_38 v99
  let c1_i32_40 : BitVec 32 := 1#32
  let arg12 : BitVec 32 := Scf.iv v100 c1_i32_40 k0_t2
  let c256_i32_79 : BitVec 32 := 256#32
  let v211 : BitVec 32 := Scalar.muli arg12 c256_i32_79
  v211
def k0_off6 (i : grid0.Coords) (k0_t2 : Fin (k0_t2_loop i).trips) : Fin 2 → Nat :=
  let c0_i32_38 : BitVec 32 := 0#32
  let arg1 : BitVec 32 := BitVec.ofNat 32 (i 1).val
  let v96 : BitVec 32 := Scalar.subi arg1 c0_i32_38
  let c1_i32 : BitVec 32 := 1#32
  let v98 : BitVec 32 := Scalar.divsi v96 c1_i32
  let v99 : BitVec 32 := Scalar.muli v98 c1_i32
  let v100 : BitVec 32 := Scalar.addi c0_i32_38 v99
  let c1_i32_40 : BitVec 32 := 1#32
  let arg12 : BitVec 32 := Scf.iv v100 c1_i32_40 k0_t2
  let c256_i32_79 : BitVec 32 := 256#32
  let v211 : BitVec 32 := Scalar.muli arg12 c256_i32_79
  let v212 : BitVec 32 := v211
  let v213 : Index := Scalar.indexCast v212
  let c0_80 : Index := 0#32
  ![v213.toNat, 0]
def k0_mult8 (i : grid0.Coords) (k0_t2 : Fin (k0_t2_loop i).trips) : BitVec 32 :=
  let c0_i32_38 : BitVec 32 := 0#32
  let arg1 : BitVec 32 := BitVec.ofNat 32 (i 1).val
  let v96 : BitVec 32 := Scalar.subi arg1 c0_i32_38
  let c1_i32 : BitVec 32 := 1#32
  let v98 : BitVec 32 := Scalar.divsi v96 c1_i32
  let v99 : BitVec 32 := Scalar.muli v98 c1_i32
  let v100 : BitVec 32 := Scalar.addi c0_i32_38 v99
  let c1_i32_40 : BitVec 32 := 1#32
  let arg12 : BitVec 32 := Scf.iv v100 c1_i32_40 k0_t2
  let c256_i32_100 : BitVec 32 := 256#32
  let v279 : BitVec 32 := Scalar.muli arg12 c256_i32_100
  v279
def k0_mult9 (i : grid0.Coords) (k0_t2 : Fin (k0_t2_loop i).trips) : BitVec 32 :=
  let c0_i32_38 : BitVec 32 := 0#32
  let arg1 : BitVec 32 := BitVec.ofNat 32 (i 1).val
  let v96 : BitVec 32 := Scalar.subi arg1 c0_i32_38
  let c1_i32 : BitVec 32 := 1#32
  let v98 : BitVec 32 := Scalar.divsi v96 c1_i32
  let v99 : BitVec 32 := Scalar.muli v98 c1_i32
  let v100 : BitVec 32 := Scalar.addi c0_i32_38 v99
  let c1_i32_40 : BitVec 32 := 1#32
  let arg12 : BitVec 32 := Scf.iv v100 c1_i32_40 k0_t2
  let c256_i32_102 : BitVec 32 := 256#32
  let v285 : BitVec 32 := Scalar.muli arg12 c256_i32_102
  v285
def k0_off7 (i : grid0.Coords) (k0_t2 : Fin (k0_t2_loop i).trips) : Fin 2 → Nat :=
  let c0_i32_38 : BitVec 32 := 0#32
  let arg1 : BitVec 32 := BitVec.ofNat 32 (i 1).val
  let v96 : BitVec 32 := Scalar.subi arg1 c0_i32_38
  let c1_i32 : BitVec 32 := 1#32
  let v98 : BitVec 32 := Scalar.divsi v96 c1_i32
  let v99 : BitVec 32 := Scalar.muli v98 c1_i32
  let v100 : BitVec 32 := Scalar.addi c0_i32_38 v99
  let c1_i32_40 : BitVec 32 := 1#32
  let arg12 : BitVec 32 := Scf.iv v100 c1_i32_40 k0_t2
  let c256_i32_102 : BitVec 32 := 256#32
  let v285 : BitVec 32 := Scalar.muli arg12 c256_i32_102
  let v286 : BitVec 32 := v285
  let v297 : Index := Scalar.indexCast v286
  let c0_105 : Index := 0#32
  ![v297.toNat, 0]
def k0_off8 (i : grid0.Coords) (k0_t2 : Fin (k0_t2_loop i).trips) : Fin 2 → Nat :=
  let c0_i32_38 : BitVec 32 := 0#32
  let arg1 : BitVec 32 := BitVec.ofNat 32 (i 1).val
  let v96 : BitVec 32 := Scalar.subi arg1 c0_i32_38
  let c1_i32 : BitVec 32 := 1#32
  let v98 : BitVec 32 := Scalar.divsi v96 c1_i32
  let v99 : BitVec 32 := Scalar.muli v98 c1_i32
  let v100 : BitVec 32 := Scalar.addi c0_i32_38 v99
  let c1_i32_40 : BitVec 32 := 1#32
  let arg12 : BitVec 32 := Scf.iv v100 c1_i32_40 k0_t2
  let c256_i32_102 : BitVec 32 := 256#32
  let v285 : BitVec 32 := Scalar.muli arg12 c256_i32_102
  let v286 : BitVec 32 := v285
  let v326 : Index := Scalar.indexCast v286
  let c128_114 : Index := 128#32
  ![v326.toNat, 128]
def k0_mult10 (i : grid0.Coords) : BitVec 32 :=
  let arg1 : BitVec 32 := BitVec.ofNat 32 (i 1).val
  let c256_i32 : BitVec 32 := 256#32
  let v103 : BitVec 32 := Scalar.muli arg1 c256_i32
  v103
def k0_off9 (i : grid0.Coords) : Fin 2 → Nat :=
  let arg1 : BitVec 32 := BitVec.ofNat 32 (i 1).val
  let c256_i32 : BitVec 32 := 256#32
  let v103 : BitVec 32 := Scalar.muli arg1 c256_i32
  let v104 : BitVec 32 := v103
  let v105 : Index := Scalar.indexCast v104
  let c0_41 : Index := 0#32
  ![v105.toNat, 0]
def k0_mult11 (i : grid0.Coords) : BitVec 32 :=
  let arg1 : BitVec 32 := BitVec.ofNat 32 (i 1).val
  let c256_i32_42 : BitVec 32 := 256#32
  let v109 : BitVec 32 := Scalar.muli arg1 c256_i32_42
  v109
def k0_mult12 (i : grid0.Coords) : BitVec 32 :=
  let arg1 : BitVec 32 := BitVec.ofNat 32 (i 1).val
  let c256_i32_48 : BitVec 32 := 256#32
  let v131 : BitVec 32 := Scalar.muli arg1 c256_i32_48
  v131
def k0_off10 (i : grid0.Coords) : Fin 2 → Nat :=
  let arg1 : BitVec 32 := BitVec.ofNat 32 (i 1).val
  let c256_i32_48 : BitVec 32 := 256#32
  let v131 : BitVec 32 := Scalar.muli arg1 c256_i32_48
  let v132 : BitVec 32 := v131
  let v143 : Index := Scalar.indexCast v132
  let c0_51 : Index := 0#32
  ![v143.toNat, 0]
def k0_off11 (i : grid0.Coords) : Fin 2 → Nat :=
  let arg1 : BitVec 32 := BitVec.ofNat 32 (i 1).val
  let c256_i32_48 : BitVec 32 := 256#32
  let v131 : BitVec 32 := Scalar.muli arg1 c256_i32_48
  let v132 : BitVec 32 := v131
  let v172 : Index := Scalar.indexCast v132
  let c128_60 : Index := 128#32
  ![v172.toNat, 128]
def k0_cond2 (i : grid0.Coords) : BitVec 1 :=
  let arg1 : BitVec 32 := BitVec.ofNat 32 (i 1).val
  let c15_i32 : BitVec 32 := 15#32
  let v195 : BitVec 1 := Scalar.cmpi .eq arg1 c15_i32
  let v196 : BitVec 32 := Scalar.extui v195
  let c0_i32_71 : BitVec 32 := 0#32
  let v197 : BitVec 1 := Scalar.cmpi .ne v196 c0_i32_71
  v197

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x5120 : Shape := ⟨2, ![4096, 5120]⟩
abbrev S4096x2048 : Shape := ⟨2, ![4096, 2048]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4096x128 : Shape := ⟨3, ![8, 4096, 128]⟩

abbrev nBuf : Space → Nat
  | .hbm => 182
  | .vmem => 0
  | .smem => 0
  | _ => 0

abbrev hbmTy0_0 (i : Nat) : BufTy := match i % 128 with
  | 0 => ⟨S4096x5120, .bf16⟩
  | 1 => ⟨S4096x2048, .bf16⟩
  | 2 => ⟨S4096x1024, .bf16⟩
  | 3 => ⟨S4096x1024, .f32⟩
  | 4 => ⟨S4096x8x128, .f32⟩
  | 5 => ⟨S4096x1024, .bf16⟩
  | 6 => ⟨S4096x1024, .f32⟩
  | 7 => ⟨S4096x8x128, .f32⟩
  | 8 => ⟨S4096x1024, .bf16⟩
  | 9 => ⟨S4096x1024, .f32⟩
  | 10 => ⟨S4096x8x128, .f32⟩
  | 11 => ⟨S8x4096x4096, .f32⟩
  | 12 => ⟨S_, .f32⟩
  | 13 => ⟨S8x4096x4096, .f32⟩
  | 14 => ⟨S8x4096x4096, .f32⟩
  | 15 => ⟨S4096, .i32⟩
  | 16 => ⟨S1x4096, .i32⟩
  | 17 => ⟨S4096, .i32⟩
  | 18 => ⟨S4096x1, .i32⟩
  | 19 => ⟨S4096x4096, .i32⟩
  | 20 => ⟨S4096x4096, .i32⟩
  | 21 => ⟨S4096x4096, .i1⟩
  | 22 => ⟨S8x4096x4096, .f32⟩
  | 23 => ⟨S8x4096x4096, .f32⟩
  | 24 => ⟨S_, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .i1⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S_, .f32⟩
  | 39 => ⟨S8x4096x4096, .f32⟩
  | 40 => ⟨S8x4096x4096, .i1⟩
  | 41 => ⟨S_, .f32⟩
  | 42 => ⟨S8x4096x4096, .f32⟩
  | 43 => ⟨S8x4096x4096, .f32⟩
  | 44 => ⟨S_, .f32⟩
  | 45 => ⟨S8x4096x4096, .f32⟩
  | 46 => ⟨S8x4096x4096, .i1⟩
  | 47 => ⟨S_, .f32⟩
  | 48 => ⟨S8x4096x4096, .f32⟩
  | 49 => ⟨S8x4096x4096, .f32⟩
  | 50 => ⟨S8x4096x4096, .f32⟩
  | 51 => ⟨S8x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S8x4096x4096, .f32⟩
  | 60 => ⟨S8x4096x4096, .i1⟩
  | 61 => ⟨S_, .f32⟩
  | 62 => ⟨S8x4096x4096, .f32⟩
  | 63 => ⟨S8x4096x4096, .f32⟩
  | 64 => ⟨S8x4096x4096, .f32⟩
  | 65 => ⟨S8x4096x4096, .f32⟩
  | 66 => ⟨S8x4096x4096, .f32⟩
  | 67 => ⟨S_, .f32⟩
  | 68 => ⟨S8x4096x4096, .f32⟩
  | 69 => ⟨S8x4096x4096, .f32⟩
  | 70 => ⟨S8x4096x4096, .f32⟩
  | 71 => ⟨S_, .f32⟩
  | 72 => ⟨S_, .f32⟩
  | 73 => ⟨S8x4096x4096, .i1⟩
  | 74 => ⟨S8x4096x4096, .f32⟩
  | 75 => ⟨S8x4096x4096, .f32⟩
  | 76 => ⟨S_, .f32⟩
  | 77 => ⟨S8x4096x4096, .f32⟩
  | 78 => ⟨S_, .f32⟩
  | 79 => ⟨S_, .f32⟩
  | 80 => ⟨S8x4096x4096, .f32⟩
  | 81 => ⟨S8x4096x4096, .f32⟩
  | 82 => ⟨S8x4096x4096, .f32⟩
  | 83 => ⟨S_, .f32⟩
  | 84 => ⟨S8x4096x4096, .f32⟩
  | 85 => ⟨S8x4096x4096, .f32⟩
  | 86 => ⟨S8x4096x4096, .f32⟩
  | 87 => ⟨S8x4096x4096, .f32⟩
  | 88 => ⟨S8x4096x4096, .i1⟩
  | 89 => ⟨S8x4096x4096, .f32⟩
  | 90 => ⟨S8x4096x4096, .f32⟩
  | 91 => ⟨S8x4096x4096, .f32⟩
  | 92 => ⟨S8x4096x4096, .f32⟩
  | 93 => ⟨S8x4096x4096, .f32⟩
  | 94 => ⟨S8x4096x4096, .f32⟩
  | 95 => ⟨S8x4096x4096, .f32⟩
  | 96 => ⟨S8x4096x4096, .f32⟩
  | 97 => ⟨S_, .f32⟩
  | 98 => ⟨S8x4096x4096, .f32⟩
  | 99 => ⟨S8x4096x4096, .i1⟩
  | 100 => ⟨S_, .f32⟩
  | 101 => ⟨S8x4096x4096, .f32⟩
  | 102 => ⟨S8x4096x4096, .f32⟩
  | 103 => ⟨S_, .f32⟩
  | 104 => ⟨S8x4096x4096, .f32⟩
  | 105 => ⟨S8x4096x4096, .i1⟩
  | 106 => ⟨S_, .f32⟩
  | 107 => ⟨S8x4096x4096, .f32⟩
  | 108 => ⟨S8x4096x4096, .f32⟩
  | 109 => ⟨S8x4096x4096, .f32⟩
  | 110 => ⟨S8x4096x4096, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S8x4096x4096, .f32⟩
  | 119 => ⟨S8x4096x4096, .i1⟩
  | 120 => ⟨S_, .f32⟩
  | 121 => ⟨S8x4096x4096, .f32⟩
  | 122 => ⟨S8x4096x4096, .f32⟩
  | 123 => ⟨S8x4096x4096, .f32⟩
  | 124 => ⟨S8x4096x4096, .f32⟩
  | 125 => ⟨S8x4096x4096, .f32⟩
  | 126 => ⟨S_, .f32⟩
  | 127 => ⟨S8x4096x4096, .f32⟩
  | _ => ⟨S4096x5120, .bf16⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S8x4096x4096, .f32⟩
  | 4 => ⟨S_, .f32⟩
  | 5 => ⟨S_, .f32⟩
  | 6 => ⟨S8x4096x4096, .i1⟩
  | 7 => ⟨S8x4096x4096, .f32⟩
  | 8 => ⟨S8x4096x4096, .f32⟩
  | 9 => ⟨S_, .f32⟩
  | 10 => ⟨S8x4096x4096, .f32⟩
  | 11 => ⟨S8x128x4096, .f32⟩
  | 12 => ⟨S4096x8x128, .f32⟩
  | 13 => ⟨S4096x1024, .f32⟩
  | 14 => ⟨S4096x1024, .bf16⟩
  | 15 => ⟨S4096x1024, .f32⟩
  | 16 => ⟨S4096x8x128, .f32⟩
  | 17 => ⟨S8x128x4096, .f32⟩
  | 18 => ⟨S8x4096x4096, .f32⟩
  | 19 => ⟨S8x128x4096, .f32⟩
  | 20 => ⟨S4096x8x128, .f32⟩
  | 21 => ⟨S_, .f32⟩
  | 22 => ⟨S8x4096x4096, .f32⟩
  | 23 => ⟨S8x4096x4096, .f32⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .f32⟩
  | 29 => ⟨S_, .f32⟩
  | 30 => ⟨S_, .f32⟩
  | 31 => ⟨S8x4096x4096, .f32⟩
  | 32 => ⟨S8x4096x4096, .f32⟩
  | 33 => ⟨S_, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S8x4096x4096, .f32⟩
  | 41 => ⟨S_, .f32⟩
  | 42 => ⟨S8x4096x4096, .f32⟩
  | 43 => ⟨S8x4096x4096, .f32⟩
  | 44 => ⟨S8x4096x128, .f32⟩
  | 45 => ⟨S4096x8x128, .f32⟩
  | 46 => ⟨S8x4096x128, .f32⟩
  | 47 => ⟨S4096x8x128, .f32⟩
  | 48 => ⟨S4096x1024, .f32⟩
  | 49 => ⟨S4096x1024, .bf16⟩
  | 50 => ⟨S4096x1024, .f32⟩
  | 51 => ⟨S4096x1024, .bf16⟩
  | 52 => ⟨S4096x1024, .f32⟩
  | 53 => ⟨S4096x1024, .bf16⟩
  | _ => ⟨S4096x5120, .bf16⟩

abbrev hbmTy (i : Nat) : BufTy := match i / 128 with
  | 0 => hbmTy0_0 i
  | 1 => hbmTy0_1 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v24_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v24_2 : Ref sig .tc := ⟨.hbm, 128, rfl⟩
abbrev main_v24_0 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_call5_cst : Ref sig .tc := ⟨.hbm, 149, rfl⟩
abbrev main_call5_v0 : Ref sig .tc := ⟨.hbm, 150, rfl⟩
abbrev main_v38 : Ref sig .tc := ⟨.hbm, 151, rfl⟩
abbrev main_v39 : Ref sig .tc := ⟨.hbm, 152, rfl⟩
abbrev main_call6_v0 : Ref sig .tc := ⟨.hbm, 153, rfl⟩
abbrev main_call6_v1 : Ref sig .tc := ⟨.hbm, 154, rfl⟩
abbrev main_v40 : Ref sig .tc := ⟨.hbm, 155, rfl⟩
abbrev main_v41 : Ref sig .tc := ⟨.hbm, 156, rfl⟩
abbrev main_call7_cst : Ref sig .tc := ⟨.hbm, 157, rfl⟩
abbrev main_call7_v0 : Ref sig .tc := ⟨.hbm, 158, rfl⟩
abbrev main_v42 : Ref sig .tc := ⟨.hbm, 159, rfl⟩
abbrev main_v43 : Ref sig .tc := ⟨.hbm, 160, rfl⟩
abbrev main_call8_cst : Ref sig .tc := ⟨.hbm, 161, rfl⟩
abbrev main_call8_v0 : Ref sig .tc := ⟨.hbm, 162, rfl⟩
abbrev main_v44 : Ref sig .tc := ⟨.hbm, 163, rfl⟩
abbrev main_call9_v0 : Ref sig .tc := ⟨.hbm, 164, rfl⟩
abbrev main_call9_v1 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_cst_2 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩

abbrev nD : Nat := 1
abbrev τ : Topo := Topo.v7x

variable {F : FTy → Type} [FloatOps F]
-- ==== Kernel2.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S_, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x2048 : Shape := ⟨2, ![4096, 2048]⟩
abbrev S1x5632x2048 : Shape := ⟨3, ![1, 5632, 2048]⟩
abbrev S4096x5632 : Shape := ⟨2, ![4096, 5632]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x5632x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S1x5632x2048 : Shape := ⟨3, ![1, 5632, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x5632x2048, .bf16⟩
  | .hbm, ⟨2, _⟩ => ⟨S5632x2048, .bf16⟩
  | .hbm, ⟨3, _⟩ => ⟨S5632x2048, .f32⟩
  | .hbm, ⟨4, _⟩ => ⟨S_, .f32⟩
  | .hbm, ⟨5, _⟩ => ⟨S4096x5632, .f32⟩
  | .hbm, ⟨6, _⟩ => ⟨S4096x2048, .f32⟩
  | .hbm, ⟨7, _⟩ => ⟨S4096x2048, .f32⟩
  | .hbm, ⟨8, _⟩ => ⟨S4096x5632, .f32⟩
  | .hbm, ⟨9, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x5632 : Shape := ⟨2, ![4096, 5632]⟩
abbrev S4096x11264 : Shape := ⟨2, ![4096, 11264]⟩
abbrev S3x5632 : Shape := ⟨2, ![3, 5632]⟩
abbrev S1x5632 : Shape := ⟨2, ![1, 5632]⟩
abbrev S512x512 : Shape := ⟨2, ![512, 512]⟩
abbrev S16x512 : Shape := ⟨2, ![16, 512]⟩
abbrev S3x512 : Shape := ⟨2, ![3, 512]⟩
abbrev S1x512 : Shape := ⟨2, ![1, 512]⟩
abbrev S544x512 : Shape := ⟨2, ![544, 512]⟩
abbrev S528x512 : Shape := ⟨2, ![528, 512]⟩
abbrev S8x512 : Shape := ⟨2, ![8, 512]⟩
abbrev S32x512 : Shape := ⟨2, ![32, 512]⟩
abbrev S4x8x512 : Shape := ⟨3, ![4, 8, 512]⟩
abbrev S512 : Shape := ⟨1, ![512]⟩

abbrev nBuf : Space → Nat
  | .hbm => 8
  | .vmem => 28
  | .smem => 0
  | _ => 0

abbrev bufTy : (tb : Table) → Fin (tcTables nBuf tb) → BufTy
  | .hbm, ⟨0, _⟩ => ⟨S4096x5632, .bf16⟩
  | .hbm, ⟨1, _⟩ => ⟨S4096x11264, .bf16⟩
  | .hbm, ⟨2, _⟩ => ⟨S3x5632, .f32⟩
  | .hbm, ⟨3, _⟩ => ⟨S1x5632, .f32⟩
  | .hbm, ⟨4, _⟩ => ⟨S4096x5632, .bf16⟩
  | .hbm, ⟨5, _⟩ => ⟨S4096x5632, .bf16⟩
  | .hbm, ⟨6, _⟩ => ⟨S3x5632, .f32⟩
  | .hbm, ⟨7, _⟩ => ⟨S1x5632, .f32⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S512x512, .bf16⟩
  | .local _ .vmem, ⟨11, _⟩ => ⟨S512x512, .bf16⟩
  | .local _ .vmem, ⟨12, _⟩ => ⟨S16x512, .bf16⟩
  | .local _ .vmem, ⟨13, _⟩ => ⟨S16x512, .bf16⟩
  | .local _ .vmem, ⟨14, _⟩ => ⟨S3x512, .f32⟩
  | .local _ .vmem, ⟨15, _⟩ => ⟨S3x512, .f32⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S3x512, .f32⟩
  | .local _ .vmem, ⟨23, _⟩ => ⟨S3x512, .f32⟩
  | .local _ .vmem, ⟨24, _⟩ => ⟨S1x512, .f32⟩
  | .local _ .vmem, ⟨25, _⟩ => ⟨S1x512, .f32⟩
  | .local _ .vmem, ⟨26, _⟩ => ⟨S544x512, .f32⟩
  | .local _ .vmem, ⟨27, _⟩ => ⟨S528x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![11, 8], ![false, false]⟩

def k0_cond1 (i : grid0.Coords) : BitVec 1 :=
  let arg1 : BitVec 32 := BitVec.ofNat 32 (i 1).val
  let c0_i32_442 : BitVec 32 := 0#32
  let v1144 : BitVec 1 := Scalar.cmpi .eq arg1 c0_i32_442
  let v1145 : BitVec 32 := Scalar.extui v1144
  let c0_i32_443 : BitVec 32 := 0#32
  let v1146 : BitVec 1 := Scalar.cmpi .ne v1145 c0_i32_443
  v1146

def k0_cond2 (i : grid0.Coords) : BitVec 1 :=
  let arg1 : BitVec 32 := BitVec.ofNat 32 (i 1).val
  let c0_i32_444 : BitVec 32 := 0#32
  let v1147 : BitVec 1 := Scalar.cmpi .sgt arg1 c0_i32_444
  let v1148 : BitVec 32 := Scalar.extui v1147
  let c0_i32_445 : BitVec 32 := 0#32
  let v1149 : BitVec 1 := Scalar.cmpi .ne v1148 c0_i32_445
  v1149

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c11_i32 : BitVec 32 := 11#32
  let v3 : BitVec 32 := Scalar.addi arg0 c11_i32
  let c0_i32 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S3x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference4Ideal.lean ====
abbrev S4096x5632 : Shape := ⟨2, ![4096, 5632]⟩
abbrev S4096x11264 : Shape := ⟨2, ![4096, 11264]⟩
abbrev S3x5632 : Shape := ⟨2, ![3, 5632]⟩
abbrev S1x5632 : Shape := ⟨2, ![1, 5632]⟩
abbrev S5632 : Shape := ⟨1, ![5632]⟩
abbrev S_ : Shape := ⟨0, ![]⟩
abbrev S2x5632 : Shape := ⟨2, ![2, 5632]⟩
abbrev S4098x5632 : Shape := ⟨2, ![4098, 5632]⟩

abbrev nBuf : Space → Nat
  | .hbm => 113
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x11264, .bf16⟩
  | .hbm, ⟨2, _⟩ => ⟨S3x5632, .f32⟩
  | .hbm, ⟨3, _⟩ => ⟨S1x5632, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S5632, .f32⟩
  | .hbm, ⟨8, _⟩ => ⟨S_, .f32⟩
  | .hbm, ⟨9, _⟩ => ⟨S2x5632, .f32⟩
  | .hbm, ⟨10, _⟩ => ⟨S4098x5632, .f32⟩
  | .hbm, ⟨11, _⟩ => ⟨S_, .f32⟩
  | .hbm, ⟨12, _⟩ => ⟨S2x5632, .f32⟩
  | .hbm, ⟨13, _⟩ => ⟨S4096x5632, .f32⟩
  | .hbm, ⟨14, _⟩ => ⟨S1x5632, .f32⟩
  | .hbm, ⟨15, _⟩ => ⟨S5632, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S1x5632, .f32⟩
  | .hbm, ⟨31, _⟩ => ⟨S5632, .f32⟩
  | .hbm, ⟨32, _⟩ => ⟨S1x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S1x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S_, .f32⟩
  | .hbm, ⟨42, _⟩ => ⟨S4096x5632, .f32⟩
  | .hbm, ⟨43, _⟩ => ⟨S4096x5632, .f32⟩
  | .hbm, ⟨44, _⟩ => ⟨S_, .f32⟩
  | .hbm, ⟨45, _⟩ => ⟨S4096x5632, .f32⟩
  | .hbm, ⟨46, _⟩ => ⟨S4096x5632, .f32⟩
  | .hbm, ⟨47, _⟩ => ⟨S_, .f32⟩
  | .hbm, ⟨48, _⟩ => ⟨S4096x5632, .f32⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S4096x5632, .f32⟩
  | .hbm, ⟨54, _⟩ => ⟨S4096x5632, .f32⟩
  | .hbm, ⟨55, _⟩ => ⟨S4096x5632, .f32⟩
  | .hbm, ⟨56, _⟩ => ⟨S4096x5632, .f32⟩
  | .hbm, ⟨57, _⟩ => ⟨S4096x5632, .f32⟩
  | .hbm, ⟨58, _⟩ => ⟨S4096x5632, .f32⟩
  | .hbm, ⟨59, _⟩ => ⟨S4096x5632, .f32⟩
  | .hbm, ⟨60, _⟩ => ⟨S_, .f32⟩
  | .hbm, ⟨61, _⟩ => ⟨S5632, .f32⟩
  | .hbm, ⟨62, _⟩ => ⟨S1x5632, .f32⟩
  | .hbm, ⟨63, _⟩ => ⟨S_, .f32⟩
  | .hbm, ⟨64, _⟩ => ⟨S5632, .f32⟩
  | .hbm, ⟨65, _⟩ => ⟨S4096x5632, .f32⟩
  | .hbm, ⟨66, _⟩ => ⟨S_, .f32⟩
  | .hbm, ⟨67, _⟩ => ⟨S5632, .f32⟩
  | .hbm, ⟨68, _⟩ => ⟨S1x5632, .f32⟩
  | .hbm, ⟨69, _⟩ => ⟨S4096x5632, .f32⟩
  | .hbm, ⟨70, _⟩ => ⟨S4096x5632, .f32⟩
  | .hbm, ⟨71, _⟩ => ⟨S_, .f32⟩
  | .hbm, ⟨72, _⟩ => ⟨S5632, .f32⟩
  | .hbm, ⟨73, _⟩ => ⟨S1x5632, .f32⟩
  | .hbm, ⟨74, _⟩ => ⟨S_, .f32⟩
  | .hbm, ⟨75, _⟩ => ⟨S3x5632, .f32⟩
  | .hbm, ⟨76, _⟩ => ⟨S_, .f32⟩
  | .hbm, ⟨77, _⟩ => ⟨S4098x5632, .f32⟩
  | .hbm, ⟨78, _⟩ => ⟨S4096x5632, .f32⟩
  | .hbm, ⟨79, _⟩ => ⟨S_, .f32⟩
  | .hbm, ⟨80, _⟩ => ⟨S5632, .f32⟩
  | .hbm, ⟨81, _⟩ => ⟨S1x5632, .f32⟩
  | .hbm, ⟨82, _⟩ => ⟨S4096x5632, .f32⟩
  | .hbm, ⟨83, _⟩ => ⟨S4096x5632, .f32⟩
  | .hbm, ⟨84, _⟩ => ⟨S_, .f32⟩
  | .hbm, ⟨85, _⟩ => ⟨S5632, .f32⟩
  | .hbm, ⟨86, _⟩ => ⟨S1x5632, .f32⟩
  | .hbm, ⟨87, _⟩ => ⟨S_, .f32⟩
  | .hbm, ⟨88, _⟩ => ⟨S3x5632, .f32⟩
  | .hbm, ⟨89, _⟩ => ⟨S3x5632, .f32⟩
  | .hbm, ⟨90, _⟩ => ⟨S_, .f32⟩
  | .hbm, ⟨91, _⟩ => ⟨S4098x5632, .f32⟩
  | .hbm, ⟨92, _⟩ => ⟨S4098x5632, .f32⟩
  | .hbm, ⟨93, _⟩ => ⟨S4096x5632, .f32⟩
  | .hbm, ⟨94, _⟩ => ⟨S_, .f32⟩
  | .hbm, ⟨95, _⟩ => ⟨S5632, .f32⟩
  | .hbm, ⟨96, _⟩ => ⟨S1x5632, .f32⟩
  | .hbm, ⟨97, _⟩ => ⟨S4096x5632, .f32⟩
  | .hbm, ⟨98, _⟩ => ⟨S4096x5632, .f32⟩
  | .hbm, ⟨99, _⟩ => ⟨S_, .f32⟩
  | .hbm, ⟨100, _⟩ => ⟨S5632, .f32⟩
  | .hbm, ⟨101, _⟩ => ⟨S1x5632, .f32⟩
  | .hbm, ⟨102, _⟩ => ⟨S_, .f32⟩
  | .hbm, ⟨103, _⟩ => ⟨S3x5632, .f32⟩
  | .hbm, ⟨104, _⟩ => ⟨S3x5632, .f32⟩
  | .hbm, ⟨105, _⟩ => ⟨S_, .f32⟩
  | .hbm, ⟨106, _⟩ => ⟨S4098x5632, .f32⟩
  | .hbm, ⟨107, _⟩ => ⟨S4098x5632, .f32⟩
  | .hbm, ⟨108, _⟩ => ⟨S2x5632, .f32⟩
  | .hbm, ⟨109, _⟩ => ⟨S4096x5632, .f32⟩
  | .hbm, ⟨110, _⟩ => ⟨S4096x5632, .bf16⟩
  | .hbm, ⟨111, _⟩ => ⟨S4096x5632, .bf16⟩
  | .hbm, ⟨112, _⟩ => ⟨S1x5632, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v32_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v32_1 : Ref sig .tc := ⟨.hbm, 50, rfl⟩
abbrev main_v32_0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩

abbrev nD : Nat := 1
abbrev τ : Topo := Topo.v7x

variable {F : FTy → Type} [FloatOps F]
-- ==== Kernel5.lean ====
abbrev S4096x2048 : Shape := ⟨2, ![4096, 2048]⟩
abbrev S4096x5632 : Shape := ⟨2, ![4096, 5632]⟩
abbrev S4x2048x2816 : Shape := ⟨3, ![4, 2048, 2816]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S4x2048x2816, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S4096x1408, .bf16⟩
  | .local _ .vmem, ⟨5, _⟩ => ⟨S4096x1408, .bf16⟩
  | .local _ .vmem, ⟨6, _⟩ => ⟨S1x512x1408, .bf16⟩
  | .local _ .vmem, ⟨7, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg1 c3_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c2_i32_0 : BitVec 32 := 2#32
  let v1 : BitVec 32 := Scalar.remsi arg1 c2_i32_0
  let c0_i32 : BitVec 32 := 0#32
  ![v0.toNat, arg0.toNat, v1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x2048 : Shape := ⟨2, ![4096, 2048]⟩
abbrev S4096x5632 : Shape := ⟨2, ![4096, 5632]⟩
abbrev S_ : Shape := ⟨0, ![]⟩
abbrev S2048x11264 : Shape := ⟨2, ![2048, 11264]⟩
abbrev S4096x11264 : Shape := ⟨2, ![4096, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S4096x2048, .f32⟩
  | .hbm, ⟨4, _⟩ => ⟨S_, .f32⟩
  | .hbm, ⟨5, _⟩ => ⟨S2048x11264, .f32⟩
  | .hbm, ⟨6, _⟩ => ⟨S4096x11264, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S4096x5632, .f32⟩
  | .hbm, ⟨11, _⟩ => ⟨S4096x11264, .f32⟩
  | .hbm, ⟨12, _⟩ => ⟨S11264x2048, .f32⟩
  | .hbm, ⟨13, _⟩ => ⟨S2048x11264, .f32⟩
  | .hbm, ⟨14, _⟩ => ⟨S2048x4x2816, .f32⟩
  | .hbm, ⟨15, _⟩ => ⟨S4x2048x2816, .f32⟩
  | .hbm, ⟨16, _⟩ => ⟨S4x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel6.lean ====
abbrev S4096x2048 : Shape := ⟨2, ![4096, 2048]⟩
abbrev S4096x5632 : Shape := ⟨2, ![4096, 5632]⟩
abbrev S1x4x2048x2816 : Shape := ⟨4, ![1, 4, 2048, 2816]⟩
abbrev S512x5632 : Shape := ⟨2, ![512, 5632]⟩
abbrev S1x4x512x2816 : Shape := ⟨4, ![1, 4, 512, 2816]⟩
abbrev S512x512 : Shape := ⟨2, ![512, 512]⟩
abbrev S512x2816 : Shape := ⟨2, ![512, 2816]⟩
abbrev S1x1x512x2816 : Shape := ⟨4, ![1, 1, 512, 2816]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x5632, .bf16⟩
  | .hbm, ⟨2, _⟩ => ⟨S4096x5632, .bf16⟩
  | .hbm, ⟨3, _⟩ => ⟨S1x4x2048x2816, .bf16⟩
  | .hbm, ⟨4, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S512x5632, .bf16⟩
  | .local _ .vmem, ⟨3, _⟩ => ⟨S512x5632, .bf16⟩
  | .local _ .vmem, ⟨4, _⟩ => ⟨S1x4x512x2816, .bf16⟩
  | .local _ .vmem, ⟨5, _⟩ => ⟨S1x4x512x2816, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference6Ideal.lean ====
abbrev S4096x2048 : Shape := ⟨2, ![4096, 2048]⟩
abbrev S4096x5632 : Shape := ⟨2, ![4096, 5632]⟩
abbrev S1x4x2048x2816 : Shape := ⟨4, ![1, 4, 2048, 2816]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S_ : Shape := ⟨0, ![]⟩
abbrev S4096x11264 : Shape := ⟨2, ![4096, 11264]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .bf16⟩
  | .hbm, ⟨2, _⟩ => ⟨S4096x5632, .bf16⟩
  | .hbm, ⟨3, _⟩ => ⟨S1x4x2048x2816, .bf16⟩
  | .hbm, ⟨4, _⟩ => ⟨S4x2048x2816, .bf16⟩
  | .hbm, ⟨5, _⟩ => ⟨S2048x4x2816, .bf16⟩
  | .hbm, ⟨6, _⟩ => ⟨S2048x11264, .bf16⟩
  | .hbm, ⟨7, _⟩ => ⟨S2048x11264, .f32⟩
  | .hbm, ⟨8, _⟩ => ⟨S_, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x11264, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x11264, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel7.lean ====
abbrev S4096x2048 : Shape := ⟨2, ![4096, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S2048x2048, .bf16⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x2048 : Shape := ⟨2, ![4096, 2048]⟩
abbrev S4096x4096 : Shape := ⟨2, ![4096, 4096]⟩
abbrev S4x2048x1024 : Shape := ⟨3, ![4, 2048, 1024]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4x2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg0.toNat, v1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x4x1024 : Shape := ⟨3, ![2048, 4, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x2048, .f32⟩
  | .hbm, ⟨3, _⟩ => ⟨S_, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x4x1024, .f32⟩
  | .hbm, ⟨10, _⟩ => ⟨S4x2048x1024, .f32⟩
  | .hbm, ⟨11, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S4096x2048 : Shape := ⟨2, ![4096, 2048]⟩
abbrev S4096x4096 : Shape := ⟨2, ![4096, 4096]⟩
abbrev S1x4x2048x1024 : Shape := ⟨4, ![1, 4, 2048, 1024]⟩
abbrev S1024x4096 : Shape := ⟨2, ![1024, 4096]⟩
abbrev S1x4x512x1024 : Shape := ⟨4, ![1, 4, 512, 1024]⟩
abbrev S1024x512 : Shape := ⟨2, ![1024, 512]⟩
abbrev S1024x1024 : Shape := ⟨2, ![1024, 1024]⟩
abbrev S1x1x512x1024 : Shape := ⟨4, ![1, 1, 512, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x4096, .bf16⟩
  | .hbm, ⟨2, _⟩ => ⟨S1x4x2048x1024, .bf16⟩
  | .hbm, ⟨3, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4x512x1024, .bf16⟩
  | .local _ .vmem, ⟨3, _⟩ => ⟨S1x4x512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x2048 : Shape := ⟨2, ![4096, 2048]⟩
abbrev S4096x4096 : Shape := ⟨2, ![4096, 4096]⟩
abbrev S1x4x2048x1024 : Shape := ⟨4, ![1, 4, 2048, 1024]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .bf16⟩
  | .hbm, ⟨2, _⟩ => ⟨S1x4x2048x1024, .bf16⟩
  | .hbm, ⟨3, _⟩ => ⟨S4x2048x1024, .bf16⟩
  | .hbm, ⟨4, _⟩ => ⟨S2048x4x1024, .bf16⟩
  | .hbm, ⟨5, _⟩ => ⟨S2048x4096, .bf16⟩
  | .hbm, ⟨6, _⟩ => ⟨S2048x4096, .f32⟩
  | .hbm, ⟨7, _⟩ => ⟨S_, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x4096, .f32⟩
  | .hbm, ⟨13, _⟩ => ⟨S4096x4096, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel11.lean ====
abbrev S4096x2048 : Shape := ⟨2, ![4096, 2048]⟩
abbrev S4096x5120 : Shape := ⟨2, ![4096, 5120]⟩
abbrev S4x2048x1280 : Shape := ⟨3, ![4, 2048, 1280]⟩
abbrev S4096x512 : Shape := ⟨2, ![4096, 512]⟩
abbrev S4096x1280 : Shape := ⟨2, ![4096, 1280]⟩
abbrev S1x512x1280 : Shape := ⟨3, ![1, 512, 1280]⟩
abbrev S512x1280 : Shape := ⟨2, ![512, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S4x2048x1280, .bf16⟩
  | .local _ .vmem, ⟨0, _⟩ => ⟨S4096x512, .bf16⟩
  | .local _ .vmem, ⟨1, _⟩ => ⟨S4096x512, .bf16⟩
  | .local _ .vmem, ⟨2, _⟩ => ⟨S4096x1280, .bf16⟩
  | .local _ .vmem, ⟨3, _⟩ => ⟨S4096x1280, .bf16⟩
  | .local _ .vmem, ⟨4, _⟩ => ⟨S1x512x1280, .bf16⟩
  | .local _ .vmem, ⟨5, _⟩ => ⟨S1x512x1280, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg0.toNat, v1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩
abbrev S2048x4x1280 : Shape := ⟨3, ![2048, 4, 1280]⟩
abbrev S4x2048x1280 : Shape := ⟨3, ![4, 2048, 1280]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S4096x2048, .f32⟩
  | .hbm, ⟨3, _⟩ => ⟨S_, .f32⟩
  | .hbm, ⟨4, _⟩ => ⟨S2048x5120, .f32⟩
  | .hbm, ⟨5, _⟩ => ⟨S4096x5120, .f32⟩
  | .hbm, ⟨6, _⟩ => ⟨S4096x5120, .f32⟩
  | .hbm, ⟨7, _⟩ => ⟨S5120x2048, .f32⟩
  | .hbm, ⟨8, _⟩ => ⟨S2048x5120, .f32⟩
  | .hbm, ⟨9, _⟩ => ⟨S2048x4x1280, .f32⟩
  | .hbm, ⟨10, _⟩ => ⟨S4x2048x1280, .f32⟩
  | .hbm, ⟨11, _⟩ => ⟨S4x2048x1280, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel12.lean ====
abbrev S4096x2048 : Shape := ⟨2, ![4096, 2048]⟩
abbrev S4096x5120 : Shape := ⟨2, ![4096, 5120]⟩
abbrev S1x4x2048x1280 : Shape := ⟨4, ![1, 4, 2048, 1280]⟩
abbrev S1024x5120 : Shape := ⟨2, ![1024, 5120]⟩
abbrev S1x4x512x1280 : Shape := ⟨4, ![1, 4, 512, 1280]⟩
abbrev S1024x512 : Shape := ⟨2, ![1024, 512]⟩
abbrev S1024x1280 : Shape := ⟨2, ![1024, 1280]⟩
abbrev S1x1x512x1280 : Shape := ⟨4, ![1, 1, 512, 1280]⟩
abbrev S512x1280 : Shape := ⟨2, ![512, 1280]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x5120, .bf16⟩
  | .hbm, ⟨2, _⟩ => ⟨S1x4x2048x1280, .bf16⟩
  | .hbm, ⟨3, _⟩ => ⟨S4096x2048, .f32⟩
  | .local _ .vmem, ⟨0, _⟩ => ⟨S1024x5120, .bf16⟩
  | .local _ .vmem, ⟨1, _⟩ => ⟨S1024x5120, .bf16⟩
  | .local _ .vmem, ⟨2, _⟩ => ⟨S1x4x512x1280, .bf16⟩
  | .local _ .vmem, ⟨3, _⟩ => ⟨S1x4x512x1280, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4x512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x2048 : Shape := ⟨2, ![4096, 2048]⟩
abbrev S4096x5120 : Shape := ⟨2, ![4096, 5120]⟩
abbrev S1x4x2048x1280 : Shape := ⟨4, ![1, 4, 2048, 1280]⟩
abbrev S4x2048x1280 : Shape := ⟨3, ![4, 2048, 1280]⟩
abbrev S2048x4x1280 : Shape := ⟨3, ![2048, 4, 1280]⟩
abbrev S2048x5120 : Shape := ⟨2, ![2048, 5120]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5120, .bf16⟩
  | .hbm, ⟨2, _⟩ => ⟨S1x4x2048x1280, .bf16⟩
  | .hbm, ⟨3, _⟩ => ⟨S4x2048x1280, .bf16⟩
  | .hbm, ⟨4, _⟩ => ⟨S2048x4x1280, .bf16⟩
  | .hbm, ⟨5, _⟩ => ⟨S2048x5120, .bf16⟩
  | .hbm, ⟨6, _⟩ => ⟨S2048x5120, .f32⟩
  | .hbm, ⟨7, _⟩ => ⟨S_, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x5120, .f32⟩
  | .hbm, ⟨13, _⟩ => ⟨S4096x5120, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel13.lean ====
abbrev S4096x2048 : Shape := ⟨2, ![4096, 2048]⟩
abbrev S1x4x2048x2816 : Shape := ⟨4, ![1, 4, 2048, 2816]⟩
abbrev S4096x11264 : Shape := ⟨2, ![4096, 11264]⟩
abbrev S1024x2048 : Shape := ⟨2, ![1024, 2048]⟩
abbrev S1x1x2048x1408 : Shape := ⟨4, ![1, 1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x4x2048x2816, .bf16⟩
  | .hbm, ⟨2, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c2_i32_0 : BitVec 32 := 2#32
  let v1 : BitVec 32 := Scalar.remsi arg1 c2_i32_0
  let c0_i32 : BitVec 32 := 0#32
  let c0_i32_1 : BitVec 32 := 0#32
  ![c0_i32.toNat, v0.toNat, arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S1x4x2048x2816 : Shape := ⟨4, ![1, 4, 2048, 2816]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x11264 : Shape := ⟨2, ![4096, 11264]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x4x2048x2816, .bf16⟩
  | .hbm, ⟨2, _⟩ => ⟨S4096x2048, .f32⟩
  | .hbm, ⟨3, _⟩ => ⟨S4x2048x2816, .bf16⟩
  | .hbm, ⟨4, _⟩ => ⟨S2048x4x2816, .bf16⟩
  | .hbm, ⟨5, _⟩ => ⟨S2048x11264, .bf16⟩
  | .hbm, ⟨6, _⟩ => ⟨S2048x11264, .f32⟩
  | .hbm, ⟨7, _⟩ => ⟨S4096x11264, .f32⟩
  | .hbm, ⟨8, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel14.lean ====
abbrev S4096x5632 : Shape := ⟨2, ![4096, 5632]⟩
abbrev S1x5632x2048 : Shape := ⟨3, ![1, 5632, 2048]⟩
abbrev S4096x2048 : Shape := ⟨2, ![4096, 2048]⟩
abbrev S512x5632 : Shape := ⟨2, ![512, 5632]⟩
abbrev S1x5632x1024 : Shape := ⟨3, ![1, 5632, 1024]⟩
abbrev S512x1024 : Shape := ⟨2, ![512, 1024]⟩
abbrev S5632x1024 : Shape := ⟨2, ![5632, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S1x5632x2048, .bf16⟩
  | .hbm, ⟨2, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x1024, .bf16⟩
  | .local _ .vmem, ⟨3, _⟩ => ⟨S1x5632x1024, .bf16⟩
  | .local _ .vmem, ⟨4, _⟩ => ⟨S512x1024, .f32⟩
  | .local _ .vmem, ⟨5, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x5632 : Shape := ⟨2, ![4096, 5632]⟩
abbrev S1x5632x2048 : Shape := ⟨3, ![1, 5632, 2048]⟩
abbrev S5632x2048 : Shape := ⟨2, ![5632, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1x5632x2048, .bf16⟩
  | .hbm, ⟨2, _⟩ => ⟨S4096x5632, .f32⟩
  | .hbm, ⟨3, _⟩ => ⟨S5632x2048, .bf16⟩
  | .hbm, ⟨4, _⟩ => ⟨S5632x2048, .f32⟩
  | .hbm, ⟨5, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S4096x2048 : Shape := ⟨2, ![4096, 2048]⟩
abbrev S1x4x2048x1024 : Shape := ⟨4, ![1, 4, 2048, 1024]⟩
abbrev S4096x4096 : Shape := ⟨2, ![4096, 4096]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x4x2048x1024, .bf16⟩
  | .hbm, ⟨2, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  let c0_i32_1 : BitVec 32 := 0#32
  ![c0_i32.toNat, v0.toNat, arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S1x4x2048x1024 : Shape := ⟨4, ![1, 4, 2048, 1024]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x4x2048x1024, .bf16⟩
  | .hbm, ⟨2, _⟩ => ⟨S4096x2048, .f32⟩
  | .hbm, ⟨3, _⟩ => ⟨S4x2048x1024, .bf16⟩
  | .hbm, ⟨4, _⟩ => ⟨S2048x4x1024, .bf16⟩
  | .hbm, ⟨5, _⟩ => ⟨S2048x4096, .bf16⟩
  | .hbm, ⟨6, _⟩ => ⟨S2048x4096, .f32⟩
  | .hbm, ⟨7, _⟩ => ⟨S4096x4096, .f32⟩
  | .hbm, ⟨8, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel16.lean ====
abbrev S4096x2048 : Shape := ⟨2, ![4096, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .hbm, ⟨3, _⟩ => ⟨S2048x2048, .bf16⟩
  | .hbm, ⟨4, _⟩ => ⟨S2048x2048, .f32⟩
  | .hbm, ⟨5, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4096x2048 : Shape := ⟨2, ![4096, 2048]⟩
abbrev S1x4x2048x1280 : Shape := ⟨4, ![1, 4, 2048, 1280]⟩
abbrev S4096x5120 : Shape := ⟨2, ![4096, 5120]⟩
abbrev S1024x2048 : Shape := ⟨2, ![1024, 2048]⟩
abbrev S1x1x2048x1280 : Shape := ⟨4, ![1, 1, 2048, 1280]⟩
abbrev S1024x1280 : Shape := ⟨2, ![1024, 1280]⟩
abbrev S2048x1280 : Shape := ⟨2, ![2048, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x4x2048x1280, .bf16⟩
  | .hbm, ⟨2, _⟩ => ⟨S4096x5120, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1280, .bf16⟩
  | .local _ .vmem, ⟨3, _⟩ => ⟨S1x1x2048x1280, .bf16⟩
  | .local _ .vmem, ⟨4, _⟩ => ⟨S1024x1280, .bf16⟩
  | .local _ .vmem, ⟨5, _⟩ => ⟨S1024x1280, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  let c0_i32_1 : BitVec 32 := 0#32
  ![c0_i32.toNat, v0.toNat, arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S1x4x2048x1280 : Shape := ⟨4, ![1, 4, 2048, 1280]⟩
abbrev S4x2048x1280 : Shape := ⟨3, ![4, 2048, 1280]⟩
abbrev S2048x4x1280 : Shape := ⟨3, ![2048, 4, 1280]⟩
abbrev S2048x5120 : Shape := ⟨2, ![2048, 5120]⟩
abbrev S4096x5120 : Shape := ⟨2, ![4096, 5120]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x4x2048x1280, .bf16⟩
  | .hbm, ⟨2, _⟩ => ⟨S4096x2048, .f32⟩
  | .hbm, ⟨3, _⟩ => ⟨S4x2048x1280, .bf16⟩
  | .hbm, ⟨4, _⟩ => ⟨S2048x4x1280, .bf16⟩
  | .hbm, ⟨5, _⟩ => ⟨S2048x5120, .bf16⟩
  | .hbm, ⟨6, _⟩ => ⟨S2048x5120, .f32⟩
  | .hbm, ⟨7, _⟩ => ⟨S4096x5120, .f32⟩
  | .hbm, ⟨8, _⟩ => ⟨S4096x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel18.lean ====
abbrev S1x2048x1280 : Shape := ⟨3, ![1, 2048, 1280]⟩
abbrev S2048x1280 : Shape := ⟨2, ![2048, 1280]⟩
abbrev S1x256x1280 : Shape := ⟨3, ![1, 256, 1280]⟩
abbrev S256x1280 : Shape := ⟨2, ![256, 1280]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1280, .f32⟩
  | .hbm, ⟨1, _⟩ => ⟨S2048x1280, .f32⟩
  | .hbm, ⟨2, _⟩ => ⟨S1x2048x1280, .f32⟩
  | .hbm, ⟨3, _⟩ => ⟨S1x2048x1280, .f32⟩
  | .hbm, ⟨4, _⟩ => ⟨S1x2048x1280, .f32⟩
  | .hbm, ⟨5, _⟩ => ⟨S1x2048x1280, .f32⟩
  | .hbm, ⟨6, _⟩ => ⟨S1x2048x1280, .f32⟩
  | .hbm, ⟨7, _⟩ => ⟨S1x2048x1280, .f32⟩
  | .local _ .vmem, ⟨0, _⟩ => ⟨S1x256x1280, .f32⟩
  | .local _ .vmem, ⟨1, _⟩ => ⟨S1x256x1280, .f32⟩
  | .local _ .vmem, ⟨2, _⟩ => ⟨S256x1280, .f32⟩
  | .local _ .vmem, ⟨3, _⟩ => ⟨S256x1280, .f32⟩
  | .local _ .vmem, ⟨4, _⟩ => ⟨S1x256x1280, .f32⟩
  | .local _ .vmem, ⟨5, _⟩ => ⟨S1x256x1280, .f32⟩
  | .local _ .vmem, ⟨6, _⟩ => ⟨S1x256x1280, .f32⟩
  | .local _ .vmem, ⟨7, _⟩ => ⟨S1x256x1280, .f32⟩
  | .local _ .vmem, ⟨8, _⟩ => ⟨S1x256x1280, .f32⟩
  | .local _ .vmem, ⟨9, _⟩ => ⟨S1x256x1280, .f32⟩
  | .local _ .vmem, ⟨10, _⟩ => ⟨S1x256x1280, .f32⟩
  | .local _ .vmem, ⟨11, _⟩ => ⟨S1x256x1280, .f32⟩
  | .local _ .vmem, ⟨12, _⟩ => ⟨S1x256x1280, .f32⟩
  | .local _ .vmem, ⟨13, _⟩ => ⟨S1x256x1280, .f32⟩
  | .local _ .vmem, ⟨14, _⟩ => ⟨S1x256x1280, .f32⟩
  | .local _ .vmem, ⟨15, _⟩ => ⟨S1x256x1280, .f32⟩
  | _, _ => ⟨S1x2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c7_i32 : BitVec 32 := 7#32
  let v2 : BitVec 32 := Scalar.select v1 c7_i32 arg1
  let c0_i32_1 : BitVec 32 := 0#32
  let v3 : BitVec 32 := Scalar.select v0 c0_i32_1 v2
  let c0_i32_2 : BitVec 32 := 0#32
  let v4 : BitVec 32 := Scalar.select v1 c0_i32_2 arg2
  let c0_i32_3 : BitVec 32 := 0#32
  let v5 : BitVec 32 := Scalar.select v0 c0_i32_3 v4
  let c0_i32_4 : BitVec 32 := 0#32
  ![v3.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel18Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference18Ideal.lean ====
abbrev S1x2048x1280 : Shape := ⟨3, ![1, 2048, 1280]⟩
abbrev S2048x1280 : Shape := ⟨2, ![2048, 1280]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x1280, .f32⟩
  | .hbm, ⟨1, _⟩ => ⟨S2048x1280, .f32⟩
  | .hbm, ⟨2, _⟩ => ⟨S1x2048x1280, .f32⟩
  | .hbm, ⟨3, _⟩ => ⟨S1x2048x1280, .f32⟩
  | .hbm, ⟨4, _⟩ => ⟨S1x2048x1280, .f32⟩
  | .hbm, ⟨5, _⟩ => ⟨S1x2048x1280, .f32⟩
  | .hbm, ⟨6, _⟩ => ⟨S_, .f32⟩
  | .hbm, ⟨7, _⟩ => ⟨S1x2048x1280, .f32⟩
  | .hbm, ⟨8, _⟩ => ⟨S1x2048x1280, .f32⟩
  | .hbm, ⟨9, _⟩ => ⟨S_, .f32⟩
  | .hbm, ⟨10, _⟩ => ⟨S1x2048x1280, .f32⟩
  | .hbm, ⟨11, _⟩ => ⟨S1x2048x1280, .f32⟩
  | .hbm, ⟨12, _⟩ => ⟨S1x2048x1280, .f32⟩
  | .hbm, ⟨13, _⟩ => ⟨S_, .f32⟩
  | .hbm, ⟨14, _⟩ => ⟨S1x2048x1280, .f32⟩
  | .hbm, ⟨15, _⟩ => ⟨S1x2048x1280, .f32⟩
  | .hbm, ⟨16, _⟩ => ⟨S1x2048x1280, .f32⟩
  | .hbm, ⟨17, _⟩ => ⟨S_, .f32⟩
  | .hbm, ⟨18, _⟩ => ⟨S1x2048x1280, .f32⟩
  | .hbm, ⟨19, _⟩ => ⟨S1x2048x1280, .f32⟩
  | .hbm, ⟨20, _⟩ => ⟨S1x2048x1280, .f32⟩
  | .hbm, ⟨21, _⟩ => ⟨S_, .f32⟩
  | .hbm, ⟨22, _⟩ => ⟨S1x2048x1280, .f32⟩
  | .hbm, ⟨23, _⟩ => ⟨S1x2048x1280, .f32⟩
  | .hbm, ⟨24, _⟩ => ⟨S_, .f32⟩
  | .hbm, ⟨25, _⟩ => ⟨S1x2048x1280, .f32⟩
  | .hbm, ⟨26, _⟩ => ⟨S1x2048x1280, .f32⟩
  | .hbm, ⟨27, _⟩ => ⟨S1x2048x1280, .f32⟩
  | .hbm, ⟨28, _⟩ => ⟨S_, .f32⟩
  | .hbm, ⟨29, _⟩ => ⟨S1x2048x1280, .f32⟩
  | .hbm, ⟨30, _⟩ => ⟨S1x2048x1280, .f32⟩
  | .hbm, ⟨31, _⟩ => ⟨S1x2048x1280, .f32⟩
  | .hbm, ⟨32, _⟩ => ⟨S_, .f32⟩
  | .hbm, ⟨33, _⟩ => ⟨S1x2048x1280, .f32⟩
  | .hbm, ⟨34, _⟩ => ⟨S1x2048x1280, .f32⟩
  | .hbm, ⟨35, _⟩ => ⟨S1x2048x1280, .f32⟩
  | .hbm, ⟨36, _⟩ => ⟨S_, .f32⟩
  | .hbm, ⟨37, _⟩ => ⟨S1x2048x1280, .f32⟩
  | .hbm, ⟨38, _⟩ => ⟨S1x2048x1280, .f32⟩
  | _, _ => ⟨S1x2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel19.lean ====
abbrev S1x512x2048 : Shape := ⟨3, ![1, 512, 2048]⟩
abbrev S512x2048 : Shape := ⟨2, ![512, 2048]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c1_i32 : BitVec 32 := 1#32
  let v2 : BitVec 32 := Scalar.select v1 c1_i32 arg1
  let c0_i32_1 : BitVec 32 := 0#32
  let v3 : BitVec 32 := Scalar.select v0 c0_i32_1 v2
  let c1_i32_2 : BitVec 32 := 1#32
  let v4 : BitVec 32 := Scalar.select v1 c1_i32_2 arg2
  let c0_i32_3 : BitVec 32 := 0#32
  let v5 : BitVec 32 := Scalar.select v0 c0_i32_3 v4
  let c0_i32_4 : BitVec 32 := 0#32
  ![v3.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel19Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference19Ideal.lean ====
abbrev S1x512x2048 : Shape := ⟨3, ![1, 512, 2048]⟩
abbrev S512x2048 : Shape := ⟨2, ![512, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S_, .f32⟩
  | .hbm, ⟨7, _⟩ => ⟨S1x512x2048, .f32⟩
  | .hbm, ⟨8, _⟩ => ⟨S1x512x2048, .f32⟩
  | .hbm, ⟨9, _⟩ => ⟨S_, .f32⟩
  | .hbm, ⟨10, _⟩ => ⟨S1x512x2048, .f32⟩
  | .hbm, ⟨11, _⟩ => ⟨S1x512x2048, .f32⟩
  | .hbm, ⟨12, _⟩ => ⟨S1x512x2048, .f32⟩
  | .hbm, ⟨13, _⟩ => ⟨S_, .f32⟩
  | .hbm, ⟨14, _⟩ => ⟨S1x512x2048, .f32⟩
  | .hbm, ⟨15, _⟩ => ⟨S1x512x2048, .f32⟩
  | .hbm, ⟨16, _⟩ => ⟨S1x512x2048, .f32⟩
  | .hbm, ⟨17, _⟩ => ⟨S_, .f32⟩
  | .hbm, ⟨18, _⟩ => ⟨S1x512x2048, .f32⟩
  | .hbm, ⟨19, _⟩ => ⟨S1x512x2048, .f32⟩
  | .hbm, ⟨20, _⟩ => ⟨S1x512x2048, .f32⟩
  | .hbm, ⟨21, _⟩ => ⟨S_, .f32⟩
  | .hbm, ⟨22, _⟩ => ⟨S1x512x2048, .f32⟩
  | .hbm, ⟨23, _⟩ => ⟨S1x512x2048, .f32⟩
  | .hbm, ⟨24, _⟩ => ⟨S_, .f32⟩
  | .hbm, ⟨25, _⟩ => ⟨S1x512x2048, .f32⟩
  | .hbm, ⟨26, _⟩ => ⟨S1x512x2048, .f32⟩
  | .hbm, ⟨27, _⟩ => ⟨S1x512x2048, .f32⟩
  | .hbm, ⟨28, _⟩ => ⟨S_, .f32⟩
  | .hbm, ⟨29, _⟩ => ⟨S1x512x2048, .f32⟩
  | .hbm, ⟨30, _⟩ => ⟨S1x512x2048, .f32⟩
  | .hbm, ⟨31, _⟩ => ⟨S1x512x2048, .f32⟩
  | .hbm, ⟨32, _⟩ => ⟨S_, .f32⟩
  | .hbm, ⟨33, _⟩ => ⟨S1x512x2048, .f32⟩
  | .hbm, ⟨34, _⟩ => ⟨S1x512x2048, .f32⟩
  | .hbm, ⟨35, _⟩ => ⟨S1x512x2048, .f32⟩
  | .hbm, ⟨36, _⟩ => ⟨S_, .f32⟩
  | .hbm, ⟨37, _⟩ => ⟨S1x512x2048, .f32⟩
  | .hbm, ⟨38, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel20.lean ====
abbrev S1x2048x1024 : Shape := ⟨3, ![1, 2048, 1024]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S2048x1024, .f32⟩
  | .hbm, ⟨2, _⟩ => ⟨S1x2048x1024, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c7_i32 : BitVec 32 := 7#32
  let v2 : BitVec 32 := Scalar.select v1 c7_i32 arg1
  let c0_i32_1 : BitVec 32 := 0#32
  let v3 : BitVec 32 := Scalar.select v0 c0_i32_1 v2
  let c0_i32_2 : BitVec 32 := 0#32
  let v4 : BitVec 32 := Scalar.select v1 c0_i32_2 arg2
  let c0_i32_3 : BitVec 32 := 0#32
  let v5 : BitVec 32 := Scalar.select v0 c0_i32_3 v4
  let c0_i32_4 : BitVec 32 := 0#32
  ![v3.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel20Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference20Ideal.lean ====
abbrev S1x2048x1024 : Shape := ⟨3, ![1, 2048, 1024]⟩
abbrev S2048x1024 : Shape := ⟨2, ![2048, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S2048x1024, .f32⟩
  | .hbm, ⟨2, _⟩ => ⟨S1x2048x1024, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S_, .f32⟩
  | .hbm, ⟨7, _⟩ => ⟨S1x2048x1024, .f32⟩
  | .hbm, ⟨8, _⟩ => ⟨S1x2048x1024, .f32⟩
  | .hbm, ⟨9, _⟩ => ⟨S_, .f32⟩
  | .hbm, ⟨10, _⟩ => ⟨S1x2048x1024, .f32⟩
  | .hbm, ⟨11, _⟩ => ⟨S1x2048x1024, .f32⟩
  | .hbm, ⟨12, _⟩ => ⟨S1x2048x1024, .f32⟩
  | .hbm, ⟨13, _⟩ => ⟨S_, .f32⟩
  | .hbm, ⟨14, _⟩ => ⟨S1x2048x1024, .f32⟩
  | .hbm, ⟨15, _⟩ => ⟨S1x2048x1024, .f32⟩
  | .hbm, ⟨16, _⟩ => ⟨S1x2048x1024, .f32⟩
  | .hbm, ⟨17, _⟩ => ⟨S_, .f32⟩
  | .hbm, ⟨18, _⟩ => ⟨S1x2048x1024, .f32⟩
  | .hbm, ⟨19, _⟩ => ⟨S1x2048x1024, .f32⟩
  | .hbm, ⟨20, _⟩ => ⟨S1x2048x1024, .f32⟩
  | .hbm, ⟨21, _⟩ => ⟨S_, .f32⟩
  | .hbm, ⟨22, _⟩ => ⟨S1x2048x1024, .f32⟩
  | .hbm, ⟨23, _⟩ => ⟨S1x2048x1024, .f32⟩
  | .hbm, ⟨24, _⟩ => ⟨S_, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S_, .f32⟩
  | .hbm, ⟨29, _⟩ => ⟨S1x2048x1024, .f32⟩
  | .hbm, ⟨30, _⟩ => ⟨S1x2048x1024, .f32⟩
  | .hbm, ⟨31, _⟩ => ⟨S1x2048x1024, .f32⟩
  | .hbm, ⟨32, _⟩ => ⟨S_, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S_, .f32⟩
  | .hbm, ⟨37, _⟩ => ⟨S1x2048x1024, .f32⟩
  | .hbm, ⟨38, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel21.lean ====
abbrev S2x2048x2816 : Shape := ⟨3, ![2, 2048, 2816]⟩
abbrev S2048x2816 : Shape := ⟨2, ![2048, 2816]⟩
abbrev S1x256x1408 : Shape := ⟨3, ![1, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x2816, .f32⟩
  | .hbm, ⟨1, _⟩ => ⟨S2048x2816, .f32⟩
  | .hbm, ⟨2, _⟩ => ⟨S2048x2816, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S2x2048x2816, .f32⟩
  | .local _ .vmem, ⟨0, _⟩ => ⟨S1x256x1408, .f32⟩
  | .local _ .vmem, ⟨1, _⟩ => ⟨S1x256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c7_i32 : BitVec 32 := 7#32
  let v2 : BitVec 32 := Scalar.select v1 c7_i32 arg1
  let c0_i32_1 : BitVec 32 := 0#32
  let v3 : BitVec 32 := Scalar.select v0 c0_i32_1 v2
  let c1_i32 : BitVec 32 := 1#32
  let v4 : BitVec 32 := Scalar.select v1 c1_i32 arg2
  let c0_i32_2 : BitVec 32 := 0#32
  let v5 : BitVec 32 := Scalar.select v0 c0_i32_2 v4
  let c0_i32_3 : BitVec 32 := 0#32
  ![v3.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c7_i32 : BitVec 32 := 7#32
  let v2 : BitVec 32 := Scalar.select v1 c7_i32 arg1
  let c0_i32 : BitVec 32 := 0#32
  let v3 : BitVec 32 := Scalar.select v0 c0_i32 v2
  let c1_i32_1 : BitVec 32 := 1#32
  let v4 : BitVec 32 := Scalar.select v1 c1_i32_1 arg2
  let c0_i32_2 : BitVec 32 := 0#32
  let v5 : BitVec 32 := Scalar.select v0 c0_i32_2 v4
  let c0_i32_3 : BitVec 32 := 0#32
  ![v3.toNat, v5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel21Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference21Ideal.lean ====
abbrev S2x2048x2816 : Shape := ⟨3, ![2, 2048, 2816]⟩
abbrev S2048x2816 : Shape := ⟨2, ![2048, 2816]⟩
abbrev S1x2048x2816 : Shape := ⟨3, ![1, 2048, 2816]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2048x2816, .f32⟩
  | .hbm, ⟨2, _⟩ => ⟨S2048x2816, .f32⟩
  | .hbm, ⟨3, _⟩ => ⟨S2x2048x2816, .f32⟩
  | .hbm, ⟨4, _⟩ => ⟨S2x2048x2816, .f32⟩
  | .hbm, ⟨5, _⟩ => ⟨S1x2048x2816, .f32⟩
  | .hbm, ⟨6, _⟩ => ⟨S1x2048x2816, .f32⟩
  | .hbm, ⟨7, _⟩ => ⟨S2x2048x2816, .f32⟩
  | .hbm, ⟨8, _⟩ => ⟨S_, .f32⟩
  | .hbm, ⟨9, _⟩ => ⟨S2x2048x2816, .f32⟩
  | .hbm, ⟨10, _⟩ => ⟨S2x2048x2816, .f32⟩
  | .hbm, ⟨11, _⟩ => ⟨S_, .f32⟩
  | .hbm, ⟨12, _⟩ => ⟨S2x2048x2816, .f32⟩
  | .hbm, ⟨13, _⟩ => ⟨S2x2048x2816, .f32⟩
  | .hbm, ⟨14, _⟩ => ⟨S2x2048x2816, .f32⟩
  | .hbm, ⟨15, _⟩ => ⟨S_, .f32⟩
  | .hbm, ⟨16, _⟩ => ⟨S2x2048x2816, .f32⟩
  | .hbm, ⟨17, _⟩ => ⟨S2x2048x2816, .f32⟩
  | .hbm, ⟨18, _⟩ => ⟨S2x2048x2816, .f32⟩
  | .hbm, ⟨19, _⟩ => ⟨S_, .f32⟩
  | .hbm, ⟨20, _⟩ => ⟨S2x2048x2816, .f32⟩
  | .hbm, ⟨21, _⟩ => ⟨S2x2048x2816, .f32⟩
  | .hbm, ⟨22, _⟩ => ⟨S2x2048x2816, .f32⟩
  | .hbm, ⟨23, _⟩ => ⟨S_, .f32⟩
  | .hbm, ⟨24, _⟩ => ⟨S2x2048x2816, .f32⟩
  | .hbm, ⟨25, _⟩ => ⟨S2x2048x2816, .f32⟩
  | .hbm, ⟨26, _⟩ => ⟨S_, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S_, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S_, .f32⟩
  | .hbm, ⟨39, _⟩ => ⟨S2x2048x2816, .f32⟩
  | .hbm, ⟨40, _⟩ => ⟨S2x2048x2816, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel22.lean ====
abbrev S2x1408x2048 : Shape := ⟨3, ![2, 1408, 2048]⟩
abbrev S1408x2048 : Shape := ⟨2, ![1408, 2048]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x1408x2048, .f32⟩
  | .hbm, ⟨1, _⟩ => ⟨S1408x2048, .f32⟩
  | .hbm, ⟨2, _⟩ => ⟨S1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .local _ .vmem, ⟨0, _⟩ => ⟨S1x176x1024, .f32⟩
  | .local _ .vmem, ⟨1, _⟩ => ⟨S1x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c7_i32 : BitVec 32 := 7#32
  let v2 : BitVec 32 := Scalar.select v1 c7_i32 arg1
  let c0_i32_1 : BitVec 32 := 0#32
  let v3 : BitVec 32 := Scalar.select v0 c0_i32_1 v2
  let c1_i32 : BitVec 32 := 1#32
  let v4 : BitVec 32 := Scalar.select v1 c1_i32 arg2
  let c0_i32_2 : BitVec 32 := 0#32
  let v5 : BitVec 32 := Scalar.select v0 c0_i32_2 v4
  let c0_i32_3 : BitVec 32 := 0#32
  ![v3.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c7_i32 : BitVec 32 := 7#32
  let v2 : BitVec 32 := Scalar.select v1 c7_i32 arg1
  let c0_i32 : BitVec 32 := 0#32
  let v3 : BitVec 32 := Scalar.select v0 c0_i32 v2
  let c1_i32_1 : BitVec 32 := 1#32
  let v4 : BitVec 32 := Scalar.select v1 c1_i32_1 arg2
  let c0_i32_2 : BitVec 32 := 0#32
  let v5 : BitVec 32 := Scalar.select v0 c0_i32_2 v4
  let c0_i32_3 : BitVec 32 := 0#32
  ![v3.toNat, v5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel22Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference22Ideal.lean ====
abbrev S2x1408x2048 : Shape := ⟨3, ![2, 1408, 2048]⟩
abbrev S1408x2048 : Shape := ⟨2, ![1408, 2048]⟩
abbrev S1x1408x2048 : Shape := ⟨3, ![1, 1408, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1408x2048, .f32⟩
  | .hbm, ⟨1, _⟩ => ⟨S1408x2048, .f32⟩
  | .hbm, ⟨2, _⟩ => ⟨S1408x2048, .f32⟩
  | .hbm, ⟨3, _⟩ => ⟨S2x1408x2048, .f32⟩
  | .hbm, ⟨4, _⟩ => ⟨S2x1408x2048, .f32⟩
  | .hbm, ⟨5, _⟩ => ⟨S1x1408x2048, .f32⟩
  | .hbm, ⟨6, _⟩ => ⟨S1x1408x2048, .f32⟩
  | .hbm, ⟨7, _⟩ => ⟨S2x1408x2048, .f32⟩
  | .hbm, ⟨8, _⟩ => ⟨S_, .f32⟩
  | .hbm, ⟨9, _⟩ => ⟨S2x1408x2048, .f32⟩
  | .hbm, ⟨10, _⟩ => ⟨S2x1408x2048, .f32⟩
  | .hbm, ⟨11, _⟩ => ⟨S_, .f32⟩
  | .hbm, ⟨12, _⟩ => ⟨S2x1408x2048, .f32⟩
  | .hbm, ⟨13, _⟩ => ⟨S2x1408x2048, .f32⟩
  | .hbm, ⟨14, _⟩ => ⟨S2x1408x2048, .f32⟩
  | .hbm, ⟨15, _⟩ => ⟨S_, .f32⟩
  | .hbm, ⟨16, _⟩ => ⟨S2x1408x2048, .f32⟩
  | .hbm, ⟨17, _⟩ => ⟨S2x1408x2048, .f32⟩
  | .hbm, ⟨18, _⟩ => ⟨S2x1408x2048, .f32⟩
  | .hbm, ⟨19, _⟩ => ⟨S_, .f32⟩
  | .hbm, ⟨20, _⟩ => ⟨S2x1408x2048, .f32⟩
  | .hbm, ⟨21, _⟩ => ⟨S2x1408x2048, .f32⟩
  | .hbm, ⟨22, _⟩ => ⟨S2x1408x2048, .f32⟩
  | .hbm, ⟨23, _⟩ => ⟨S_, .f32⟩
  | .hbm, ⟨24, _⟩ => ⟨S2x1408x2048, .f32⟩
  | .hbm, ⟨25, _⟩ => ⟨S2x1408x2048, .f32⟩
  | .hbm, ⟨26, _⟩ => ⟨S_, .f32⟩
  | .hbm, ⟨27, _⟩ => ⟨S2x1408x2048, .f32⟩
  | .hbm, ⟨28, _⟩ => ⟨S2x1408x2048, .f32⟩
  | .hbm, ⟨29, _⟩ => ⟨S2x1408x2048, .f32⟩
  | .hbm, ⟨30, _⟩ => ⟨S_, .f32⟩
  | .hbm, ⟨31, _⟩ => ⟨S2x1408x2048, .f32⟩
  | .hbm, ⟨32, _⟩ => ⟨S2x1408x2048, .f32⟩
  | .hbm, ⟨33, _⟩ => ⟨S2x1408x2048, .f32⟩
  | .hbm, ⟨34, _⟩ => ⟨S_, .f32⟩
  | .hbm, ⟨35, _⟩ => ⟨S2x1408x2048, .f32⟩
  | .hbm, ⟨36, _⟩ => ⟨S2x1408x2048, .f32⟩
  | .hbm, ⟨37, _⟩ => ⟨S2x1408x2048, .f32⟩
  | .hbm, ⟨38, _⟩ => ⟨S_, .f32⟩
  | .hbm, ⟨39, _⟩ => ⟨S2x1408x2048, .f32⟩
  | .hbm, ⟨40, _⟩ => ⟨S2x1408x2048, .f32⟩
  | _, _ => ⟨S2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel23.lean ====
abbrev S1x792x128 : Shape := ⟨3, ![1, 792, 128]⟩
abbrev S792x128 : Shape := ⟨2, ![792, 128]⟩
abbrev S1x88x128 : Shape := ⟨3, ![1, 88, 128]⟩
abbrev S88x128 : Shape := ⟨2, ![88, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x792x128, .f32⟩
  | .hbm, ⟨1, _⟩ => ⟨S792x128, .f32⟩
  | .hbm, ⟨2, _⟩ => ⟨S1x792x128, .f32⟩
  | .hbm, ⟨3, _⟩ => ⟨S1x792x128, .f32⟩
  | .hbm, ⟨4, _⟩ => ⟨S1x792x128, .f32⟩
  | .hbm, ⟨5, _⟩ => ⟨S1x792x128, .f32⟩
  | .hbm, ⟨6, _⟩ => ⟨S1x792x128, .f32⟩
  | .hbm, ⟨7, _⟩ => ⟨S1x792x128, .f32⟩
  | .local _ .vmem, ⟨0, _⟩ => ⟨S1x88x128, .f32⟩
  | .local _ .vmem, ⟨1, _⟩ => ⟨S1x88x128, .f32⟩
  | .local _ .vmem, ⟨2, _⟩ => ⟨S88x128, .f32⟩
  | .local _ .vmem, ⟨3, _⟩ => ⟨S88x128, .f32⟩
  | .local _ .vmem, ⟨4, _⟩ => ⟨S1x88x128, .f32⟩
  | .local _ .vmem, ⟨5, _⟩ => ⟨S1x88x128, .f32⟩
  | .local _ .vmem, ⟨6, _⟩ => ⟨S1x88x128, .f32⟩
  | .local _ .vmem, ⟨7, _⟩ => ⟨S1x88x128, .f32⟩
  | .local _ .vmem, ⟨8, _⟩ => ⟨S1x88x128, .f32⟩
  | .local _ .vmem, ⟨9, _⟩ => ⟨S1x88x128, .f32⟩
  | .local _ .vmem, ⟨10, _⟩ => ⟨S1x88x128, .f32⟩
  | .local _ .vmem, ⟨11, _⟩ => ⟨S1x88x128, .f32⟩
  | .local _ .vmem, ⟨12, _⟩ => ⟨S1x88x128, .f32⟩
  | .local _ .vmem, ⟨13, _⟩ => ⟨S1x88x128, .f32⟩
  | .local _ .vmem, ⟨14, _⟩ => ⟨S1x88x128, .f32⟩
  | .local _ .vmem, ⟨15, _⟩ => ⟨S1x88x128, .f32⟩
  | _, _ => ⟨S1x792x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 9, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c8_i32 : BitVec 32 := 8#32
  let v2 : BitVec 32 := Scalar.select v1 c8_i32 arg1
  let c0_i32_1 : BitVec 32 := 0#32
  let v3 : BitVec 32 := Scalar.select v0 c0_i32_1 v2
  let c0_i32_2 : BitVec 32 := 0#32
  let v4 : BitVec 32 := Scalar.select v1 c0_i32_2 arg2
  let c0_i32_3 : BitVec 32 := 0#32
  let v5 : BitVec 32 := Scalar.select v0 c0_i32_3 v4
  let c0_i32_4 : BitVec 32 := 0#32
  ![v3.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x88x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S88x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x88x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x88x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x88x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x88x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x88x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x88x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel23Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference23Ideal.lean ====
abbrev S1x792x128 : Shape := ⟨3, ![1, 792, 128]⟩
abbrev S792x128 : Shape := ⟨2, ![792, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x792x128, .f32⟩
  | .hbm, ⟨1, _⟩ => ⟨S792x128, .f32⟩
  | .hbm, ⟨2, _⟩ => ⟨S1x792x128, .f32⟩
  | .hbm, ⟨3, _⟩ => ⟨S1x792x128, .f32⟩
  | .hbm, ⟨4, _⟩ => ⟨S1x792x128, .f32⟩
  | .hbm, ⟨5, _⟩ => ⟨S1x792x128, .f32⟩
  | .hbm, ⟨6, _⟩ => ⟨S_, .f32⟩
  | .hbm, ⟨7, _⟩ => ⟨S1x792x128, .f32⟩
  | .hbm, ⟨8, _⟩ => ⟨S1x792x128, .f32⟩
  | .hbm, ⟨9, _⟩ => ⟨S_, .f32⟩
  | .hbm, ⟨10, _⟩ => ⟨S1x792x128, .f32⟩
  | .hbm, ⟨11, _⟩ => ⟨S1x792x128, .f32⟩
  | .hbm, ⟨12, _⟩ => ⟨S1x792x128, .f32⟩
  | .hbm, ⟨13, _⟩ => ⟨S_, .f32⟩
  | .hbm, ⟨14, _⟩ => ⟨S1x792x128, .f32⟩
  | .hbm, ⟨15, _⟩ => ⟨S1x792x128, .f32⟩
  | .hbm, ⟨16, _⟩ => ⟨S1x792x128, .f32⟩
  | .hbm, ⟨17, _⟩ => ⟨S_, .f32⟩
  | .hbm, ⟨18, _⟩ => ⟨S1x792x128, .f32⟩
  | .hbm, ⟨19, _⟩ => ⟨S1x792x128, .f32⟩
  | .hbm, ⟨20, _⟩ => ⟨S1x792x128, .f32⟩
  | .hbm, ⟨21, _⟩ => ⟨S_, .f32⟩
  | .hbm, ⟨22, _⟩ => ⟨S1x792x128, .f32⟩
  | .hbm, ⟨23, _⟩ => ⟨S1x792x128, .f32⟩
  | .hbm, ⟨24, _⟩ => ⟨S_, .f32⟩
  | .hbm, ⟨25, _⟩ => ⟨S1x792x128, .f32⟩
  | .hbm, ⟨26, _⟩ => ⟨S1x792x128, .f32⟩
  | .hbm, ⟨27, _⟩ => ⟨S1x792x128, .f32⟩
  | .hbm, ⟨28, _⟩ => ⟨S_, .f32⟩
  | .hbm, ⟨29, _⟩ => ⟨S1x792x128, .f32⟩
  | .hbm, ⟨30, _⟩ => ⟨S1x792x128, .f32⟩
  | .hbm, ⟨31, _⟩ => ⟨S1x792x128, .f32⟩
  | .hbm, ⟨32, _⟩ => ⟨S_, .f32⟩
  | .hbm, ⟨33, _⟩ => ⟨S1x792x128, .f32⟩
  | .hbm, ⟨34, _⟩ => ⟨S1x792x128, .f32⟩
  | .hbm, ⟨35, _⟩ => ⟨S1x792x128, .f32⟩
  | .hbm, ⟨36, _⟩ => ⟨S_, .f32⟩
  | .hbm, ⟨37, _⟩ => ⟨S1x792x128, .f32⟩
  | .hbm, ⟨38, _⟩ => ⟨S1x792x128, .f32⟩
  | _, _ => ⟨S1x792x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel24.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 35
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .bf16⟩
  | .hbm, ⟨33, _⟩ => ⟨S1x2048, .f32⟩
  | .hbm, ⟨34, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .sgt arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference24Ideal.lean ====
abbrev S4096x2048 : Shape := ⟨2, ![4096, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 95
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S_, .f32⟩
  | .hbm, ⟨52, _⟩ => ⟨S2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S2048, .f32⟩
  | .hbm, ⟨61, _⟩ => ⟨S4096x2048, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x2048, .f32⟩
  | .hbm, ⟨66, _⟩ => ⟨S4096x2048, .f32⟩
  | .hbm, ⟨67, _⟩ => ⟨S4096x1, .f32⟩
  | .hbm, ⟨68, _⟩ => ⟨S4096x2048, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x2048, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x2048, .f32⟩
  | .hbm, ⟨91, _⟩ => ⟨S4096x2048, .f32⟩
  | .hbm, ⟨92, _⟩ => ⟨S4096x2048, .bf16⟩
  | .hbm, ⟨93, _⟩ => ⟨S1x2048, .f32⟩
  | .hbm, ⟨94, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_13 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_16 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_17 : Ref sig .tc := ⟨.hbm, 85, rfl⟩
abbrev main_v63 : Ref sig .tc := ⟨.hbm, 86, rfl⟩
abbrev main_v64 : Ref sig .tc := ⟨.hbm, 87, rfl⟩
abbrev main_cst_18 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== Kernel25.lean ====
abbrev S4096x5120 : Shape := ⟨2, ![4096, 5120]⟩
abbrev S4096x1024 : Shape := ⟨2, ![4096, 1024]⟩
abbrev S8x4096x128 : Shape := ⟨3, ![8, 4096, 128]⟩
abbrev S256x256 : Shape := ⟨2, ![256, 256]⟩
abbrev S4096x256 : Shape := ⟨2, ![4096, 256]⟩
abbrev S2x256x128 : Shape := ⟨3, ![2, 256, 128]⟩
abbrev S256x128 : Shape := ⟨2, ![256, 128]⟩
abbrev S256x1 : Shape := ⟨2, ![256, 1]⟩
abbrev S1x256x128 : Shape := ⟨3, ![1, 256, 128]⟩

abbrev nBuf : Space → Nat
  | .hbm => 3
  | .vmem => 10
  | .smem => 0
  | _ => 0

abbrev bufTy : (tb : Table) → Fin (tcTables nBuf tb) → BufTy
  | .hbm, ⟨0, _⟩ => ⟨S4096x5120, .bf16⟩
  | .hbm, ⟨1, _⟩ => ⟨S4096x1024, .bf16⟩
  | .hbm, ⟨2, _⟩ => ⟨S8x4096x128, .f32⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S2x256x128, .f32⟩
  | .local _ .vmem, ⟨9, _⟩ => ⟨S2x256x128, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v9 : BitVec 32 := Scalar.muli arg1 c256_i32
  v9
def k0_off1 (i : grid0.Coords) : Fin 2 → Nat :=
  let arg1 : BitVec 32 := BitVec.ofNat 32 (i 1).val
  let c256_i32 : BitVec 32 := 256#32
  let v9 : BitVec 32 := Scalar.muli arg1 c256_i32
  let v10 : BitVec 32 := v9
  let v11 : Index := Scalar.indexCast v10
  let c0_2 : Index := 0#32
  ![v11.toNat, 0]
@[reducible] def k0_t1_loop (i : grid0.Coords) : Scf.Loop 32 :=
  let c0_i32 : BitVec 32 := 0#32
  let arg1 : BitVec 32 := BitVec.ofNat 32 (i 1).val
  let v81 : BitVec 32 := Scalar.subi arg1 c0_i32
  let c1_i32 : BitVec 32 := 1#32
  let v83 : BitVec 32 := Scalar.divsi v81 c1_i32
  let v84 : BitVec 32 := Scalar.muli v83 c1_i32
  let v85 : BitVec 32 := Scalar.addi c0_i32 v84
  let c1_i32_26 : BitVec 32 := 1#32
  ⟨c0_i32, v85, c1_i32_26⟩
def k0_mult2 (i : grid0.Coords) (k0_t1 : Fin (k0_t1_loop i).trips) : BitVec 32 :=
  let arg1 : BitVec 32 := BitVec.ofNat 32 (i 1).val
  let c1_i32_41 : BitVec 32 := 1#32
  let v121 : BitVec 32 := Scalar.subi arg1 c1_i32_41
  let c0_i32 : BitVec 32 := 0#32
  let c1_i32_26 : BitVec 32 := 1#32
  let arg7 : BitVec 32 := Scf.iv c0_i32 c1_i32_26 k0_t1
  let v122 : BitVec 32 := Scalar.subi v121 arg7
  let c256_i32_42 : BitVec 32 := 256#32
  let v123 : BitVec 32 := Scalar.muli v122 c256_i32_42
  v123
def k0_off2 (i : grid0.Coords) (k0_t1 : Fin (k0_t1_loop i).trips) : Fin 2 → Nat :=
  let arg1 : BitVec 32 := BitVec.ofNat 32 (i 1).val
  let c1_i32_41 : BitVec 32 := 1#32
  let v121 : BitVec 32 := Scalar.subi arg1 c1_i32_41
  let c0_i32 : BitVec 32 := 0#32
  let c1_i32_26 : BitVec 32 := 1#32
  let arg7 : BitVec 32 := Scf.iv c0_i32 c1_i32_26 k0_t1
  let v122 : BitVec 32 := Scalar.subi v121 arg7
  let c256_i32_42 : BitVec 32 := 256#32
  let v123 : BitVec 32 := Scalar.muli v122 c256_i32_42
  let v124 : BitVec 32 := v123
  let v125 : Index := Scalar.indexCast v124
  let c0_43 : Index := 0#32
  ![v125.toNat, 0]
def k0_mult3 (i : grid0.Coords) (k0_t1 : Fin (k0_t1_loop i).trips) : BitVec 32 :=
  let arg1 : BitVec 32 := BitVec.ofNat 32 (i 1).val
  let c1_i32_41 : BitVec 32 := 1#32
  let v121 : BitVec 32 := Scalar.subi arg1 c1_i32_41
  let c0_i32 : BitVec 32 := 0#32
  let c1_i32_26 : BitVec 32 := 1#32
  let arg7 : BitVec 32 := Scf.iv c0_i32 c1_i32_26 k0_t1
  let v122 : BitVec 32 := Scalar.subi v121 arg7
  let c1_i32_48 : BitVec 32 := 1#32
  let v135 : BitVec 32 := Scalar.addi v122 c1_i32_48
  let c256_i32_49 : BitVec 32 := 256#32
  let v136 : BitVec 32 := Scalar.muli v135 c256_i32_49
  v136
def k0_off3 (i : grid0.Coords) (k0_t1 : Fin (k0_t1_loop i).trips) : Fin 2 → Nat :=
  let arg1 : BitVec 32 := BitVec.ofNat 32 (i 1).val
  let c1_i32_41 : BitVec 32 := 1#32
  let v121 : BitVec 32 := Scalar.subi arg1 c1_i32_41
  let c0_i32 : BitVec 32 := 0#32
  let c1_i32_26 : BitVec 32 := 1#32
  let arg7 : BitVec 32 := Scf.iv c0_i32 c1_i32_26 k0_t1
  let v122 : BitVec 32 := Scalar.subi v121 arg7
  let c1_i32_48 : BitVec 32 := 1#32
  let v135 : BitVec 32 := Scalar.addi v122 c1_i32_48
  let c256_i32_49 : BitVec 32 := 256#32
  let v136 : BitVec 32 := Scalar.muli v135 c256_i32_49
  let v137 : BitVec 32 := v136
  let v138 : Index := Scalar.indexCast v137
  let c0_50 : Index := 0#32
  ![v138.toNat, 0]
@[reducible] def k0_t2_loop (i : grid0.Coords) : Scf.Loop 32 :=
  let c0_i32 : BitVec 32 := 0#32
  let arg1 : BitVec 32 := BitVec.ofNat 32 (i 1).val
  let v81 : BitVec 32 := Scalar.subi arg1 c0_i32
  let c1_i32 : BitVec 32 := 1#32
  let v83 : BitVec 32 := Scalar.divsi v81 c1_i32
  let v84 : BitVec 32 := Scalar.muli v83 c1_i32
  let v85 : BitVec 32 := Scalar.addi c0_i32 v84
  let v82 : BitVec 32 := Scalar.addi c0_i32 v81
  let c1_i32_27 : BitVec 32 := 1#32
  ⟨v85, v82, c1_i32_27⟩
def k0_mult4 (i : grid0.Coords) (k0_t2 : Fin (k0_t2_loop i).trips) : BitVec 32 :=
  let arg1 : BitVec 32 := BitVec.ofNat 32 (i 1).val
  let c1_i32_41 : BitVec 32 := 1#32
  let v121 : BitVec 32 := Scalar.subi arg1 c1_i32_41
  let c0_i32 : BitVec 32 := 0#32
  let v81 : BitVec 32 := Scalar.subi arg1 c0_i32
  let c1_i32 : BitVec 32 := 1#32
  let v83 : BitVec 32 := Scalar.divsi v81 c1_i32
  let v84 : BitVec 32 := Scalar.muli v83 c1_i32
  let v85 : BitVec 32 := Scalar.addi c0_i32 v84
  let c1_i32_27 : BitVec 32 := 1#32
  let arg7 : BitVec 32 := Scf.iv v85 c1_i32_27 k0_t2
  let v122 : BitVec 32 := Scalar.subi v121 arg7
  let c256_i32_42 : BitVec 32 := 256#32
  let v123 : BitVec 32 := Scalar.muli v122 c256_i32_42
  v123
def k0_off4 (i : grid0.Coords) (k0_t2 : Fin (k0_t2_loop i).trips) : Fin 2 → Nat :=
  let arg1 : BitVec 32 := BitVec.ofNat 32 (i 1).val
  let c1_i32_41 : BitVec 32 := 1#32
  let v121 : BitVec 32 := Scalar.subi arg1 c1_i32_41
  let c0_i32 : BitVec 32 := 0#32
  let v81 : BitVec 32 := Scalar.subi arg1 c0_i32
  let c1_i32 : BitVec 32 := 1#32
  let v83 : BitVec 32 := Scalar.divsi v81 c1_i32
  let v84 : BitVec 32 := Scalar.muli v83 c1_i32
  let v85 : BitVec 32 := Scalar.addi c0_i32 v84
  let c1_i32_27 : BitVec 32 := 1#32
  let arg7 : BitVec 32 := Scf.iv v85 c1_i32_27 k0_t2
  let v122 : BitVec 32 := Scalar.subi v121 arg7
  let c256_i32_42 : BitVec 32 := 256#32
  let v123 : BitVec 32 := Scalar.muli v122 c256_i32_42
  let v124 : BitVec 32 := v123
  let v125 : Index := Scalar.indexCast v124
  let c0_43 : Index := 0#32
  ![v125.toNat, 0]
def k0_mult5 (i : grid0.Coords) (k0_t2 : Fin (k0_t2_loop i).trips) : BitVec 32 :=
  let arg1 : BitVec 32 := BitVec.ofNat 32 (i 1).val
  let c1_i32_41 : BitVec 32 := 1#32
  let v121 : BitVec 32 := Scalar.subi arg1 c1_i32_41
  let c0_i32 : BitVec 32 := 0#32
  let v81 : BitVec 32 := Scalar.subi arg1 c0_i32
  let c1_i32 : BitVec 32 := 1#32
  let v83 : BitVec 32 := Scalar.divsi v81 c1_i32
  let v84 : BitVec 32 := Scalar.muli v83 c1_i32
  let v85 : BitVec 32 := Scalar.addi c0_i32 v84
  let c1_i32_27 : BitVec 32 := 1#32
  let arg7 : BitVec 32 := Scf.iv v85 c1_i32_27 k0_t2
  let v122 : BitVec 32 := Scalar.subi v121 arg7
  let c1_i32_48 : BitVec 32 := 1#32
  let v135 : BitVec 32 := Scalar.addi v122 c1_i32_48
  let c256_i32_49 : BitVec 32 := 256#32
  let v136 : BitVec 32 := Scalar.muli v135 c256_i32_49
  v136
def k0_off5 (i : grid0.Coords) (k0_t2 : Fin (k0_t2_loop i).trips) : Fin 2 → Nat :=
  let arg1 : BitVec 32 := BitVec.ofNat 32 (i 1).val
  let c1_i32_41 : BitVec 32 := 1#32
  let v121 : BitVec 32 := Scalar.subi arg1 c1_i32_41
  let c0_i32 : BitVec 32 := 0#32
  let v81 : BitVec 32 := Scalar.subi arg1 c0_i32
  let c1_i32 : BitVec 32 := 1#32
  let v83 : BitVec 32 := Scalar.divsi v81 c1_i32
  let v84 : BitVec 32 := Scalar.muli v83 c1_i32
  let v85 : BitVec 32 := Scalar.addi c0_i32 v84
  let c1_i32_27 : BitVec 32 := 1#32
  let arg7 : BitVec 32 := Scf.iv v85 c1_i32_27 k0_t2
  let v122 : BitVec 32 := Scalar.subi v121 arg7
  let c1_i32_48 : BitVec 32 := 1#32
  let v135 : BitVec 32 := Scalar.addi v122 c1_i32_48
  let c256_i32_49 : BitVec 32 := 256#32
  let v136 : BitVec 32 := Scalar.muli v135 c256_i32_49
  let v137 : BitVec 32 := v136
  let v138 : Index := Scalar.indexCast v137
  let c0_50 : Index := 0#32
  ![v138.toNat, 0]
def k0_mult6 : BitVec 32 :=
  let c0_i32_28 : BitVec 32 := 0#32
  c0_i32_28
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel25Ideal.lean ====
variable {F : FTy → Type} [FloatOps F] [Named F]
def κ : String → Option EReal := fun
  | "mask" => some ⊥
  | _ => none
-- ==== Reference25Ideal.lean ====
abbrev S4096x5120 : Shape := ⟨2, ![4096, 5120]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4096 : Shape := ⟨2, ![8, 4096]⟩
abbrev S8x4096x1 : Shape := ⟨3, ![8, 4096, 1]⟩
abbrev S8x4096x128 : Shape := ⟨3, ![8, 4096, 128]⟩

abbrev nBuf : Space → Nat
  | .hbm => 111
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S4096x1024, .bf16⟩
  | .hbm, ⟨2, _⟩ => ⟨S4096x1024, .f32⟩
  | .hbm, ⟨3, _⟩ => ⟨S4096x8x128, .f32⟩
  | .hbm, ⟨4, _⟩ => ⟨S4096x1024, .bf16⟩
  | .hbm, ⟨5, _⟩ => ⟨S4096x1024, .f32⟩
  | .hbm, ⟨6, _⟩ => ⟨S4096x8x128, .f32⟩
  | .hbm, ⟨7, _⟩ => ⟨S4096x1024, .bf16⟩
  | .hbm, ⟨8, _⟩ => ⟨S4096x1024, .f32⟩
  | .hbm, ⟨9, _⟩ => ⟨S4096x8x128, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S_, .f32⟩
  | .hbm, ⟨40, _⟩ => ⟨S8x4096x4096, .i1⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S_, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S_, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S8x4096x4096, .i1⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S_, .f32⟩
  | .hbm, ⟨66, _⟩ => ⟨S_, .f32⟩
  | .hbm, ⟨67, _⟩ => ⟨S8x4096x4096, .i1⟩
  | .hbm, ⟨68, _⟩ => ⟨S8x4096x4096, .f32⟩
  | .hbm, ⟨69, _⟩ => ⟨S8x4096x4096, .f32⟩
  | .hbm, ⟨70, _⟩ => ⟨S8x128x4096, .f32⟩
  | .hbm, ⟨71, _⟩ => ⟨S4096x8x128, .f32⟩
  | .hbm, ⟨72, _⟩ => ⟨S4096x1024, .f32⟩
  | .hbm, ⟨73, _⟩ => ⟨S4096x1024, .bf16⟩
  | .hbm, ⟨74, _⟩ => ⟨S8x4096x4096, .f32⟩
  | .hbm, ⟨75, _⟩ => ⟨S_, .f32⟩
  | .hbm, ⟨76, _⟩ => ⟨S8x4096x4096, .f32⟩
  | .hbm, ⟨77, _⟩ => ⟨S8x4096x4096, .f32⟩
  | .hbm, ⟨78, _⟩ => ⟨S4096, .i32⟩
  | .hbm, ⟨79, _⟩ => ⟨S1x4096, .i32⟩
  | .hbm, ⟨80, _⟩ => ⟨S4096, .i32⟩
  | .hbm, ⟨81, _⟩ => ⟨S4096x1, .i32⟩
  | .hbm, ⟨82, _⟩ => ⟨S4096x4096, .i32⟩
  | .hbm, ⟨83, _⟩ => ⟨S4096x4096, .i32⟩
  | .hbm, ⟨84, _⟩ => ⟨S4096x4096, .i1⟩
  | .hbm, ⟨85, _⟩ => ⟨S8x4096x4096, .f32⟩
  | .hbm, ⟨86, _⟩ => ⟨S8x4096x4096, .f32⟩
  | .hbm, ⟨87, _⟩ => ⟨S_, .f32⟩
  | .hbm, ⟨88, _⟩ => ⟨S8x4096x4096, .f32⟩
  | .hbm, ⟨89, _⟩ => ⟨S8x4096x4096, .f32⟩
  | .hbm, ⟨90, _⟩ => ⟨S8x4096x4096, .f32⟩
  | .hbm, ⟨91, _⟩ => ⟨S8x4096x4096, .f32⟩
  | .hbm, ⟨92, _⟩ => ⟨S8x4096x4096, .i1⟩
  | .hbm, ⟨93, _⟩ => ⟨S8x4096x4096, .f32⟩
  | .hbm, ⟨94, _⟩ => ⟨S8x4096x4096, .f32⟩
  | .hbm, ⟨95, _⟩ => ⟨S8x4096x4096, .f32⟩
  | .hbm, ⟨96, _⟩ => ⟨S8x4096x4096, .f32⟩
  | .hbm, ⟨97, _⟩ => ⟨S8x4096x4096, .f32⟩
  | .hbm, ⟨98, _⟩ => ⟨S8x4096x4096, .f32⟩
  | .hbm, ⟨99, _⟩ => ⟨S8x4096x4096, .f32⟩
  | .hbm, ⟨100, _⟩ => ⟨S8x4096x4096, .f32⟩
  | .hbm, ⟨101, _⟩ => ⟨S8x4096x4096, .f32⟩
  | .hbm, ⟨102, _⟩ => ⟨S_, .f32⟩
  | .hbm, ⟨103, _⟩ => ⟨S_, .f32⟩
  | .hbm, ⟨104, _⟩ => ⟨S8x4096x4096, .i1⟩
  | .hbm, ⟨105, _⟩ => ⟨S8x4096x4096, .f32⟩
  | .hbm, ⟨106, _⟩ => ⟨S8x4096x4096, .f32⟩
  | .hbm, ⟨107, _⟩ => ⟨S_, .f32⟩
  | .hbm, ⟨108, _⟩ => ⟨S8x4096, .f32⟩
  | .hbm, ⟨109, _⟩ => ⟨S8x4096x1, .f32⟩
  | .hbm, ⟨110, _⟩ => ⟨S8x4096x128, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_2 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_call5_v0 : Ref sig .tc := ⟨.hbm, 86, rfl⟩
abbrev main_call5_call0_cst : Ref sig .tc := ⟨.hbm, 87, rfl⟩
abbrev main_call5_call0_v0 : Ref sig .tc := ⟨.hbm, 88, rfl⟩
abbrev main_call5_call0_v1 : Ref sig .tc := ⟨.hbm, 89, rfl⟩
abbrev main_call5_call0_v2 : Ref sig .tc := ⟨.hbm, 90, rfl⟩
abbrev main_call5_call0_v3 : Ref sig .tc := ⟨.hbm, 91, rfl⟩
abbrev main_call5_call0_v4 : Ref sig .tc := ⟨.hbm, 92, rfl⟩
abbrev main_call5_call0_v5 : Ref sig .tc := ⟨.hbm, 93, rfl⟩
abbrev main_call5_call0_v6 : Ref sig .tc := ⟨.hbm, 94, rfl⟩
abbrev main_call5_call0_v7 : Ref sig .tc := ⟨.hbm, 95, rfl⟩
abbrev main_call5_call0_v8 : Ref sig .tc := ⟨.hbm, 96, rfl⟩
abbrev main_call5_call0_v9 : Ref sig .tc := ⟨.hbm, 97, rfl⟩
abbrev main_call5_call0_v10 : Ref sig .tc := ⟨.hbm, 98, rfl⟩
abbrev main_call5_call0_v11 : Ref sig .tc := ⟨.hbm, 99, rfl⟩
abbrev main_call5_v1 : Ref sig .tc := ⟨.hbm, 100, rfl⟩
abbrev main_v43 : Ref sig .tc := ⟨.hbm, 101, rfl⟩
abbrev main_cst_3 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_v44 : Ref sig .tc := ⟨.hbm, 106, rfl⟩
abbrev main_cst_4 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩

abbrev nD : Nat := 1
abbrev τ : Topo := Topo.v7x

variable {F : FTy → Type} [FloatOps F]
-- ==== Kernel26.lean ====
abbrev S4096x2048 : Shape := ⟨2, ![4096, 2048]⟩
abbrev S1x2048 : Shape := ⟨2, ![1, 2048]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S4096x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x1, .f32⟩
  | .local _ .vmem, ⟨13, _⟩ => ⟨S256x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .bf16⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel27.lean ====
abbrev S4096x11264 : Shape := ⟨2, ![4096, 11264]⟩
abbrev S3x5632 : Shape := ⟨2, ![3, 5632]⟩
abbrev S1x5632 : Shape := ⟨2, ![1, 5632]⟩
abbrev S4096x5632 : Shape := ⟨2, ![4096, 5632]⟩
abbrev S16x512 : Shape := ⟨2, ![16, 512]⟩
abbrev S512x512 : Shape := ⟨2, ![512, 512]⟩
abbrev S3x512 : Shape := ⟨2, ![3, 512]⟩
abbrev S1x512 : Shape := ⟨2, ![1, 512]⟩
abbrev S528x512 : Shape := ⟨2, ![528, 512]⟩
abbrev S32x512 : Shape := ⟨2, ![32, 512]⟩

abbrev nBuf : Space → Nat
  | .hbm => 4
  | .vmem => 13
  | .smem => 0
  | _ => 0

abbrev bufTy : (tb : Table) → Fin (tcTables nBuf tb) → BufTy
  | .hbm, ⟨0, _⟩ => ⟨S4096x11264, .bf16⟩
  | .hbm, ⟨1, _⟩ => ⟨S3x5632, .f32⟩
  | .hbm, ⟨2, _⟩ => ⟨S1x5632, .f32⟩
  | .hbm, ⟨3, _⟩ => ⟨S4096x5632, .bf16⟩
  | .local _ .vmem, ⟨0, _⟩ => ⟨S16x512, .bf16⟩
  | .local _ .vmem, ⟨1, _⟩ => ⟨S16x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S528x512, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference27Ideal.lean ====
abbrev S4096x11264 : Shape := ⟨2, ![4096, 11264]⟩
abbrev S3x5632 : Shape := ⟨2, ![3, 5632]⟩
abbrev S1x5632 : Shape := ⟨2, ![1, 5632]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩

abbrev nBuf : Space → Nat
  | .hbm => 45
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S3x5632, .f32⟩
  | .hbm, ⟨2, _⟩ => ⟨S1x5632, .f32⟩
  | .hbm, ⟨3, _⟩ => ⟨S4096x11264, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S2x5632, .f32⟩
  | .hbm, ⟨8, _⟩ => ⟨S4098x5632, .f32⟩
  | .hbm, ⟨9, _⟩ => ⟨S4096x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S1x5632, .f32⟩
  | .hbm, ⟨27, _⟩ => ⟨S5632, .f32⟩
  | .hbm, ⟨28, _⟩ => ⟨S1x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S_, .f32⟩
  | .hbm, ⟨37, _⟩ => ⟨S4096x5632, .f32⟩
  | .hbm, ⟨38, _⟩ => ⟨S4096x5632, .f32⟩
  | .hbm, ⟨39, _⟩ => ⟨S_, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel28.lean ====
abbrev S4096x5120 : Shape := ⟨2, ![4096, 5120]⟩
abbrev S31x1024 : Shape := ⟨2, ![31, 1024]⟩
abbrev S1x1024 : Shape := ⟨2, ![1, 1024]⟩
abbrev S4096x1024 : Shape := ⟨2, ![4096, 1024]⟩
abbrev S32x1024 : Shape := ⟨2, ![32, 1024]⟩
abbrev S256x1024 : Shape := ⟨2, ![256, 1024]⟩
abbrev S288x1024 : Shape := ⟨2, ![288, 1024]⟩
abbrev S256 : Shape := ⟨1, ![256]⟩
abbrev S256x1 : Shape := ⟨2, ![256, 1]⟩

abbrev nBuf : Space → Nat
  | .hbm => 7
  | .vmem => 17
  | .smem => 0
  | _ => 0

abbrev bufTy : (tb : Table) → Fin (tcTables nBuf tb) → BufTy
  | .hbm, ⟨0, _⟩ => ⟨S4096x5120, .bf16⟩
  | .hbm, ⟨1, _⟩ => ⟨S31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S32x1024, .bf16⟩
  | .local _ .vmem, ⟨1, _⟩ => ⟨S32x1024, .bf16⟩
  | .local _ .vmem, ⟨2, _⟩ => ⟨S256x1024, .bf16⟩
  | .local _ .vmem, ⟨3, _⟩ => ⟨S256x1024, .bf16⟩
  | .local _ .vmem, ⟨4, _⟩ => ⟨S32x1024, .bf16⟩
  | .local _ .vmem, ⟨5, _⟩ => ⟨S32x1024, .bf16⟩
  | .local _ .vmem, ⟨6, _⟩ => ⟨S256x1024, .bf16⟩
  | .local _ .vmem, ⟨7, _⟩ => ⟨S256x1024, .bf16⟩
  | .local _ .vmem, ⟨8, _⟩ => ⟨S31x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S288x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]
-- ==== Reference28Ideal.lean ====
abbrev S4096x5120 : Shape := ⟨2, ![4096, 5120]⟩
abbrev S31x1024 : Shape := ⟨2, ![31, 1024]⟩
abbrev S1x1024 : Shape := ⟨2, ![1, 1024]⟩
abbrev S4096x2048 : Shape := ⟨2, ![4096, 2048]⟩
abbrev S4096x1024 : Shape := ⟨2, ![4096, 1024]⟩
abbrev S_ : Shape := ⟨0, ![]⟩
abbrev S30x1024 : Shape := ⟨2, ![30, 1024]⟩
abbrev S4126x1024 : Shape := ⟨2, ![4126, 1024]⟩
abbrev S1024 : Shape := ⟨1, ![1024]⟩
abbrev S4096 : Shape := ⟨1, ![4096]⟩
abbrev S4096x1 : Shape := ⟨2, ![4096, 1]⟩

abbrev nBuf : Space → Nat
  | .hbm => 279
  | .vmem => 0
  | .smem => 0
  | _ => 0

abbrev hbmTy0_0 (i : Nat) : BufTy := match i % 128 with
  | 0 => ⟨S4096x5120, .bf16⟩
  | 1 => ⟨S31x1024, .f32⟩
  | 2 => ⟨S1x1024, .f32⟩
  | 3 => ⟨S1x1024, .f32⟩
  | 4 => ⟨S1x1024, .f32⟩
  | 5 => ⟨S4096x2048, .bf16⟩
  | 6 => ⟨S4096x2048, .f32⟩
  | 7 => ⟨S4096x1024, .f32⟩
  | 8 => ⟨S4096x1024, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S4096x1024, .f32⟩
  | 18 => ⟨S_, .f32⟩
  | 19 => ⟨S30x1024, .f32⟩
  | 20 => ⟨S4126x1024, .f32⟩
  | 21 => ⟨S4096x1024, .f32⟩
  | 22 => ⟨S1x1024, .f32⟩
  | 23 => ⟨S1024, .f32⟩
  | 24 => ⟨S1x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S4096x1024, .f32⟩
  | 31 => ⟨S1x1024, .f32⟩
  | 32 => ⟨S1024, .f32⟩
  | 33 => ⟨S1x1024, .f32⟩
  | 34 => ⟨S4096x1024, .f32⟩
  | 35 => ⟨S4096x1024, .f32⟩
  | 36 => ⟨S4096x1024, .f32⟩
  | 37 => ⟨S4096x1024, .f32⟩
  | 38 => ⟨S1x1024, .f32⟩
  | 39 => ⟨S1024, .f32⟩
  | 40 => ⟨S1x1024, .f32⟩
  | 41 => ⟨S4096x1024, .f32⟩
  | 42 => ⟨S4096x1024, .f32⟩
  | 43 => ⟨S4096x1024, .f32⟩
  | 44 => ⟨S4096x1024, .f32⟩
  | 45 => ⟨S1x1024, .f32⟩
  | 46 => ⟨S1024, .f32⟩
  | 47 => ⟨S1x1024, .f32⟩
  | 48 => ⟨S4096x1024, .f32⟩
  | 49 => ⟨S4096x1024, .f32⟩
  | 50 => ⟨S4096x1024, .f32⟩
  | 51 => ⟨S4096x1024, .f32⟩
  | 52 => ⟨S1x1024, .f32⟩
  | 53 => ⟨S1024, .f32⟩
  | 54 => ⟨S1x1024, .f32⟩
  | 55 => ⟨S4096x1024, .f32⟩
  | 56 => ⟨S4096x1024, .f32⟩
  | 57 => ⟨S4096x1024, .f32⟩
  | 58 => ⟨S4096x1024, .f32⟩
  | 59 => ⟨S1x1024, .f32⟩
  | 60 => ⟨S1024, .f32⟩
  | 61 => ⟨S1x1024, .f32⟩
  | 62 => ⟨S4096x1024, .f32⟩
  | 63 => ⟨S4096x1024, .f32⟩
  | 64 => ⟨S4096x1024, .f32⟩
  | 65 => ⟨S4096x1024, .f32⟩
  | 66 => ⟨S1x1024, .f32⟩
  | 67 => ⟨S1024, .f32⟩
  | 68 => ⟨S1x1024, .f32⟩
  | 69 => ⟨S4096x1024, .f32⟩
  | 70 => ⟨S4096x1024, .f32⟩
  | 71 => ⟨S4096x1024, .f32⟩
  | 72 => ⟨S4096x1024, .f32⟩
  | 73 => ⟨S1x1024, .f32⟩
  | 74 => ⟨S1024, .f32⟩
  | 75 => ⟨S1x1024, .f32⟩
  | 76 => ⟨S4096x1024, .f32⟩
  | 77 => ⟨S4096x1024, .f32⟩
  | 78 => ⟨S4096x1024, .f32⟩
  | 79 => ⟨S4096x1024, .f32⟩
  | 80 => ⟨S1x1024, .f32⟩
  | 81 => ⟨S1024, .f32⟩
  | 82 => ⟨S1x1024, .f32⟩
  | 83 => ⟨S4096x1024, .f32⟩
  | 84 => ⟨S4096x1024, .f32⟩
  | 85 => ⟨S4096x1024, .f32⟩
  | 86 => ⟨S4096x1024, .f32⟩
  | 87 => ⟨S1x1024, .f32⟩
  | 88 => ⟨S1024, .f32⟩
  | 89 => ⟨S1x1024, .f32⟩
  | 90 => ⟨S4096x1024, .f32⟩
  | 91 => ⟨S4096x1024, .f32⟩
  | 92 => ⟨S4096x1024, .f32⟩
  | 93 => ⟨S4096x1024, .f32⟩
  | 94 => ⟨S1x1024, .f32⟩
  | 95 => ⟨S1024, .f32⟩
  | 96 => ⟨S1x1024, .f32⟩
  | 97 => ⟨S4096x1024, .f32⟩
  | 98 => ⟨S4096x1024, .f32⟩
  | 99 => ⟨S4096x1024, .f32⟩
  | 100 => ⟨S4096x1024, .f32⟩
  | 101 => ⟨S1x1024, .f32⟩
  | 102 => ⟨S1024, .f32⟩
  | 103 => ⟨S1x1024, .f32⟩
  | 104 => ⟨S4096x1024, .f32⟩
  | 105 => ⟨S4096x1024, .f32⟩
  | 106 => ⟨S4096x1024, .f32⟩
  | 107 => ⟨S4096x1024, .f32⟩
  | 108 => ⟨S1x1024, .f32⟩
  | 109 => ⟨S1024, .f32⟩
  | 110 => ⟨S1x1024, .f32⟩
  | 111 => ⟨S4096x1024, .f32⟩
  | 112 => ⟨S4096x1024, .f32⟩
  | 113 => ⟨S4096x1024, .f32⟩
  | 114 => ⟨S4096x1024, .f32⟩
  | 115 => ⟨S1x1024, .f32⟩
  | 116 => ⟨S1024, .f32⟩
  | 117 => ⟨S1x1024, .f32⟩
  | 118 => ⟨S4096x1024, .f32⟩
  | 119 => ⟨S4096x1024, .f32⟩
  | 120 => ⟨S4096x1024, .f32⟩
  | 121 => ⟨S4096x1024, .f32⟩
  | 122 => ⟨S1x1024, .f32⟩
  | 123 => ⟨S1024, .f32⟩
  | 124 => ⟨S1x1024, .f32⟩
  | 125 => ⟨S4096x1024, .f32⟩
  | 126 => ⟨S4096x1024, .f32⟩
  | 127 => ⟨S4096x1024, .f32⟩
  | _ => ⟨S4096x5120, .bf16⟩

abbrev hbmTy0_1 (i : Nat) : BufTy := match i % 128 with
  | 0 => ⟨S4096x1024, .f32⟩
  | 1 => ⟨S1x1024, .f32⟩
  | 2 => ⟨S1024, .f32⟩
  | 3 => ⟨S1x1024, .f32⟩
  | 4 => ⟨S4096x1024, .f32⟩
  | 5 => ⟨S4096x1024, .f32⟩
  | 6 => ⟨S4096x1024, .f32⟩
  | 7 => ⟨S4096x1024, .f32⟩
  | 8 => ⟨S1x1024, .f32⟩
  | 9 => ⟨S1024, .f32⟩
  | 10 => ⟨S1x1024, .f32⟩
  | 11 => ⟨S4096x1024, .f32⟩
  | 12 => ⟨S4096x1024, .f32⟩
  | 13 => ⟨S4096x1024, .f32⟩
  | 14 => ⟨S4096x1024, .f32⟩
  | 15 => ⟨S1x1024, .f32⟩
  | 16 => ⟨S1024, .f32⟩
  | 17 => ⟨S1x1024, .f32⟩
  | 18 => ⟨S4096x1024, .f32⟩
  | 19 => ⟨S4096x1024, .f32⟩
  | 20 => ⟨S4096x1024, .f32⟩
  | 21 => ⟨S4096x1024, .f32⟩
  | 22 => ⟨S1x1024, .f32⟩
  | 23 => ⟨S1024, .f32⟩
  | 24 => ⟨S1x1024, .f32⟩
  | 25 => ⟨S4096x1024, .f32⟩
  | 26 => ⟨S4096x1024, .f32⟩
  | 27 => ⟨S4096x1024, .f32⟩
  | 28 => ⟨S4096x1024, .f32⟩
  | 29 => ⟨S1x1024, .f32⟩
  | 30 => ⟨S1024, .f32⟩
  | 31 => ⟨S1x1024, .f32⟩
  | 32 => ⟨S4096x1024, .f32⟩
  | 33 => ⟨S4096x1024, .f32⟩
  | 34 => ⟨S4096x1024, .f32⟩
  | 35 => ⟨S4096x1024, .f32⟩
  | 36 => ⟨S1x1024, .f32⟩
  | 37 => ⟨S1024, .f32⟩
  | 38 => ⟨S1x1024, .f32⟩
  | 39 => ⟨S4096x1024, .f32⟩
  | 40 => ⟨S4096x1024, .f32⟩
  | 41 => ⟨S4096x1024, .f32⟩
  | 42 => ⟨S4096x1024, .f32⟩
  | 43 => ⟨S1x1024, .f32⟩
  | 44 => ⟨S1024, .f32⟩
  | 45 => ⟨S1x1024, .f32⟩
  | 46 => ⟨S4096x1024, .f32⟩
  | 47 => ⟨S4096x1024, .f32⟩
  | 48 => ⟨S4096x1024, .f32⟩
  | 49 => ⟨S4096x1024, .f32⟩
  | 50 => ⟨S1x1024, .f32⟩
  | 51 => ⟨S1024, .f32⟩
  | 52 => ⟨S1x1024, .f32⟩
  | 53 => ⟨S4096x1024, .f32⟩
  | 54 => ⟨S4096x1024, .f32⟩
  | 55 => ⟨S4096x1024, .f32⟩
  | 56 => ⟨S4096x1024, .f32⟩
  | 57 => ⟨S1x1024, .f32⟩
  | 58 => ⟨S1024, .f32⟩
  | 59 => ⟨S1x1024, .f32⟩
  | 60 => ⟨S4096x1024, .f32⟩
  | 61 => ⟨S4096x1024, .f32⟩
  | 62 => ⟨S4096x1024, .f32⟩
  | 63 => ⟨S4096x1024, .f32⟩
  | 64 => ⟨S1x1024, .f32⟩
  | 65 => ⟨S1024, .f32⟩
  | 66 => ⟨S1x1024, .f32⟩
  | 67 => ⟨S4096x1024, .f32⟩
  | 68 => ⟨S4096x1024, .f32⟩
  | 69 => ⟨S4096x1024, .f32⟩
  | 70 => ⟨S4096x1024, .f32⟩
  | 71 => ⟨S1x1024, .f32⟩
  | 72 => ⟨S1024, .f32⟩
  | 73 => ⟨S1x1024, .f32⟩
  | 74 => ⟨S4096x1024, .f32⟩
  | 75 => ⟨S4096x1024, .f32⟩
  | 76 => ⟨S4096x1024, .f32⟩
  | 77 => ⟨S4096x1024, .f32⟩
  | 78 => ⟨S1x1024, .f32⟩
  | 79 => ⟨S1024, .f32⟩
  | 80 => ⟨S1x1024, .f32⟩
  | 81 => ⟨S4096x1024, .f32⟩
  | 82 => ⟨S4096x1024, .f32⟩
  | 83 => ⟨S4096x1024, .f32⟩
  | 84 => ⟨S4096x1024, .f32⟩
  | 85 => ⟨S1x1024, .f32⟩
  | 86 => ⟨S1024, .f32⟩
  | 87 => ⟨S1x1024, .f32⟩
  | 88 => ⟨S4096x1024, .f32⟩
  | 89 => ⟨S4096x1024, .f32⟩
  | 90 => ⟨S4096x1024, .f32⟩
  | 91 => ⟨S4096x1024, .f32⟩
  | 92 => ⟨S1x1024, .f32⟩
  | 93 => ⟨S1024, .f32⟩
  | 94 => ⟨S1x1024, .f32⟩
  | 95 => ⟨S4096x1024, .f32⟩
  | 96 => ⟨S4096x1024, .f32⟩
  | 97 => ⟨S4096x1024, .f32⟩
  | 98 => ⟨S4096x1024, .f32⟩
  | 99 => ⟨S1x1024, .f32⟩
  | 100 => ⟨S1024, .f32⟩
  | 101 => ⟨S1x1024, .f32⟩
  | 102 => ⟨S4096x1024, .f32⟩
  | 103 => ⟨S4096x1024, .f32⟩
  | 104 => ⟨S4096x1024, .f32⟩
  | 105 => ⟨S4096x1024, .f32⟩
  | 106 => ⟨S1x1024, .f32⟩
  | 107 => ⟨S1024, .f32⟩
  | 108 => ⟨S1x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S_, .f32⟩
  | 115 => ⟨S4096, .f32⟩
  | 116 => ⟨S4096x1, .f32⟩
  | 117 => ⟨S_, .f32⟩
  | 118 => ⟨S4096x1, .f32⟩
  | 119 => ⟨S4096x1, .f32⟩
  | 120 => ⟨S4096x1024, .f32⟩
  | 121 => ⟨S4096x1024, .f32⟩
  | 122 => ⟨S4096x1024, .f32⟩
  | 123 => ⟨S_, .f32⟩
  | 124 => ⟨S4096, .f32⟩
  | 125 => ⟨S4096x1, .f32⟩
  | 126 => ⟨S_, .f32⟩
  | 127 => ⟨S4096x1, .f32⟩
  | _ => ⟨S4096x5120, .bf16⟩

abbrev hbmTy0_2 (i : Nat) : BufTy := match i % 128 with
  | 0 => ⟨S4096x1, .f32⟩
  | 1 => ⟨S4096x1024, .f32⟩
  | 2 => ⟨S4096x1024, .f32⟩
  | 3 => ⟨S_, .f32⟩
  | 4 => ⟨S4096x1, .f32⟩
  | 5 => ⟨S4096x1, .f32⟩
  | 6 => ⟨S4096x1, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S4096x1024, .f32⟩
  | 22 => ⟨S4096x1024, .bf16⟩
  | _ => ⟨S4096x5120, .bf16⟩

abbrev hbmTy (i : Nat) : BufTy := match i / 128 with
  | 0 => hbmTy0_0 i
  | 1 => hbmTy0_1 i
  | 2 => hbmTy0_2 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_cst_3 : Ref sig .tc := ⟨.hbm, 242, rfl⟩
abbrev main_v233 : Ref sig .tc := ⟨.hbm, 243, rfl⟩
abbrev main_v234 : Ref sig .tc := ⟨.hbm, 244, rfl⟩
abbrev main_cst_4 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_5 : Ref sig .tc := ⟨.hbm, 251, rfl⟩
abbrev main_v240 : Ref sig .tc := ⟨.hbm, 252, rfl⟩
abbrev main_v241 : Ref sig .tc := ⟨.hbm, 253, rfl⟩
abbrev main_cst_6 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_cst_7 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v255 : Ref sig .tc := ⟨.hbm, 277, rfl⟩
abbrev main_v256 : Ref sig .tc := ⟨.hbm, 278, rfl⟩

abbrev nD : Nat := 1
abbrev τ : Topo := Topo.v7x

variable {F : FTy → Type} [FloatOps F]
-- ==== Kernel29.lean ====
abbrev S4096x4096 : Shape := ⟨2, ![4096, 4096]⟩
abbrev S3x1024 : Shape := ⟨2, ![3, 1024]⟩
abbrev S4x256x256 : Shape := ⟨3, ![4, 256, 256]⟩
abbrev S1x1024 : Shape := ⟨2, ![1, 1024]⟩
abbrev S4096x2048 : Shape := ⟨2, ![4096, 2048]⟩
abbrev S256x1024 : Shape := ⟨2, ![256, 1024]⟩
abbrev S16x1024 : Shape := ⟨2, ![16, 1024]⟩
abbrev S256x2048 : Shape := ⟨2, ![256, 2048]⟩
abbrev S272x1024 : Shape := ⟨2, ![272, 1024]⟩
abbrev S256x256 : Shape := ⟨2, ![256, 256]⟩
abbrev S256x1 : Shape := ⟨2, ![256, 1]⟩
abbrev S1x256x256 : Shape := ⟨3, ![1, 256, 256]⟩
abbrev S1x256 : Shape := ⟨2, ![1, 256]⟩

abbrev nBuf : Space → Nat
  | .hbm => 5
  | .vmem => 21
  | .smem => 0
  | _ => 0

abbrev bufTy : (tb : Table) → Fin (tcTables nBuf tb) → BufTy
  | .hbm, ⟨0, _⟩ => ⟨S4096x4096, .bf16⟩
  | .hbm, ⟨1, _⟩ => ⟨S3x1024, .f32⟩
  | .hbm, ⟨2, _⟩ => ⟨S4x256x256, .bf16⟩
  | .hbm, ⟨3, _⟩ => ⟨S1x1024, .f32⟩
  | .hbm, ⟨4, _⟩ => ⟨S4096x2048, .bf16⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S256x1024, .bf16⟩
  | .local _ .vmem, ⟨9, _⟩ => ⟨S256x1024, .bf16⟩
  | .local _ .vmem, ⟨10, _⟩ => ⟨S16x1024, .bf16⟩
  | .local _ .vmem, ⟨11, _⟩ => ⟨S16x1024, .bf16⟩
  | .local _ .vmem, ⟨12, _⟩ => ⟨S256x1024, .bf16⟩
  | .local _ .vmem, ⟨13, _⟩ => ⟨S256x1024, .bf16⟩
  | .local _ .vmem, ⟨14, _⟩ => ⟨S3x1024, .f32⟩
  | .local _ .vmem, ⟨15, _⟩ => ⟨S4x256x256, .bf16⟩
  | .local _ .vmem, ⟨16, _⟩ => ⟨S1x1024, .f32⟩
  | .local _ .vmem, ⟨17, _⟩ => ⟨S256x2048, .bf16⟩
  | .local _ .vmem, ⟨18, _⟩ => ⟨S256x2048, .bf16⟩
  | .local _ .vmem, ⟨19, _⟩ => ⟨S272x1024, .f32⟩
  | .local _ .vmem, ⟨20, _⟩ => ⟨S272x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]
-- ==== Reference29Ideal.lean ====
abbrev S4096x4096 : Shape := ⟨2, ![4096, 4096]⟩
abbrev S3x1024 : Shape := ⟨2, ![3, 1024]⟩
abbrev S4x256x256 : Shape := ⟨3, ![4, 256, 256]⟩
abbrev S1x1024 : Shape := ⟨2, ![1, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1024 : Shape := ⟨1, ![1024]⟩
abbrev S4096x256 : Shape := ⟨2, ![4096, 256]⟩
abbrev S1x256 : Shape := ⟨2, ![1, 256]⟩
abbrev S4097x256 : Shape := ⟨2, ![4097, 256]⟩
abbrev S4096 : Shape := ⟨1, ![4096]⟩
abbrev S4096x1 : Shape := ⟨2, ![4096, 1]⟩
abbrev S3x256 : Shape := ⟨2, ![3, 256]⟩
abbrev S4099x256 : Shape := ⟨2, ![4099, 256]⟩
abbrev S7x256 : Shape := ⟨2, ![7, 256]⟩
abbrev S4103x256 : Shape := ⟨2, ![4103, 256]⟩
abbrev S15x256 : Shape := ⟨2, ![15, 256]⟩
abbrev S4111x256 : Shape := ⟨2, ![4111, 256]⟩
abbrev S1x256x256 : Shape := ⟨3, ![1, 256, 256]⟩
abbrev S256x256 : Shape := ⟨2, ![256, 256]⟩
abbrev S4096x2048 : Shape := ⟨2, ![4096, 2048]⟩

abbrev nBuf : Space → Nat
  | .hbm => 190
  | .vmem => 0
  | .smem => 0
  | _ => 0

abbrev hbmTy0_0 (i : Nat) : BufTy := match i % 128 with
  | 0 => ⟨S4096x4096, .bf16⟩
  | 1 => ⟨S3x1024, .f32⟩
  | 2 => ⟨S4x256x256, .bf16⟩
  | 3 => ⟨S1x1024, .f32⟩
  | 4 => ⟨S4096x4096, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S_, .f32⟩
  | 11 => ⟨S2x1024, .f32⟩
  | 12 => ⟨S4098x1024, .f32⟩
  | 13 => ⟨S4096x1024, .f32⟩
  | 14 => ⟨S1x1024, .f32⟩
  | 15 => ⟨S1024, .f32⟩
  | 16 => ⟨S1x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S1x1024, .f32⟩
  | 24 => ⟨S1024, .f32⟩
  | 25 => ⟨S1x1024, .f32⟩
  | 26 => ⟨S4096x1024, .f32⟩
  | 27 => ⟨S4096x1024, .f32⟩
  | 28 => ⟨S4096x1024, .f32⟩
  | 29 => ⟨S4096x1024, .f32⟩
  | 30 => ⟨S1x1024, .f32⟩
  | 31 => ⟨S1024, .f32⟩
  | 32 => ⟨S1x1024, .f32⟩
  | 33 => ⟨S4096x1024, .f32⟩
  | 34 => ⟨S4096x1024, .f32⟩
  | 35 => ⟨S4096x1024, .f32⟩
  | 36 => ⟨S4096x1024, .f32⟩
  | 37 => ⟨S4096x256, .f32⟩
  | 38 => ⟨S4096x256, .f32⟩
  | 39 => ⟨S4096x256, .f32⟩
  | 40 => ⟨S4096x256, .f32⟩
  | 41 => ⟨S_, .f32⟩
  | 42 => ⟨S1x256, .f32⟩
  | 43 => ⟨S4097x256, .f32⟩
  | 44 => ⟨S4096x256, .f32⟩
  | 45 => ⟨S_, .f32⟩
  | 46 => ⟨S4096x256, .f32⟩
  | 47 => ⟨S4096x256, .f32⟩
  | 48 => ⟨S4096x256, .f32⟩
  | 49 => ⟨S4096x256, .f32⟩
  | 50 => ⟨S4096, .i32⟩
  | 51 => ⟨S_, .i32⟩
  | 52 => ⟨S4096, .i32⟩
  | 53 => ⟨S4096, .i32⟩
  | 54 => ⟨S_, .i32⟩
  | 55 => ⟨S4096, .i32⟩
  | 56 => ⟨S4096, .i32⟩
  | 57 => ⟨S4096, .f32⟩
  | 58 => ⟨S4096x1, .f32⟩
  | 59 => ⟨S4096x256, .f32⟩
  | 60 => ⟨S4096x256, .f32⟩
  | 61 => ⟨S4096x256, .f32⟩
  | 62 => ⟨S_, .f32⟩
  | 63 => ⟨S3x256, .f32⟩
  | 64 => ⟨S4099x256, .f32⟩
  | 65 => ⟨S4096x256, .f32⟩
  | 66 => ⟨S_, .f32⟩
  | 67 => ⟨S4096x256, .f32⟩
  | 68 => ⟨S4096x256, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S4096x256, .f32⟩
  | 75 => ⟨S4096, .i32⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S4096, .f32⟩
  | 83 => ⟨S4096x1, .f32⟩
  | 84 => ⟨S4096x256, .f32⟩
  | 85 => ⟨S4096x256, .f32⟩
  | 86 => ⟨S4096x256, .f32⟩
  | 87 => ⟨S_, .f32⟩
  | 88 => ⟨S7x256, .f32⟩
  | 89 => ⟨S4103x256, .f32⟩
  | 90 => ⟨S4096x256, .f32⟩
  | 91 => ⟨S_, .f32⟩
  | 92 => ⟨S4096x256, .f32⟩
  | 93 => ⟨S4096x256, .f32⟩
  | 94 => ⟨S4096x256, .f32⟩
  | 95 => ⟨S4096x256, .f32⟩
  | 96 => ⟨S4096x256, .f32⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S4096x256, .f32⟩
  | 103 => ⟨S4096x256, .f32⟩
  | 104 => ⟨S4096x256, .f32⟩
  | 105 => ⟨S4096x256, .f32⟩
  | 106 => ⟨S4096x256, .f32⟩
  | 107 => ⟨S4096x256, .f32⟩
  | 108 => ⟨S4096, .i32⟩
  | 109 => ⟨S_, .i32⟩
  | 110 => ⟨S4096, .i32⟩
  | 111 => ⟨S4096, .i32⟩
  | 112 => ⟨S_, .i32⟩
  | 113 => ⟨S4096, .i32⟩
  | 114 => ⟨S4096, .i32⟩
  | 115 => ⟨S4096, .f32⟩
  | 116 => ⟨S4096x1, .f32⟩
  | 117 => ⟨S4096x256, .f32⟩
  | 118 => ⟨S4096x256, .f32⟩
  | 119 => ⟨S4096x256, .f32⟩
  | 120 => ⟨S_, .f32⟩
  | 121 => ⟨S15x256, .f32⟩
  | 122 => ⟨S4111x256, .f32⟩
  | 123 => ⟨S4096x256, .f32⟩
  | 124 => ⟨S_, .f32⟩
  | 125 => ⟨S4096x256, .f32⟩
  | 126 => ⟨S4096x256, .f32⟩
  | 127 => ⟨S4096x256, .f32⟩
  | _ => ⟨S4096x4096, .bf16⟩

abbrev hbmTy0_1 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S4096x256, .f32⟩
  | 5 => ⟨S4096x256, .f32⟩
  | 6 => ⟨S4096x256, .f32⟩
  | 7 => ⟨S4096x256, .f32⟩
  | 8 => ⟨S4096x256, .f32⟩
  | 9 => ⟨S4096x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S4096x256, .f32⟩
  | 16 => ⟨S4096x256, .f32⟩
  | 17 => ⟨S4096x256, .f32⟩
  | 18 => ⟨S4096x256, .f32⟩
  | 19 => ⟨S4096x256, .f32⟩
  | 20 => ⟨S4096x256, .f32⟩
  | 21 => ⟨S4096x256, .f32⟩
  | 22 => ⟨S4096x256, .f32⟩
  | 23 => ⟨S4096x256, .f32⟩
  | 24 => ⟨S4096x256, .f32⟩
  | 25 => ⟨S4096x256, .f32⟩
  | 26 => ⟨S4096x256, .f32⟩
  | 27 => ⟨S4096x256, .f32⟩
  | 28 => ⟨S4096x256, .f32⟩
  | 29 => ⟨S4096, .i32⟩
  | 30 => ⟨S_, .i32⟩
  | 31 => ⟨S4096, .i32⟩
  | 32 => ⟨S4096, .i32⟩
  | 33 => ⟨S_, .i32⟩
  | 34 => ⟨S4096, .i32⟩
  | 35 => ⟨S4096, .i32⟩
  | 36 => ⟨S4096, .f32⟩
  | 37 => ⟨S4096x1, .f32⟩
  | 38 => ⟨S4096x256, .f32⟩
  | 39 => ⟨S4096x256, .f32⟩
  | 40 => ⟨S4096x256, .f32⟩
  | 41 => ⟨S1x256x256, .bf16⟩
  | 42 => ⟨S256x256, .bf16⟩
  | 43 => ⟨S256x256, .f32⟩
  | 44 => ⟨S4096x256, .f32⟩
  | 45 => ⟨S1x256x256, .bf16⟩
  | 46 => ⟨S256x256, .bf16⟩
  | 47 => ⟨S256x256, .f32⟩
  | 48 => ⟨S4096x256, .f32⟩
  | 49 => ⟨S1x256x256, .bf16⟩
  | 50 => ⟨S256x256, .bf16⟩
  | 51 => ⟨S256x256, .f32⟩
  | 52 => ⟨S4096x256, .f32⟩
  | 53 => ⟨S1x256x256, .bf16⟩
  | 54 => ⟨S256x256, .bf16⟩
  | 55 => ⟨S256x256, .f32⟩
  | 56 => ⟨S4096x256, .f32⟩
  | 57 => ⟨S4096x1024, .f32⟩
  | 58 => ⟨S4096x1024, .f32⟩
  | 59 => ⟨S4096x1024, .f32⟩
  | 60 => ⟨S4096x2048, .f32⟩
  | 61 => ⟨S4096x2048, .bf16⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_c : Ref sig .tc := ⟨.hbm, 51, rfl⟩
abbrev main_v43 : Ref sig .tc := ⟨.hbm, 52, rfl⟩
abbrev main_v44 : Ref sig .tc := ⟨.hbm, 53, rfl⟩
abbrev main_c_3 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_c_6 : Ref sig .tc := ⟨.hbm, 76, rfl⟩
abbrev main_v64 : Ref sig .tc := ⟨.hbm, 77, rfl⟩
abbrev main_v65 : Ref sig .tc := ⟨.hbm, 78, rfl⟩
abbrev main_c_7 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_8 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_9 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_c_10 : Ref sig .tc := ⟨.hbm, 109, rfl⟩
abbrev main_v93 : Ref sig .tc := ⟨.hbm, 110, rfl⟩
abbrev main_v94 : Ref sig .tc := ⟨.hbm, 111, rfl⟩
abbrev main_c_11 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_cst_12 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_cst_13 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_c_14 : Ref sig .tc := ⟨.hbm, 158, rfl⟩
abbrev main_v138 : Ref sig .tc := ⟨.hbm, 159, rfl⟩
abbrev main_v139 : Ref sig .tc := ⟨.hbm, 160, rfl⟩
abbrev main_c_15 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩

abbrev nD : Nat := 1
abbrev τ : Topo := Topo.v7x

variable {F : FTy → Type} [FloatOps F]
-- ==== Proof.Spec.lean ====
module

public import Idealize.ShloMosaic.Lib.Pointwise

@[expose] public section

noncomputable section
namespace Cert.KernelIdeal.Hand
open Finset

/-! # One head of the attention's gradient, over the reals

The rows of the queries, keys, values and of the incoming gradient are functions of a row and a column; `s` is the
factor on the scores. Every quantity below is a plain formula of these. -/

/-- One head's queries, keys, values, incoming gradient, and the factor on the scores. -/
structure Hd where
  Q : ℕ → ℕ → ℝ
  K : ℕ → ℕ → ℝ
  V : ℕ → ℕ → ℝ
  D : ℕ → ℕ → ℝ
  s : ℝ

/-- `log (1 - σ x)`, in the form both programs compute. -/
def ln (x : ℝ) : ℝ := min (-x) 0 - Real.log (1 + Real.exp (-|x|))

theorem one_add_exp_pos (x : ℝ) : 0 < 1 + Real.exp x := by positivity

theorem ln_eq (x : ℝ) : ln x = -Real.log (1 + Real.exp x) := by
  unfold ln
  rcases le_total 0 x with h | h
  · rw [min_eq_left (by linarith), abs_of_nonneg h]
    have : 1 + Real.exp x = Real.exp x * (1 + Real.exp (-x)) := by rw [mul_add, ← Real.exp_add]; simp [add_comm]
    rw [this, Real.log_mul (Real.exp_pos x).ne' (one_add_exp_pos _).ne', Real.log_exp]; ring
  · rw [min_eq_right (by linarith), abs_of_nonpos h]; simp

theorem exp_ln (x : ℝ) : Real.exp (ln x) = (1 + Real.exp x)⁻¹ := by
  rw [ln_eq, Real.exp_neg, Real.exp_log (one_add_exp_pos x)]

namespace Hd
variable (h : Hd)

/-- The score of row `r` against row `c`. -/
def zz (r c : ℕ) : ℝ := (∑ d : Fin 128, h.Q r d * h.K c d) * h.s
/-- The logarithm of the share that row `c` passes on, zero outside the mask. -/
def ls (r c : ℕ) : ℝ := if c < r then ln (h.zz r c) else 0
/-- Its sums over the first `m` columns. -/
def P (r m : ℕ) : ℝ := ∑ c ∈ range m, h.ls r c
/-- Its sum over the row. -/
def T (r : ℕ) : ℝ := h.P r 4096
/-- The weight of row `c` in row `r`. -/
def ww (r c : ℕ) : ℝ := if c < r then Real.exp (h.zz r c + h.ls r c - h.P r (c + 1) + h.T r) else 0
/-- The gradient of the weight. -/
def dw (r c : ℕ) : ℝ := ∑ d : Fin 128, h.D r d * h.V c d
/-- The weight times its gradient. -/
def ee (r c : ℕ) : ℝ := h.dw r c * h.ww r c
/-- Its sums over the first `m` columns. -/
def E (r m : ℕ) : ℝ := ∑ c ∈ range m, h.ee r c
/-- The gradient of the unscaled score. -/
def dS (r c : ℕ) : ℝ := (h.ee r c * Real.exp (h.ls r c) - (1 - Real.exp (h.ls r c)) * h.E r c) * h.s
/-- The gradient of the queries over the first `m` columns. -/
def dqp (m r d : ℕ) : ℝ := ∑ c ∈ range m, h.dS r c * h.K c d
/-- The gradient of the keys over the first `m` rows. -/
def dkp (m c d : ℕ) : ℝ := ∑ r ∈ range m, h.dS r c * h.Q r d
/-- The gradient of the values over the first `m` rows. -/
def dvp (m c d : ℕ) : ℝ := ∑ r ∈ range m, h.ww r c * h.D r d

theorem ls_out {r c : ℕ} (hc : r ≤ c) : h.ls r c = 0 := if_neg (by omega)
theorem ww_out {r c : ℕ} (hc : r ≤ c) : h.ww r c = 0 := if_neg (by omega)
theorem dS_out {r c : ℕ} (hc : r ≤ c) : h.dS r c = 0 := by
  unfold dS ee; rw [ls_out h hc, ww_out h hc]; simp

/-- The sums over the rows of blocks past the diagonal vanish: the running sums do not see them. -/
theorem dqp_stop {m M r d : ℕ} (h1 : r ≤ m) (h2 : m ≤ M) : h.dqp M r d = h.dqp m r d := by
  unfold dqp
  refine (Finset.sum_subset (Finset.range_subset_range.2 h2) fun c _ hc => ?_).symm
  rw [dS_out h (by simp at hc; omega), zero_mul]

theorem dkp_start {m c d : ℕ} (h1 : m ≤ c + 1) : h.dkp m c d = 0 := by
  unfold dkp
  refine Finset.sum_eq_zero fun r hr => ?_
  rw [dS_out h (by simp at hr; omega), zero_mul]

theorem dvp_start {m c d : ℕ} (h1 : m ≤ c + 1) : h.dvp m c d = 0 := by
  unfold dvp
  refine Finset.sum_eq_zero fun r hr => ?_
  rw [ww_out h (by simp at hr; omega), zero_mul]

end Hd

/-- A sum over the first `m + n` numbers is the sum over the first `m` and then over the next `n`. -/
theorem sum_range_fin (f : ℕ → ℝ) (m n : ℕ) :
    ∑ c ∈ range (m + n), f c = ∑ c ∈ range m, f c + ∑ k : Fin n, f (m + k.val) := by
  rw [Finset.sum_range_add, Finset.sum_range (fun k => f (m + k))]

/-- A sum of reals, read in the extended reals. -/
theorem coe_sum {ι : Type} (t : Finset ι) (f : ι → ℝ) : ((∑ k ∈ t, f k : ℝ) : EReal) = ∑ k ∈ t, ((f k : ℝ) : EReal) := by
  classical
  induction t using Finset.induction_on with
  | empty => simp
  | insert a t ha ih => rw [Finset.sum_insert ha, Finset.sum_insert ha, EReal.coe_add, ih]

/-- A sum of products with a 0/1 factor is the sum over the indices where the factor is 1. -/
theorem sum_mul_ite {n : ℕ} (f : Fin n → ℝ) (p : Fin n → Prop) [DecidablePred p] :
    ∑ k, f k * (if p k then 1 else 0) = ∑ k, if p k then f k else 0 := by
  refine Finset.sum_congr rfl fun k _ => ?_
  split <;> simp

theorem sum_fin_le (f : ℕ → ℝ) {n : ℕ} (b : Fin n) :
    ∑ k : Fin n, (if k.val ≤ b.val then f k else 0) = ∑ k ∈ range (b.val + 1), f k := by
  rw [← Finset.sum_range (fun k => if k ≤ b.val then f k else 0), ← Finset.sum_filter]
  congr 1; ext k; simp; omega

theorem sum_fin_lt (f : ℕ → ℝ) {n : ℕ} (b : Fin n) :
    ∑ k : Fin n, (if k.val < b.val then f k else 0) = ∑ k ∈ range b.val, f k := by
  rw [← Finset.sum_range (fun k => if k < b.val then f k else 0), ← Finset.sum_filter]
  congr 1; ext k; simp; omega

end Cert.KernelIdeal.Hand
-- ==== Proof.Blocks.lean ====
module

public import proofs.«01_k».proof.KernelIdeal
public import proofs.«01_k».proof.Proof.Gen.KernelIdeal.Skeleton
public import proofs.«01_k».proof.Proof.Spec
public import Idealize.ShloMosaic.Lib.Pointwise

@[expose] public section

set_option maxRecDepth 16384
noncomputable section
open Idealize.ShloMosaic Idealize.ShloMosaic.TcCoe
namespace Cert.KernelIdeal.Hand
open Cert.KernelIdeal Cert.KernelIdeal.Gen

/-! # The operations of one block, for one head

The body does the same work for each of its two heads; here are its steps for one, on vectors of a block. -/

section Ops
variable {F : FTy → Type} [FloatOps F] [Named F]

/-- The scores of a block of rows against a block of columns. -/
def bQK (q k : FVec F S256x128 .bf16) : FVec F S256x256 .f32 :=
  mulf (matmul dot_S256x128_S256x128_S256x256_1_1_0_0_n_n none q k (constant S256x256 .f32 0x00000000#32))
    (broadcast S256x256 (Scalar.ofBits .f32 0x3DB504F3#32))
/-- The logarithm of the share passed on, zero where the mask is. -/
def bLS (keep : IVec S256x256 1) (z : FVec F S256x256 .f32) : FVec F S256x256 .f32 :=
  select keep (subf (minimumf (subf (broadcast S256x256 (Scalar.ofBits .f32 0x00000000#32)) z)
        (broadcast S256x256 (Scalar.ofBits .f32 0x00000000#32)))
      (log (addf (broadcast S256x256 (Scalar.ofBits .f32 0x3F800000#32))
        (exp (subf (broadcast S256x256 (Scalar.ofBits .f32 0x00000000#32)) (absf z))))))
    (broadcast S256x256 (Scalar.ofBits .f32 0x00000000#32))
/-- Its running sums along the row, as two products with the 0/1 triangle. -/
def bCS (upto : FVec F S256x256 .bf16) (ls : FVec F S256x256 .f32) : FVec F S256x256 .f32 :=
  addf (matmul dot_S256x256_S256x256_S256x256_1_0_0_1_n_n none (truncf .bf16 ls bitsLt_bf16_f32) upto
      (constant S256x256 .f32 0x00000000#32))
    (matmul dot_S256x256_S256x256_S256x256_1_0_0_1_n_n none
      (truncf .bf16 (subf ls (extf .f32 (truncf .bf16 ls bitsLt_bf16_f32) bitsLt_bf16_f32)) bitsLt_bf16_f32) upto
      (constant S256x256 .f32 0x00000000#32))
/-- The exponent of the weight, without the row's own terms. -/
def bBase (z : FVec F S256x256 .f32) (keep : IVec S256x256 1) (ls cs : FVec F S256x256 .f32) : FVec F S256x256 .f32 :=
  select keep (subf (addf z ls) cs) (broadcast S256x256 (Named.named κ "mask" 0xF149F2CA#32))
/-- The last column of a block. -/
def bLast (x : FVec F S256x256 .f32) : FVec F S256x1 .f32 :=
  extractStridedSlice S256x1 ![0, 255] x slices_S256x256_o0_255_S256x1
/-- The weights. -/
def bW (tot prun : FVec F S256x1 .f32) (base : FVec F S256x256 .f32) : FVec F S256x256 .f32 :=
  exp (addf base (broadcastTo S256x256 (subf tot prun) broadcasts_S256x1_S256x256))
/-- The weights times their gradients. -/
def bE (dout v : FVec F S256x128 .bf16) (w : FVec F S256x256 .f32) : FVec F S256x256 .f32 :=
  mulf (matmul dot_S256x128_S256x128_S256x256_1_1_0_0_n_n none dout v (constant S256x256 .f32 0x00000000#32)) w
/-- The sums over the earlier columns of the block. -/
def bCE (before : FVec F S256x256 .bf16) (e : FVec F S256x256 .f32) : FVec F S256x256 .f32 :=
  matmul dot_S256x256_S256x256_S256x256_1_0_0_1_n_n none (truncf .bf16 e bitsLt_bf16_f32) before
    (constant S256x256 .f32 0x00000000#32)
/-- The gradient of the unscaled scores. -/
def bDS (erun : FVec F S256x1 .f32) (sn e ce : FVec F S256x256 .f32) : FVec F S256x256 .bf16 :=
  truncf .bf16 (mulf (subf (mulf e sn) (mulf (subf (broadcast S256x256 (Scalar.ofBits .f32 0x3F800000#32)) sn)
      (addf ce (broadcastTo S256x256 erun broadcasts_S256x1_S256x256))))
    (broadcast S256x256 (Scalar.ofBits .f32 0x3DB504F3#32))) bitsLt_bf16_f32
/-- The running sum of the weights times their gradients, after the block. -/
def bErun (erun : FVec F S256x1 .f32) (e ce : FVec F S256x256 .f32) : FVec F S256x1 .f32 :=
  addf (addf erun (bLast ce)) (bLast e)
/-- A sum of rows, with a block's part added. -/
def bRow (old : FVec F S256x128 .f32) (x : FVec F S256x256 .bf16) (y : FVec F S256x128 .bf16) : FVec F S256x128 .f32 :=
  addf old (matmul dot_S256x256_S256x128_S256x128_1_0_0_1_n_n none x y (constant S256x128 .f32 0x00000000#32))
/-- A sum of columns, with a block's part added. -/
def bCol (old : FVec F S256x128 .f32) (x : FVec F S256x256 .bf16) (y : FVec F S256x128 .bf16) : FVec F S256x128 .f32 :=
  addf old (matmul dot_S256x256_S256x128_S256x128_0_0_1_1_n_n none x y (constant S256x128 .f32 0x00000000#32))
/-- The left and the right half of a block's columns. -/
def hl (b : FVec F S256x256 .bf16) : FVec F S256x128 .bf16 :=
  extractStridedSlice S256x128 ![0, 0] b slices_S256x256_o0_0_S256x128
def hr (b : FVec F S256x256 .bf16) : FVec F S256x128 .bf16 :=
  extractStridedSlice S256x128 ![0, 128] b slices_S256x256_o0_128_S256x128
end Ops

/-! ## What they compute at the extended reals -/

/-- A vector of reals: the values of `f` from row `R` and column `C` on. -/
def rv (φ : FTy) (a b : ℕ) (f : ℕ → ℕ → ℝ) (R C : ℕ) : FVec Ideal ⟨2, ![a, b]⟩ φ :=
  fun j => ((f (R + (j 0).val) (C + (j 1).val) : ℝ) : EReal)

/-- A column of reals: the values of `f` from row `R` on. -/
def rc (f : ℕ → ℝ) (R : ℕ) : FVec Ideal S256x1 .f32 := fun j => ((f (R + (j 0).val) : ℝ) : EReal)

/-- The mask of row block `n` and column block `j`. -/
def kp (n j : ℕ) : IVec S256x256 1 := fun i => BitVec.ofBool (decide (256 * j + (i 1).val < 256 * n + (i 0).val))

/-- The factor on the scores: the value of the programs' own number. -/
def sc : ℝ := 11863283 * ((2 : ℝ) ^ 27)⁻¹

theorem sc_coe : Ideal.ofBits .f32 0x3DB504F3#32 = ((sc : ℝ) : EReal) := by
  simp [Ideal.ofBits, Ideal.ieee, sc]

theorem bQK_rv (q k : ℕ → ℕ → ℝ) (R C : ℕ) :
    bQK (rv .bf16 256 128 q R 0) (rv .bf16 256 128 k C 0)
      = rv .f32 256 256 (fun r c => (∑ d : Fin 128, q r d * k c d) * sc) R C := by
  funext j
  pointwise [bQK, rv]
  rw [sc_coe]; simp only [zero_add, ← EReal.coe_mul, ← coe_sum]

theorem ln_coe (x : ℝ) :
    min (0 - (x : EReal)) 0 - Ideal.log (1 + Ideal.exp (0 - FloatOps.absf (F := Ideal) (φ := .f32) (x : EReal)))
      = ((ln x : ℝ) : EReal) := by
  have ha : FloatOps.absf (F := Ideal) (φ := .f32) (x : EReal) = ((|x| : ℝ) : EReal) := by
    show max (x : EReal) (-x) = _
    rw [← EReal.coe_neg, ← EReal.coe_strictMono.monotone.map_max]; rfl
  rw [ha, ← EReal.coe_zero, ← EReal.coe_sub, ← EReal.coe_sub, Ideal.exp_coe, ← EReal.coe_one, ← EReal.coe_add,
    Ideal.log_coe, if_neg (not_le.2 (one_add_exp_pos _)), ← EReal.coe_strictMono.monotone.map_min, ← EReal.coe_sub]
  simp [ln]

theorem bLS_rv (z : ℕ → ℕ → ℝ) (n j : ℕ) :
    bLS (kp n j) (rv .f32 256 256 z (256 * n) (256 * j))
      = rv .f32 256 256 (fun r c => if c < r then ln (z r c) else 0) (256 * n) (256 * j) := by
  funext i
  pointwise [bLS, rv, kp]
  rw [ln_coe]
  by_cases h : 256 * j + (i 1).val < 256 * n + (i 0).val
  · simp [h, Scalar.select]
  · simp [h, Scalar.select]

theorem sitofp_bit (b : Bool) :
    FloatOps.sitofp (F := Ideal) .f32 (BitVec.setWidth 32 (BitVec.ofBool b)) = (((if b then 1 else 0 : ℝ)) : EReal) := by
  show (((BitVec.setWidth 32 (BitVec.ofBool b)).toInt : ℝ) : EReal) = _
  cases b <;> simp

theorem toInt_small {a : ℕ} (ha : a < 256) : (BitVec.ofNat 32 a).toInt = (a : ℤ) := by
  have : (BitVec.ofNat 32 a).toNat = a := by rw [BitVec.toNat_ofNat]; exact Nat.mod_eq_of_lt (by omega)
  rw [BitVec.toInt_eq_toNat_of_lt (by rw [this]; omega), this]

theorem sle_ofNat {a b : ℕ} (ha : a < 256) (hb : b < 256) :
    IntOp.cmpi CmpIPredicate.sle (BitVec.ofNat 32 a) (BitVec.ofNat 32 b) = BitVec.ofBool (decide (a ≤ b)) := by
  show BitVec.ofBool ((BitVec.ofNat 32 a).sle (BitVec.ofNat 32 b)) = _
  congr 1
  simp only [BitVec.sle]
  rw [decide_eq_decide]
  rw [toInt_small ha, toInt_small hb]; omega

theorem slt_ofNat {a b : ℕ} (ha : a < 256) (hb : b < 256) :
    IntOp.cmpi CmpIPredicate.slt (BitVec.ofNat 32 a) (BitVec.ofNat 32 b) = BitVec.ofBool (decide (a < b)) := by
  show BitVec.ofBool ((BitVec.ofNat 32 a).slt (BitVec.ofNat 32 b)) = _
  congr 1
  simp only [BitVec.slt]
  rw [decide_eq_decide]
  rw [toInt_small ha, toInt_small hb]; omega

/-- The two triangles of ones. -/
theorem upto_eq : k0_pay56 (F := Ideal)
    = fun i => (((if (i 0).val ≤ (i 1).val then 1 else 0 : ℝ)) : EReal) := by
  funext i
  pointwise [k0_pay56]
  rw [sle_ofNat (i 0).isLt (i 1).isLt, sitofp_bit]; simp

theorem before_eq : k0_pay57 (F := Ideal)
    = fun i => (((if (i 0).val < (i 1).val then 1 else 0 : ℝ)) : EReal) := by
  funext i
  pointwise [k0_pay57]
  rw [slt_ofNat (i 0).isLt (i 1).isLt, sitofp_bit]; simp

/-- The running sums along a block's rows. -/
theorem bCS_rv (f : ℕ → ℕ → ℝ) (R C : ℕ) :
    bCS k0_pay56 (rv .f32 256 256 f R C)
      = fun i => ((∑ k ∈ Finset.range ((i 1).val + 1), f (R + (i 0).val) (C + k) : ℝ) : EReal) := by
  rw [upto_eq]
  funext i
  pointwise [bCS, rv]
  simp only [← EReal.coe_sub, sub_self, ← EReal.coe_mul, zero_mul, ← coe_sum, Finset.sum_const_zero, EReal.coe_zero,
    add_zero]
  rw [← sum_fin_le (fun k => f (R + (i 0).val) (C + k)) (i 1)]
  congr 1
  exact sum_mul_ite _ _

theorem bCE_rv (f : ℕ → ℕ → ℝ) (R C : ℕ) :
    bCE k0_pay57 (rv .f32 256 256 f R C)
      = fun i => ((∑ k ∈ Finset.range (i 1).val, f (R + (i 0).val) (C + k) : ℝ) : EReal) := by
  rw [before_eq]
  funext i
  pointwise [bCE, rv]
  simp only [← EReal.coe_mul, ← coe_sum]
  rw [← sum_fin_lt (fun k => f (R + (i 0).val) (C + k)) (i 1)]
  congr 1
  exact sum_mul_ite _ _

theorem named_mask : (Named.named κ "mask" 0xF149F2CA#32 : Ideal .f32) = (⊥ : EReal) :=
  IdealRules.named_const.ideal_named_scalar _ _ _ _ rfl

/-! ## One block of the head `h` -/

section Head
variable (h : Hd)

/-- The exponents of row block `n` and column block `j`. -/
def baseV (n j : ℕ) : FVec Ideal S256x256 .f32 := fun i =>
  if 256 * j + (i 1).val < 256 * n + (i 0).val then
    ((h.zz (256 * n + (i 0).val) (256 * j + (i 1).val) + h.ls (256 * n + (i 0).val) (256 * j + (i 1).val)
      - ∑ k ∈ Finset.range ((i 1).val + 1), h.ls (256 * n + (i 0).val) (256 * j + k) : ℝ) : EReal)
  else ⊥
def zV (n j : ℕ) := rv .f32 256 256 h.zz (256 * n) (256 * j)
def lsV (n j : ℕ) := rv .f32 256 256 h.ls (256 * n) (256 * j)
def snV (n j : ℕ) := rv .f32 256 256 (fun r c => Real.exp (h.ls r c)) (256 * n) (256 * j)
def wV (n j : ℕ) := rv .f32 256 256 h.ww (256 * n) (256 * j)
def eV (n j : ℕ) := rv .f32 256 256 h.ee (256 * n) (256 * j)
def dsV (n j : ℕ) := rv .bf16 256 256 h.dS (256 * n) (256 * j)
def ptotV (n j : ℕ) := rc (fun r => ∑ k ∈ Finset.range 256, h.ls r (256 * j + k)) (256 * n)
def prunV (n j : ℕ) := rc (fun r => h.P r (256 * j)) (256 * n)
def erunV (n j : ℕ) := rc (fun r => h.E r (256 * j)) (256 * n)
def totV (n : ℕ) := rc h.T (256 * n)
def dqV (n j : ℕ) := rv .f32 256 128 (h.dqp (256 * j)) (256 * n) 0
def qV (n : ℕ) := rv .bf16 256 128 h.Q (256 * n) 0
def kV (j : ℕ) := rv .bf16 256 128 h.K (256 * j) 0
def vV (j : ℕ) := rv .bf16 256 128 h.V (256 * j) 0
def doV (n : ℕ) := rv .bf16 256 128 h.D (256 * n) 0
def dkV (n j : ℕ) := rv .f32 256 128 (h.dkp (256 * n)) (256 * j) 0
def dvV (n j : ℕ) := rv .f32 256 128 (h.dvp (256 * n)) (256 * j) 0

theorem z_eq (hs : h.s = sc) (n j : ℕ) : bQK (qV h n) (kV h j) = zV h n j := by
  unfold qV kV zV; rw [bQK_rv]; funext i; simp only [rv, Hd.zz, hs]

theorem ls_eq (n j : ℕ) : bLS (kp n j) (zV h n j) = lsV h n j := by
  unfold zV lsV; rw [bLS_rv]; rfl

theorem base_eq (n j : ℕ) : bBase (zV h n j) (kp n j) (lsV h n j) (bCS k0_pay56 (lsV h n j)) = baseV h n j := by
  unfold lsV zV; rw [bCS_rv]
  funext i
  pointwise [bBase, rv, kp, baseV]
  rw [named_mask, ← EReal.coe_add, ← EReal.coe_sub]

theorem sn_eq (n j : ℕ) : exp (lsV h n j) = snV h n j := by
  funext i
  pointwise [lsV, snV, rv]
  rw [Ideal.exp_coe]

theorem ptot_eq (n j : ℕ) : bLast (bCS k0_pay56 (lsV h n j)) = ptotV h n j := by
  unfold lsV; rw [bCS_rv]
  funext i
  pointwise [bLast, ptotV, rc]

theorem w_eq (n j : ℕ) : bW (totV h n) (prunV h n j) (baseV h n j) = wV h n j := by
  funext i
  pointwise [bW, totV, prunV, baseV, wV, rv, rc]
  rw [← EReal.coe_sub]
  by_cases hc : 256 * j + (i 1).val < 256 * n + (i 0).val
  · rw [if_pos hc, ← EReal.coe_add, Ideal.exp_coe]
    unfold Hd.ww; rw [if_pos hc]
    congr 2
    have : h.P (256 * n + (i 0).val) (256 * j + (i 1).val + 1) = h.P (256 * n + (i 0).val) (256 * j)
        + ∑ k ∈ Finset.range ((i 1).val + 1), h.ls (256 * n + (i 0).val) (256 * j + k) := by
      unfold Hd.P; rw [add_assoc, Finset.sum_range_add]
    rw [this]; ring
  · rw [if_neg hc, EReal.bot_add, Ideal.exp_bot]
    unfold Hd.ww; rw [if_neg hc]; rfl

theorem e_eq (n j : ℕ) : bE (doV h n) (vV h j) (wV h n j) = eV h n j := by
  funext i
  pointwise [bE, doV, vV, wV, eV, rv]
  simp only [zero_add, ← EReal.coe_mul, ← coe_sum]; rfl

theorem ds_eq (hs : h.s = sc) (n j : ℕ) :
    bDS (erunV h n j) (snV h n j) (eV h n j) (bCE k0_pay57 (eV h n j)) = dsV h n j := by
  unfold eV; rw [bCE_rv]
  funext i
  pointwise [bDS, erunV, snV, dsV, rv, rc]
  rw [sc_coe]
  simp only [← EReal.coe_one, ← EReal.coe_mul, ← EReal.coe_sub, ← EReal.coe_add]
  unfold Hd.dS
  rw [hs]
  congr 5
  unfold Hd.E; rw [Finset.sum_range_add, add_comm]

theorem erun_eq (n j : ℕ) : bErun (erunV h n j) (eV h n j) (bCE k0_pay57 (eV h n j)) = erunV h n (j + 1) := by
  unfold eV; rw [bCE_rv]
  funext i
  pointwise [bErun, bLast, erunV, rv, rc]
  simp only [← EReal.coe_add]
  unfold Hd.E
  rw [mul_add, mul_one, Finset.sum_range_add (fun c => h.ee _ c) (256 * j) 256, Finset.sum_range_succ _ 255, add_assoc]

theorem prun_eq (n j : ℕ) : addf (prunV h n j) (ptotV h n j) = prunV h n (j + 1) := by
  funext i
  pointwise [prunV, ptotV, rc]
  simp only [← EReal.coe_add]
  unfold Hd.P
  rw [mul_add, mul_one, Finset.sum_range_add (fun c => h.ls _ c) (256 * j) 256]

theorem dq_eq (n j : ℕ) : bRow (dqV h n j) (dsV h n j) (kV h j) = dqV h n (j + 1) := by
  funext i
  pointwise [bRow, dqV, dsV, kV, rv]
  simp only [zero_add, ← EReal.coe_mul, ← coe_sum, ← EReal.coe_add]
  unfold Hd.dqp
  rw [mul_add, mul_one, sum_range_fin (fun c => h.dS _ c * _) (256 * j) 256]

theorem dk_eq (n j : ℕ) : bCol (dkV h n j) (dsV h n j) (qV h n) = dkV h (n + 1) j := by
  funext i
  pointwise [bCol, dkV, dsV, qV, rv]
  simp only [zero_add, ← EReal.coe_mul, ← coe_sum, ← EReal.coe_add]
  unfold Hd.dkp
  rw [mul_add, mul_one, sum_range_fin (fun r => h.dS r _ * _) (256 * n) 256]

theorem dv_eq (n j : ℕ) : bCol (dvV h n j) (truncf .bf16 (wV h n j) bitsLt_bf16_f32) (doV h n) = dvV h (n + 1) j := by
  funext i
  pointwise [bCol, dvV, wV, doV, rv]
  simp only [zero_add, ← EReal.coe_mul, ← coe_sum, ← EReal.coe_add]
  unfold Hd.dvp
  rw [mul_add, mul_one, sum_range_fin (fun r => h.ww r _ * _) (256 * n) 256]

/-- Before the first block nothing is summed. -/
theorem zero_dq (n : ℕ) : (k0_pay77 (F := Ideal)) = dqV h n 0 := by
  funext i
  pointwise [k0_pay77, dqV, rv]
  simp [Hd.dqp]

theorem zero_prun (n : ℕ) : (k0_pay59 (F := Ideal)) = prunV h n 0 := by
  funext i
  pointwise [k0_pay59, prunV, rc]
  simp [Hd.P]

theorem zero_erun (n : ℕ) : (k0_pay59 (F := Ideal)) = erunV h n 0 := by
  funext i
  pointwise [k0_pay59, erunV, rc]
  simp [Hd.E]

end Head

end Cert.KernelIdeal.Hand
-- ==== Proof.Trip.lean ====
module

public import proofs.«01_k».proof.Proof.Gen.KernelIdeal.Loops
public import proofs.«01_k».proof.Proof.Blocks
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem
namespace Cert.KernelIdeal.Hand
open Cert.KernelIdeal Cert.KernelIdeal.Gen

/-! # One trip of the loop over the column blocks -/

section Open
variable {F : FTy → Type} [FloatOps F] [Named F]

/-- What the loop carries: for the two heads the sums so far, and the next block's exponents, shares and totals. -/
abbrev Acc (F : FTy → Type) : Type := FVec F S256x128 .f32 × FVec F S256x128 .f32 × FVec F S256x1 .f32 × FVec F S256x1 .f32 × FVec F S256x1 .f32 × FVec F S256x1 .f32 × FVec F S256x256 .f32 × FVec F S256x256 .f32 × FVec F S256x256 .f32 × FVec F S256x256 .f32 × FVec F S256x1 .f32 × FVec F S256x1 .f32

/-- The weights, their products with their gradients, and the gradient of the scores, of the block that the carried
    values are of. -/
def tW0 (v9 : FVec F S256x1 .f32) (a : Acc F) := bW v9 a.2.2.1 a.2.2.2.2.2.2.1
def tW1 (v12 : FVec F S256x1 .f32) (a : Acc F) := bW v12 a.2.2.2.1 a.2.2.2.2.2.2.2.1
def tE0 (v5 : FVec F S256x128 .bf16) (v9 : FVec F S256x1 .f32) (vj : FVec F S256x256 .bf16) (a : Acc F) := bE v5 (hl vj) (tW0 v9 a)
def tE1 (v6 : FVec F S256x128 .bf16) (v12 : FVec F S256x1 .f32) (vj : FVec F S256x256 .bf16) (a : Acc F) := bE v6 (hr vj) (tW1 v12 a)
def tD0 (v5 : FVec F S256x128 .bf16) (v9 : FVec F S256x1 .f32) (v22 : FVec F S256x256 .bf16) (vj : FVec F S256x256 .bf16) (a : Acc F) :=
  bDS a.2.2.2.2.1 a.2.2.2.2.2.2.2.2.1 (tE0 v5 v9 vj a) (bCE v22 (tE0 v5 v9 vj a))
def tD1 (v6 : FVec F S256x128 .bf16) (v12 : FVec F S256x1 .f32) (v22 : FVec F S256x256 .bf16) (vj : FVec F S256x256 .bf16) (a : Acc F) :=
  bDS a.2.2.2.2.2.1 a.2.2.2.2.2.2.2.2.2.1 (tE1 v6 v12 vj a) (bCE v22 (tE1 v6 v12 vj a))

/-- The carried values after a trip. -/
def tNext (v3 v4 v5 v6 : FVec F S256x128 .bf16) (v9 v12 : FVec F S256x1 .f32) (v18 v22 : FVec F S256x256 .bf16)
    (keep : IVec S256x256 1) (kj kn vj : FVec F S256x256 .bf16) (a : Acc F) : Acc F :=
  (bRow a.1 (tD0 v5 v9 v22 vj a) (hl kj), bRow a.2.1 (tD1 v6 v12 v22 vj a) (hr kj),
   addf a.2.2.1 a.2.2.2.2.2.2.2.2.2.2.1, addf a.2.2.2.1 a.2.2.2.2.2.2.2.2.2.2.2,
   bErun a.2.2.2.2.1 (tE0 v5 v9 vj a) (bCE v22 (tE0 v5 v9 vj a)),
   bErun a.2.2.2.2.2.1 (tE1 v6 v12 vj a) (bCE v22 (tE1 v6 v12 vj a)),
   bBase (bQK v3 (hl kn)) keep (bLS keep (bQK v3 (hl kn))) (bCS v18 (bLS keep (bQK v3 (hl kn)))),
   bBase (bQK v4 (hr kn)) keep (bLS keep (bQK v4 (hr kn))) (bCS v18 (bLS keep (bQK v4 (hr kn)))),
   exp (bLS keep (bQK v3 (hl kn))), exp (bLS keep (bQK v4 (hr kn))),
   bLast (bCS v18 (bLS keep (bQK v3 (hl kn)))), bLast (bCS v18 (bLS keep (bQK v4 (hr kn)))))

theorem trip_acc (𝒱 : Variants) (c : Dev nD) (bd : Option 𝒱.V) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole) (arg1 : BitVec 32) (v3 : Vec F S256x128 .bf16) (v4 : Vec F S256x128 .bf16) (v5 : Vec F S256x128 .bf16) (v6 : Vec F S256x128 .bf16) (v9 : FVec F S256x1 .f32) (v12 : FVec F S256x1 .f32) (v18 : FVec F S256x256 .bf16) (v22 : FVec F S256x256 .bf16) (v23 : IVec S256x256 1) (v24 : FVec F S256x1 .f32) (v25 : FVec F S256x1 .f32) (v33 : FVec F S256x256 .f32) (v36 : FVec F S256x256 .f32) (v39 : IVec S256x256 1) (v53 : FVec F S256x256 .f32) (v67 : FVec F S256x256 .f32) (v74 : FVec F S256x256 .f32) (v75 : FVec F S256x256 .bf16) (v78 : FVec F S256x256 .bf16) (cst_32 : FVec F S256x256 .f32) (X_arg3 : BufTy.Contents (Elt F) arg3.view.ty) (X_arg4 : BufTy.Contents (Elt F) arg4.view.ty) (k : Fin (k0_t1_loop i).trips) (acc : Acc F) (f10 : BufTy.Contents (Elt F) arg10.view.ty) (f11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 arg1 v3 v4 v5 v6 v9 v12 v18 v22 v23 v24 v25 v33 v36 v39 v53 v67 v74 v75 v78 cst_32 X_arg3 X_arg4 k).1 acc f10 f11
      = tNext v3 v4 v5 v6 v9 v12 v18 v22 (k0_pay16 i arg1 v23 0#32 1#32 k)
        (arg3.view.readAt (Elt F) (Rect.unit (s := S4096x256) (k0_off2 i k) S256x256.size (facts.k0_off2_inb i k)).toLoadRect X_arg3)
        (arg3.view.readAt (Elt F) (Rect.unit (s := S4096x256) (k0_off1 i k) S256x256.size (facts.k0_off1_inb i k)).toLoadRect X_arg3)
        (arg4.view.readAt (Elt F) (Rect.unit (s := S4096x256) (k0_off2 i k) S256x256.size (facts.k0_off2_inb i k)).toLoadRect X_arg4) acc := by
  unfold trip_k0_t1
  rfl

theorem trip_dk (𝒱 : Variants) (c : Dev nD) (bd : Option 𝒱.V) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole) (arg1 : BitVec 32) (v3 : Vec F S256x128 .bf16) (v4 : Vec F S256x128 .bf16) (v5 : Vec F S256x128 .bf16) (v6 : Vec F S256x128 .bf16) (v9 : FVec F S256x1 .f32) (v12 : FVec F S256x1 .f32) (v18 : FVec F S256x256 .bf16) (v22 : FVec F S256x256 .bf16) (v23 : IVec S256x256 1) (v24 : FVec F S256x1 .f32) (v25 : FVec F S256x1 .f32) (v33 : FVec F S256x256 .f32) (v36 : FVec F S256x256 .f32) (v39 : IVec S256x256 1) (v53 : FVec F S256x256 .f32) (v67 : FVec F S256x256 .f32) (v74 : FVec F S256x256 .f32) (v75 : FVec F S256x256 .bf16) (v78 : FVec F S256x256 .bf16) (cst_32 : FVec F S256x256 .f32) (X_arg3 : BufTy.Contents (Elt F) arg3.view.ty) (X_arg4 : BufTy.Contents (Elt F) arg4.view.ty) (k : Fin (k0_t1_loop i).trips) (acc : Acc F) (f10 : BufTy.Contents (Elt F) arg10.view.ty) (f11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 arg1 v3 v4 v5 v6 v9 v12 v18 v22 v23 v24 v25 v33 v36 v39 v53 v67 v74 v75 v78 cst_32 X_arg3 X_arg4 k).2.1 acc f10 f11
      = [⟨Rect.unit (s := S4096x256) (k0_off4 i k) S256x128.size (facts.k0_off4_inb i k), shapeCast S256x128 (bCol
          (arg10.view.readAt (Elt F) (Rect.unit (s := S4096x256) (k0_off4 i k) S256x128.size (facts.k0_off4_inb i k)).toLoadRect f10)
          (tD1 v6 v12 v22 (arg4.view.readAt (Elt F) (Rect.unit (s := S4096x256) (k0_off2 i k) S256x256.size (facts.k0_off2_inb i k)).toLoadRect X_arg4) acc) v4)
            shapeCasts_S256x128_S256x128⟩,
         ⟨Rect.unit (s := S4096x256) (k0_off3 i k) S256x128.size (facts.k0_off3_inb i k), shapeCast S256x128 (bCol
          (arg10.view.readAt (Elt F) (Rect.unit (s := S4096x256) (k0_off3 i k) S256x128.size (facts.k0_off3_inb i k)).toLoadRect f10)
          (tD0 v5 v9 v22 (arg4.view.readAt (Elt F) (Rect.unit (s := S4096x256) (k0_off2 i k) S256x256.size (facts.k0_off2_inb i k)).toLoadRect X_arg4) acc) v3)
            shapeCasts_S256x128_S256x128⟩] := by
  unfold trip_k0_t1
  rfl

theorem trip_dv (𝒱 : Variants) (c : Dev nD) (bd : Option 𝒱.V) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole) (arg1 : BitVec 32) (v3 : Vec F S256x128 .bf16) (v4 : Vec F S256x128 .bf16) (v5 : Vec F S256x128 .bf16) (v6 : Vec F S256x128 .bf16) (v9 : FVec F S256x1 .f32) (v12 : FVec F S256x1 .f32) (v18 : FVec F S256x256 .bf16) (v22 : FVec F S256x256 .bf16) (v23 : IVec S256x256 1) (v24 : FVec F S256x1 .f32) (v25 : FVec F S256x1 .f32) (v33 : FVec F S256x256 .f32) (v36 : FVec F S256x256 .f32) (v39 : IVec S256x256 1) (v53 : FVec F S256x256 .f32) (v67 : FVec F S256x256 .f32) (v74 : FVec F S256x256 .f32) (v75 : FVec F S256x256 .bf16) (v78 : FVec F S256x256 .bf16) (cst_32 : FVec F S256x256 .f32) (X_arg3 : BufTy.Contents (Elt F) arg3.view.ty) (X_arg4 : BufTy.Contents (Elt F) arg4.view.ty) (k : Fin (k0_t1_loop i).trips) (acc : Acc F) (f10 : BufTy.Contents (Elt F) arg10.view.ty) (f11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 arg1 v3 v4 v5 v6 v9 v12 v18 v22 v23 v24 v25 v33 v36 v39 v53 v67 v74 v75 v78 cst_32 X_arg3 X_arg4 k).2.2.1 acc f10 f11
      = [⟨Rect.unit (s := S4096x256) (k0_off4 i k) S256x128.size (facts.k0_off4_inb i k), shapeCast S256x128 (bCol
          (arg11.view.readAt (Elt F) (Rect.unit (s := S4096x256) (k0_off4 i k) S256x128.size (facts.k0_off4_inb i k)).toLoadRect f11)
          (truncf .bf16 (tW1 v12 acc) bitsLt_bf16_f32) v6) shapeCasts_S256x128_S256x128⟩,
         ⟨Rect.unit (s := S4096x256) (k0_off3 i k) S256x128.size (facts.k0_off3_inb i k), shapeCast S256x128 (bCol
          (arg11.view.readAt (Elt F) (Rect.unit (s := S4096x256) (k0_off3 i k) S256x128.size (facts.k0_off3_inb i k)).toLoadRect f11)
          (truncf .bf16 (tW0 v9 acc) bitsLt_bf16_f32) v5) shapeCasts_S256x128_S256x128⟩] := by
  unfold trip_k0_t1
  rfl
end Open

end Cert.KernelIdeal.Hand
-- ==== Proof.TripValue.lean ====
module

public import proofs.«01_k».proof.Proof.Trip
public import Idealize.ShloMosaic.Lib.WritesUnit

@[expose] public section

set_option maxRecDepth 16384
noncomputable section
open Idealize.ShloMosaic Idealize.ShloMosaic.TcCoe Idealize.SL.Sem
namespace Cert.KernelIdeal.Hand
open Cert.KernelIdeal Cert.KernelIdeal.Gen

/-! # The loop's trips at the extended reals -/

/-- Two heads side by side: columns below 128 are of the first, the others of the second. -/
def pf (f0 f1 : ℕ → ℕ → ℝ) (r c : ℕ) : ℝ := if c < 128 then f0 r c else f1 r (c - 128)
def pv (φ : FTy) (f0 f1 : ℕ → ℕ → ℝ) : FVec Ideal S4096x256 φ :=
  fun i => ((pf f0 f1 (i 0).val (i 1).val : ℝ) : EReal)
def pb (φ : FTy) (f0 f1 : ℕ → ℕ → ℝ) (R : ℕ) : FVec Ideal S256x256 φ :=
  fun i => ((pf f0 f1 (R + (i 0).val) (i 1).val : ℝ) : EReal)

theorem pf_lt (f0 f1 : ℕ → ℕ → ℝ) (r c : ℕ) (hc : c < 128) : pf f0 f1 r c = f0 r c := if_pos hc
theorem pf_ge (f0 f1 : ℕ → ℕ → ℝ) (r c : ℕ) : pf f0 f1 r (128 + c) = f1 r c := by
  unfold pf; rw [if_neg (by omega), Nat.add_sub_cancel_left]

theorem hl_pb (f0 f1 : ℕ → ℕ → ℝ) (R : ℕ) : hl (pb .bf16 f0 f1 R) = rv .bf16 256 128 f0 R 0 := by
  funext i
  pointwise [hl, pb, rv]
  rw [pf_lt _ _ _ _ (i 1).isLt]

theorem hr_pb (f0 f1 : ℕ → ℕ → ℝ) (R : ℕ) : hr (pb .bf16 f0 f1 R) = rv .bf16 256 128 f1 R 0 := by
  funext i
  pointwise [hr, pb, rv]
  rw [pf_ge]

/-- A block of 256 rows read off a pair of heads. -/
theorem ld_pv (f0 f1 : ℕ → ℕ → ℝ) (off : Fin 2 → ℕ) (R : ℕ) (ho : off = ![R, 0])
    (inb : ∀ a, off a + S256x256.size a ≤ S4096x256.size a) :
    View.ld (Val := Elt Ideal) (e' := .bf16) (pv .bf16 f0 f1) (Rect.unit (s := S4096x256) off S256x256.size inb) = pb .bf16 f0 f1 R := by
  subst ho
  funext i
  pointwise [pv, pb]

theorem ld_pv0 (f0 f1 : ℕ → ℕ → ℝ) (off : Fin 2 → ℕ) (R : ℕ) (ho : off = ![R, 0])
    (inb : ∀ a, off a + S256x128.size a ≤ S4096x256.size a) :
    View.ld (Val := Elt Ideal) (e' := .f32) (pv .f32 f0 f1) (Rect.unit (s := S4096x256) off S256x128.size inb)
      = rv .f32 256 128 f0 R 0 := by
  subst ho
  funext i
  pointwise [pv, rv]
  rw [pf_lt _ _ _ _ (i 1).isLt]

theorem ld_pv1 (f0 f1 : ℕ → ℕ → ℝ) (off : Fin 2 → ℕ) (R : ℕ) (ho : off = ![R, 128])
    (inb : ∀ a, off a + S256x128.size a ≤ S4096x256.size a) :
    View.ld (Val := Elt Ideal) (e' := .f32) (pv .f32 f0 f1) (Rect.unit (s := S4096x256) off S256x128.size inb)
      = rv .f32 256 128 f1 R 0 := by
  subst ho
  funext i
  pointwise [pv, rv]
  rw [pf_ge]

/-! ## The loop's numbers -/

theorem trips_eq : ∀ i : grid0.Coords, (k0_t1_loop i).trips = (i 1).val := by decide +kernel
theorem trips2_eq : ∀ i : grid0.Coords, (k0_t2_loop i).trips = 0 := by decide +kernel
theorem off1_eq : ∀ (i : grid0.Coords) (k : Fin (k0_t1_loop i).trips), k0_off1 i k = ![256 * (k.val + 1), 0] := by decide +kernel
theorem off2_eq : ∀ (i : grid0.Coords) (k : Fin (k0_t1_loop i).trips), k0_off2 i k = ![256 * k.val, 0] := by decide +kernel
theorem off3_eq : ∀ (i : grid0.Coords) (k : Fin (k0_t1_loop i).trips), k0_off3 i k = ![256 * k.val, 0] := by decide +kernel
theorem off4_eq : ∀ (i : grid0.Coords) (k : Fin (k0_t1_loop i).trips), k0_off4 i k = ![256 * k.val, 128] := by decide +kernel
theorem off9_eq : ∀ i : grid0.Coords, k0_off9 i = ![256 * (i 1).val, 0] := by decide +kernel
theorem off10_eq : ∀ i : grid0.Coords, k0_off10 i = ![256 * (i 1).val, 0] := by decide +kernel
theorem off11_eq : ∀ i : grid0.Coords, k0_off11 i = ![256 * (i 1).val, 128] := by decide +kernel
theorem ne_next : ∀ (i : grid0.Coords) (k : Fin (k0_t1_loop i).trips),
    Scalar.cmpi .ne (Scalar.addi (Scf.iv 0#32 1#32 k) 1#32) (BitVec.ofNat 32 (i 1).val)
      = BitVec.ofBool (decide (k.val + 1 ≠ (i 1).val)) := by decide +kernel
theorem ne_zero : ∀ i : grid0.Coords,
    Scalar.cmpi .ne (BitVec.ofNat 32 (i 1).val) 0#32 = BitVec.ofBool (decide (0 ≠ (i 1).val)) := by decide +kernel

theorem keep_word (n j a b : ℕ) (hj : j ≤ n) (ha : a < 256) (hb : b < 256) :
    BitVec.ofBool (decide (b < a)) ||| BitVec.ofBool (decide (j ≠ n))
      = BitVec.ofBool (decide (256 * j + b < 256 * n + a)) := by
  rcases Nat.lt_or_ge j n with h | h
  · have h1 : j ≠ n := by omega
    have h2 : 256 * j + b < 256 * n + a := by omega
    by_cases h3 : b < a <;> simp [h1, h2, h3]
  · have h1 : j = n := by omega
    subst h1
    by_cases h3 : b < a <;> simp [h3]

theorem keep_eq (i : grid0.Coords) (k : Fin (k0_t1_loop i).trips) :
    k0_pay16 i (BitVec.ofNat 32 (i 1).val) k0_pay58 0#32 1#32 k = kp (i 1).val (k.val + 1) := by
  funext x
  pointwise [k0_pay16, k0_pay58, kp]
  have hk : k.val + 1 ≤ (i 1).val := by have h1 := k.isLt; have h2 := trips_eq i; omega
  rw [slt_ofNat (x 1).isLt (x 0).isLt, ne_next]
  exact keep_word _ _ _ _ hk (x 0).isLt (x 1).isLt

theorem keep0_eq (i : grid0.Coords) :
    k0_pay64 (BitVec.ofNat 32 (i 1).val) k0_pay58 = kp (i 1).val 0 := by
  funext x
  pointwise [k0_pay64, k0_pay58, kp]
  rw [slt_ofNat (x 1).isLt (x 0).isLt, ne_zero]
  refine (keep_word (i 1).val 0 _ _ (Nat.zero_le _) (x 0).isLt (x 1).isLt).trans ?_
  rw [Nat.mul_zero, Nat.zero_add]

/-! ## The accumulators -/

/-- The two accumulators while the rows of block `n` are under way: the rows of the first `j` blocks have this block's
    part, the others not yet. -/
def mix (G0 G1 : ℕ → ℕ → ℕ → ℝ) (n j : ℕ) : FVec Ideal S4096x256 .f32 :=
  pv .f32 (fun r => G0 (256 * (if r < 256 * j then n + 1 else n)) r) (fun r => G1 (256 * (if r < 256 * j then n + 1 else n)) r)

theorem mix_ld0 (G0 G1 : ℕ → ℕ → ℕ → ℝ) (n j : ℕ) (off : Fin 2 → ℕ) (ho : off = ![256 * j, 0])
    (inb : ∀ a, off a + S256x128.size a ≤ S4096x256.size a) :
    View.ld (Val := Elt Ideal) (e' := .f32) (mix G0 G1 n j) (Rect.unit (s := S4096x256) off S256x128.size inb)
      = rv .f32 256 128 (G0 (256 * n)) (256 * j) 0 := by
  unfold mix; rw [ld_pv0 _ _ off (256 * j) ho]
  funext i; unfold rv; dsimp only; rw [if_neg (by omega)]

theorem mix_ld1 (G0 G1 : ℕ → ℕ → ℕ → ℝ) (n j : ℕ) (off : Fin 2 → ℕ) (ho : off = ![256 * j, 128])
    (inb : ∀ a, off a + S256x128.size a ≤ S4096x256.size a) :
    View.ld (Val := Elt Ideal) (e' := .f32) (mix G0 G1 n j) (Rect.unit (s := S4096x256) off S256x128.size inb)
      = rv .f32 256 128 (G1 (256 * n)) (256 * j) 0 := by
  unfold mix; rw [ld_pv1 _ _ off (256 * j) ho]
  funext i; unfold rv; dsimp only; rw [if_neg (by omega)]

/-- Storing this block's part of the two heads. -/
theorem mix_store (G0 G1 : ℕ → ℕ → ℕ → ℝ) (n j : ℕ) (M : Memref sig .tc .vmem S4096x256 .f32)
    (f : BufTy.Contents (Elt Ideal) M.view.ty) (hf : M.view.read (Elt Ideal) f = mix G0 G1 n j)
    (off3 off4 : Fin 2 → ℕ) (h3 : off3 = ![256 * j, 0]) (h4 : off4 = ![256 * j, 128])
    (inb3 : ∀ a, off3 a + S256x128.size a ≤ S4096x256.size a) (inb4 : ∀ a, off4 a + S256x128.size a ≤ S4096x256.size a) :
    M.view.read (Elt Ideal) (M.view.writes (Elt Ideal) f
      [⟨Rect.unit (s := S4096x256) off4 S256x128.size inb4, rv .f32 256 128 (G1 (256 * (n + 1))) (256 * j) 0⟩,
       ⟨Rect.unit (s := S4096x256) off3 S256x128.size inb3, rv .f32 256 128 (G0 (256 * (n + 1))) (256 * j) 0⟩])
      = mix G0 G1 n (j + 1) := by
  funext y
  have hy0 : (y 0).val < 4096 := (y 0).isLt
  have hy1 : (y 1).val < 256 := (y 1).isLt
  by_cases hr : 256 * j ≤ (y 0).val ∧ (y 0).val < 256 * j + 256
  · by_cases hc : (y 1).val < 128
    · refine (View.read_writes_cons_unit_of_not_mem (size := S256x128.size) M.view f inb4 _ _ y h4 1 (Or.inl hc)).trans ?_
      refine (View.read_writes_cons_unit_of_mem (size := S256x128.size) M.view f inb3 _ _ y
          (ix2 (⟨(y 0).val - 256 * j, by omega⟩ : Fin 256) (⟨(y 1).val, hc⟩ : Fin 128)) h3
          (Fin.forall_fin_two.2 ⟨by show (y 0).val = 256 * j + ((y 0).val - 256 * j); omega,
            by show (y 1).val = 0 + (y 1).val; omega⟩)).trans ?_
      show ((G0 (256 * (n + 1)) (256 * j + ((y 0).val - 256 * j)) (0 + (y 1).val) : ℝ) : EReal) = _
      unfold mix pv
      rw [pf_lt _ _ _ _ hc, if_pos (by omega), Nat.zero_add]
      congr 2; omega
    · refine (View.read_writes_cons_unit_of_mem (size := S256x128.size) M.view f inb4 _ _ y
          (ix2 (⟨(y 0).val - 256 * j, by omega⟩ : Fin 256) (⟨(y 1).val - 128, by omega⟩ : Fin 128)) h4
          (Fin.forall_fin_two.2 ⟨by show (y 0).val = 256 * j + ((y 0).val - 256 * j); omega,
            by show (y 1).val = 128 + ((y 1).val - 128); omega⟩)).trans ?_
      show ((G1 (256 * (n + 1)) (256 * j + ((y 0).val - 256 * j)) (0 + ((y 1).val - 128)) : ℝ) : EReal) = _
      unfold mix pv pf
      rw [if_neg hc]; dsimp only; rw [if_pos (by omega), Nat.zero_add]
      congr 2; omega
  · have hn : (y 0).val < 256 * j ∨ 256 * j + 256 ≤ (y 0).val := by omega
    refine (View.read_writes_cons_unit_of_not_mem (size := S256x128.size) M.view f inb4 _ _ y h4 0 hn).trans ?_
    refine (View.read_writes_cons_unit_of_not_mem (size := S256x128.size) M.view f inb3 _ _ y h3 0 hn).trans ?_
    show M.view.read (Elt Ideal) f y = _
    rw [hf]
    unfold mix pv pf
    have : ((y 0).val < 256 * (j + 1)) ↔ ((y 0).val < 256 * j) := by omega
    simp only [this]

/-! ## A trip -/

section Head
variable (g0 g1 : Hd)

/-- What the loop carries before trip `j` of row block `n`. -/
def accV (n j : ℕ) : Acc Ideal :=
  (dqV g0 n j, dqV g1 n j, prunV g0 n j, prunV g1 n j, erunV g0 n j, erunV g1 n j, baseV g0 n j, baseV g1 n j,
   snV g0 n j, snV g1 n j, ptotV g0 n j, ptotV g1 n j)

theorem tW0_eq (n j : ℕ) : tW0 (totV g0 n) (accV g0 g1 n j) = wV g0 n j := w_eq g0 n j
theorem tW1_eq (n j : ℕ) : tW1 (totV g1 n) (accV g0 g1 n j) = wV g1 n j := w_eq g1 n j
theorem tE0_eq (n j : ℕ) (vj : FVec Ideal S256x256 .bf16) (hv : hl vj = vV g0 j) :
    tE0 (doV g0 n) (totV g0 n) vj (accV g0 g1 n j) = eV g0 n j := by
  unfold tE0; rw [tW0_eq, hv, e_eq]
theorem tE1_eq (n j : ℕ) (vj : FVec Ideal S256x256 .bf16) (hv : hr vj = vV g1 j) :
    tE1 (doV g1 n) (totV g1 n) vj (accV g0 g1 n j) = eV g1 n j := by
  unfold tE1; rw [tW1_eq, hv, e_eq]
theorem tD0_eq (hs : g0.s = sc) (n j : ℕ) (vj : FVec Ideal S256x256 .bf16) (hv : hl vj = vV g0 j) :
    tD0 (doV g0 n) (totV g0 n) k0_pay57 vj (accV g0 g1 n j) = dsV g0 n j := by
  unfold tD0; rw [tE0_eq g0 g1 n j vj hv]; exact ds_eq g0 hs n j
theorem tD1_eq (hs : g1.s = sc) (n j : ℕ) (vj : FVec Ideal S256x256 .bf16) (hv : hr vj = vV g1 j) :
    tD1 (doV g1 n) (totV g1 n) k0_pay57 vj (accV g0 g1 n j) = dsV g1 n j := by
  unfold tD1; rw [tE1_eq g0 g1 n j vj hv]; exact ds_eq g1 hs n j

theorem tNext_eq (h0 : g0.s = sc) (h1 : g1.s = sc) (n j : ℕ) (kj kn vj : FVec Ideal S256x256 .bf16)
    (hk0 : hl kj = kV g0 j) (hk1 : hr kj = kV g1 j) (hn0 : hl kn = kV g0 (j + 1)) (hn1 : hr kn = kV g1 (j + 1))
    (hv0 : hl vj = vV g0 j) (hv1 : hr vj = vV g1 j) :
    tNext (qV g0 n) (qV g1 n) (doV g0 n) (doV g1 n) (totV g0 n) (totV g1 n) k0_pay56 k0_pay57 (kp n (j + 1)) kj kn vj
      (accV g0 g1 n j) = accV g0 g1 n (j + 1) := by
  unfold tNext
  rw [tD0_eq g0 g1 h0 n j vj hv0, tD1_eq g0 g1 h1 n j vj hv1, tE0_eq g0 g1 n j vj hv0, tE1_eq g0 g1 n j vj hv1, hk0, hk1,
    hn0, hn1, z_eq g0 h0, z_eq g1 h1, ls_eq, ls_eq, base_eq, base_eq, sn_eq, sn_eq, ptot_eq, ptot_eq]
  show (bRow (dqV g0 n j) _ _, bRow (dqV g1 n j) _ _, addf (prunV g0 n j) (ptotV g0 n j), addf (prunV g1 n j) (ptotV g1 n j),
    bErun (erunV g0 n j) _ _, bErun (erunV g1 n j) _ _, _) = _
  rw [dq_eq, dq_eq, prun_eq, prun_eq, erun_eq, erun_eq]
  rfl

/-- The values of the loop's own operands at row block `n`. -/
structure Args (n : ℕ) (v3 v4 v5 v6 : FVec Ideal S256x128 .bf16) (v9 v12 : FVec Ideal S256x1 .f32) : Prop where
  s0 : g0.s = sc
  s1 : g1.s = sc
  q0 : v3 = qV g0 n
  q1 : v4 = qV g1 n
  d0 : v5 = doV g0 n
  d1 : v6 = doV g1 n
  t0 : v9 = totV g0 n
  t1 : v12 = totV g1 n

end Head

/-- A reshape to the same shape changes nothing. -/
theorem cast_self (x : FVec Ideal S256x128 .f32) : shapeCast S256x128 x shapeCasts_S256x128_S256x128 = x := by
  funext i
  pointwise

/-- THE LOOP: the carried values and the two accumulators before trip `j`. -/
theorem loop_val (𝒱 : Variants) (c : Dev nD) (bd : Option 𝒱.V) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole) (v3 : Vec Ideal S256x128 .bf16) (v4 : Vec Ideal S256x128 .bf16) (v5 : Vec Ideal S256x128 .bf16) (v6 : Vec Ideal S256x128 .bf16) (v9 : FVec Ideal S256x1 .f32) (v12 : FVec Ideal S256x1 .f32) (v24 : FVec Ideal S256x1 .f32) (v25 : FVec Ideal S256x1 .f32) (v33 : FVec Ideal S256x256 .f32) (v36 : FVec Ideal S256x256 .f32) (v39 : IVec S256x256 1) (v53 : FVec Ideal S256x256 .f32) (v67 : FVec Ideal S256x256 .f32) (v74 : FVec Ideal S256x256 .f32) (v75 : FVec Ideal S256x256 .bf16) (v78 : FVec Ideal S256x256 .bf16) (cst_32 : FVec Ideal S256x256 .f32) (X_arg3 : BufTy.Contents (Elt Ideal) arg3.view.ty) (X_arg4 : BufTy.Contents (Elt Ideal) arg4.view.ty) (g0 g1 : Hd) (A : Args g0 g1 (i 1).val v3 v4 v5 v6 v9 v12)
    (hK : arg3.view.read (Elt Ideal) X_arg3 = pv .bf16 g0.K g1.K) (hV : arg4.view.read (Elt Ideal) X_arg4 = pv .bf16 g0.V g1.V)
    (G10 : BufTy.Contents (Elt Ideal) arg10.view.ty) (G11 : BufTy.Contents (Elt Ideal) arg11.view.ty)
    (h10 : arg10.view.read (Elt Ideal) G10 = mix g0.dkp g1.dkp (i 1).val 0)
    (h11 : arg11.view.read (Elt Ideal) G11 = mix g0.dvp g1.dvp (i 1).val 0)
    (init : Acc Ideal) (hi : init = accV g0 g1 (i 1).val 0) (j : ℕ) (hj : j ≤ (i 1).val) :
    (st_k0_t1 (F := Ideal) 𝒱 c bd i arg2 harg2 arg3 harg3 arg4 harg4 arg5 harg5 arg6 harg6 arg7 harg7 arg8 harg8 arg9 harg9 arg10 harg10 arg11 harg11 (BitVec.ofNat 32 (i 1).val) v3 v4 v5 v6 v9 v12 k0_pay56 k0_pay57 k0_pay58 v24 v25 v33 v36 v39 v53 v67 v74 v75 v78 cst_32 X_arg3 X_arg4 G10 G11 init j).1 = accV g0 g1 (i 1).val j
    ∧ arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg11 harg11 (BitVec.ofNat 32 (i 1).val) v3 v4 v5 v6 v9 v12 k0_pay56 k0_pay57 k0_pay58 v24 v25 v33 v36 v39 v53 v67 v74 v75 v78 cst_32 X_arg3 X_arg4 G10 G11 init j).2.1)
        = mix g0.dkp g1.dkp (i 1).val j
    ∧ arg11.view.read (Elt Ideal) (arg11.view.writes (Elt Ideal) G11 (st_k0_t1 (F := Ideal) 𝒱 c bd i arg2 harg2 arg3 harg3 arg4 harg4 arg5 harg5 arg6 harg6 arg7 harg7 arg8 harg8 arg9 harg9 arg10 harg10 arg11 harg11 (BitVec.ofNat 32 (i 1).val) v3 v4 v5 v6 v9 v12 k0_pay56 k0_pay57 k0_pay58 v24 v25 v33 v36 v39 v53 v67 v74 v75 v78 cst_32 X_arg3 X_arg4 G10 G11 init j).2.2)
        = mix g0.dvp g1.dvp (i 1).val j := by
  induction j with
  | zero => exact ⟨hi, h10, h11⟩
  | succ j ih =>
    obtain ⟨iha, ih10, ih11⟩ := ih (by omega)
    have hjt : j < (k0_t1_loop i).trips := by have := trips_eq i; omega
    have hs := st_k0_t1_succ (F := Ideal) 𝒱 c bd i arg2 harg2 arg3 harg3 arg4 harg4 arg5 harg5 arg6 harg6 arg7 harg7 arg8 harg8 arg9 harg9 arg10 harg10 arg11 harg11 (BitVec.ofNat 32 (i 1).val) v3 v4 v5 v6 v9 v12 k0_pay56 k0_pay57 k0_pay58 v24 v25 v33 v36 v39 v53 v67 v74 v75 v78 cst_32 X_arg3 X_arg4 G10 G11 init ⟨j, hjt⟩
    generalize hst : st_k0_t1 (F := Ideal) 𝒱 c bd i arg2 harg2 arg3 harg3 arg4 harg4 arg5 harg5 arg6 harg6 arg7 harg7 arg8 harg8 arg9 harg9 arg10 harg10 arg11 harg11 (BitVec.ofNat 32 (i 1).val) v3 v4 v5 v6 v9 v12 k0_pay56 k0_pay57 k0_pay58 v24 v25 v33 v36 v39 v53 v67 v74 v75 v78 cst_32 X_arg3 X_arg4 G10 G11 init j = st at iha ih10 ih11
    have hs' : st_k0_t1 (F := Ideal) 𝒱 c bd i arg2 harg2 arg3 harg3 arg4 harg4 arg5 harg5 arg6 harg6 arg7 harg7 arg8 harg8 arg9 harg9 arg10 harg10 arg11 harg11 (BitVec.ofNat 32 (i 1).val) v3 v4 v5 v6 v9 v12 k0_pay56 k0_pay57 k0_pay58 v24 v25 v33 v36 v39 v53 v67 v74 v75 v78 cst_32 X_arg3 X_arg4 G10 G11 init (j + 1) = _ := hs
    rw [hs']
    simp only [hst]
    generalize hf10 : arg10.view.writes (Elt Ideal) G10 st.2.1 = f10 at ih10
    generalize hf11 : arg11.view.writes (Elt Ideal) G11 st.2.2 = f11 at ih11
    have hkj0 : hl (arg3.view.readAt (Elt Ideal) (Rect.unit (s := S4096x256) (k0_off2 i ⟨j, hjt⟩) S256x256.size (facts.k0_off2_inb i ⟨j, hjt⟩)).toLoadRect X_arg3) = kV g0 j := by
      rw [show arg3.view.readAt (Elt Ideal) (Rect.unit (s := S4096x256) (k0_off2 i ⟨j, hjt⟩) S256x256.size (facts.k0_off2_inb i ⟨j, hjt⟩)).toLoadRect X_arg3 = pb .bf16 g0.K g1.K (256 * j) from (congrArg (fun X => View.ld X _) hK).trans (ld_pv _ _ _ _ (off2_eq i _) _), hl_pb]; rfl
    have hkj1 : hr (arg3.view.readAt (Elt Ideal) (Rect.unit (s := S4096x256) (k0_off2 i ⟨j, hjt⟩) S256x256.size (facts.k0_off2_inb i ⟨j, hjt⟩)).toLoadRect X_arg3) = kV g1 j := by
      rw [show arg3.view.readAt (Elt Ideal) (Rect.unit (s := S4096x256) (k0_off2 i ⟨j, hjt⟩) S256x256.size (facts.k0_off2_inb i ⟨j, hjt⟩)).toLoadRect X_arg3 = pb .bf16 g0.K g1.K (256 * j) from (congrArg (fun X => View.ld X _) hK).trans (ld_pv _ _ _ _ (off2_eq i _) _), hr_pb]; rfl
    have hkn0 : hl (arg3.view.readAt (Elt Ideal) (Rect.unit (s := S4096x256) (k0_off1 i ⟨j, hjt⟩) S256x256.size (facts.k0_off1_inb i ⟨j, hjt⟩)).toLoadRect X_arg3) = kV g0 (j + 1) := by
      rw [show arg3.view.readAt (Elt Ideal) (Rect.unit (s := S4096x256) (k0_off1 i ⟨j, hjt⟩) S256x256.size (facts.k0_off1_inb i ⟨j, hjt⟩)).toLoadRect X_arg3 = pb .bf16 g0.K g1.K (256 * (j + 1)) from (congrArg (fun X => View.ld X _) hK).trans (ld_pv _ _ _ _ (off1_eq i _) _), hl_pb]; rfl
    have hkn1 : hr (arg3.view.readAt (Elt Ideal) (Rect.unit (s := S4096x256) (k0_off1 i ⟨j, hjt⟩) S256x256.size (facts.k0_off1_inb i ⟨j, hjt⟩)).toLoadRect X_arg3) = kV g1 (j + 1) := by
      rw [show arg3.view.readAt (Elt Ideal) (Rect.unit (s := S4096x256) (k0_off1 i ⟨j, hjt⟩) S256x256.size (facts.k0_off1_inb i ⟨j, hjt⟩)).toLoadRect X_arg3 = pb .bf16 g0.K g1.K (256 * (j + 1)) from (congrArg (fun X => View.ld X _) hK).trans (ld_pv _ _ _ _ (off1_eq i _) _), hr_pb]; rfl
    have hvj0 : hl (arg4.view.readAt (Elt Ideal) (Rect.unit (s := S4096x256) (k0_off2 i ⟨j, hjt⟩) S256x256.size (facts.k0_off2_inb i ⟨j, hjt⟩)).toLoadRect X_arg4) = vV g0 j := by
      rw [show arg4.view.readAt (Elt Ideal) (Rect.unit (s := S4096x256) (k0_off2 i ⟨j, hjt⟩) S256x256.size (facts.k0_off2_inb i ⟨j, hjt⟩)).toLoadRect X_arg4 = pb .bf16 g0.V g1.V (256 * j) from (congrArg (fun X => View.ld X _) hV).trans (ld_pv _ _ _ _ (off2_eq i _) _), hl_pb]; rfl
    have hvj1 : hr (arg4.view.readAt (Elt Ideal) (Rect.unit (s := S4096x256) (k0_off2 i ⟨j, hjt⟩) S256x256.size (facts.k0_off2_inb i ⟨j, hjt⟩)).toLoadRect X_arg4) = vV g1 j := by
      rw [show arg4.view.readAt (Elt Ideal) (Rect.unit (s := S4096x256) (k0_off2 i ⟨j, hjt⟩) S256x256.size (facts.k0_off2_inb i ⟨j, hjt⟩)).toLoadRect X_arg4 = pb .bf16 g0.V g1.V (256 * j) from (congrArg (fun X => View.ld X _) hV).trans (ld_pv _ _ _ _ (off2_eq i _) _), hr_pb]; rfl
    have hD0 := tD0_eq g0 g1 A.s0 (i 1).val j _ hvj0
    have hD1 := tD1_eq g0 g1 A.s1 (i 1).val j _ hvj1
    have hW0 := tW0_eq g0 g1 (i 1).val j
    have hW1 := tW1_eq g0 g1 (i 1).val j
    have hN := tNext_eq g0 g1 A.s0 A.s1 (i 1).val j _ _ _ hkj0 hkj1 hkn0 hkn1 hvj0 hvj1
    have hm3 := mix_store g0.dkp g1.dkp (i 1).val j arg10 f10 ih10 _ _ (off3_eq i ⟨j, hjt⟩) (off4_eq i ⟨j, hjt⟩) (facts.k0_off3_inb i ⟨j, hjt⟩) (facts.k0_off4_inb i ⟨j, hjt⟩)
    have hm4 := mix_store g0.dvp g1.dvp (i 1).val j arg11 f11 ih11 _ _ (off3_eq i ⟨j, hjt⟩) (off4_eq i ⟨j, hjt⟩) (facts.k0_off3_inb i ⟨j, hjt⟩) (facts.k0_off4_inb i ⟨j, hjt⟩)
    obtain ⟨_, _, hq0, hq1, hd0, hd1, ht0, ht1⟩ := A
    subst hq0 hq1 hd0 hd1 ht0 ht1
    refine ⟨?_, ?_, ?_⟩
    · refine (trip_acc ..).trans ?_
      rw [iha, keep_eq]
      exact hN
    · rw [View.writes_append, hf10]
      refine Eq.trans (congrArg (fun L => arg10.view.read (Elt Ideal) (arg10.view.writes (Elt Ideal) f10 L)) (trip_dk ..)) ?_
      rw [iha, hD0, hD1, View.readAt_eq_ld, View.readAt_eq_ld, ih10, mix_ld0 _ _ _ j _ (off3_eq i ⟨j, hjt⟩), mix_ld1 _ _ _ j _ (off4_eq i ⟨j, hjt⟩)]
      refine Eq.trans ?_ hm3
      rw [cast_self, cast_self]
      rw [show bCol (rv .f32 256 128 (g1.dkp (256 * (i 1).val)) (256 * j) 0) (dsV g1 (i 1).val j) (qV g1 (i 1).val) = _ from dk_eq g1 _ _, show bCol (rv .f32 256 128 (g0.dkp (256 * (i 1).val)) (256 * j) 0) (dsV g0 (i 1).val j) (qV g0 (i 1).val) = _ from dk_eq g0 _ _]
      rfl
    · rw [View.writes_append, hf11]
      refine Eq.trans (congrArg (fun L => arg11.view.read (Elt Ideal) (arg11.view.writes (Elt Ideal) f11 L)) (trip_dv ..)) ?_
      rw [iha, hW0, hW1, View.readAt_eq_ld, View.readAt_eq_ld, ih11, mix_ld0 _ _ _ j _ (off3_eq i ⟨j, hjt⟩), mix_ld1 _ _ _ j _ (off4_eq i ⟨j, hjt⟩)]
      refine Eq.trans ?_ hm4
      rw [cast_self, cast_self]
      rw [show bCol (rv .f32 256 128 (g1.dvp (256 * (i 1).val)) (256 * j) 0) (truncf .bf16 (wV g1 (i 1).val j) bitsLt_bf16_f32) (doV g1 (i 1).val) = _ from dv_eq g1 _ _, show bCol (rv .f32 256 128 (g0.dvp (256 * (i 1).val)) (256 * j) 0) (truncf .bf16 (wV g0 (i 1).val j) bitsLt_bf16_f32) (doV g0 (i 1).val) = _ from dv_eq g0 _ _]
      rfl

end Cert.KernelIdeal.Hand
-- ==== Proof.Cases.lean ====
module

public import proofs.«01_k».proof.Proof.Gen.KernelIdeal.Frame
public import proofs.«01_k».proof.Proof.TripValue
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem
namespace Cert.KernelIdeal.Hand
open Cert.KernelIdeal Cert.KernelIdeal.Gen

/-! # One grid point, opened

A point prepares the first block's exponents, runs the loop over the earlier column blocks, and then does the block on the
diagonal. The three kinds of point (the first of a group, the middle ones, the last) differ in what the accumulators hold
before and in whether they are copied out after. -/

section Open
variable {F : FTy → Type} [FloatOps F] [Named F]

abbrev LL (F : FTy → Type) : Type := List (View.Piece (Elt F) S4096x256 .f32)

/-- The words a point reads first: the halves of a block, a head's row totals, the first key block. -/
def wq0 (M : Memref sig .tc .vmem S256x256 .bf16) (h : M.IsWhole) (x : Vec F S256x256 .bf16) : FVec F S256x128 .bf16 :=
  M.view.readAt (Elt F) (Rect.unit (s := S256x256) ![0, 0] S256x128.size inb_S256x256_S256x128_0_0).toLoadRect (h.unread x)
def wq1 (M : Memref sig .tc .vmem S256x256 .bf16) (h : M.IsWhole) (x : Vec F S256x256 .bf16) : FVec F S256x128 .bf16 :=
  M.view.readAt (Elt F) (Rect.unit (s := S256x256) ![0, 128] S256x128.size inb_S256x256_S256x128_0_128).toLoadRect (h.unread x)
def wt0 (M : Memref sig .tc .vmem S2x256x128 .f32) (h : M.IsWhole) (x : Vec F S2x256x128 .f32) : FVec F S256x1 .f32 :=
  k0_pay54 (M.view.readAt (Elt F) (Rect.unit (s := S2x256x128) ![0, 0, 0] S1x256x128.size inb_S2x256x128_S1x256x128_0_0_0).toLoadRect (h.unread x))
def wt1 (M : Memref sig .tc .vmem S2x256x128 .f32) (h : M.IsWhole) (x : Vec F S2x256x128 .f32) : FVec F S256x1 .f32 :=
  k0_pay55 (M.view.readAt (Elt F) (Rect.unit (s := S2x256x128) ![1, 0, 0] S1x256x128.size inb_S2x256x128_S1x256x128_1_0_0).toLoadRect (h.unread x))
def wk (M : Memref sig .tc .vmem S4096x256 .bf16) (h : M.IsWhole) (x : Vec F S4096x256 .bf16) : FVec F S256x256 .bf16 :=
  M.view.readAt (Elt F) (Rect.unit (s := S4096x256) ![0, 0] S256x256.size inb_S4096x256_S256x256_0_0).toLoadRect (h.unread x)

/-- What the loop starts from. -/
def ini (i : grid0.Coords) (arg2 : Memref sig .tc .vmem S256x256 .bf16) (harg2 : arg2.IsWhole) (arg3 : Memref sig .tc .vmem S4096x256 .bf16) (harg3 : arg3.IsWhole) (x0 : Vec F S256x256 .bf16) (x1 : Vec F S4096x256 .bf16) : Acc F :=
  (k0_pay77, k0_pay78, k0_pay59, k0_pay60, k0_pay59, k0_pay60, k0_pay71 (k0_pay62 (wq0 arg2 harg2 x0) (wk arg3 harg3 x1)) (k0_pay64 (BitVec.ofNat 32 (i 1).val) k0_pay58) (k0_pay65 (BitVec.ofNat 32 (i 1).val) k0_pay58 (k0_pay62 (wq0 arg2 harg2 x0) (wk arg3 harg3 x1))) (k0_pay67 (BitVec.ofNat 32 (i 1).val) k0_pay56 k0_pay58 (k0_pay62 (wq0 arg2 harg2 x0) (wk arg3 harg3 x1))),
    k0_pay72 k0_pay56 (k0_pay63 (wq1 arg2 harg2 x0) (k0_pay61 (wk arg3 harg3 x1)) (constant S256x256 .f32 0x00000000#32)) (k0_pay64 (BitVec.ofNat 32 (i 1).val) k0_pay58) (k0_pay66 (BitVec.ofNat 32 (i 1).val) (wq1 arg2 harg2 x0) k0_pay58 (k0_pay61 (wk arg3 harg3 x1)) (constant S256x256 .f32 0x00000000#32)) (k0_pay68 (BitVec.ofNat 32 (i 1).val) (wq1 arg2 harg2 x0) k0_pay58 (k0_pay61 (wk arg3 harg3 x1)) (constant S256x256 .f32 0x00000000#32)) (k0_pay69 (BitVec.ofNat 32 (i 1).val) (wq1 arg2 harg2 x0) k0_pay58 (k0_pay61 (wk arg3 harg3 x1)) (constant S256x256 .f32 0x00000000#32)) (constant S256x256 .f32 0x00000000#32), k0_pay73 (k0_pay65 (BitVec.ofNat 32 (i 1).val) k0_pay58 (k0_pay62 (wq0 arg2 harg2 x0) (wk arg3 harg3 x1))), k0_pay74 (k0_pay66 (BitVec.ofNat 32 (i 1).val) (wq1 arg2 harg2 x0) k0_pay58 (k0_pay61 (wk arg3 harg3 x1)) (constant S256x256 .f32 0x00000000#32)), k0_pay75 (k0_pay67 (BitVec.ofNat 32 (i 1).val) k0_pay56 k0_pay58 (k0_pay62 (wq0 arg2 harg2 x0) (wk arg3 harg3 x1))),
    k0_pay76 k0_pay56 (k0_pay68 (BitVec.ofNat 32 (i 1).val) (wq1 arg2 harg2 x0) k0_pay58 (k0_pay61 (wk arg3 harg3 x1)) (constant S256x256 .f32 0x00000000#32)) (k0_pay69 (BitVec.ofNat 32 (i 1).val) (wq1 arg2 harg2 x0) k0_pay58 (k0_pay61 (wk arg3 harg3 x1)) (constant S256x256 .f32 0x00000000#32)) (constant S256x256 .f32 0x00000000#32))

/-- The state after the loop, from the accumulators' contents `G10` and `G11`. -/
def sE (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (x0 : Vec F S256x256 .bf16) (x1 : Vec F S4096x256 .bf16) (x2 : Vec F S4096x256 .bf16) (x3 : Vec F S256x256 .bf16) (x4 : Vec F S2x256x128 .f32)
    (G10 : BufTy.Contents (Elt F) arg10.view.ty) (G11 : BufTy.Contents (Elt F) arg11.view.ty) : Acc F × LL F × LL F :=
  st_k0_t1 Variants.none c none i arg2 harg2 arg3 harg3 arg4 harg4 arg5 harg5 arg6 harg6 arg7 harg7 arg8 harg8 arg9 harg9 arg10 harg10 arg11 harg11 (BitVec.ofNat 32 (i 1).val) (wq0 arg2 harg2 x0) (wq1 arg2 harg2 x0) (wq0 arg5 harg5 x3) (wq1 arg5 harg5 x3) (wt0 arg6 harg6 x4) (wt1 arg6 harg6 x4) k0_pay56 k0_pay57 k0_pay58 k0_pay59 k0_pay60 (k0_pay62 (wq0 arg2 harg2 x0) (wk arg3 harg3 x1)) (k0_pay63 (wq1 arg2 harg2 x0) (k0_pay61 (wk arg3 harg3 x1)) (constant S256x256 .f32 0x00000000#32)) (k0_pay64 (BitVec.ofNat 32 (i 1).val) k0_pay58) (k0_pay65 (BitVec.ofNat 32 (i 1).val) k0_pay58 (k0_pay62 (wq0 arg2 harg2 x0) (wk arg3 harg3 x1))) (k0_pay66 (BitVec.ofNat 32 (i 1).val) (wq1 arg2 harg2 x0) k0_pay58 (k0_pay61 (wk arg3 harg3 x1)) (constant S256x256 .f32 0x00000000#32)) (k0_pay67 (BitVec.ofNat 32 (i 1).val) k0_pay56 k0_pay58 (k0_pay62 (wq0 arg2 harg2 x0) (wk arg3 harg3 x1))) (k0_pay68 (BitVec.ofNat 32 (i 1).val) (wq1 arg2 harg2 x0) k0_pay58 (k0_pay61 (wk arg3 harg3 x1)) (constant S256x256 .f32 0x00000000#32)) (k0_pay69 (BitVec.ofNat 32 (i 1).val) (wq1 arg2 harg2 x0) k0_pay58 (k0_pay61 (wk arg3 harg3 x1)) (constant S256x256 .f32 0x00000000#32)) (constant S256x256 .f32 0x00000000#32)
    (harg3.unread x1) (harg4.unread x2) G10 G11 (ini i arg2 harg2 arg3 harg3 x0 x1) (k0_t1_loop i).trips

/-- The state after the second loop, which makes no trip. -/
def sF (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (x0 : Vec F S256x256 .bf16) (x1 : Vec F S4096x256 .bf16) (x2 : Vec F S4096x256 .bf16) (x3 : Vec F S256x256 .bf16) (x4 : Vec F S2x256x128 .f32)
    (G10 : BufTy.Contents (Elt F) arg10.view.ty) (G11 : BufTy.Contents (Elt F) arg11.view.ty) (a : Acc F) : Acc F × LL F × LL F :=
  st_k0_t2 Variants.none c none i arg2 harg2 arg3 harg3 arg4 harg4 arg5 harg5 arg6 harg6 arg7 harg7 arg8 harg8 arg9 harg9 arg10 harg10 arg11 harg11 (BitVec.ofNat 32 (i 1).val) (wq0 arg2 harg2 x0) (wq1 arg2 harg2 x0) (wq0 arg5 harg5 x3) (wq1 arg5 harg5 x3) (wt0 arg6 harg6 x4) (wt1 arg6 harg6 x4) k0_pay56 k0_pay57 k0_pay58 k0_pay59 k0_pay60 (k0_pay62 (wq0 arg2 harg2 x0) (wk arg3 harg3 x1)) (k0_pay63 (wq1 arg2 harg2 x0) (k0_pay61 (wk arg3 harg3 x1)) (constant S256x256 .f32 0x00000000#32)) (k0_pay64 (BitVec.ofNat 32 (i 1).val) k0_pay58) (k0_pay65 (BitVec.ofNat 32 (i 1).val) k0_pay58 (k0_pay62 (wq0 arg2 harg2 x0) (wk arg3 harg3 x1))) (k0_pay66 (BitVec.ofNat 32 (i 1).val) (wq1 arg2 harg2 x0) k0_pay58 (k0_pay61 (wk arg3 harg3 x1)) (constant S256x256 .f32 0x00000000#32)) (k0_pay67 (BitVec.ofNat 32 (i 1).val) k0_pay56 k0_pay58 (k0_pay62 (wq0 arg2 harg2 x0) (wk arg3 harg3 x1))) (k0_pay68 (BitVec.ofNat 32 (i 1).val) (wq1 arg2 harg2 x0) k0_pay58 (k0_pay61 (wk arg3 harg3 x1)) (constant S256x256 .f32 0x00000000#32)) (k0_pay69 (BitVec.ofNat 32 (i 1).val) (wq1 arg2 harg2 x0) k0_pay58 (k0_pay61 (wk arg3 harg3 x1)) (constant S256x256 .f32 0x00000000#32)) (constant S256x256 .f32 0x00000000#32)
    (Scalar.addi (0#32) (kernelRun0_B.sl.v99 i)) (harg3.unread x1) (harg4.unread x2) G10 G11
    (a.1, a.2.1, a.2.2.1, a.2.2.2.1, a.2.2.2.2.1, a.2.2.2.2.2.1, a.2.2.2.2.2.2.1, a.2.2.2.2.2.2.2.1, a.2.2.2.2.2.2.2.2.1, a.2.2.2.2.2.2.2.2.2.1, a.2.2.2.2.2.2.2.2.2.2.1, a.2.2.2.2.2.2.2.2.2.2.2) (k0_t2_loop i).trips

theorem sF_eq (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (x0 : Vec F S256x256 .bf16) (x1 : Vec F S4096x256 .bf16) (x2 : Vec F S4096x256 .bf16) (x3 : Vec F S256x256 .bf16) (x4 : Vec F S2x256x128 .f32)
    (G10 : BufTy.Contents (Elt F) arg10.view.ty) (G11 : BufTy.Contents (Elt F) arg11.view.ty) (a : Acc F) : (sF c i arg2 harg2 arg3 harg3 arg4 harg4 arg5 harg5 arg6 harg6 arg7 harg7 arg8 harg8 arg9 harg9 arg10 harg10 arg11 harg11 x0 x1 x2 x3 x4 G10 G11 a) = (a, [], []) := by
  unfold sF
  rw [trips2_eq]
  rfl

/-- The stores of the diagonal block into an accumulator: both halves of its rows. -/
def fin (i : grid0.Coords) (M : Memref sig .tc .vmem S4096x256 .f32) (G : BufTy.Contents (Elt F) M.view.ty) (L : LL F)
    (D0 D1 : FVec F S256x256 .bf16) (y0 y1 : FVec F S256x128 .bf16) : LL F :=
  ⟨Rect.unit (s := S4096x256) (k0_off11 i) S256x128.size (facts.k0_off11_inb i), shapeCast S256x128 (bCol
      (M.view.readAt (Elt F) (Rect.unit (s := S4096x256) (k0_off11 i) S256x128.size (facts.k0_off11_inb i)).toLoadRect (M.view.writes (Elt F) G
        (⟨Rect.unit (s := S4096x256) (k0_off10 i) S256x128.size (facts.k0_off10_inb i), shapeCast S256x128 (bCol
          (M.view.readAt (Elt F) (Rect.unit (s := S4096x256) (k0_off10 i) S256x128.size (facts.k0_off10_inb i)).toLoadRect (M.view.writes (Elt F) G L))
          D0 y0) shapeCasts_S256x128_S256x128⟩ :: L)))
      D1 y1) shapeCasts_S256x128_S256x128⟩ ::
  ⟨Rect.unit (s := S4096x256) (k0_off10 i) S256x128.size (facts.k0_off10_inb i), shapeCast S256x128 (bCol
      (M.view.readAt (Elt F) (Rect.unit (s := S4096x256) (k0_off10 i) S256x128.size (facts.k0_off10_inb i)).toLoadRect (M.view.writes (Elt F) G L))
      D0 y0) shapeCasts_S256x128_S256x128⟩ :: L

/-- The block of the query gradient, as its two halves' stores. -/
def finQ (D0 D1 : FVec F S256x256 .bf16) (a : Acc F) (k : FVec F S256x256 .bf16) : List (View.Piece (Elt F) S256x256 .bf16) :=
  [⟨Rect.unit (s := S256x256) ![0, 128] S256x128.size inb_S256x256_S256x128_0_128, truncf .bf16 (bRow a.2.1 D1 (hr k)) bitsLt_bf16_f32⟩,
   ⟨Rect.unit (s := S256x256) ![0, 0] S256x128.size inb_S256x256_S256x128_0_0, truncf .bf16 (bRow a.1 D0 (hl k)) bitsLt_bf16_f32⟩]

/-- The zeros a group's first point stores. -/
def zero10 : LL F := [⟨Rect.unit (s := S4096x256) ![0, 0] S4096x256.size inb_S4096x256_S4096x256_0_0, k0_pay52⟩]
def zero11 : LL F := [⟨Rect.unit (s := S4096x256) ![0, 0] S4096x256.size inb_S4096x256_S4096x256_0_0, k0_pay53⟩]

theorem runA_q (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : cond0_0 i) (hc1 : ¬cond0_1 i) (x0 : Vec F S256x256 .bf16) (x1 : Vec F S4096x256 .bf16) (x2 : Vec F S4096x256 .bf16) (x3 : Vec F S256x256 .bf16) (x4 : Vec F S2x256x128 .f32) :
    (kernelRun0_A (F := F) c i arg2 harg2 arg3 harg3 arg4 harg4 arg5 harg5 arg6 harg6 arg7 harg7 arg8 harg8 arg9 harg9 arg10 harg10 arg11 harg11 hc0 hc1 x0 x1 x2 x3 x4).1
      = finQ (tD0 (wq0 arg5 harg5 x3) (wt0 arg6 harg6 x4) k0_pay57 (arg4.view.readAt (Elt F) (Rect.unit (s := S4096x256) (k0_off9 i) S256x256.size (facts.k0_off9_inb i)).toLoadRect (harg4.unread x2)) (sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).1) (tD1 (wq1 arg5 harg5 x3) (wt1 arg6 harg6 x4) k0_pay57 (arg4.view.readAt (Elt F) (Rect.unit (s := S4096x256) (k0_off9 i) S256x256.size (facts.k0_off9_inb i)).toLoadRect (harg4.unread x2)) (sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).1) (sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).1 (arg3.view.readAt (Elt F) (Rect.unit (s := S4096x256) (k0_off9 i) S256x256.size (facts.k0_off9_inb i)).toLoadRect (harg3.unread x1)) := by
  have e : (kernelRun0_A (F := F) c i arg2 harg2 arg3 harg3 arg4 harg4 arg5 harg5 arg6 harg6 arg7 harg7 arg8 harg8 arg9 harg9 arg10 harg10 arg11 harg11 hc0 hc1 x0 x1 x2 x3 x4).1
      = finQ (tD0 (wq0 arg5 harg5 x3) (wt0 arg6 harg6 x4) k0_pay57 (arg4.view.readAt (Elt F) (Rect.unit (s := S4096x256) (k0_off9 i) S256x256.size (facts.k0_off9_inb i)).toLoadRect (harg4.unread x2)) (sF c i arg2 harg2 arg3 harg3 arg4 harg4 arg5 harg5 arg6 harg6 arg7 harg7 arg8 harg8 arg9 harg9 arg10 harg10 arg11 harg11 x0 x1 x2 x3 x4 (arg10.view.writes (Elt F) arg10.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.1 ++ zero10)) (arg11.view.writes (Elt F) arg11.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.2 ++ zero11)) (sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).1).1) (tD1 (wq1 arg5 harg5 x3) (wt1 arg6 harg6 x4) k0_pay57 (arg4.view.readAt (Elt F) (Rect.unit (s := S4096x256) (k0_off9 i) S256x256.size (facts.k0_off9_inb i)).toLoadRect (harg4.unread x2)) (sF c i arg2 harg2 arg3 harg3 arg4 harg4 arg5 harg5 arg6 harg6 arg7 harg7 arg8 harg8 arg9 harg9 arg10 harg10 arg11 harg11 x0 x1 x2 x3 x4 (arg10.view.writes (Elt F) arg10.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.1 ++ zero10)) (arg11.view.writes (Elt F) arg11.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.2 ++ zero11)) (sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).1).1) (sF c i arg2 harg2 arg3 harg3 arg4 harg4 arg5 harg5 arg6 harg6 arg7 harg7 arg8 harg8 arg9 harg9 arg10 harg10 arg11 harg11 x0 x1 x2 x3 x4 (arg10.view.writes (Elt F) arg10.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.1 ++ zero10)) (arg11.view.writes (Elt F) arg11.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.2 ++ zero11)) (sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).1).1 (arg3.view.readAt (Elt F) (Rect.unit (s := S4096x256) (k0_off9 i) S256x256.size (facts.k0_off9_inb i)).toLoadRect (harg3.unread x1)) := by
    unfold kernelRun0_A
    rfl
  rw [e, sF_eq]

theorem runA_dk (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : cond0_0 i) (hc1 : ¬cond0_1 i) (x0 : Vec F S256x256 .bf16) (x1 : Vec F S4096x256 .bf16) (x2 : Vec F S4096x256 .bf16) (x3 : Vec F S256x256 .bf16) (x4 : Vec F S2x256x128 .f32) :
    (kernelRun0_A (F := F) c i arg2 harg2 arg3 harg3 arg4 harg4 arg5 harg5 arg6 harg6 arg7 harg7 arg8 harg8 arg9 harg9 arg10 harg10 arg11 harg11 hc0 hc1 x0 x1 x2 x3 x4).2.2.2.1
      = fin i arg10 arg10.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.1 ++ zero10) (tD0 (wq0 arg5 harg5 x3) (wt0 arg6 harg6 x4) k0_pay57 (arg4.view.readAt (Elt F) (Rect.unit (s := S4096x256) (k0_off9 i) S256x256.size (facts.k0_off9_inb i)).toLoadRect (harg4.unread x2)) (sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).1) (tD1 (wq1 arg5 harg5 x3) (wt1 arg6 harg6 x4) k0_pay57 (arg4.view.readAt (Elt F) (Rect.unit (s := S4096x256) (k0_off9 i) S256x256.size (facts.k0_off9_inb i)).toLoadRect (harg4.unread x2)) (sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).1) (wq0 arg2 harg2 x0) (wq1 arg2 harg2 x0) := by
  have e : (kernelRun0_A (F := F) c i arg2 harg2 arg3 harg3 arg4 harg4 arg5 harg5 arg6 harg6 arg7 harg7 arg8 harg8 arg9 harg9 arg10 harg10 arg11 harg11 hc0 hc1 x0 x1 x2 x3 x4).2.2.2.1
      = fin i arg10 arg10.view.junk ((sF c i arg2 harg2 arg3 harg3 arg4 harg4 arg5 harg5 arg6 harg6 arg7 harg7 arg8 harg8 arg9 harg9 arg10 harg10 arg11 harg11 x0 x1 x2 x3 x4 (arg10.view.writes (Elt F) arg10.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.1 ++ zero10)) (arg11.view.writes (Elt F) arg11.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.2 ++ zero11)) (sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).1).2.1 ++ ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.1 ++ zero10)) (tD0 (wq0 arg5 harg5 x3) (wt0 arg6 harg6 x4) k0_pay57 (arg4.view.readAt (Elt F) (Rect.unit (s := S4096x256) (k0_off9 i) S256x256.size (facts.k0_off9_inb i)).toLoadRect (harg4.unread x2)) (sF c i arg2 harg2 arg3 harg3 arg4 harg4 arg5 harg5 arg6 harg6 arg7 harg7 arg8 harg8 arg9 harg9 arg10 harg10 arg11 harg11 x0 x1 x2 x3 x4 (arg10.view.writes (Elt F) arg10.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.1 ++ zero10)) (arg11.view.writes (Elt F) arg11.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.2 ++ zero11)) (sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).1).1) (tD1 (wq1 arg5 harg5 x3) (wt1 arg6 harg6 x4) k0_pay57 (arg4.view.readAt (Elt F) (Rect.unit (s := S4096x256) (k0_off9 i) S256x256.size (facts.k0_off9_inb i)).toLoadRect (harg4.unread x2)) (sF c i arg2 harg2 arg3 harg3 arg4 harg4 arg5 harg5 arg6 harg6 arg7 harg7 arg8 harg8 arg9 harg9 arg10 harg10 arg11 harg11 x0 x1 x2 x3 x4 (arg10.view.writes (Elt F) arg10.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.1 ++ zero10)) (arg11.view.writes (Elt F) arg11.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.2 ++ zero11)) (sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).1).1) (wq0 arg2 harg2 x0) (wq1 arg2 harg2 x0) := by
    unfold kernelRun0_A
    rfl
  rw [e, sF_eq]
  rfl

theorem runA_dv (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : cond0_0 i) (hc1 : ¬cond0_1 i) (x0 : Vec F S256x256 .bf16) (x1 : Vec F S4096x256 .bf16) (x2 : Vec F S4096x256 .bf16) (x3 : Vec F S256x256 .bf16) (x4 : Vec F S2x256x128 .f32) :
    (kernelRun0_A (F := F) c i arg2 harg2 arg3 harg3 arg4 harg4 arg5 harg5 arg6 harg6 arg7 harg7 arg8 harg8 arg9 harg9 arg10 harg10 arg11 harg11 hc0 hc1 x0 x1 x2 x3 x4).2.2.2.2.1
      = fin i arg11 arg11.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.2 ++ zero11) (truncf .bf16 (tW0 (wt0 arg6 harg6 x4) (sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).1) bitsLt_bf16_f32) (truncf .bf16 (tW1 (wt1 arg6 harg6 x4) (sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).1) bitsLt_bf16_f32) (wq0 arg5 harg5 x3) (wq1 arg5 harg5 x3) := by
  have e : (kernelRun0_A (F := F) c i arg2 harg2 arg3 harg3 arg4 harg4 arg5 harg5 arg6 harg6 arg7 harg7 arg8 harg8 arg9 harg9 arg10 harg10 arg11 harg11 hc0 hc1 x0 x1 x2 x3 x4).2.2.2.2.1
      = fin i arg11 arg11.view.junk ((sF c i arg2 harg2 arg3 harg3 arg4 harg4 arg5 harg5 arg6 harg6 arg7 harg7 arg8 harg8 arg9 harg9 arg10 harg10 arg11 harg11 x0 x1 x2 x3 x4 (arg10.view.writes (Elt F) arg10.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.1 ++ zero10)) (arg11.view.writes (Elt F) arg11.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.2 ++ zero11)) (sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).1).2.2 ++ ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.2 ++ zero11)) (truncf .bf16 (tW0 (wt0 arg6 harg6 x4) (sF c i arg2 harg2 arg3 harg3 arg4 harg4 arg5 harg5 arg6 harg6 arg7 harg7 arg8 harg8 arg9 harg9 arg10 harg10 arg11 harg11 x0 x1 x2 x3 x4 (arg10.view.writes (Elt F) arg10.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.1 ++ zero10)) (arg11.view.writes (Elt F) arg11.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.2 ++ zero11)) (sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).1).1) bitsLt_bf16_f32) (truncf .bf16 (tW1 (wt1 arg6 harg6 x4) (sF c i arg2 harg2 arg3 harg3 arg4 harg4 arg5 harg5 arg6 harg6 arg7 harg7 arg8 harg8 arg9 harg9 arg10 harg10 arg11 harg11 x0 x1 x2 x3 x4 (arg10.view.writes (Elt F) arg10.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.1 ++ zero10)) (arg11.view.writes (Elt F) arg11.view.junk ((sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).2.2 ++ zero11)) (sE c i arg2 harg2 arg3 harg3 arg4 harg4 arg5 harg5 arg6 harg6 arg7 harg7 arg8 harg8 arg9 harg9 arg10 harg10 arg11 harg11 x0 x1 x2 x3 x4 (arg10.view.writes (Elt F) arg10.view.junk zero10) (arg11.view.writes (Elt F) arg11.view.junk zero11)).1).1) bitsLt_bf16_f32) (wq0 arg5 harg5 x3) (wq1 arg5 harg5 x3) := by
    unfold kernelRun0_A
    rfl
  rw [e, sF_eq]
  rfl

theorem runB_q (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : ¬cond0_0 i) (hc1 : ¬cond0_1 i) (x0 : Vec F S256x256 .bf16) (x1 : Vec F S4096x256 .bf16) (x2 : Vec F S4096x256 .bf16) (x3 : Vec F S256x256 .bf16) (x4 : Vec F S2x256x128 .f32) (xs0 : Vec F S4096x256 .f32) (xs1 : Vec F S4096x256 .f32) :
    (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1).1
      = finQ (tD0 (wq0 arg5 harg5 x3) (wt0 arg6 harg6 x4) k0_pay57 (arg4.view.readAt (Elt F) (Rect.unit (s := S4096x256) (k0_off9 i) S256x256.size (facts.k0_off9_inb i)).toLoadRect (harg4.unread x2)) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1) (tD1 (wq1 arg5 harg5 x3) (wt1 arg6 harg6 x4) k0_pay57 (arg4.view.readAt (Elt F) (Rect.unit (s := S4096x256) (k0_off9 i) S256x256.size (facts.k0_off9_inb i)).toLoadRect (harg4.unread x2)) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1 (arg3.view.readAt (Elt F) (Rect.unit (s := S4096x256) (k0_off9 i) S256x256.size (facts.k0_off9_inb i)).toLoadRect (harg3.unread x1)) := by
  have e : (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1).1
      = finQ (tD0 (wq0 arg5 harg5 x3) (wt0 arg6 harg6 x4) k0_pay57 (arg4.view.readAt (Elt F) (Rect.unit (s := S4096x256) (k0_off9 i) S256x256.size (facts.k0_off9_inb i)).toLoadRect (harg4.unread x2)) (sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).1) (tD1 (wq1 arg5 harg5 x3) (wt1 arg6 harg6 x4) k0_pay57 (arg4.view.readAt (Elt F) (Rect.unit (s := S4096x256) (k0_off9 i) S256x256.size (facts.k0_off9_inb i)).toLoadRect (harg4.unread x2)) (sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).1) (sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).1 (arg3.view.readAt (Elt F) (Rect.unit (s := S4096x256) (k0_off9 i) S256x256.size (facts.k0_off9_inb i)).toLoadRect (harg3.unread x1)) := by
    unfold kernelRun0_B
    rfl
  rw [e, sF_eq]

theorem runB_dk (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : ¬cond0_0 i) (hc1 : ¬cond0_1 i) (x0 : Vec F S256x256 .bf16) (x1 : Vec F S4096x256 .bf16) (x2 : Vec F S4096x256 .bf16) (x3 : Vec F S256x256 .bf16) (x4 : Vec F S2x256x128 .f32) (xs0 : Vec F S4096x256 .f32) (xs1 : Vec F S4096x256 .f32) :
    (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1).2.2.2.1
      = fin i arg10 (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1 (tD0 (wq0 arg5 harg5 x3) (wt0 arg6 harg6 x4) k0_pay57 (arg4.view.readAt (Elt F) (Rect.unit (s := S4096x256) (k0_off9 i) S256x256.size (facts.k0_off9_inb i)).toLoadRect (harg4.unread x2)) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1) (tD1 (wq1 arg5 harg5 x3) (wt1 arg6 harg6 x4) k0_pay57 (arg4.view.readAt (Elt F) (Rect.unit (s := S4096x256) (k0_off9 i) S256x256.size (facts.k0_off9_inb i)).toLoadRect (harg4.unread x2)) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1) (wq0 arg2 harg2 x0) (wq1 arg2 harg2 x0) := by
  have e : (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1).2.2.2.1
      = fin i arg10 (harg10.unread xs0) ((sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).2.1 ++ (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (tD0 (wq0 arg5 harg5 x3) (wt0 arg6 harg6 x4) k0_pay57 (arg4.view.readAt (Elt F) (Rect.unit (s := S4096x256) (k0_off9 i) S256x256.size (facts.k0_off9_inb i)).toLoadRect (harg4.unread x2)) (sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).1) (tD1 (wq1 arg5 harg5 x3) (wt1 arg6 harg6 x4) k0_pay57 (arg4.view.readAt (Elt F) (Rect.unit (s := S4096x256) (k0_off9 i) S256x256.size (facts.k0_off9_inb i)).toLoadRect (harg4.unread x2)) (sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).1) (wq0 arg2 harg2 x0) (wq1 arg2 harg2 x0) := by
    unfold kernelRun0_B
    rfl
  rw [e, sF_eq]
  rfl

theorem runB_dv (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : ¬cond0_0 i) (hc1 : ¬cond0_1 i) (x0 : Vec F S256x256 .bf16) (x1 : Vec F S4096x256 .bf16) (x2 : Vec F S4096x256 .bf16) (x3 : Vec F S256x256 .bf16) (x4 : Vec F S2x256x128 .f32) (xs0 : Vec F S4096x256 .f32) (xs1 : Vec F S4096x256 .f32) :
    (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1).2.2.2.2.1
      = fin i arg11 (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2 (truncf .bf16 (tW0 (wt0 arg6 harg6 x4) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1) bitsLt_bf16_f32) (truncf .bf16 (tW1 (wt1 arg6 harg6 x4) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1) bitsLt_bf16_f32) (wq0 arg5 harg5 x3) (wq1 arg5 harg5 x3) := by
  have e : (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1).2.2.2.2.1
      = fin i arg11 (harg11.unread xs1) ((sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).2.2 ++ (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (truncf .bf16 (tW0 (wt0 arg6 harg6 x4) (sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).1) bitsLt_bf16_f32) (truncf .bf16 (tW1 (wt1 arg6 harg6 x4) (sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).1) bitsLt_bf16_f32) (wq0 arg5 harg5 x3) (wq1 arg5 harg5 x3) := by
    unfold kernelRun0_B
    rfl
  rw [e, sF_eq]
  rfl

theorem runC_q (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : ¬cond0_0 i) (hc1 : cond0_1 i) (x0 : Vec F S256x256 .bf16) (x1 : Vec F S4096x256 .bf16) (x2 : Vec F S4096x256 .bf16) (x3 : Vec F S256x256 .bf16) (x4 : Vec F S2x256x128 .f32) (xs0 : Vec F S4096x256 .f32) (xs1 : Vec F S4096x256 .f32) :
    (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1).1
      = finQ (tD0 (wq0 arg5 harg5 x3) (wt0 arg6 harg6 x4) k0_pay57 (arg4.view.readAt (Elt F) (Rect.unit (s := S4096x256) (k0_off9 i) S256x256.size (facts.k0_off9_inb i)).toLoadRect (harg4.unread x2)) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1) (tD1 (wq1 arg5 harg5 x3) (wt1 arg6 harg6 x4) k0_pay57 (arg4.view.readAt (Elt F) (Rect.unit (s := S4096x256) (k0_off9 i) S256x256.size (facts.k0_off9_inb i)).toLoadRect (harg4.unread x2)) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1 (arg3.view.readAt (Elt F) (Rect.unit (s := S4096x256) (k0_off9 i) S256x256.size (facts.k0_off9_inb i)).toLoadRect (harg3.unread x1)) := by
  have e : (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1).1
      = finQ (tD0 (wq0 arg5 harg5 x3) (wt0 arg6 harg6 x4) k0_pay57 (arg4.view.readAt (Elt F) (Rect.unit (s := S4096x256) (k0_off9 i) S256x256.size (facts.k0_off9_inb i)).toLoadRect (harg4.unread x2)) (sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).1) (tD1 (wq1 arg5 harg5 x3) (wt1 arg6 harg6 x4) k0_pay57 (arg4.view.readAt (Elt F) (Rect.unit (s := S4096x256) (k0_off9 i) S256x256.size (facts.k0_off9_inb i)).toLoadRect (harg4.unread x2)) (sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).1) (sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).1 (arg3.view.readAt (Elt F) (Rect.unit (s := S4096x256) (k0_off9 i) S256x256.size (facts.k0_off9_inb i)).toLoadRect (harg3.unread x1)) := by
    unfold kernelRun0_C
    rfl
  rw [e, sF_eq]

theorem runC_dk (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : ¬cond0_0 i) (hc1 : cond0_1 i) (x0 : Vec F S256x256 .bf16) (x1 : Vec F S4096x256 .bf16) (x2 : Vec F S4096x256 .bf16) (x3 : Vec F S256x256 .bf16) (x4 : Vec F S2x256x128 .f32) (xs0 : Vec F S4096x256 .f32) (xs1 : Vec F S4096x256 .f32) :
    (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1).2.2.2.1
      = fin i arg10 (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1 (tD0 (wq0 arg5 harg5 x3) (wt0 arg6 harg6 x4) k0_pay57 (arg4.view.readAt (Elt F) (Rect.unit (s := S4096x256) (k0_off9 i) S256x256.size (facts.k0_off9_inb i)).toLoadRect (harg4.unread x2)) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1) (tD1 (wq1 arg5 harg5 x3) (wt1 arg6 harg6 x4) k0_pay57 (arg4.view.readAt (Elt F) (Rect.unit (s := S4096x256) (k0_off9 i) S256x256.size (facts.k0_off9_inb i)).toLoadRect (harg4.unread x2)) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1) (wq0 arg2 harg2 x0) (wq1 arg2 harg2 x0) := by
  have e : (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1).2.2.2.1
      = fin i arg10 (harg10.unread xs0) ((sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).2.1 ++ (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (tD0 (wq0 arg5 harg5 x3) (wt0 arg6 harg6 x4) k0_pay57 (arg4.view.readAt (Elt F) (Rect.unit (s := S4096x256) (k0_off9 i) S256x256.size (facts.k0_off9_inb i)).toLoadRect (harg4.unread x2)) (sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).1) (tD1 (wq1 arg5 harg5 x3) (wt1 arg6 harg6 x4) k0_pay57 (arg4.view.readAt (Elt F) (Rect.unit (s := S4096x256) (k0_off9 i) S256x256.size (facts.k0_off9_inb i)).toLoadRect (harg4.unread x2)) (sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).1) (wq0 arg2 harg2 x0) (wq1 arg2 harg2 x0) := by
    unfold kernelRun0_C
    rfl
  rw [e, sF_eq]
  rfl

theorem runC_dv (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : ¬cond0_0 i) (hc1 : cond0_1 i) (x0 : Vec F S256x256 .bf16) (x1 : Vec F S4096x256 .bf16) (x2 : Vec F S4096x256 .bf16) (x3 : Vec F S256x256 .bf16) (x4 : Vec F S2x256x128 .f32) (xs0 : Vec F S4096x256 .f32) (xs1 : Vec F S4096x256 .f32) :
    (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1).2.2.2.2.1
      = fin i arg11 (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2 (truncf .bf16 (tW0 (wt0 arg6 harg6 x4) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1) bitsLt_bf16_f32) (truncf .bf16 (tW1 (wt1 arg6 harg6 x4) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1) bitsLt_bf16_f32) (wq0 arg5 harg5 x3) (wq1 arg5 harg5 x3) := by
  have e : (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1).2.2.2.2.1
      = fin i arg11 (harg11.unread xs1) ((sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).2.2 ++ (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (truncf .bf16 (tW0 (wt0 arg6 harg6 x4) (sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).1) bitsLt_bf16_f32) (truncf .bf16 (tW1 (wt1 arg6 harg6 x4) (sF c i arg2 harg2 arg3 harg3 arg4 harg4 arg5 harg5 arg6 harg6 arg7 harg7 arg8 harg8 arg9 harg9 arg10 harg10 arg11 harg11 x0 x1 x2 x3 x4 (arg10.view.writes (Elt F) (harg10.unread xs0) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.1) (arg11.view.writes (Elt F) (harg11.unread xs1) (sE c i arg2 harg2 arg3 harg3 arg4 harg4 arg5 harg5 arg6 harg6 arg7 harg7 arg8 harg8 arg9 harg9 arg10 harg10 arg11 harg11 x0 x1 x2 x3 x4 (harg10.unread xs0) (harg11.unread xs1)).2.2) (sE c i arg2 harg2 arg3 harg3 arg4 harg4 arg5 harg5 arg6 harg6 arg7 harg7 arg8 harg8 arg9 harg9 arg10 harg10 arg11 harg11 x0 x1 x2 x3 x4 (harg10.unread xs0) (harg11.unread xs1)).1).1) bitsLt_bf16_f32) (wq0 arg5 harg5 x3) (wq1 arg5 harg5 x3) := by
    unfold kernelRun0_C
    rfl
  rw [e, sF_eq]
  rfl

theorem runC_o6 (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : ¬cond0_0 i) (hc1 : cond0_1 i) (x0 : Vec F S256x256 .bf16) (x1 : Vec F S4096x256 .bf16) (x2 : Vec F S4096x256 .bf16) (x3 : Vec F S256x256 .bf16) (x4 : Vec F S2x256x128 .f32) (xs0 : Vec F S4096x256 .f32) (xs1 : Vec F S4096x256 .f32) :
    (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1).2.1
      = [⟨Rect.unit (s := S4096x256) ![0, 0] S4096x256.size inb_S4096x256_S4096x256_0_0,
          truncf .bf16 (arg10.view.readAt (Elt F) (Rect.unit (s := S4096x256) ![0, 0] S4096x256.size inb_S4096x256_S4096x256_0_0).toLoadRect
            (arg10.view.writes (Elt F) (harg10.unread xs0) (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1).2.2.2.1)) bitsLt_bf16_f32⟩] := by
  unfold kernelRun0_C
  rfl

theorem runC_o7 (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : ¬cond0_0 i) (hc1 : cond0_1 i) (x0 : Vec F S256x256 .bf16) (x1 : Vec F S4096x256 .bf16) (x2 : Vec F S4096x256 .bf16) (x3 : Vec F S256x256 .bf16) (x4 : Vec F S2x256x128 .f32) (xs0 : Vec F S4096x256 .f32) (xs1 : Vec F S4096x256 .f32) :
    (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1).2.2.1
      = [⟨Rect.unit (s := S4096x256) ![0, 0] S4096x256.size inb_S4096x256_S4096x256_0_0,
          truncf .bf16 (arg11.view.readAt (Elt F) (Rect.unit (s := S4096x256) ![0, 0] S4096x256.size inb_S4096x256_S4096x256_0_0).toLoadRect
            (arg11.view.writes (Elt F) (harg11.unread xs1) (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1).2.2.2.2.1)) bitsLt_bf16_f32⟩] := by
  unfold kernelRun0_C
  rfl

end Open

end Cert.KernelIdeal.Hand
-- ==== Proof.CaseValue.lean ====
module

public import proofs.«01_k».proof.Proof.Cases

@[expose] public section

set_option maxRecDepth 16384
noncomputable section
open Idealize.ShloMosaic Idealize.ShloMosaic.TcCoe Idealize.SL.Sem
namespace Cert.KernelIdeal.Hand
open Cert.KernelIdeal Cert.KernelIdeal.Gen

/-! # What one grid point computes -/

/-- A block of two heads' row totals. -/
def tv (T0 T1 : ℕ → ℝ) (R : ℕ) : FVec Ideal S2x256x128 .f32 := fun i =>
  (((if (i 0).val = 0 then T0 (R + (i 1).val) else T1 (R + (i 1).val)) : ℝ) : EReal)

theorem wq0_eq (M : Memref sig .tc .vmem S256x256 .bf16) (h : M.IsWhole) (f0 f1 : ℕ → ℕ → ℝ) (R : ℕ) :
    wq0 (F := Ideal) M h (pb .bf16 f0 f1 R) = rv .bf16 256 128 f0 R 0 := by
  unfold wq0
  rw [View.readAt_eq_ld, h.read_unread]
  funext i
  pointwise [pb, rv]
  rw [pf_lt _ _ _ _ (i 1).isLt]

theorem wq1_eq (M : Memref sig .tc .vmem S256x256 .bf16) (h : M.IsWhole) (f0 f1 : ℕ → ℕ → ℝ) (R : ℕ) :
    wq1 (F := Ideal) M h (pb .bf16 f0 f1 R) = rv .bf16 256 128 f1 R 0 := by
  unfold wq1
  rw [View.readAt_eq_ld, h.read_unread]
  funext i
  pointwise [pb, rv]
  rw [pf_ge]

theorem wt0_eq (M : Memref sig .tc .vmem S2x256x128 .f32) (h : M.IsWhole) (T0 T1 : ℕ → ℝ) (R : ℕ) :
    wt0 (F := Ideal) M h (tv T0 T1 R) = rc T0 R := by
  unfold wt0
  rw [View.readAt_eq_ld, h.read_unread]
  funext i
  pointwise [k0_pay54, tv, rc]
  try simp

theorem wt1_eq (M : Memref sig .tc .vmem S2x256x128 .f32) (h : M.IsWhole) (T0 T1 : ℕ → ℝ) (R : ℕ) :
    wt1 (F := Ideal) M h (tv T0 T1 R) = rc T1 R := by
  unfold wt1
  rw [View.readAt_eq_ld, h.read_unread]
  funext i
  pointwise [k0_pay55, tv, rc]
  try simp

theorem wk_eq (M : Memref sig .tc .vmem S4096x256 .bf16) (h : M.IsWhole) (f0 f1 : ℕ → ℕ → ℝ) :
    wk (F := Ideal) M h (pv .bf16 f0 f1) = pb .bf16 f0 f1 (256 * 0) := by
  unfold wk
  rw [View.readAt_eq_ld, h.read_unread]
  exact ld_pv f0 f1 _ _ rfl _

section Point
variable (g0 g1 : Hd)

/-- What a point's windows hold. -/
structure Wins (n : ℕ) (x0 : Vec Ideal S256x256 .bf16) (x1 x2 : Vec Ideal S4096x256 .bf16) (x3 : Vec Ideal S256x256 .bf16)
    (x4 : Vec Ideal S2x256x128 .f32) : Prop where
  s0 : g0.s = sc
  s1 : g1.s = sc
  q : x0 = pb .bf16 g0.Q g1.Q (256 * n)
  k : x1 = pv .bf16 g0.K g1.K
  v : x2 = pv .bf16 g0.V g1.V
  d : x3 = pb .bf16 g0.D g1.D (256 * n)
  t : x4 = tv g0.T g1.T (256 * n)

theorem ini_open {F : FTy → Type} [FloatOps F] [Named F] (i : grid0.Coords) (arg2 : Memref sig .tc .vmem S256x256 .bf16) (harg2 : arg2.IsWhole) (arg3 : Memref sig .tc .vmem S4096x256 .bf16) (harg3 : arg3.IsWhole) (x0 : Vec F S256x256 .bf16) (x1 : Vec F S4096x256 .bf16) :
    ini i arg2 harg2 arg3 harg3 x0 x1 =
      (let keep := k0_pay64 (BitVec.ofNat 32 (i 1).val) k0_pay58
       let z0 := bQK (wq0 arg2 harg2 x0) (hl (wk arg3 harg3 x1))
       let z1 := bQK (wq1 arg2 harg2 x0) (hr (wk arg3 harg3 x1))
       (k0_pay77, k0_pay77, k0_pay59, k0_pay59, k0_pay59, k0_pay59,
        bBase z0 keep (bLS keep z0) (bCS k0_pay56 (bLS keep z0)), bBase z1 keep (bLS keep z1) (bCS k0_pay56 (bLS keep z1)),
        exp (bLS keep z0), exp (bLS keep z1), bLast (bCS k0_pay56 (bLS keep z0)), bLast (bCS k0_pay56 (bLS keep z1)))) := by
  unfold ini
  rfl

theorem ini_eq (i : grid0.Coords) (arg2 : Memref sig .tc .vmem S256x256 .bf16) (harg2 : arg2.IsWhole) (arg3 : Memref sig .tc .vmem S4096x256 .bf16) (harg3 : arg3.IsWhole)
    (h0 : g0.s = sc) (h1 : g1.s = sc) :
    ini (F := Ideal) i arg2 harg2 arg3 harg3 (pb .bf16 g0.Q g1.Q (256 * (i 1).val)) (pv .bf16 g0.K g1.K) = accV g0 g1 (i 1).val 0 := by
  rw [ini_open]
  dsimp only
  rw [wq0_eq, wq1_eq, wk_eq, hl_pb, hr_pb, keep0_eq,
    show bQK (rv .bf16 256 128 g0.Q (256 * (i 1).val) 0) (rv .bf16 256 128 g0.K (256 * 0) 0) = _ from z_eq g0 h0 (i 1).val 0,
    show bQK (rv .bf16 256 128 g1.Q (256 * (i 1).val) 0) (rv .bf16 256 128 g1.K (256 * 0) 0) = _ from z_eq g1 h1 (i 1).val 0,
    ls_eq, ls_eq, base_eq, base_eq, sn_eq, sn_eq, ptot_eq, ptot_eq]
  unfold accV
  rw [← zero_dq g0, ← zero_dq g1, ← zero_prun g0, ← zero_prun g1, ← zero_erun g0, ← zero_erun g1]

/-- The state after the loop. -/
theorem sE_val (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (x0 : Vec Ideal S256x256 .bf16) (x1 : Vec Ideal S4096x256 .bf16) (x2 : Vec Ideal S4096x256 .bf16) (x3 : Vec Ideal S256x256 .bf16) (x4 : Vec Ideal S2x256x128 .f32)
    (W : Wins g0 g1 (i 1).val x0 x1 x2 x3 x4) (G10 : BufTy.Contents (Elt Ideal) arg10.view.ty) (G11 : BufTy.Contents (Elt Ideal) arg11.view.ty)
    (h10 : arg10.view.read (Elt Ideal) G10 = mix g0.dkp g1.dkp (i 1).val 0)
    (h11 : arg11.view.read (Elt Ideal) G11 = mix g0.dvp g1.dvp (i 1).val 0) :
    (sE c i arg2 harg2 arg3 harg3 arg4 harg4 arg5 harg5 arg6 harg6 arg7 harg7 arg8 harg8 arg9 harg9 arg10 harg10 arg11 harg11 x0 x1 x2 x3 x4 G10 G11).1 = accV g0 g1 (i 1).val (i 1).val
    ∧ arg10.view.read (Elt Ideal) (arg10.view.writes (Elt Ideal) G10 (sE c i arg2 harg2 arg3 harg3 arg4 harg4 arg5 harg5 arg6 harg6 arg7 harg7 arg8 harg8 arg9 harg9 arg10 harg10 arg11 harg11 x0 x1 x2 x3 x4 G10 G11).2.1) = mix g0.dkp g1.dkp (i 1).val (i 1).val
    ∧ arg11.view.read (Elt Ideal) (arg11.view.writes (Elt Ideal) G11 (sE c i arg2 harg2 arg3 harg3 arg4 harg4 arg5 harg5 arg6 harg6 arg7 harg7 arg8 harg8 arg9 harg9 arg10 harg10 arg11 harg11 x0 x1 x2 x3 x4 G10 G11).2.2) = mix g0.dvp g1.dvp (i 1).val (i 1).val := by
  obtain ⟨s0, s1, hq, hk, hv, hd, ht⟩ := W
  subst hq hk hv hd ht
  unfold sE
  rw [trips_eq]
  exact loop_val _ _ _ _ _ _ _ _ _ _ _ _ _ _ _ _ _ _ _ _ _ _ _ _ _ _ _ _ _ _ _ _ _ _ _ _ _ _ _ _ _ _ _ g0 g1
    ⟨s0, s1, wq0_eq .., wq1_eq .., wq0_eq .., wq1_eq .., wt0_eq .., wt1_eq ..⟩ (harg3.read_unread _) (harg4.read_unread _)
    G10 G11 h10 h11 _ (ini_eq g0 g1 i arg2 harg2 arg3 harg3 s0 s1) _ le_rfl

/-- Reading the right half of rows of which the left half was just stored. -/
theorem ld_other (i : grid0.Coords) (M : Memref sig .tc .vmem S4096x256 .f32) (f : BufTy.Contents (Elt Ideal) M.view.ty)
    (p : FVec Ideal S256x128 .f32) :
    M.view.readAt (Elt Ideal) (Rect.unit (s := S4096x256) (k0_off11 i) S256x128.size (facts.k0_off11_inb i)).toLoadRect
        (M.view.writes (Elt Ideal) f [⟨Rect.unit (s := S4096x256) (k0_off10 i) S256x128.size (facts.k0_off10_inb i), p⟩])
      = M.view.readAt (Elt Ideal) (Rect.unit (s := S4096x256) (k0_off11 i) S256x128.size (facts.k0_off11_inb i)).toLoadRect f := by
  rw [View.readAt_eq_ld, View.readAt_eq_ld]
  funext y
  refine (View.read_writes_cons_unit_of_not_mem (size := S256x128.size) M.view f (facts.k0_off10_inb i) p [] _ (off10_eq i) 1
    (Or.inr ?_))
  have e : k0_off11 i 1 = 128 := by rw [off11_eq]; rfl
  show 0 + 128 ≤ k0_off11 i 1 + 1 * (y 1).val
  omega

/-- The diagonal block's stores complete the row block. -/
theorem fin_val (i : grid0.Coords) (M : Memref sig .tc .vmem S4096x256 .f32) (G : BufTy.Contents (Elt Ideal) M.view.ty)
    (L : LL Ideal) (D0 D1 : FVec Ideal S256x256 .bf16) (y0 y1 : FVec Ideal S256x128 .bf16) (G0 G1 : ℕ → ℕ → ℕ → ℝ)
    (hL : M.view.read (Elt Ideal) (M.view.writes (Elt Ideal) G L) = mix G0 G1 (i 1).val (i 1).val)
    (e0 : bCol (rv .f32 256 128 (G0 (256 * (i 1).val)) (256 * (i 1).val) 0) D0 y0
        = rv .f32 256 128 (G0 (256 * ((i 1).val + 1))) (256 * (i 1).val) 0)
    (e1 : bCol (rv .f32 256 128 (G1 (256 * (i 1).val)) (256 * (i 1).val) 0) D1 y1
        = rv .f32 256 128 (G1 (256 * ((i 1).val + 1))) (256 * (i 1).val) 0) :
    M.view.read (Elt Ideal) (M.view.writes (Elt Ideal) G (fin i M G L D0 D1 y0 y1)) = mix G0 G1 (i 1).val ((i 1).val + 1) := by
  generalize hf : M.view.writes (Elt Ideal) G L = f at hL
  have hm := mix_store G0 G1 (i 1).val (i 1).val M f hL _ _ (off10_eq i) (off11_eq i) (facts.k0_off10_inb i) (facts.k0_off11_inb i)
  have h0 : bCol (M.view.readAt (Elt Ideal) (Rect.unit (s := S4096x256) (k0_off10 i) S256x128.size (facts.k0_off10_inb i)).toLoadRect f) D0 y0
      = rv .f32 256 128 (G0 (256 * ((i 1).val + 1))) (256 * (i 1).val) 0 := by
    rw [View.readAt_eq_ld, hL, mix_ld0 _ _ _ _ _ (off10_eq i)]; exact e0
  have h1 : bCol (M.view.readAt (Elt Ideal) (Rect.unit (s := S4096x256) (k0_off11 i) S256x128.size (facts.k0_off11_inb i)).toLoadRect f) D1 y1
      = rv .f32 256 128 (G1 (256 * ((i 1).val + 1))) (256 * (i 1).val) 0 := by
    rw [View.readAt_eq_ld, hL, mix_ld1 _ _ _ _ _ (off11_eq i)]; exact e1
  have hw : ∀ ps : LL Ideal, M.view.writes (Elt Ideal) G (ps ++ L) = M.view.writes (Elt Ideal) f ps := by
    intro ps; rw [View.writes_append, hf]
  have hw1 : ∀ p, M.view.writes (Elt Ideal) G (p :: L) = M.view.writes (Elt Ideal) f [p] := fun p => hw [p]
  unfold fin
  rw [hf, h0, hw1, ld_other, h1, cast_self, cast_self]
  exact (congrArg (M.view.read (Elt Ideal)) (hw [_, _])).trans hm

/-- The query gradient's block. -/
theorem finQ_val (M : Memref sig .tc .vmem S256x256 .bf16) (D0 D1 : FVec Ideal S256x256 .bf16) (a : Acc Ideal) (k : FVec Ideal S256x256 .bf16)
    (f0 f1 : ℕ → ℕ → ℝ) (R : ℕ) (G : BufTy.Contents (Elt Ideal) M.view.ty)
    (e0 : bRow a.1 D0 (hl k) = rv .f32 256 128 f0 R 0) (e1 : bRow a.2.1 D1 (hr k) = rv .f32 256 128 f1 R 0) :
    M.view.read (Elt Ideal) (M.view.writes (Elt Ideal) G (finQ D0 D1 a k)) = pb .bf16 f0 f1 R := by
  unfold finQ
  rw [e0, e1]
  funext y
  have hy0 : (y 0).val < 256 := (y 0).isLt
  have hy1 : (y 1).val < 256 := (y 1).isLt
  by_cases hc : (y 1).val < 128
  · refine (View.read_writes_cons_unit_of_not_mem (size := S256x128.size) M.view G inb_S256x256_S256x128_0_128 _ _ y rfl 1 (Or.inl hc)).trans ?_
    refine (View.read_writes_cons_unit_of_mem (size := S256x128.size) M.view G inb_S256x256_S256x128_0_0 _ _ y
        (ix2 (⟨(y 0).val, by omega⟩ : Fin 256) (⟨(y 1).val, hc⟩ : Fin 128)) rfl
        (Fin.forall_fin_two.2 ⟨by show (y 0).val = 0 + (y 0).val; omega,
          by show (y 1).val = 0 + (y 1).val; omega⟩)).trans ?_
    show ((f0 (R + (y 0).val) (0 + (y 1).val) : ℝ) : EReal) = _
    unfold pb
    rw [pf_lt _ _ _ _ hc, Nat.zero_add]
  · refine (View.read_writes_cons_unit_of_mem (size := S256x128.size) M.view G inb_S256x256_S256x128_0_128 _ _ y
        (ix2 (⟨(y 0).val, by omega⟩ : Fin 256) (⟨(y 1).val - 128, by omega⟩ : Fin 128)) rfl
        (Fin.forall_fin_two.2 ⟨by show (y 0).val = 0 + (y 0).val; omega,
          by show (y 1).val = 128 + ((y 1).val - 128); omega⟩)).trans ?_
    show ((f1 (R + (y 0).val) (0 + ((y 1).val - 128)) : ℝ) : EReal) = _
    unfold pb pf
    rw [if_neg hc, Nat.zero_add]

/-- A whole store, read back. -/
theorem whole_store (M : Memref sig .tc .vmem S4096x256 .f32) (G : BufTy.Contents (Elt Ideal) M.view.ty) (p : FVec Ideal S4096x256 .f32) :
    M.view.read (Elt Ideal) (M.view.writes (Elt Ideal) G [⟨Rect.unit (s := S4096x256) ![0, 0] S4096x256.size inb_S4096x256_S4096x256_0_0, p⟩]) = p := by
  funext y
  exact View.read_writes_cons_unit_of_mem (size := S4096x256.size) M.view G inb_S4096x256_S4096x256_0_0 _ _ y y rfl
    (Fin.forall_fin_two.2 ⟨by show (y 0).val = 0 + (y 0).val; omega, by show (y 1).val = 0 + (y 1).val; omega⟩)

theorem whole_store16 (M : Memref sig .tc .vmem S4096x256 .bf16) (G : BufTy.Contents (Elt Ideal) M.view.ty) (p : FVec Ideal S4096x256 .bf16) :
    M.view.read (Elt Ideal) (M.view.writes (Elt Ideal) G [⟨Rect.unit (s := S4096x256) ![0, 0] S4096x256.size inb_S4096x256_S4096x256_0_0, p⟩]) = p := by
  funext y
  exact View.read_writes_cons_unit_of_mem (size := S4096x256.size) M.view G inb_S4096x256_S4096x256_0_0 _ _ y y rfl
    (Fin.forall_fin_two.2 ⟨by show (y 0).val = 0 + (y 0).val; omega, by show (y 1).val = 0 + (y 1).val; omega⟩)

theorem whole_read (M : Memref sig .tc .vmem S4096x256 .f32) (G : BufTy.Contents (Elt Ideal) M.view.ty) (X : FVec Ideal S4096x256 .f32)
    (h : M.view.read (Elt Ideal) G = X) :
    M.view.readAt (Elt Ideal) (Rect.unit (s := S4096x256) ![0, 0] S4096x256.size inb_S4096x256_S4096x256_0_0).toLoadRect G = X := by
  rw [View.readAt_eq_ld, h]
  funext y
  pointwise

/-- No row block done: the zeros. -/
theorem zero_mix0 (n : ℕ) (hn : n = 0) : (k0_pay52 (F := Ideal)) = mix g0.dkp g1.dkp n 0 := by
  subst hn; funext y
  pointwise [k0_pay52, mix, pv, pf]
  simp [Hd.dkp]
theorem zero_mix1 (n : ℕ) (hn : n = 0) : (k0_pay53 (F := Ideal)) = mix g0.dvp g1.dvp n 0 := by
  subst hn; funext y
  pointwise [k0_pay53, mix, pv, pf]
  simp [Hd.dvp]

/-- The rows after the diagonal have no part from this row block. -/
theorem mix_next0 (n : ℕ) : mix g0.dkp g1.dkp n (n + 1) = mix g0.dkp g1.dkp (n + 1) 0 := by
  funext y
  unfold mix pv pf
  dsimp only
  by_cases hr : (y 0).val < 256 * (n + 1)
  · simp [hr]
  · have h1 : 256 * (n + 1) ≤ (y 0).val + 1 := by omega
    have h2 : 256 * n ≤ (y 0).val + 1 := by omega
    simp [hr, Hd.dkp_start g0 h1, Hd.dkp_start g1 h1, Hd.dkp_start g0 h2, Hd.dkp_start g1 h2]
theorem mix_next1 (n : ℕ) : mix g0.dvp g1.dvp n (n + 1) = mix g0.dvp g1.dvp (n + 1) 0 := by
  funext y
  unfold mix pv pf
  dsimp only
  by_cases hr : (y 0).val < 256 * (n + 1)
  · simp [hr]
  · have h1 : 256 * (n + 1) ≤ (y 0).val + 1 := by omega
    have h2 : 256 * n ≤ (y 0).val + 1 := by omega
    simp [hr, Hd.dvp_start g0 h1, Hd.dvp_start g1 h1, Hd.dvp_start g0 h2, Hd.dvp_start g1 h2]

theorem mix_pv (G0 G1 : ℕ → ℕ → ℕ → ℝ) (n : ℕ) : mix G0 G1 n 0 = pv .f32 (G0 (256 * n)) (G1 (256 * n)) := by
  unfold mix; simp

theorem valA_q (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : cond0_0 i) (hc1 : ¬cond0_1 i) (x0 : Vec Ideal S256x256 .bf16) (x1 : Vec Ideal S4096x256 .bf16) (x2 : Vec Ideal S4096x256 .bf16) (x3 : Vec Ideal S256x256 .bf16) (x4 : Vec Ideal S2x256x128 .f32) (W : Wins g0 g1 (i 1).val x0 x1 x2 x3 x4) (hn : (i 1).val = 0) :
    arg7.view.read (Elt Ideal) (arg7.view.writes (Elt Ideal) arg7.view.junk (kernelRun0_A (F := Ideal) c i arg2 harg2 arg3 harg3 arg4 harg4 arg5 harg5 arg6 harg6 arg7 harg7 arg8 harg8 arg9 harg9 arg10 harg10 arg11 harg11 hc0 hc1 x0 x1 x2 x3 x4).1)
      = pb .bf16 (g0.dqp (256 * ((i 1).val + 1))) (g1.dqp (256 * ((i 1).val + 1))) (256 * (i 1).val) := by
  obtain ⟨hA, hK10, hK11⟩ := sE_val g0 g1 c i arg2 harg2 arg3 harg3 arg4 harg4 arg5 harg5 arg6 harg6 arg7 harg7 arg8 harg8 arg9 harg9 arg10 harg10 arg11 harg11 x0 x1 x2 x3 x4 W (arg10.view.writes (Elt Ideal) arg10.view.junk zero10) (arg11.view.writes (Elt Ideal) arg11.view.junk zero11) ((whole_store ..).trans (zero_mix0 g0 g1 _ hn)) ((whole_store ..).trans (zero_mix1 g0 g1 _ hn))
  have hk : (arg3.view.readAt (Elt Ideal) (Rect.unit (s := S4096x256) (k0_off9 i) S256x256.size (facts.k0_off9_inb i)).toLoadRect (harg3.unread x1)) = pb .bf16 g0.K g1.K (256 * (i 1).val) := by
    rw [View.readAt_eq_ld, harg3.read_unread, W.k]; exact ld_pv _ _ _ _ (off9_eq i) _
  have hv : (arg4.view.readAt (Elt Ideal) (Rect.unit (s := S4096x256) (k0_off9 i) S256x256.size (facts.k0_off9_inb i)).toLoadRect (harg4.unread x2)) = pb .bf16 g0.V g1.V (256 * (i 1).val) := by
    rw [View.readAt_eq_ld, harg4.read_unread, W.v]; exact ld_pv _ _ _ _ (off9_eq i) _
  have hq0 : wq0 arg2 harg2 x0 = qV g0 (i 1).val := by rw [W.q]; exact wq0_eq ..
  have hq1 : wq1 arg2 harg2 x0 = qV g1 (i 1).val := by rw [W.q]; exact wq1_eq ..
  have hd0 : wq0 arg5 harg5 x3 = doV g0 (i 1).val := by rw [W.d]; exact wq0_eq ..
  have hd1 : wq1 arg5 harg5 x3 = doV g1 (i 1).val := by rw [W.d]; exact wq1_eq ..
  have ht0 : wt0 arg6 harg6 x4 = totV g0 (i 1).val := by rw [W.t]; exact wt0_eq ..
  have ht1 : wt1 arg6 harg6 x4 = totV g1 (i 1).val := by rw [W.t]; exact wt1_eq ..
  have hD0 := tD0_eq g0 g1 W.s0 (i 1).val (i 1).val (pb .bf16 g0.V g1.V (256 * (i 1).val)) (hl_pb _ _ _)
  have hD1 := tD1_eq g0 g1 W.s1 (i 1).val (i 1).val (pb .bf16 g0.V g1.V (256 * (i 1).val)) (hr_pb _ _ _)
  rw [runA_q, hA, hv, hk, hd0, hd1, ht0, ht1, hD0, hD1]
  refine finQ_val _ _ _ _ _ _ _ _ _ ?_ ?_
  · rw [hl_pb]; exact dq_eq g0 _ _
  · rw [hr_pb]; exact dq_eq g1 _ _

theorem valA_dk (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : cond0_0 i) (hc1 : ¬cond0_1 i) (x0 : Vec Ideal S256x256 .bf16) (x1 : Vec Ideal S4096x256 .bf16) (x2 : Vec Ideal S4096x256 .bf16) (x3 : Vec Ideal S256x256 .bf16) (x4 : Vec Ideal S2x256x128 .f32) (W : Wins g0 g1 (i 1).val x0 x1 x2 x3 x4) (hn : (i 1).val = 0) :
    arg10.view.read (Elt Ideal) (arg10.view.writes (Elt Ideal) arg10.view.junk (kernelRun0_A (F := Ideal) c i arg2 harg2 arg3 harg3 arg4 harg4 arg5 harg5 arg6 harg6 arg7 harg7 arg8 harg8 arg9 harg9 arg10 harg10 arg11 harg11 hc0 hc1 x0 x1 x2 x3 x4).2.2.2.1)
      = mix g0.dkp g1.dkp ((i 1).val + 1) 0 := by
  obtain ⟨hA, hK10, hK11⟩ := sE_val g0 g1 c i arg2 harg2 arg3 harg3 arg4 harg4 arg5 harg5 arg6 harg6 arg7 harg7 arg8 harg8 arg9 harg9 arg10 harg10 arg11 harg11 x0 x1 x2 x3 x4 W (arg10.view.writes (Elt Ideal) arg10.view.junk zero10) (arg11.view.writes (Elt Ideal) arg11.view.junk zero11) ((whole_store ..).trans (zero_mix0 g0 g1 _ hn)) ((whole_store ..).trans (zero_mix1 g0 g1 _ hn))
  have hk : (arg3.view.readAt (Elt Ideal) (Rect.unit (s := S4096x256) (k0_off9 i) S256x256.size (facts.k0_off9_inb i)).toLoadRect (harg3.unread x1)) = pb .bf16 g0.K g1.K (256 * (i 1).val) := by
    rw [View.readAt_eq_ld, harg3.read_unread, W.k]; exact ld_pv _ _ _ _ (off9_eq i) _
  have hv : (arg4.view.readAt (Elt Ideal) (Rect.unit (s := S4096x256) (k0_off9 i) S256x256.size (facts.k0_off9_inb i)).toLoadRect (harg4.unread x2)) = pb .bf16 g0.V g1.V (256 * (i 1).val) := by
    rw [View.readAt_eq_ld, harg4.read_unread, W.v]; exact ld_pv _ _ _ _ (off9_eq i) _
  have hq0 : wq0 arg2 harg2 x0 = qV g0 (i 1).val := by rw [W.q]; exact wq0_eq ..
  have hq1 : wq1 arg2 harg2 x0 = qV g1 (i 1).val := by rw [W.q]; exact wq1_eq ..
  have hd0 : wq0 arg5 harg5 x3 = doV g0 (i 1).val := by rw [W.d]; exact wq0_eq ..
  have hd1 : wq1 arg5 harg5 x3 = doV g1 (i 1).val := by rw [W.d]; exact wq1_eq ..
  have ht0 : wt0 arg6 harg6 x4 = totV g0 (i 1).val := by rw [W.t]; exact wt0_eq ..
  have ht1 : wt1 arg6 harg6 x4 = totV g1 (i 1).val := by rw [W.t]; exact wt1_eq ..
  have hD0 := tD0_eq g0 g1 W.s0 (i 1).val (i 1).val (pb .bf16 g0.V g1.V (256 * (i 1).val)) (hl_pb _ _ _)
  have hD1 := tD1_eq g0 g1 W.s1 (i 1).val (i 1).val (pb .bf16 g0.V g1.V (256 * (i 1).val)) (hr_pb _ _ _)
  rw [runA_dk, hA, hv, hd0, hd1, ht0, ht1, hD0, hD1, hq0, hq1, ← mix_next0]
  exact fin_val i arg10 _ _ _ _ _ _ _ _ ((congrArg (arg10.view.read (Elt Ideal)) (View.writes_append ..)).trans hK10) (dk_eq g0 _ _) (dk_eq g1 _ _)

theorem valA_dv (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : cond0_0 i) (hc1 : ¬cond0_1 i) (x0 : Vec Ideal S256x256 .bf16) (x1 : Vec Ideal S4096x256 .bf16) (x2 : Vec Ideal S4096x256 .bf16) (x3 : Vec Ideal S256x256 .bf16) (x4 : Vec Ideal S2x256x128 .f32) (W : Wins g0 g1 (i 1).val x0 x1 x2 x3 x4) (hn : (i 1).val = 0) :
    arg11.view.read (Elt Ideal) (arg11.view.writes (Elt Ideal) arg11.view.junk (kernelRun0_A (F := Ideal) c i arg2 harg2 arg3 harg3 arg4 harg4 arg5 harg5 arg6 harg6 arg7 harg7 arg8 harg8 arg9 harg9 arg10 harg10 arg11 harg11 hc0 hc1 x0 x1 x2 x3 x4).2.2.2.2.1)
      = mix g0.dvp g1.dvp ((i 1).val + 1) 0 := by
  obtain ⟨hA, hK10, hK11⟩ := sE_val g0 g1 c i arg2 harg2 arg3 harg3 arg4 harg4 arg5 harg5 arg6 harg6 arg7 harg7 arg8 harg8 arg9 harg9 arg10 harg10 arg11 harg11 x0 x1 x2 x3 x4 W (arg10.view.writes (Elt Ideal) arg10.view.junk zero10) (arg11.view.writes (Elt Ideal) arg11.view.junk zero11) ((whole_store ..).trans (zero_mix0 g0 g1 _ hn)) ((whole_store ..).trans (zero_mix1 g0 g1 _ hn))
  have hk : (arg3.view.readAt (Elt Ideal) (Rect.unit (s := S4096x256) (k0_off9 i) S256x256.size (facts.k0_off9_inb i)).toLoadRect (harg3.unread x1)) = pb .bf16 g0.K g1.K (256 * (i 1).val) := by
    rw [View.readAt_eq_ld, harg3.read_unread, W.k]; exact ld_pv _ _ _ _ (off9_eq i) _
  have hv : (arg4.view.readAt (Elt Ideal) (Rect.unit (s := S4096x256) (k0_off9 i) S256x256.size (facts.k0_off9_inb i)).toLoadRect (harg4.unread x2)) = pb .bf16 g0.V g1.V (256 * (i 1).val) := by
    rw [View.readAt_eq_ld, harg4.read_unread, W.v]; exact ld_pv _ _ _ _ (off9_eq i) _
  have hq0 : wq0 arg2 harg2 x0 = qV g0 (i 1).val := by rw [W.q]; exact wq0_eq ..
  have hq1 : wq1 arg2 harg2 x0 = qV g1 (i 1).val := by rw [W.q]; exact wq1_eq ..
  have hd0 : wq0 arg5 harg5 x3 = doV g0 (i 1).val := by rw [W.d]; exact wq0_eq ..
  have hd1 : wq1 arg5 harg5 x3 = doV g1 (i 1).val := by rw [W.d]; exact wq1_eq ..
  have ht0 : wt0 arg6 harg6 x4 = totV g0 (i 1).val := by rw [W.t]; exact wt0_eq ..
  have ht1 : wt1 arg6 harg6 x4 = totV g1 (i 1).val := by rw [W.t]; exact wt1_eq ..
  have hD0 := tD0_eq g0 g1 W.s0 (i 1).val (i 1).val (pb .bf16 g0.V g1.V (256 * (i 1).val)) (hl_pb _ _ _)
  have hD1 := tD1_eq g0 g1 W.s1 (i 1).val (i 1).val (pb .bf16 g0.V g1.V (256 * (i 1).val)) (hr_pb _ _ _)
  rw [runA_dv, hA, hd0, hd1, ht0, ht1, tW0_eq, tW1_eq, ← mix_next1]
  exact fin_val i arg11 _ _ _ _ _ _ _ _ ((congrArg (arg11.view.read (Elt Ideal)) (View.writes_append ..)).trans hK11) (dv_eq g0 _ _) (dv_eq g1 _ _)

theorem valB_q (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : ¬cond0_0 i) (hc1 : ¬cond0_1 i) (x0 : Vec Ideal S256x256 .bf16) (x1 : Vec Ideal S4096x256 .bf16) (x2 : Vec Ideal S4096x256 .bf16) (x3 : Vec Ideal S256x256 .bf16) (x4 : Vec Ideal S2x256x128 .f32) (W : Wins g0 g1 (i 1).val x0 x1 x2 x3 x4) (xs0 : Vec Ideal S4096x256 .f32) (xs1 : Vec Ideal S4096x256 .f32) (e0 : xs0 = mix g0.dkp g1.dkp (i 1).val 0) (e1 : xs1 = mix g0.dvp g1.dvp (i 1).val 0) :
    arg7.view.read (Elt Ideal) (arg7.view.writes (Elt Ideal) arg7.view.junk (kernelRun0_B (F := Ideal) c i arg2 harg2 arg3 harg3 arg4 harg4 arg5 harg5 arg6 harg6 arg7 harg7 arg8 harg8 arg9 harg9 arg10 harg10 arg11 harg11 hc0 hc1 x0 x1 x2 x3 x4 xs0 xs1).1)
      = pb .bf16 (g0.dqp (256 * ((i 1).val + 1))) (g1.dqp (256 * ((i 1).val + 1))) (256 * (i 1).val) := by
  obtain ⟨hA, hK10, hK11⟩ := sE_val g0 g1 c i arg2 harg2 arg3 harg3 arg4 harg4 arg5 harg5 arg6 harg6 arg7 harg7 arg8 harg8 arg9 harg9 arg10 harg10 arg11 harg11 x0 x1 x2 x3 x4 W (harg10.unread xs0) (harg11.unread xs1) ((harg10.read_unread _).trans e0) ((harg11.read_unread _).trans e1)
  have hk : (arg3.view.readAt (Elt Ideal) (Rect.unit (s := S4096x256) (k0_off9 i) S256x256.size (facts.k0_off9_inb i)).toLoadRect (harg3.unread x1)) = pb .bf16 g0.K g1.K (256 * (i 1).val) := by
    rw [View.readAt_eq_ld, harg3.read_unread, W.k]; exact ld_pv _ _ _ _ (off9_eq i) _
  have hv : (arg4.view.readAt (Elt Ideal) (Rect.unit (s := S4096x256) (k0_off9 i) S256x256.size (facts.k0_off9_inb i)).toLoadRect (harg4.unread x2)) = pb .bf16 g0.V g1.V (256 * (i 1).val) := by
    rw [View.readAt_eq_ld, harg4.read_unread, W.v]; exact ld_pv _ _ _ _ (off9_eq i) _
  have hq0 : wq0 arg2 harg2 x0 = qV g0 (i 1).val := by rw [W.q]; exact wq0_eq ..
  have hq1 : wq1 arg2 harg2 x0 = qV g1 (i 1).val := by rw [W.q]; exact wq1_eq ..
  have hd0 : wq0 arg5 harg5 x3 = doV g0 (i 1).val := by rw [W.d]; exact wq0_eq ..
  have hd1 : wq1 arg5 harg5 x3 = doV g1 (i 1).val := by rw [W.d]; exact wq1_eq ..
  have ht0 : wt0 arg6 harg6 x4 = totV g0 (i 1).val := by rw [W.t]; exact wt0_eq ..
  have ht1 : wt1 arg6 harg6 x4 = totV g1 (i 1).val := by rw [W.t]; exact wt1_eq ..
  have hD0 := tD0_eq g0 g1 W.s0 (i 1).val (i 1).val (pb .bf16 g0.V g1.V (256 * (i 1).val)) (hl_pb _ _ _)
  have hD1 := tD1_eq g0 g1 W.s1 (i 1).val (i 1).val (pb .bf16 g0.V g1.V (256 * (i 1).val)) (hr_pb _ _ _)
  rw [runB_q, hA, hv, hk, hd0, hd1, ht0, ht1, hD0, hD1]
  refine finQ_val _ _ _ _ _ _ _ _ _ ?_ ?_
  · rw [hl_pb]; exact dq_eq g0 _ _
  · rw [hr_pb]; exact dq_eq g1 _ _

theorem valB_dk (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : ¬cond0_0 i) (hc1 : ¬cond0_1 i) (x0 : Vec Ideal S256x256 .bf16) (x1 : Vec Ideal S4096x256 .bf16) (x2 : Vec Ideal S4096x256 .bf16) (x3 : Vec Ideal S256x256 .bf16) (x4 : Vec Ideal S2x256x128 .f32) (W : Wins g0 g1 (i 1).val x0 x1 x2 x3 x4) (xs0 : Vec Ideal S4096x256 .f32) (xs1 : Vec Ideal S4096x256 .f32) (e0 : xs0 = mix g0.dkp g1.dkp (i 1).val 0) (e1 : xs1 = mix g0.dvp g1.dvp (i 1).val 0) :
    arg10.view.read (Elt Ideal) (arg10.view.writes (Elt Ideal) (harg10.unread xs0) (kernelRun0_B (F := Ideal) c i arg2 harg2 arg3 harg3 arg4 harg4 arg5 harg5 arg6 harg6 arg7 harg7 arg8 harg8 arg9 harg9 arg10 harg10 arg11 harg11 hc0 hc1 x0 x1 x2 x3 x4 xs0 xs1).2.2.2.1)
      = mix g0.dkp g1.dkp ((i 1).val + 1) 0 := by
  obtain ⟨hA, hK10, hK11⟩ := sE_val g0 g1 c i arg2 harg2 arg3 harg3 arg4 harg4 arg5 harg5 arg6 harg6 arg7 harg7 arg8 harg8 arg9 harg9 arg10 harg10 arg11 harg11 x0 x1 x2 x3 x4 W (harg10.unread xs0) (harg11.unread xs1) ((harg10.read_unread _).trans e0) ((harg11.read_unread _).trans e1)
  have hk : (arg3.view.readAt (Elt Ideal) (Rect.unit (s := S4096x256) (k0_off9 i) S256x256.size (facts.k0_off9_inb i)).toLoadRect (harg3.unread x1)) = pb .bf16 g0.K g1.K (256 * (i 1).val) := by
    rw [View.readAt_eq_ld, harg3.read_unread, W.k]; exact ld_pv _ _ _ _ (off9_eq i) _
  have hv : (arg4.view.readAt (Elt Ideal) (Rect.unit (s := S4096x256) (k0_off9 i) S256x256.size (facts.k0_off9_inb i)).toLoadRect (harg4.unread x2)) = pb .bf16 g0.V g1.V (256 * (i 1).val) := by
    rw [View.readAt_eq_ld, harg4.read_unread, W.v]; exact ld_pv _ _ _ _ (off9_eq i) _
  have hq0 : wq0 arg2 harg2 x0 = qV g0 (i 1).val := by rw [W.q]; exact wq0_eq ..
  have hq1 : wq1 arg2 harg2 x0 = qV g1 (i 1).val := by rw [W.q]; exact wq1_eq ..
  have hd0 : wq0 arg5 harg5 x3 = doV g0 (i 1).val := by rw [W.d]; exact wq0_eq ..
  have hd1 : wq1 arg5 harg5 x3 = doV g1 (i 1).val := by rw [W.d]; exact wq1_eq ..
  have ht0 : wt0 arg6 harg6 x4 = totV g0 (i 1).val := by rw [W.t]; exact wt0_eq ..
  have ht1 : wt1 arg6 harg6 x4 = totV g1 (i 1).val := by rw [W.t]; exact wt1_eq ..
  have hD0 := tD0_eq g0 g1 W.s0 (i 1).val (i 1).val (pb .bf16 g0.V g1.V (256 * (i 1).val)) (hl_pb _ _ _)
  have hD1 := tD1_eq g0 g1 W.s1 (i 1).val (i 1).val (pb .bf16 g0.V g1.V (256 * (i 1).val)) (hr_pb _ _ _)
  rw [runB_dk, hA, hv, hd0, hd1, ht0, ht1, hD0, hD1, hq0, hq1, ← mix_next0]
  exact fin_val i arg10 _ _ _ _ _ _ _ _ hK10 (dk_eq g0 _ _) (dk_eq g1 _ _)

theorem valB_dv (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : ¬cond0_0 i) (hc1 : ¬cond0_1 i) (x0 : Vec Ideal S256x256 .bf16) (x1 : Vec Ideal S4096x256 .bf16) (x2 : Vec Ideal S4096x256 .bf16) (x3 : Vec Ideal S256x256 .bf16) (x4 : Vec Ideal S2x256x128 .f32) (W : Wins g0 g1 (i 1).val x0 x1 x2 x3 x4) (xs0 : Vec Ideal S4096x256 .f32) (xs1 : Vec Ideal S4096x256 .f32) (e0 : xs0 = mix g0.dkp g1.dkp (i 1).val 0) (e1 : xs1 = mix g0.dvp g1.dvp (i 1).val 0) :
    arg11.view.read (Elt Ideal) (arg11.view.writes (Elt Ideal) (harg11.unread xs1) (kernelRun0_B (F := Ideal) c i arg2 harg2 arg3 harg3 arg4 harg4 arg5 harg5 arg6 harg6 arg7 harg7 arg8 harg8 arg9 harg9 arg10 harg10 arg11 harg11 hc0 hc1 x0 x1 x2 x3 x4 xs0 xs1).2.2.2.2.1)
      = mix g0.dvp g1.dvp ((i 1).val + 1) 0 := by
  obtain ⟨hA, hK10, hK11⟩ := sE_val g0 g1 c i arg2 harg2 arg3 harg3 arg4 harg4 arg5 harg5 arg6 harg6 arg7 harg7 arg8 harg8 arg9 harg9 arg10 harg10 arg11 harg11 x0 x1 x2 x3 x4 W (harg10.unread xs0) (harg11.unread xs1) ((harg10.read_unread _).trans e0) ((harg11.read_unread _).trans e1)
  have hk : (arg3.view.readAt (Elt Ideal) (Rect.unit (s := S4096x256) (k0_off9 i) S256x256.size (facts.k0_off9_inb i)).toLoadRect (harg3.unread x1)) = pb .bf16 g0.K g1.K (256 * (i 1).val) := by
    rw [View.readAt_eq_ld, harg3.read_unread, W.k]; exact ld_pv _ _ _ _ (off9_eq i) _
  have hv : (arg4.view.readAt (Elt Ideal) (Rect.unit (s := S4096x256) (k0_off9 i) S256x256.size (facts.k0_off9_inb i)).toLoadRect (harg4.unread x2)) = pb .bf16 g0.V g1.V (256 * (i 1).val) := by
    rw [View.readAt_eq_ld, harg4.read_unread, W.v]; exact ld_pv _ _ _ _ (off9_eq i) _
  have hq0 : wq0 arg2 harg2 x0 = qV g0 (i 1).val := by rw [W.q]; exact wq0_eq ..
  have hq1 : wq1 arg2 harg2 x0 = qV g1 (i 1).val := by rw [W.q]; exact wq1_eq ..
  have hd0 : wq0 arg5 harg5 x3 = doV g0 (i 1).val := by rw [W.d]; exact wq0_eq ..
  have hd1 : wq1 arg5 harg5 x3 = doV g1 (i 1).val := by rw [W.d]; exact wq1_eq ..
  have ht0 : wt0 arg6 harg6 x4 = totV g0 (i 1).val := by rw [W.t]; exact wt0_eq ..
  have ht1 : wt1 arg6 harg6 x4 = totV g1 (i 1).val := by rw [W.t]; exact wt1_eq ..
  have hD0 := tD0_eq g0 g1 W.s0 (i 1).val (i 1).val (pb .bf16 g0.V g1.V (256 * (i 1).val)) (hl_pb _ _ _)
  have hD1 := tD1_eq g0 g1 W.s1 (i 1).val (i 1).val (pb .bf16 g0.V g1.V (256 * (i 1).val)) (hr_pb _ _ _)
  rw [runB_dv, hA, hd0, hd1, ht0, ht1, tW0_eq, tW1_eq, ← mix_next1]
  exact fin_val i arg11 _ _ _ _ _ _ _ _ hK11 (dv_eq g0 _ _) (dv_eq g1 _ _)

theorem valC_q (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : ¬cond0_0 i) (hc1 : cond0_1 i) (x0 : Vec Ideal S256x256 .bf16) (x1 : Vec Ideal S4096x256 .bf16) (x2 : Vec Ideal S4096x256 .bf16) (x3 : Vec Ideal S256x256 .bf16) (x4 : Vec Ideal S2x256x128 .f32) (W : Wins g0 g1 (i 1).val x0 x1 x2 x3 x4) (xs0 : Vec Ideal S4096x256 .f32) (xs1 : Vec Ideal S4096x256 .f32) (e0 : xs0 = mix g0.dkp g1.dkp (i 1).val 0) (e1 : xs1 = mix g0.dvp g1.dvp (i 1).val 0) :
    arg7.view.read (Elt Ideal) (arg7.view.writes (Elt Ideal) arg7.view.junk (kernelRun0_C (F := Ideal) c i arg2 harg2 arg3 harg3 arg4 harg4 arg5 harg5 arg6 harg6 arg7 harg7 arg8 harg8 arg9 harg9 arg10 harg10 arg11 harg11 hc0 hc1 x0 x1 x2 x3 x4 xs0 xs1).1)
      = pb .bf16 (g0.dqp (256 * ((i 1).val + 1))) (g1.dqp (256 * ((i 1).val + 1))) (256 * (i 1).val) := by
  obtain ⟨hA, hK10, hK11⟩ := sE_val g0 g1 c i arg2 harg2 arg3 harg3 arg4 harg4 arg5 harg5 arg6 harg6 arg7 harg7 arg8 harg8 arg9 harg9 arg10 harg10 arg11 harg11 x0 x1 x2 x3 x4 W (harg10.unread xs0) (harg11.unread xs1) ((harg10.read_unread _).trans e0) ((harg11.read_unread _).trans e1)
  have hk : (arg3.view.readAt (Elt Ideal) (Rect.unit (s := S4096x256) (k0_off9 i) S256x256.size (facts.k0_off9_inb i)).toLoadRect (harg3.unread x1)) = pb .bf16 g0.K g1.K (256 * (i 1).val) := by
    rw [View.readAt_eq_ld, harg3.read_unread, W.k]; exact ld_pv _ _ _ _ (off9_eq i) _
  have hv : (arg4.view.readAt (Elt Ideal) (Rect.unit (s := S4096x256) (k0_off9 i) S256x256.size (facts.k0_off9_inb i)).toLoadRect (harg4.unread x2)) = pb .bf16 g0.V g1.V (256 * (i 1).val) := by
    rw [View.readAt_eq_ld, harg4.read_unread, W.v]; exact ld_pv _ _ _ _ (off9_eq i) _
  have hq0 : wq0 arg2 harg2 x0 = qV g0 (i 1).val := by rw [W.q]; exact wq0_eq ..
  have hq1 : wq1 arg2 harg2 x0 = qV g1 (i 1).val := by rw [W.q]; exact wq1_eq ..
  have hd0 : wq0 arg5 harg5 x3 = doV g0 (i 1).val := by rw [W.d]; exact wq0_eq ..
  have hd1 : wq1 arg5 harg5 x3 = doV g1 (i 1).val := by rw [W.d]; exact wq1_eq ..
  have ht0 : wt0 arg6 harg6 x4 = totV g0 (i 1).val := by rw [W.t]; exact wt0_eq ..
  have ht1 : wt1 arg6 harg6 x4 = totV g1 (i 1).val := by rw [W.t]; exact wt1_eq ..
  have hD0 := tD0_eq g0 g1 W.s0 (i 1).val (i 1).val (pb .bf16 g0.V g1.V (256 * (i 1).val)) (hl_pb _ _ _)
  have hD1 := tD1_eq g0 g1 W.s1 (i 1).val (i 1).val (pb .bf16 g0.V g1.V (256 * (i 1).val)) (hr_pb _ _ _)
  rw [runC_q, hA, hv, hk, hd0, hd1, ht0, ht1, hD0, hD1]
  refine finQ_val _ _ _ _ _ _ _ _ _ ?_ ?_
  · rw [hl_pb]; exact dq_eq g0 _ _
  · rw [hr_pb]; exact dq_eq g1 _ _

theorem valC_dk (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : ¬cond0_0 i) (hc1 : cond0_1 i) (x0 : Vec Ideal S256x256 .bf16) (x1 : Vec Ideal S4096x256 .bf16) (x2 : Vec Ideal S4096x256 .bf16) (x3 : Vec Ideal S256x256 .bf16) (x4 : Vec Ideal S2x256x128 .f32) (W : Wins g0 g1 (i 1).val x0 x1 x2 x3 x4) (xs0 : Vec Ideal S4096x256 .f32) (xs1 : Vec Ideal S4096x256 .f32) (e0 : xs0 = mix g0.dkp g1.dkp (i 1).val 0) (e1 : xs1 = mix g0.dvp g1.dvp (i 1).val 0) :
    arg10.view.read (Elt Ideal) (arg10.view.writes (Elt Ideal) (harg10.unread xs0) (kernelRun0_C (F := Ideal) c i arg2 harg2 arg3 harg3 arg4 harg4 arg5 harg5 arg6 harg6 arg7 harg7 arg8 harg8 arg9 harg9 arg10 harg10 arg11 harg11 hc0 hc1 x0 x1 x2 x3 x4 xs0 xs1).2.2.2.1)
      = mix g0.dkp g1.dkp ((i 1).val + 1) 0 := by
  obtain ⟨hA, hK10, hK11⟩ := sE_val g0 g1 c i arg2 harg2 arg3 harg3 arg4 harg4 arg5 harg5 arg6 harg6 arg7 harg7 arg8 harg8 arg9 harg9 arg10 harg10 arg11 harg11 x0 x1 x2 x3 x4 W (harg10.unread xs0) (harg11.unread xs1) ((harg10.read_unread _).trans e0) ((harg11.read_unread _).trans e1)
  have hk : (arg3.view.readAt (Elt Ideal) (Rect.unit (s := S4096x256) (k0_off9 i) S256x256.size (facts.k0_off9_inb i)).toLoadRect (harg3.unread x1)) = pb .bf16 g0.K g1.K (256 * (i 1).val) := by
    rw [View.readAt_eq_ld, harg3.read_unread, W.k]; exact ld_pv _ _ _ _ (off9_eq i) _
  have hv : (arg4.view.readAt (Elt Ideal) (Rect.unit (s := S4096x256) (k0_off9 i) S256x256.size (facts.k0_off9_inb i)).toLoadRect (harg4.unread x2)) = pb .bf16 g0.V g1.V (256 * (i 1).val) := by
    rw [View.readAt_eq_ld, harg4.read_unread, W.v]; exact ld_pv _ _ _ _ (off9_eq i) _
  have hq0 : wq0 arg2 harg2 x0 = qV g0 (i 1).val := by rw [W.q]; exact wq0_eq ..
  have hq1 : wq1 arg2 harg2 x0 = qV g1 (i 1).val := by rw [W.q]; exact wq1_eq ..
  have hd0 : wq0 arg5 harg5 x3 = doV g0 (i 1).val := by rw [W.d]; exact wq0_eq ..
  have hd1 : wq1 arg5 harg5 x3 = doV g1 (i 1).val := by rw [W.d]; exact wq1_eq ..
  have ht0 : wt0 arg6 harg6 x4 = totV g0 (i 1).val := by rw [W.t]; exact wt0_eq ..
  have ht1 : wt1 arg6 harg6 x4 = totV g1 (i 1).val := by rw [W.t]; exact wt1_eq ..
  have hD0 := tD0_eq g0 g1 W.s0 (i 1).val (i 1).val (pb .bf16 g0.V g1.V (256 * (i 1).val)) (hl_pb _ _ _)
  have hD1 := tD1_eq g0 g1 W.s1 (i 1).val (i 1).val (pb .bf16 g0.V g1.V (256 * (i 1).val)) (hr_pb _ _ _)
  rw [runC_dk, hA, hv, hd0, hd1, ht0, ht1, hD0, hD1, hq0, hq1, ← mix_next0]
  exact fin_val i arg10 _ _ _ _ _ _ _ _ hK10 (dk_eq g0 _ _) (dk_eq g1 _ _)

theorem valC_dv (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : ¬cond0_0 i) (hc1 : cond0_1 i) (x0 : Vec Ideal S256x256 .bf16) (x1 : Vec Ideal S4096x256 .bf16) (x2 : Vec Ideal S4096x256 .bf16) (x3 : Vec Ideal S256x256 .bf16) (x4 : Vec Ideal S2x256x128 .f32) (W : Wins g0 g1 (i 1).val x0 x1 x2 x3 x4) (xs0 : Vec Ideal S4096x256 .f32) (xs1 : Vec Ideal S4096x256 .f32) (e0 : xs0 = mix g0.dkp g1.dkp (i 1).val 0) (e1 : xs1 = mix g0.dvp g1.dvp (i 1).val 0) :
    arg11.view.read (Elt Ideal) (arg11.view.writes (Elt Ideal) (harg11.unread xs1) (kernelRun0_C (F := Ideal) c i arg2 harg2 arg3 harg3 arg4 harg4 arg5 harg5 arg6 harg6 arg7 harg7 arg8 harg8 arg9 harg9 arg10 harg10 arg11 harg11 hc0 hc1 x0 x1 x2 x3 x4 xs0 xs1).2.2.2.2.1)
      = mix g0.dvp g1.dvp ((i 1).val + 1) 0 := by
  obtain ⟨hA, hK10, hK11⟩ := sE_val g0 g1 c i arg2 harg2 arg3 harg3 arg4 harg4 arg5 harg5 arg6 harg6 arg7 harg7 arg8 harg8 arg9 harg9 arg10 harg10 arg11 harg11 x0 x1 x2 x3 x4 W (harg10.unread xs0) (harg11.unread xs1) ((harg10.read_unread _).trans e0) ((harg11.read_unread _).trans e1)
  have hk : (arg3.view.readAt (Elt Ideal) (Rect.unit (s := S4096x256) (k0_off9 i) S256x256.size (facts.k0_off9_inb i)).toLoadRect (harg3.unread x1)) = pb .bf16 g0.K g1.K (256 * (i 1).val) := by
    rw [View.readAt_eq_ld, harg3.read_unread, W.k]; exact ld_pv _ _ _ _ (off9_eq i) _
  have hv : (arg4.view.readAt (Elt Ideal) (Rect.unit (s := S4096x256) (k0_off9 i) S256x256.size (facts.k0_off9_inb i)).toLoadRect (harg4.unread x2)) = pb .bf16 g0.V g1.V (256 * (i 1).val) := by
    rw [View.readAt_eq_ld, harg4.read_unread, W.v]; exact ld_pv _ _ _ _ (off9_eq i) _
  have hq0 : wq0 arg2 harg2 x0 = qV g0 (i 1).val := by rw [W.q]; exact wq0_eq ..
  have hq1 : wq1 arg2 harg2 x0 = qV g1 (i 1).val := by rw [W.q]; exact wq1_eq ..
  have hd0 : wq0 arg5 harg5 x3 = doV g0 (i 1).val := by rw [W.d]; exact wq0_eq ..
  have hd1 : wq1 arg5 harg5 x3 = doV g1 (i 1).val := by rw [W.d]; exact wq1_eq ..
  have ht0 : wt0 arg6 harg6 x4 = totV g0 (i 1).val := by rw [W.t]; exact wt0_eq ..
  have ht1 : wt1 arg6 harg6 x4 = totV g1 (i 1).val := by rw [W.t]; exact wt1_eq ..
  have hD0 := tD0_eq g0 g1 W.s0 (i 1).val (i 1).val (pb .bf16 g0.V g1.V (256 * (i 1).val)) (hl_pb _ _ _)
  have hD1 := tD1_eq g0 g1 W.s1 (i 1).val (i 1).val (pb .bf16 g0.V g1.V (256 * (i 1).val)) (hr_pb _ _ _)
  rw [runC_dv, hA, hd0, hd1, ht0, ht1, tW0_eq, tW1_eq, ← mix_next1]
  exact fin_val i arg11 _ _ _ _ _ _ _ _ hK11 (dv_eq g0 _ _) (dv_eq g1 _ _)

theorem valC_o6 (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : ¬cond0_0 i) (hc1 : cond0_1 i) (x0 : Vec Ideal S256x256 .bf16) (x1 : Vec Ideal S4096x256 .bf16) (x2 : Vec Ideal S4096x256 .bf16) (x3 : Vec Ideal S256x256 .bf16) (x4 : Vec Ideal S2x256x128 .f32) (W : Wins g0 g1 (i 1).val x0 x1 x2 x3 x4) (xs0 : Vec Ideal S4096x256 .f32) (xs1 : Vec Ideal S4096x256 .f32) (e0 : xs0 = mix g0.dkp g1.dkp (i 1).val 0) (e1 : xs1 = mix g0.dvp g1.dvp (i 1).val 0) :
    arg8.view.read (Elt Ideal) (arg8.view.writes (Elt Ideal) arg8.view.junk (kernelRun0_C (F := Ideal) c i arg2 harg2 arg3 harg3 arg4 harg4 arg5 harg5 arg6 harg6 arg7 harg7 arg8 harg8 arg9 harg9 arg10 harg10 arg11 harg11 hc0 hc1 x0 x1 x2 x3 x4 xs0 xs1).2.1)
      = pv .bf16 (g0.dkp (256 * ((i 1).val + 1))) (g1.dkp (256 * ((i 1).val + 1))) := by
  rw [runC_o6]
  refine (whole_store16 arg8 _ _).trans ?_
  rw [whole_read _ _ _ (valC_dk g0 g1 c i arg2 harg2 arg3 harg3 arg4 harg4 arg5 harg5 arg6 harg6 arg7 harg7 arg8 harg8 arg9 harg9 arg10 harg10 arg11 harg11 hc0 hc1 x0 x1 x2 x3 x4 W xs0 xs1 e0 e1), mix_pv]
  funext y
  pointwise [pv]

theorem valC_o7 (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S4096x256 .f32) (harg10 : arg10.IsWhole) (arg11 : Memref sig .tc .vmem S4096x256 .f32) (harg11 : arg11.IsWhole)  (hc0 : ¬cond0_0 i) (hc1 : cond0_1 i) (x0 : Vec Ideal S256x256 .bf16) (x1 : Vec Ideal S4096x256 .bf16) (x2 : Vec Ideal S4096x256 .bf16) (x3 : Vec Ideal S256x256 .bf16) (x4 : Vec Ideal S2x256x128 .f32) (W : Wins g0 g1 (i 1).val x0 x1 x2 x3 x4) (xs0 : Vec Ideal S4096x256 .f32) (xs1 : Vec Ideal S4096x256 .f32) (e0 : xs0 = mix g0.dkp g1.dkp (i 1).val 0) (e1 : xs1 = mix g0.dvp g1.dvp (i 1).val 0) :
    arg9.view.read (Elt Ideal) (arg9.view.writes (Elt Ideal) arg9.view.junk (kernelRun0_C (F := Ideal) c i arg2 harg2 arg3 harg3 arg4 harg4 arg5 harg5 arg6 harg6 arg7 harg7 arg8 harg8 arg9 harg9 arg10 harg10 arg11 harg11 hc0 hc1 x0 x1 x2 x3 x4 xs0 xs1).2.2.1)
      = pv .bf16 (g0.dvp (256 * ((i 1).val + 1))) (g1.dvp (256 * ((i 1).val + 1))) := by
  rw [runC_o7]
  refine (whole_store16 arg9 _ _).trans ?_
  rw [whole_read _ _ _ (valC_dv g0 g1 c i arg2 harg2 arg3 harg3 arg4 harg4 arg5 harg5 arg6 harg6 arg7 harg7 arg8 harg8 arg9 harg9 arg10 harg10 arg11 harg11 hc0 hc1 x0 x1 x2 x3 x4 W xs0 xs1 e0 e1), mix_pv]
  funext y
  pointwise [pv]

end Point

end Cert.KernelIdeal.Hand
-- ==== Proof.Fold.lean ====
module

public import proofs.«01_k».proof.Proof.CaseValue
public import proofs.«01_k».proof.Proof.Gen.KernelIdeal.Value

@[expose] public section

set_option maxRecDepth 16384
noncomputable section
open Idealize.ShloMosaic Idealize.ShloMosaic.TcCoe Idealize.SL.Sem
open Cert.KernelIdeal.Value (G5 G6 G7 outsAt0_sweep)
namespace Cert.KernelIdeal.Hand
open Cert.KernelIdeal Cert.KernelIdeal.Gen

/-! # The sweep over the grid

Point `t` works on heads `2 * (t / 16)` and `2 * (t / 16) + 1`, rows `256 * (t % 16)` and on. -/

theorem coords1 : ∀ t : Fin cfg0.N, (grid0.coords t 1).val = t.val % 16 :=
  (by decide +kernel : ∀ t : Fin grid0.N, (grid0.coords t 1).val = t.val % 16)

section
variable (m : (ℓ : Loc nD τ sig) → Buf (Elt Ideal) ℓ) (c : Dev nD) (H : ℕ → Hd)

/-- What the windows hold at every point. -/
def Windows : Prop := ∀ t : Fin cfg0.N, Wins (H (2 * (t.val / 16))) (H (2 * (t.val / 16) + 1)) (t.val % 16)
  (iblk m c 0 t) (iblk m c 1 t) (iblk m c 2 t) (iblk m c 3 t) (iblk m c 4 t)

theorem ptA_q (W : Windows m c H) (t : Fin cfg0.N) (h0 : t.val % 16 = 0) (h1 : ¬t.val % 16 = 15) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) = pb .bf16 ((H (2 * (t.val / 16))).dqp (256 * (t.val % 16 + 1))) ((H (2 * (t.val / 16) + 1)).dqp (256 * (t.val % 16 + 1))) (256 * (t.val % 16)) := by
  have h := valA_q (H (2 * (t.val / 16))) (H (2 * (t.val / 16) + 1)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (by rw [coords1 t]; exact W t) ((coords1 t).trans h0)
  rw [coords1 t] at h
  refine Eq.trans ?_ h
  exact View.read_writes_of_cover _ _ _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t))

theorem ptA_dk (W : Windows m c H) (t : Fin cfg0.N) (h0 : t.val % 16 = 0) (h1 : ¬t.val % 16 = 15) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) = mix (H (2 * (t.val / 16))).dkp (H (2 * (t.val / 16) + 1)).dkp (t.val % 16 + 1) 0 := by
  have h := valA_dk (H (2 * (t.val / 16))) (H (2 * (t.val / 16) + 1)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (by rw [coords1 t]; exact W t) ((coords1 t).trans h0)
  rw [coords1 t] at h
  refine Eq.trans ?_ h
  exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t))

theorem ptA_dv (W : Windows m c H) (t : Fin cfg0.N) (h0 : t.val % 16 = 0) (h1 : ¬t.val % 16 = 15) :
    sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) = mix (H (2 * (t.val / 16))).dvp (H (2 * (t.val / 16) + 1)).dvp (t.val % 16 + 1) 0 := by
  have h := valA_dv (H (2 * (t.val / 16))) (H (2 * (t.val / 16) + 1)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (by rw [coords1 t]; exact W t) ((coords1 t).trans h0)
  rw [coords1 t] at h
  refine Eq.trans ?_ h
  exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t))

theorem ptB_q (W : Windows m c H) (t : Fin cfg0.N) (h0 : ¬t.val % 16 = 0) (h1 : ¬t.val % 16 = 15) (xs0 xs1 : Vec Ideal S4096x256 .f32) (e0 : xs0 = mix (H (2 * (t.val / 16))).dkp (H (2 * (t.val / 16) + 1)).dkp (t.val % 16) 0) (e1 : xs1 = mix (H (2 * (t.val / 16))).dvp (H (2 * (t.val / 16) + 1)).dvp (t.val % 16) 0) :
    out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) xs0 xs1 = pb .bf16 ((H (2 * (t.val / 16))).dqp (256 * (t.val % 16 + 1))) ((H (2 * (t.val / 16) + 1)).dqp (256 * (t.val % 16 + 1))) (256 * (t.val % 16)) := by
  have h := valB_q (H (2 * (t.val / 16))) (H (2 * (t.val / 16) + 1)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (by rw [coords1 t]; exact W t) xs0 xs1 (by rw [coords1 t]; exact e0) (by rw [coords1 t]; exact e1)
  rw [coords1 t] at h
  refine Eq.trans ?_ h
  exact View.read_writes_of_cover _ _ _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) xs0 xs1)

theorem ptB_dk (W : Windows m c H) (t : Fin cfg0.N) (h0 : ¬t.val % 16 = 0) (h1 : ¬t.val % 16 = 15) (xs0 xs1 : Vec Ideal S4096x256 .f32) (e0 : xs0 = mix (H (2 * (t.val / 16))).dkp (H (2 * (t.val / 16) + 1)).dkp (t.val % 16) 0) (e1 : xs1 = mix (H (2 * (t.val / 16))).dvp (H (2 * (t.val / 16) + 1)).dvp (t.val % 16) 0) :
    sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) xs0 xs1 = mix (H (2 * (t.val / 16))).dkp (H (2 * (t.val / 16) + 1)).dkp (t.val % 16 + 1) 0 := by
  have h := valB_dk (H (2 * (t.val / 16))) (H (2 * (t.val / 16) + 1)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (by rw [coords1 t]; exact W t) xs0 xs1 (by rw [coords1 t]; exact e0) (by rw [coords1 t]; exact e1)
  rw [coords1 t] at h
  refine Eq.trans ?_ h
  rfl

theorem ptB_dv (W : Windows m c H) (t : Fin cfg0.N) (h0 : ¬t.val % 16 = 0) (h1 : ¬t.val % 16 = 15) (xs0 xs1 : Vec Ideal S4096x256 .f32) (e0 : xs0 = mix (H (2 * (t.val / 16))).dkp (H (2 * (t.val / 16) + 1)).dkp (t.val % 16) 0) (e1 : xs1 = mix (H (2 * (t.val / 16))).dvp (H (2 * (t.val / 16) + 1)).dvp (t.val % 16) 0) :
    sout0_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) xs0 xs1 = mix (H (2 * (t.val / 16))).dvp (H (2 * (t.val / 16) + 1)).dvp (t.val % 16 + 1) 0 := by
  have h := valB_dv (H (2 * (t.val / 16))) (H (2 * (t.val / 16) + 1)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (by rw [coords1 t]; exact W t) xs0 xs1 (by rw [coords1 t]; exact e0) (by rw [coords1 t]; exact e1)
  rw [coords1 t] at h
  refine Eq.trans ?_ h
  rfl

theorem ptC_q (W : Windows m c H) (t : Fin cfg0.N) (h0 : ¬t.val % 16 = 0) (h1 : t.val % 16 = 15) (xs0 xs1 : Vec Ideal S4096x256 .f32) (e0 : xs0 = mix (H (2 * (t.val / 16))).dkp (H (2 * (t.val / 16) + 1)).dkp (t.val % 16) 0) (e1 : xs1 = mix (H (2 * (t.val / 16))).dvp (H (2 * (t.val / 16) + 1)).dvp (t.val % 16) 0) :
    out0_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) xs0 xs1 = pb .bf16 ((H (2 * (t.val / 16))).dqp (256 * (t.val % 16 + 1))) ((H (2 * (t.val / 16) + 1)).dqp (256 * (t.val % 16 + 1))) (256 * (t.val % 16)) := by
  have h := valC_q (H (2 * (t.val / 16))) (H (2 * (t.val / 16) + 1)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (by rw [coords1 t]; exact W t) xs0 xs1 (by rw [coords1 t]; exact e0) (by rw [coords1 t]; exact e1)
  rw [coords1 t] at h
  refine Eq.trans ?_ h
  exact View.read_writes_of_cover _ _ _ _ _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) xs0 xs1)

theorem ptC_dk (W : Windows m c H) (t : Fin cfg0.N) (h0 : ¬t.val % 16 = 0) (h1 : t.val % 16 = 15) (xs0 xs1 : Vec Ideal S4096x256 .f32) (e0 : xs0 = mix (H (2 * (t.val / 16))).dkp (H (2 * (t.val / 16) + 1)).dkp (t.val % 16) 0) (e1 : xs1 = mix (H (2 * (t.val / 16))).dvp (H (2 * (t.val / 16) + 1)).dvp (t.val % 16) 0) :
    sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) xs0 xs1 = mix (H (2 * (t.val / 16))).dkp (H (2 * (t.val / 16) + 1)).dkp (t.val % 16 + 1) 0 := by
  have h := valC_dk (H (2 * (t.val / 16))) (H (2 * (t.val / 16) + 1)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (by rw [coords1 t]; exact W t) xs0 xs1 (by rw [coords1 t]; exact e0) (by rw [coords1 t]; exact e1)
  rw [coords1 t] at h
  refine Eq.trans ?_ h
  rfl

theorem ptC_dv (W : Windows m c H) (t : Fin cfg0.N) (h0 : ¬t.val % 16 = 0) (h1 : t.val % 16 = 15) (xs0 xs1 : Vec Ideal S4096x256 .f32) (e0 : xs0 = mix (H (2 * (t.val / 16))).dkp (H (2 * (t.val / 16) + 1)).dkp (t.val % 16) 0) (e1 : xs1 = mix (H (2 * (t.val / 16))).dvp (H (2 * (t.val / 16) + 1)).dvp (t.val % 16) 0) :
    sout0_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) xs0 xs1 = mix (H (2 * (t.val / 16))).dvp (H (2 * (t.val / 16) + 1)).dvp (t.val % 16 + 1) 0 := by
  have h := valC_dv (H (2 * (t.val / 16))) (H (2 * (t.val / 16) + 1)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (by rw [coords1 t]; exact W t) xs0 xs1 (by rw [coords1 t]; exact e0) (by rw [coords1 t]; exact e1)
  rw [coords1 t] at h
  refine Eq.trans ?_ h
  rfl

theorem ptC_o6 (W : Windows m c H) (t : Fin cfg0.N) (h0 : ¬t.val % 16 = 0) (h1 : t.val % 16 = 15) (xs0 xs1 : Vec Ideal S4096x256 .f32) (e0 : xs0 = mix (H (2 * (t.val / 16))).dkp (H (2 * (t.val / 16) + 1)).dkp (t.val % 16) 0) (e1 : xs1 = mix (H (2 * (t.val / 16))).dvp (H (2 * (t.val / 16) + 1)).dvp (t.val % 16) 0) :
    out0_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) xs0 xs1 = pv .bf16 ((H (2 * (t.val / 16))).dkp (256 * (t.val % 16 + 1))) ((H (2 * (t.val / 16) + 1)).dkp (256 * (t.val % 16 + 1))) := by
  have h := valC_o6 (H (2 * (t.val / 16))) (H (2 * (t.val / 16) + 1)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (by rw [coords1 t]; exact W t) xs0 xs1 (by rw [coords1 t]; exact e0) (by rw [coords1 t]; exact e1)
  rw [coords1 t] at h
  refine Eq.trans ?_ h
  exact View.read_writes_of_cover _ _ _ _ _ (cover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) xs0 xs1)

theorem ptC_o7 (W : Windows m c H) (t : Fin cfg0.N) (h0 : ¬t.val % 16 = 0) (h1 : t.val % 16 = 15) (xs0 xs1 : Vec Ideal S4096x256 .f32) (e0 : xs0 = mix (H (2 * (t.val / 16))).dkp (H (2 * (t.val / 16) + 1)).dkp (t.val % 16) 0) (e1 : xs1 = mix (H (2 * (t.val / 16))).dvp (H (2 * (t.val / 16) + 1)).dvp (t.val % 16) 0) :
    out0_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) xs0 xs1 = pv .bf16 ((H (2 * (t.val / 16))).dvp (256 * (t.val % 16 + 1))) ((H (2 * (t.val / 16) + 1)).dvp (256 * (t.val % 16 + 1))) := by
  have h := valC_o7 (H (2 * (t.val / 16))) (H (2 * (t.val / 16) + 1)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (by rw [coords1 t]; exact W t) xs0 xs1 (by rw [coords1 t]; exact e0) (by rw [coords1 t]; exact e1)
  rw [coords1 t] at h
  refine Eq.trans ?_ h
  exact View.read_writes_of_cover _ _ _ _ _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) xs0 xs1)

/-- What the points leave: the gradient of the queries' block, the two running sums, and at a pair's last point the
    two finished gradients. -/
structure Left (n : ℕ) (o : Vec Ideal S256x256 .bf16 × Vec Ideal S4096x256 .bf16 × Vec Ideal S4096x256 .bf16 × Vec Ideal S4096x256 .f32 × Vec Ideal S4096x256 .f32) : Prop where
  q : o.1 = pb .bf16 ((H (2 * (n / 16))).dqp (256 * (n % 16 + 1))) ((H (2 * (n / 16) + 1)).dqp (256 * (n % 16 + 1))) (256 * (n % 16))
  k : o.2.2.2.1 = mix (H (2 * (n / 16))).dkp (H (2 * (n / 16) + 1)).dkp (n % 16 + 1) 0
  v : o.2.2.2.2 = mix (H (2 * (n / 16))).dvp (H (2 * (n / 16) + 1)).dvp (n % 16 + 1) 0
  fk : n % 16 = 15 → o.2.1 = pv .bf16 ((H (2 * (n / 16))).dkp 4096) ((H (2 * (n / 16) + 1)).dkp 4096)
  fv : n % 16 = 15 → o.2.2.1 = pv .bf16 ((H (2 * (n / 16))).dvp 4096) ((H (2 * (n / 16) + 1)).dvp 4096)

theorem Left.of {n : ℕ} {o : Vec Ideal S256x256 .bf16 × Vec Ideal S4096x256 .bf16 × Vec Ideal S4096x256 .bf16 × Vec Ideal S4096x256 .f32 × Vec Ideal S4096x256 .f32}
    {a : Vec Ideal S256x256 .bf16} {b b' : Vec Ideal S4096x256 .bf16} {d d' : Vec Ideal S4096x256 .f32} (e : o = (a, b, b', d, d'))
    (ha : a = pb .bf16 ((H (2 * (n / 16))).dqp (256 * (n % 16 + 1))) ((H (2 * (n / 16) + 1)).dqp (256 * (n % 16 + 1))) (256 * (n % 16)))
    (hd : d = mix (H (2 * (n / 16))).dkp (H (2 * (n / 16) + 1)).dkp (n % 16 + 1) 0)
    (hd' : d' = mix (H (2 * (n / 16))).dvp (H (2 * (n / 16) + 1)).dvp (n % 16 + 1) 0)
    (hb : n % 16 = 15 → b = pv .bf16 ((H (2 * (n / 16))).dkp 4096) ((H (2 * (n / 16) + 1)).dkp 4096))
    (hb' : n % 16 = 15 → b' = pv .bf16 ((H (2 * (n / 16))).dvp 4096) ((H (2 * (n / 16) + 1)).dvp 4096)) : Left H n o := by
  subst e
  exact ⟨ha, hd, hd', hb, hb'⟩

theorem left_A (W : Windows m c H) (t : Fin cfg0.N) (h0 : t.val % 16 = 0) (h1 : ¬t.val % 16 = 15) : Left H t.val (outsAt0 m c t.val t.isLt) := by
  have e := outsAt0_A m c t h0 h1
  have a1 := ptA_q m c H W t h0 h1
  have a2 := ptA_dk m c H W t h0 h1
  have a3 := ptA_dv m c H W t h0 h1
  exact Left.of H e a1 a2 a3 (fun h => absurd h h1) (fun h => absurd h h1)

theorem left_B (W : Windows m c H) (t : Fin cfg0.N) (h0 : ¬t.val % 16 = 0) (h1 : ¬t.val % 16 = 15)
    (L : Left H (t.val - 1) (outsAt0 m c (t.val - 1) (lt_of_le_of_lt (Nat.sub_le _ _) t.isLt))) : Left H t.val (outsAt0 m c t.val t.isLt) := by
  have ek := L.k
  have ev := L.v
  rw [show (t.val - 1) / 16 = t.val / 16 by omega, show (t.val - 1) % 16 + 1 = t.val % 16 by omega] at ek ev
  have e := outsAt0_B m c t h0 h1
  have a1 := ptB_q m c H W t h0 h1 (outsAt0 m c (t.val - 1) (lt_of_le_of_lt (Nat.sub_le _ _) t.isLt)).2.2.2.1 (outsAt0 m c (t.val - 1) (lt_of_le_of_lt (Nat.sub_le _ _) t.isLt)).2.2.2.2 ek ev
  have a2 := ptB_dk m c H W t h0 h1 (outsAt0 m c (t.val - 1) (lt_of_le_of_lt (Nat.sub_le _ _) t.isLt)).2.2.2.1 (outsAt0 m c (t.val - 1) (lt_of_le_of_lt (Nat.sub_le _ _) t.isLt)).2.2.2.2 ek ev
  have a3 := ptB_dv m c H W t h0 h1 (outsAt0 m c (t.val - 1) (lt_of_le_of_lt (Nat.sub_le _ _) t.isLt)).2.2.2.1 (outsAt0 m c (t.val - 1) (lt_of_le_of_lt (Nat.sub_le _ _) t.isLt)).2.2.2.2 ek ev
  exact Left.of H e a1 a2 a3 (fun h => absurd h h1) (fun h => absurd h h1)

theorem left_C (W : Windows m c H) (t : Fin cfg0.N) (h0 : ¬t.val % 16 = 0) (h1 : t.val % 16 = 15)
    (L : Left H (t.val - 1) (outsAt0 m c (t.val - 1) (lt_of_le_of_lt (Nat.sub_le _ _) t.isLt))) : Left H t.val (outsAt0 m c t.val t.isLt) := by
  have ek := L.k
  have ev := L.v
  rw [show (t.val - 1) / 16 = t.val / 16 by omega, show (t.val - 1) % 16 + 1 = t.val % 16 by omega] at ek ev
  have e := outsAt0_C m c t h0 h1
  have a1 := ptC_q m c H W t h0 h1 (outsAt0 m c (t.val - 1) (lt_of_le_of_lt (Nat.sub_le _ _) t.isLt)).2.2.2.1 (outsAt0 m c (t.val - 1) (lt_of_le_of_lt (Nat.sub_le _ _) t.isLt)).2.2.2.2 ek ev
  have a2 := ptC_dk m c H W t h0 h1 (outsAt0 m c (t.val - 1) (lt_of_le_of_lt (Nat.sub_le _ _) t.isLt)).2.2.2.1 (outsAt0 m c (t.val - 1) (lt_of_le_of_lt (Nat.sub_le _ _) t.isLt)).2.2.2.2 ek ev
  have a3 := ptC_dv m c H W t h0 h1 (outsAt0 m c (t.val - 1) (lt_of_le_of_lt (Nat.sub_le _ _) t.isLt)).2.2.2.1 (outsAt0 m c (t.val - 1) (lt_of_le_of_lt (Nat.sub_le _ _) t.isLt)).2.2.2.2 ek ev
  have a4 := ptC_o6 m c H W t h0 h1 (outsAt0 m c (t.val - 1) (lt_of_le_of_lt (Nat.sub_le _ _) t.isLt)).2.2.2.1 (outsAt0 m c (t.val - 1) (lt_of_le_of_lt (Nat.sub_le _ _) t.isLt)).2.2.2.2 ek ev
  have a5 := ptC_o7 m c H W t h0 h1 (outsAt0 m c (t.val - 1) (lt_of_le_of_lt (Nat.sub_le _ _) t.isLt)).2.2.2.1 (outsAt0 m c (t.val - 1) (lt_of_le_of_lt (Nat.sub_le _ _) t.isLt)).2.2.2.2 ek ev
  rw [show 256 * (t.val % 16 + 1) = 4096 by omega] at a4 a5
  exact Left.of H e a1 a2 a3 (fun _ => a4) (fun _ => a5)

theorem left_at (W : Windows m c H) (n : ℕ) : ∀ hn : n < cfg0.N, Left H n (outsAt0 m c n hn) := by
  induction n using Nat.strong_induction_on with
  | _ n ih =>
    intro hn
    by_cases h0 : n % 16 = 0
    · exact left_A m c H W ⟨n, hn⟩ h0 (by show ¬n % 16 = 15; omega)
    · have L := ih (n - 1) (by omega) (lt_of_le_of_lt (Nat.sub_le _ _) hn)
      by_cases h1 : n % 16 = 15
      · exact left_C m c H W ⟨n, hn⟩ h0 h1 L
      · exact left_B m c H W ⟨n, hn⟩ h0 h1 L

/-- A gradient array from its heads' gradients. -/
def arr (f : ℕ → ℕ → ℕ → ℝ) : S4096x1024.Idx → EReal := fun i => ((f ((i 1).val / 128) (i 0).val ((i 1).val % 128) : ℝ) : EReal)

theorem pf_arr (f0 f1 : ℕ → ℕ → ℝ) (g : ℕ → ℕ → ℕ → ℝ) (r cc q : ℕ) (hc : cc < 256) (h0 : f0 = g (2 * q)) (h1 : f1 = g (2 * q + 1)) :
    pf f0 f1 r cc = g ((256 * q + cc) / 128) r ((256 * q + cc) % 128) := by
  subst h0 h1
  by_cases h : cc < 128
  · rw [pf_lt _ _ _ _ h, show (256 * q + cc) / 128 = 2 * q by omega, show (256 * q + cc) % 128 = cc by omega]
  · obtain ⟨d, rfl⟩ : ∃ d, cc = 128 + d := ⟨cc - 128, by omega⟩
    rw [show (128 + d) = 128 + d from rfl, pf_ge, show (256 * q + (128 + d)) / 128 = 2 * q + 1 by omega, show (256 * q + (128 + d)) % 128 = d by omega]

theorem G5_val (W : Windows m c H) : G5 m c = arr fun h => (H h).dqp 4096 := by
  funext i
  have hi0 : (i 0).val < 4096 := (i 0).isLt
  have hi1 : (i 1).val < 1024 := (i 1).isLt
  unfold G5
  have hp : Value.pt5Of i = (i 0).val / 256 + 16 * ((i 1).val / 256) := by
    show 1 * ((i 0).val / 256 - 0) + 16 * ((i 1).val / 256 - 0) = _; omega
  have hN : Value.pt5Of i < cfg0.N := by rw [hp]; exact lt_of_lt_of_eq (by omega) N_0.symm
  rw [dif_pos hN, ← outsAt0_sweep m c _ hN, (left_at m c H W _ hN).q]
  unfold pb arr
  have e1 : Value.pt5Of i / 16 = (i 1).val / 256 := by rw [hp]; omega
  have e2 : Value.pt5Of i % 16 = (i 0).val / 256 := by rw [hp]; omega
  rw [e1, e2]
  show ((pf _ _ (256 * ((i 0).val / 256) + (i 0).val % 256) ((i 1).val % 256) : ℝ) : EReal) = _
  rw [pf_arr _ _ (fun h => (H h).dqp (256 * ((i 0).val / 256 + 1))) _ _ ((i 1).val / 256) (Nat.mod_lt _ (by decide)) rfl rfl]
  rw [show 256 * ((i 1).val / 256) + (i 1).val % 256 = (i 1).val by omega, show 256 * ((i 0).val / 256) + (i 0).val % 256 = (i 0).val by omega]
  exact congrArg _ (Hd.dqp_stop (m := 256 * ((i 0).val / 256 + 1)) (M := 4096) _ (by omega) (by omega)).symm

theorem G6_val (W : Windows m c H) : G6 m c = arr fun h => (H h).dkp 4096 := by
  funext i
  have hi0 : (i 0).val < 4096 := (i 0).isLt
  have hi1 : (i 1).val < 1024 := (i 1).isLt
  unfold G6
  have hp : Value.pt6Of i = 16 * ((i 1).val / 256) + 15 := by
    show 16 * (4 * ((i 0).val / 4096 - 0) + 1 * ((i 1).val / 256 - 0)) + 15 = _; omega
  have hN : Value.pt6Of i < cfg0.N := by rw [hp]; exact lt_of_lt_of_eq (by omega) N_0.symm
  rw [dif_pos hN, ← outsAt0_sweep m c _ hN, (left_at m c H W _ hN).fk (by rw [hp]; omega)]
  unfold pv arr
  have e1 : Value.pt6Of i / 16 = (i 1).val / 256 := by rw [hp]; omega
  rw [e1]
  show ((pf _ _ ((i 0).val % 4096) ((i 1).val % 256) : ℝ) : EReal) = _
  rw [pf_arr _ _ (fun h => (H h).dkp 4096) _ _ ((i 1).val / 256) (Nat.mod_lt _ (by decide)) rfl rfl]
  rw [show 256 * ((i 1).val / 256) + (i 1).val % 256 = (i 1).val by omega, show (i 0).val % 4096 = (i 0).val by omega]

theorem G7_val (W : Windows m c H) : G7 m c = arr fun h => (H h).dvp 4096 := by
  funext i
  have hi0 : (i 0).val < 4096 := (i 0).isLt
  have hi1 : (i 1).val < 1024 := (i 1).isLt
  unfold G7
  have hp : Value.pt7Of i = 16 * ((i 1).val / 256) + 15 := by
    show 16 * (4 * ((i 0).val / 4096 - 0) + 1 * ((i 1).val / 256 - 0)) + 15 = _; omega
  have hN : Value.pt7Of i < cfg0.N := by rw [hp]; exact lt_of_lt_of_eq (by omega) N_0.symm
  rw [dif_pos hN, ← outsAt0_sweep m c _ hN, (left_at m c H W _ hN).fv (by rw [hp]; omega)]
  unfold pv arr
  have e1 : Value.pt7Of i / 16 = (i 1).val / 256 := by rw [hp]; omega
  rw [e1]
  show ((pf _ _ ((i 0).val % 4096) ((i 1).val % 256) : ℝ) : EReal) = _
  rw [pf_arr _ _ (fun h => (H h).dvp 4096) _ _ ((i 1).val / 256) (Nat.mod_lt _ (by decide)) rfl rfl]
  rw [show 256 * ((i 1).val / 256) + (i 1).val % 256 = (i 1).val by omega, show (i 0).val % 4096 = (i 0).val by omega]

end

end Cert.KernelIdeal.Hand
end
-- ==== Proof.Heads.lean ====
module

public import proofs.«01_k».proof.Proof.Fold
public import Idealize.ShloMosaic.Lib.Claim

@[expose] public section

set_option maxRecDepth 16384
noncomputable section
open Idealize.ShloMosaic Idealize.ShloMosaic.TcCoe Idealize.SL.Sem
namespace Cert.KernelIdeal.Hand
open Cert.KernelIdeal Cert.KernelIdeal.Gen

/-! # The heads inside the two argument arrays, and the row totals the host hands the kernel -/

/-- An entry of the first argument as a real number. -/
def rdA (A : FVec Ideal S4096x5120 .bf16) (r c : ℕ) : ℝ :=
  if h : r < 4096 ∧ c < 5120 then EReal.toReal (A (ix2 (⟨r, h.1⟩ : Fin 4096) (⟨c, h.2⟩ : Fin 5120))) else 0
/-- An entry of the second argument as a real number. -/
def rdB (B : FVec Ideal S4096x2048 .bf16) (r c : ℕ) : ℝ :=
  if h : r < 4096 ∧ c < 2048 then EReal.toReal (B (ix2 (⟨r, h.1⟩ : Fin 4096) (⟨c, h.2⟩ : Fin 2048))) else 0

/-- Every entry of the columns read is a number. -/
def FinA (A : FVec Ideal S4096x5120 .bf16) : Prop := ∀ i, (i 1).val < 3072 → (A i : EReal) ≠ ⊤ ∧ (A i : EReal) ≠ ⊥
def FinB (B : FVec Ideal S4096x2048 .bf16) : Prop := ∀ i, (i 1).val < 1024 → (B i : EReal) ≠ ⊤ ∧ (B i : EReal) ≠ ⊥

theorem rdA_at {A : FVec Ideal S4096x5120 .bf16} (hA : FinA A) (i : S4096x5120.Idx) (r c : ℕ) (hr : (i 0).val = r) (hc : (i 1).val = c)
    (hlt : c < 3072) : (A i : EReal) = ((rdA A r c : ℝ) : EReal) := by
  subst hr hc
  have h : (i 0).val < 4096 ∧ (i 1).val < 5120 := ⟨(i 0).isLt, (i 1).isLt⟩
  unfold rdA
  rw [dif_pos h]
  have e : (ix2 (⟨(i 0).val, h.1⟩ : Fin 4096) (⟨(i 1).val, h.2⟩ : Fin 5120) : S4096x5120.Idx) = i := by
    funext a; match a with
    | ⟨0, _⟩ => rfl
    | ⟨1, _⟩ => rfl
  rw [e]
  exact (EReal.coe_toReal (hA i hlt).1 (hA i hlt).2).symm

theorem rdB_at {B : FVec Ideal S4096x2048 .bf16} (hB : FinB B) (i : S4096x2048.Idx) (r c : ℕ) (hr : (i 0).val = r) (hc : (i 1).val = c)
    (hlt : c < 1024) : (B i : EReal) = ((rdB B r c : ℝ) : EReal) := by
  subst hr hc
  have h : (i 0).val < 4096 ∧ (i 1).val < 2048 := ⟨(i 0).isLt, (i 1).isLt⟩
  unfold rdB
  rw [dif_pos h]
  have e : (ix2 (⟨(i 0).val, h.1⟩ : Fin 4096) (⟨(i 1).val, h.2⟩ : Fin 2048) : S4096x2048.Idx) = i := by
    funext a; match a with
    | ⟨0, _⟩ => rfl
    | ⟨1, _⟩ => rfl
  rw [e]
  exact (EReal.coe_toReal (hB i hlt).1 (hB i hlt).2).symm

/-- Head `h` of the two arrays. -/
def hd (A : FVec Ideal S4096x5120 .bf16) (B : FVec Ideal S4096x2048 .bf16) (h : ℕ) : Hd where
  Q := fun r d => rdA A r (128 * h + d)
  K := fun r d => rdA A r (1024 + 128 * h + d)
  V := fun r d => rdA A r (2048 + 128 * h + d)
  D := fun r d => rdB B r (128 * h + d)
  s := sc

/-! ## The totals -/

/-- Softplus as the host computes it. -/
def hSP (x : FVec Ideal S8x4096x4096 .f32) : FVec Ideal S8x4096x4096 .f32 :=
  select
    (cmpf .une (subf x (broadcastInDim S8x4096x4096 ![] bcast_S_S8x4096x4096 (constant S_ .f32 0#32)))
      (subf x (broadcastInDim S8x4096x4096 ![] bcast_S_S8x4096x4096 (constant S_ .f32 0#32))))
    (addf x (broadcastInDim S8x4096x4096 ![] bcast_S_S8x4096x4096 (constant S_ .f32 0#32)))
    (addf (maximumf x (broadcastInDim S8x4096x4096 ![] bcast_S_S8x4096x4096 (constant S_ .f32 0#32)))
      (Host.log1p (Host.exp (Host.negf (Host.absf
        (subf x (broadcastInDim S8x4096x4096 ![] bcast_S_S8x4096x4096 (constant S_ .f32 0#32))))))))

/-- The scaled products of the queries with the keys. -/
def hZ (A : FVec Ideal S4096x5120 .bf16) : FVec Ideal S8x4096x4096 .f32 :=
  mulf
    (Host.dotGeneral (φ₁ := .f32) (φ₂ := .f32) dot_S4096x8x128_S4096x8x128_S8x4096x4096_2_2_0_0_1_1 none
      (shapeCast S4096x8x128 (extf .f32 (extractStridedSlice S4096x1024 ![0, 0] A slices_S4096x5120_S4096x1024_0_0) bitsLt_bf16_f32)
        shapeCasts_S4096x1024_S4096x8x128)
      (shapeCast S4096x8x128 (extf .f32 (extractStridedSlice S4096x1024 ![0, 1024] A slices_S4096x5120_S4096x1024_0_1024) bitsLt_bf16_f32)
        shapeCasts_S4096x1024_S4096x8x128))
    (broadcastInDim S8x4096x4096 ![] bcast_S_S8x4096x4096 (constant S_ .f32 1035273459#32))

/-- Which columns come before a row. -/
def hM : IVec S4096x4096 1 :=
  cmpi .slt (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The masked logarithms. -/
def hLS (z : FVec Ideal S8x4096x4096 .f32) : FVec Ideal S8x4096x4096 .f32 :=
  select (broadcastInDim S8x4096x4096 ![1, 2] bcast_S4096x4096_S8x4096x4096_1_2 hM)
    (Host.negf (hSP (Host.negf (Host.negf z))))
    (broadcastInDim S8x4096x4096 ![] bcast_S_S8x4096x4096 (constant S_ .f32 0#32))

def hTot (A : FVec Ideal S4096x5120 .bf16) : FVec Ideal S8x4096x128 .f32 :=
  broadcastInDim S8x4096x128 ![0, 1, 2] bcast_S8x4096x1_S8x4096x128_0_1_2
    (broadcastInDim S8x4096x1 ![0, 1] bcast_S8x4096_S8x4096x1_0_1
      (Host.reduceAdd (hLS (hZ A)) (constant S_ .f32 0#32) reducesTo_S8x4096x4096_S8x4096_d2 h_S_))

theorem V_tot (m : (ℓ : Loc nD τ sig) → Buf (Elt Ideal) ℓ) (c : Dev nD) :
    V m c main_v21 = hTot (m ((c : Thread nD τ).loc main_arg0)) := by
  unfold V
  simp only [hostOps0, hostOps0_1, hostOps0_2, hostOps0_3, hostOps0_4, List.flatten_cons, List.flatten_nil, List.append_nil, List.cons_append, List.nil_append]
  simp only [StableHlo.after_cons, StableHlo.after_nil]
  try after_results_simp
  after_results_loop
  rfl

theorem toInt_mid {a : ℕ} (ha : a < 4096) : (BitVec.ofNat 32 a).toInt = (a : ℤ) := by
  have : (BitVec.ofNat 32 a).toNat = a := by rw [BitVec.toNat_ofNat]; exact Nat.mod_eq_of_lt (by omega)
  rw [BitVec.toInt_eq_toNat_of_lt (by rw [this]; omega), this]

/-- Minus softplus, at a real number. -/
theorem sp_coe (x : ℝ) :
    -(max (x : EReal) 0 + Ideal.log1p (Ideal.exp (-FloatOps.absf (F := Ideal) (φ := .f32) (x : EReal)))) = ((ln x : ℝ) : EReal) := by
  have ha : FloatOps.absf (F := Ideal) (φ := .f32) (x : EReal) = ((|x| : ℝ) : EReal) := by
    show max (x : EReal) (-x) = _
    rw [← EReal.coe_neg, ← EReal.coe_strictMono.monotone.map_max]; rfl
  show -(max (x : EReal) 0 + Ideal.log (1 + Ideal.exp (-FloatOps.absf (F := Ideal) (φ := .f32) (x : EReal)))) = ((ln x : ℝ) : EReal)
  rw [ha, ← EReal.coe_zero, ← EReal.coe_neg, Ideal.exp_coe, ← EReal.coe_one, ← EReal.coe_add,
    Ideal.log_coe, if_neg (not_le.2 (one_add_exp_pos _)), ← EReal.coe_strictMono.monotone.map_max, ← EReal.coe_add, ← EReal.coe_neg]
  congr 1
  unfold ln
  have : min (-x) 0 = -max x 0 := by rw [← neg_zero, min_neg_neg, neg_zero]
  rw [this]; ring

theorem hZ_at {A : FVec Ideal S4096x5120 .bf16} (hA : FinA A) (B : FVec Ideal S4096x2048 .bf16) (i : S8x4096x4096.Idx) :
    hZ A i = (((hd A B (i 0).val).zz (i 1).val (i 2).val : ℝ) : EReal) := by
  pointwise [hZ]
  refine Eq.trans (b := (∑ x : Fin 128, (((hd A B (i 0).val).Q (i 1).val x.val * (hd A B (i 0).val).K (i 2).val x.val : ℝ) : EReal)) * ((sc : ℝ) : EReal))
    (congrArg₂ (· * ·) (Finset.sum_congr rfl fun (x : Fin 128) _ => ?_) sc_coe) ?_
  · rw [EReal.coe_mul]
    refine congrArg₂ (· * ·) ?_ ?_
    · exact rdA_at hA _ _ _ rfl (by show (i 0).val * 128 + x.val = 128 * (i 0).val + x.val; omega) (by have := x.isLt; have h0 : (i 0).val < 8 := (i 0).isLt; omega)
    · exact rdA_at hA _ _ _ rfl (by show 1024 + ((i 0).val * 128 + x.val) = 1024 + 128 * (i 0).val + x.val; omega) (by have := x.isLt; have h0 : (i 0).val < 8 := (i 0).isLt; omega)
  · rw [← coe_sum, ← EReal.coe_mul]; rfl

theorem hLS_at {z : FVec Ideal S8x4096x4096 .f32} (i : S8x4096x4096.Idx) (x : ℝ) (hx : z i = (x : EReal)) :
    hLS z i = (((if (i 2).val < (i 1).val then ln x else 0 : ℝ)) : EReal) := by
  have h1 : (i 1).val < 4096 := (i 1).isLt
  have h2 : (i 2).val < 4096 := (i 2).isLt
  pointwise [hLS, hSP, hM]
  rw [hx, neg_neg, if_neg (fun h => h rfl)]
  rw [sp_coe]
  have hs : IntOp.cmpi CmpIPredicate.slt (BitVec.ofNat 32 (i 2).val) (BitVec.ofNat 32 (i 1).val) = BitVec.ofBool (decide ((i 2).val < (i 1).val)) := by
    show BitVec.ofBool (BitVec.slt _ _) = _
    congr 1
    rw [BitVec.slt_eq_decide, toInt_mid h2, toInt_mid h1]
    simp
  rw [hs]
  by_cases h : (i 2).val < (i 1).val
  · simp [h, Scalar.select]
  · simp [h, Scalar.select]

theorem hTot_at {A : FVec Ideal S4096x5120 .bf16} (hA : FinA A) (B : FVec Ideal S4096x2048 .bf16) (i : S8x4096x128.Idx) :
    hTot A i = (((hd A B (i 0).val).T (i 1).val : ℝ) : EReal) := by
  pointwise [hTot]
  unfold Hd.T Hd.P
  rw [Finset.sum_range, coe_sum]
  refine Finset.sum_congr rfl fun x _ => ?_
  exact hLS_at _ _ (hZ_at hA B _)

/-! ## The windows -/

theorem idx0 : ∀ t : Fin cfg0.N, win0_0.index t = ![t.val % 16, t.val / 16] := (by decide +kernel : ∀ t : Fin grid0.N, _)
theorem idx1 : ∀ t : Fin cfg0.N, win0_1.index t = ![0, 4 + t.val / 16] := (by decide +kernel : ∀ t : Fin grid0.N, _)
theorem idx2 : ∀ t : Fin cfg0.N, win0_2.index t = ![0, 8 + t.val / 16] := (by decide +kernel : ∀ t : Fin grid0.N, _)
theorem idx3 : ∀ t : Fin cfg0.N, win0_3.index t = ![t.val % 16, t.val / 16] := (by decide +kernel : ∀ t : Fin grid0.N, _)
theorem idx4 : ∀ t : Fin cfg0.N, win0_4.index t = ![t.val / 16, t.val % 16, 0] := (by decide +kernel : ∀ t : Fin grid0.N, _)

theorem pf_eq (f0 f1 f : ℕ → ℕ → ℝ) (r cc : ℕ) (h0 : ∀ d, f0 r d = f r d) (h1 : ∀ d, f1 r d = f r (128 + d)) : pf f0 f1 r cc = f r cc := by
  by_cases h : cc < 128
  · rw [pf_lt _ _ _ _ h, h0]
  · obtain ⟨d, rfl⟩ : ∃ d, cc = 128 + d := ⟨cc - 128, by omega⟩
    rw [pf_ge, h1]

section
variable (m : (ℓ : Loc nD τ sig) → Buf (Elt Ideal) ℓ) (c : Dev nD) {A : FVec Ideal S4096x5120 .bf16} {B : FVec Ideal S4096x2048 .bf16}
  (eA : m ((c : Thread nD τ).loc main_arg0) = A) (eB : m ((c : Thread nD τ).loc main_arg1) = B) (hA : FinA A) (hB : FinB B)
include eA hA

theorem win_q (t : Fin cfg0.N) : iblk m c 0 t = pb .bf16 (hd A B (2 * (t.val / 16))).Q (hd A B (2 * (t.val / 16) + 1)).Q (256 * (t.val % 16)) := by
  funext y
  have e : iblk m c 0 t y = A (((cfg0.win 0).blk t).view.emb y) := by
    rw [← eA, ← V_main_arg0 m c]; rfl
  have ht : t.val < 64 := t.isLt
  have hy : (y 1).val < 256 := (y 1).isLt
  rw [e]
  unfold pb
  rw [pf_eq _ _ (fun r cc => rdA A r (256 * (t.val / 16) + cc))]
  · refine rdA_at hA _ _ _ ?_ ?_ (by omega)
    · blk_simp [idx0 t]; omega
    · blk_simp [idx0 t]; omega
  · intro d; show rdA A _ _ = rdA A _ _; congr 1; omega
  · intro d; show rdA A _ _ = rdA A _ _; congr 1; omega

theorem win_k (t : Fin cfg0.N) : iblk m c 1 t = pv .bf16 (hd A B (2 * (t.val / 16))).K (hd A B (2 * (t.val / 16) + 1)).K := by
  funext y
  have e : iblk m c 1 t y = A (((cfg0.win 1).blk t).view.emb y) := by
    rw [← eA, ← V_main_arg0 m c]; rfl
  have ht : t.val < 64 := t.isLt
  have hy : (y 1).val < 256 := (y 1).isLt
  rw [e]
  unfold pv
  rw [pf_eq _ _ (fun r cc => rdA A r (1024 + 256 * (t.val / 16) + cc))]
  · refine rdA_at hA _ _ _ ?_ ?_ (by omega)
    · blk_simp [idx1 t]
    · blk_simp [idx1 t]; omega
  · intro d; show rdA A _ _ = rdA A _ _; congr 1; omega
  · intro d; show rdA A _ _ = rdA A _ _; congr 1; omega

theorem win_v (t : Fin cfg0.N) : iblk m c 2 t = pv .bf16 (hd A B (2 * (t.val / 16))).V (hd A B (2 * (t.val / 16) + 1)).V := by
  funext y
  have e : iblk m c 2 t y = A (((cfg0.win 2).blk t).view.emb y) := by
    rw [← eA, ← V_main_arg0 m c]; rfl
  have ht : t.val < 64 := t.isLt
  have hy : (y 1).val < 256 := (y 1).isLt
  rw [e]
  unfold pv
  rw [pf_eq _ _ (fun r cc => rdA A r (2048 + 256 * (t.val / 16) + cc))]
  · refine rdA_at hA _ _ _ ?_ ?_ (by omega)
    · blk_simp [idx2 t]
    · blk_simp [idx2 t]; omega
  · intro d; show rdA A _ _ = rdA A _ _; congr 1; omega
  · intro d; show rdA A _ _ = rdA A _ _; congr 1; omega

omit eA hA in
include eB hB in
theorem win_d (t : Fin cfg0.N) : iblk m c 3 t = pb .bf16 (hd A B (2 * (t.val / 16))).D (hd A B (2 * (t.val / 16) + 1)).D (256 * (t.val % 16)) := by
  funext y
  have e : iblk m c 3 t y = B (((cfg0.win 3).blk t).view.emb y) := by
    rw [← eB, ← V_main_arg1 m c]; rfl
  have ht : t.val < 64 := t.isLt
  have hy : (y 1).val < 256 := (y 1).isLt
  rw [e]
  unfold pb
  rw [pf_eq _ _ (fun r cc => rdB B r (256 * (t.val / 16) + cc))]
  · refine rdB_at hB _ _ _ ?_ ?_ (by omega)
    · blk_simp [idx3 t]; omega
    · blk_simp [idx3 t]; omega
  · intro d; show rdB B _ _ = rdB B _ _; congr 1; omega
  · intro d; show rdB B _ _ = rdB B _ _; congr 1; omega

theorem win_t (t : Fin cfg0.N) : iblk m c 4 t = tv (hd A B (2 * (t.val / 16))).T (hd A B (2 * (t.val / 16) + 1)).T (256 * (t.val % 16)) := by
  funext y
  have e : iblk m c 4 t y = hTot A (((cfg0.win 4).blk t).view.emb y) := by
    rw [← eA, ← V_tot m c]; rfl
  rw [e, hTot_at hA B]
  unfold tv
  have h0 : (y 0).val < 2 := (y 0).isLt
  have e0 : (((cfg0.win 4).blk t).view.emb y 0).val = 2 * (t.val / 16) + (y 0).val := by blk_simp [idx4 t]; omega
  have e1 : (((cfg0.win 4).blk t).view.emb y 1).val = 256 * (t.val % 16) + (y 1).val := by blk_simp [idx4 t]; omega
  rw [e0, e1]
  by_cases h : (y 0).val = 0
  · rw [if_pos h, h, Nat.add_zero]
  · rw [if_neg h, show (y 0).val = 1 by omega]

include eB hB in
theorem windows : Windows m c (hd A B) := fun t =>
  ⟨rfl, rfl, win_q m c eA hA t, win_k m c eA hA t, win_v m c eA hA t, win_d m c eB hB t, win_t m c eA hA t⟩

end

end Cert.KernelIdeal.Hand
end
-- ==== Proof.Window.lean ====
module

public import Idealize.ShloMosaic.Lib.ValueIdx
public import Idealize.ShloMosaic.PureOps.Ideal.Laws

@[expose] public section

set_option maxRecDepth 16384
noncomputable section
open Idealize.ShloMosaic
namespace Cert.Hand

/-! # Running sums along the last axis, as the reference computes them: a window of the whole axis, padded on one side -/

theorem foldl_add_fin {N : ℕ} (v : EReal) (g : Fin N → EReal) : (List.finRange N).foldl (fun r n => r + g n) v = v + ∑ n : Fin N, g n := by
  have : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [this]
  congr 1

theorem window_pos (N : ℕ) (n : Fin (⟨3, ![1, 1, N]⟩ : Shape).numel) :
    ((⟨3, ![1, 1, N]⟩ : Shape).rowMajor.symm n 0).val = 0 ∧ ((⟨3, ![1, 1, N]⟩ : Shape).rowMajor.symm n 1).val = 0
      ∧ ((⟨3, ![1, 1, N]⟩ : Shape).rowMajor.symm n 2).val = n.val := by
  have h := Shape.rowMajor_val_three ((⟨3, ![1, 1, N]⟩ : Shape).rowMajor.symm n)
  rw [Equiv.apply_symm_apply] at h
  have h0 : ((⟨3, ![1, 1, N]⟩ : Shape).rowMajor.symm n 0).val < 1 := ((⟨3, ![1, 1, N]⟩ : Shape).rowMajor.symm n 0).isLt
  have h1 : ((⟨3, ![1, 1, N]⟩ : Shape).rowMajor.symm n 1).val < 1 := ((⟨3, ![1, 1, N]⟩ : Shape).rowMajor.symm n 1).isLt
  have e0 : ((⟨3, ![1, 1, N]⟩ : Shape).rowMajor.symm n 0).val = 0 := by omega
  have e1 : ((⟨3, ![1, 1, N]⟩ : Shape).rowMajor.symm n 1).val = 0 := by omega
  refine ⟨e0, e1, ?_⟩
  rw [e0, e1] at h
  rw [h]; simp

theorem numel_window (N : ℕ) : (⟨3, ![1, 1, N]⟩ : Shape).numel = N := by
  rw [Shape.numel]; simp [Fin.prod_univ_succ]

/-- For any entries. -/
theorem window_sum_ext {A B N : ℕ} (L R : ℕ) (x : FVec Ideal ⟨3, ![A, B, N]⟩ .f32) (init : FVec Ideal ⟨0, ![]⟩ .f32) (h0 : ∀ j, (init j : EReal) = 0)
    (h : (⟨3, ![A, B, N]⟩ : Shape).ReduceWindows ![1, 1, N] ![1, 1, 1] ![0, 0, L] ![0, 0, R] ⟨3, ![A, B, N]⟩) (hu : 0 < (⟨0, ![]⟩ : Shape).numel)
    (i : (⟨3, ![A, B, N]⟩ : Shape).Idx)
    (f : ℕ → EReal) (hf : ∀ j : (⟨3, ![A, B, N]⟩ : Shape).Idx, (j 0).val = (i 0).val → (j 1).val = (i 1).val → (x j : EReal) = f (j 2).val) :
    (Host.reduceWindowAdd ![1, 1, N] ![1, 1, 1] ![0, 0, L] ![0, 0, R] x init h hu i : EReal)
      = ∑ n ∈ Finset.range N, (if L ≤ (i 2).val + n ∧ (i 2).val + n - L < N then f ((i 2).val + n - L) else 0) := by
  show Host.reduceWindow (· + ·) ![1, 1, N] ![1, 1, 1] ![0, 0, L] ![0, 0, R] x (fun _ : (⟨0, ![]⟩ : Shape).Idx => init (Shape.Idx.first hu)) h hu i = _
  unfold Host.reduceWindow
  refine (foldl_add_fin _ _).trans ?_
  rw [h0, zero_add]
  refine Eq.trans (Finset.sum_congr rfl (g := fun n : Fin (⟨3, ![1, 1, N]⟩ : Shape).numel =>
    (fun n : ℕ => if L ≤ (i 2).val + n ∧ (i 2).val + n - L < N then f ((i 2).val + n - L) else 0) n.val) fun n _ => ?_) ?_
  · obtain ⟨w0, w1, w2⟩ := window_pos N n
    have i0 : (i 0).val < A := (i 0).isLt
    have i1 : (i 1).val < B := (i 1).isLt
    dsimp only
    split
    · next hin =>
      have h2 := hin 2
      change L ≤ (i 2).val * 1 + ((⟨3, ![1, 1, N]⟩ : Shape).rowMajor.symm n 2).val ∧ (i 2).val * 1 + ((⟨3, ![1, 1, N]⟩ : Shape).rowMajor.symm n 2).val - L < N at h2
      rw [w2, Nat.mul_one] at h2
      rw [if_pos h2]
      refine (hf _ ?_ ?_).trans ?_
      · show (i 0).val * 1 + ((⟨3, ![1, 1, N]⟩ : Shape).rowMajor.symm n 0).val - 0 = _
        rw [w0]; omega
      · show (i 1).val * 1 + ((⟨3, ![1, 1, N]⟩ : Shape).rowMajor.symm n 1).val - 0 = _
        rw [w1]; omega
      · show f ((i 2).val * 1 + ((⟨3, ![1, 1, N]⟩ : Shape).rowMajor.symm n 2).val - L) = _
        rw [w2, Nat.mul_one]
    · next hin =>
      rw [if_neg fun hle => hin fun a => by
        match a with
        | ⟨0, _⟩ =>
          show 0 ≤ (i 0).val * 1 + ((⟨3, ![1, 1, N]⟩ : Shape).rowMajor.symm n 0).val ∧ (i 0).val * 1 + ((⟨3, ![1, 1, N]⟩ : Shape).rowMajor.symm n 0).val - 0 < A
          rw [w0]; omega
        | ⟨1, _⟩ =>
          show 0 ≤ (i 1).val * 1 + ((⟨3, ![1, 1, N]⟩ : Shape).rowMajor.symm n 1).val ∧ (i 1).val * 1 + ((⟨3, ![1, 1, N]⟩ : Shape).rowMajor.symm n 1).val - 0 < B
          rw [w1]; omega
        | ⟨2, _⟩ =>
          show L ≤ (i 2).val * 1 + ((⟨3, ![1, 1, N]⟩ : Shape).rowMajor.symm n 2).val ∧ (i 2).val * 1 + ((⟨3, ![1, 1, N]⟩ : Shape).rowMajor.symm n 2).val - L < N
          rw [w2, Nat.mul_one]; exact hle]
  · rw [Fin.sum_univ_eq_sum_range (fun n : ℕ => if L ≤ (i 2).val + n ∧ (i 2).val + n - L < N then f ((i 2).val + n - L) else 0), numel_window]

theorem window_sum {A B N : ℕ} (L R : ℕ) (x : FVec Ideal ⟨3, ![A, B, N]⟩ .f32) (init : FVec Ideal ⟨0, ![]⟩ .f32) (h0 : ∀ j, (init j : EReal) = 0)
    (h : (⟨3, ![A, B, N]⟩ : Shape).ReduceWindows ![1, 1, N] ![1, 1, 1] ![0, 0, L] ![0, 0, R] ⟨3, ![A, B, N]⟩) (hu : 0 < (⟨0, ![]⟩ : Shape).numel)
    (i : (⟨3, ![A, B, N]⟩ : Shape).Idx)
    (f : ℕ → ℝ) (hf : ∀ j : (⟨3, ![A, B, N]⟩ : Shape).Idx, (j 0).val = (i 0).val → (j 1).val = (i 1).val → (x j : EReal) = ((f (j 2).val : ℝ) : EReal)) :
    (Host.reduceWindowAdd ![1, 1, N] ![1, 1, 1] ![0, 0, L] ![0, 0, R] x init h hu i : EReal)
      = ((∑ n ∈ Finset.range N, (if L ≤ (i 2).val + n ∧ (i 2).val + n - L < N then f ((i 2).val + n - L) else 0) : ℝ) : EReal) := by
  refine (window_sum_ext L R x init h0 h hu i (fun n => ((f n : ℝ) : EReal)) hf).trans ?_
  induction Finset.range N using Finset.induction_on with
  | empty => simp
  | insert a s ha ih =>
    rw [Finset.sum_insert ha, Finset.sum_insert ha, ih, EReal.coe_add]
    congr 1
    split <;> rfl

/-- Padded high: the sum from a place on, for any entries. -/
theorem sum_from_ext (f : ℕ → EReal) (N c : ℕ) (hc : c ≤ N) :
    (∑ n ∈ Finset.range N, if 0 ≤ c + n ∧ c + n - 0 < N then f (c + n - 0) else 0) = ∑ n ∈ Finset.Ico c N, f n := by
  obtain ⟨k, rfl⟩ := Nat.exists_eq_add_of_le hc
  have e : ∀ n ∈ Finset.range (c + k), (if 0 ≤ c + n ∧ c + n - 0 < c + k then f (c + n - 0) else 0) = if n < k then f (c + n) else 0 := by
    intro n _
    by_cases h : n < k
    · rw [if_pos h, if_pos (by omega), Nat.sub_zero]
    · rw [if_neg h, if_neg (by omega)]
  rw [Finset.sum_congr rfl e, ← Finset.sum_filter, Finset.sum_Ico_eq_sum_range]
  refine Finset.sum_congr ?_ fun _ _ => rfl
  ext n; simp only [Finset.mem_filter, Finset.mem_range]; omega

/-- Padded high: the sum from a place on. -/
theorem sum_from (f : ℕ → ℝ) (N c : ℕ) (hc : c ≤ N) :
    (∑ n ∈ Finset.range N, if 0 ≤ c + n ∧ c + n - 0 < N then f (c + n - 0) else 0) = ∑ n ∈ Finset.range N, f n - ∑ n ∈ Finset.range c, f n := by
  obtain ⟨k, rfl⟩ := Nat.exists_eq_add_of_le hc
  have e : ∀ n ∈ Finset.range (c + k), (if 0 ≤ c + n ∧ c + n - 0 < c + k then f (c + n - 0) else 0) = if n < k then f (c + n) else 0 := by
    intro n _
    by_cases h : n < k
    · rw [if_pos h, if_pos (by omega), Nat.sub_zero]
    · rw [if_neg h, if_neg (by omega)]
  rw [Finset.sum_congr rfl e, ← Finset.sum_filter, Finset.sum_range_add]
  have : (Finset.range (c + k)).filter (fun n => n < k) = Finset.range k := by
    ext n; simp only [Finset.mem_filter, Finset.mem_range]; omega
  rw [this]; ring

/-- Padded low: the sum up to and with a place. -/
theorem sum_upto (f : ℕ → ℝ) (N c : ℕ) (hc : c ≤ N) :
    (∑ n ∈ Finset.range (N + 1), if N ≤ c + n ∧ c + n - N < N + 1 then f (c + n - N) else 0) = ∑ n ∈ Finset.range (c + 1), f n := by
  obtain ⟨k, rfl⟩ := Nat.exists_eq_add_of_le hc
  have e : ∀ n ∈ Finset.range (c + k + 1), (if c + k ≤ c + n ∧ c + n - (c + k) < c + k + 1 then f (c + n - (c + k)) else 0)
      = if k ≤ n then f (n - k) else 0 := by
    intro n hn
    have := Finset.mem_range.1 hn
    by_cases h : k ≤ n
    · rw [if_pos h, if_pos (by omega)]; congr 1; omega
    · rw [if_neg h, if_neg (by omega)]
  rw [Finset.sum_congr rfl e, show c + k + 1 = k + (c + 1) by omega, Finset.sum_range_add]
  rw [Finset.sum_eq_zero (s := Finset.range k) (fun n hn => if_neg (by have := Finset.mem_range.1 hn; omega)), zero_add]
  refine Finset.sum_congr rfl fun n _ => ?_
  rw [if_pos (by omega), Nat.add_sub_cancel_left]

end Cert.Hand
end
-- ==== Proof.Ref.lean ====
module

public import proofs.«01_k».proof.Proof.Heads
public import proofs.«01_k».proof.Proof.Window
public import proofs.«01_k».proof.Proof.Gen.ReferenceIdeal.Read

@[expose] public section

set_option maxRecDepth 16384
noncomputable section
open Idealize.ShloMosaic Idealize.ShloMosaic.TcCoe Idealize.SL.Sem
namespace Cert.ReferenceIdeal.Hand
open Cert.ReferenceIdeal Cert.ReferenceIdeal.Gen Cert.ReferenceIdeal.Read
open Cert.KernelIdeal.Hand (hd Hd FinA FinB rdA rdB rdA_at rdB_at ln sc sc_coe coe_sum one_add_exp_pos toInt_mid exp_ln sp_coe)

/-! # The reference, read entry by entry -/

theorem ln_neg (x : ℝ) : ln (-x) = x + ln x := by
  unfold ln
  rw [abs_neg, neg_neg]
  have : min x 0 = x + min (-x) 0 := by
    rcases le_total x 0 with h | h
    · rw [min_eq_left h, min_eq_right (by linarith)]; ring
    · rw [min_eq_right h, min_eq_left (by linarith)]; ring
  rw [this]; ring

theorem sp_pos (x : ℝ) :
    max (x : EReal) 0 + Ideal.log1p (Ideal.exp (-FloatOps.absf (F := Ideal) (φ := .f32) (x : EReal))) = ((-ln x : ℝ) : EReal) := by
  rw [EReal.coe_neg, ← sp_coe, neg_neg]

theorem inf_bits : Ideal.ofBits .f32 2139095040#32 = ⊤ := by
  simp [Ideal.ofBits, Ideal.ieee]

theorem z_at {A : FVec Ideal S4096x5120 .bf16} (hA : FinA A) (B : FVec Ideal S4096x2048 .bf16) (i : S8x4096x4096.Idx) :
    val_main_v11 (F := Ideal) A i = (((hd A B (i 0).val).zz (i 1).val (i 2).val : ℝ) : EReal) := by
  pointwise [val_main_v11, val_main_v10, val_main_v9, val_main_v5, val_main_v4, val_main_v3, val_main_v2, val_main_v1, val_main_v0, val_main_cst]
  refine Eq.trans (b := (∑ x : Fin 128, (((hd A B (i 0).val).Q (i 1).val x.val * (hd A B (i 0).val).K (i 2).val x.val : ℝ) : EReal)) * ((sc : ℝ) : EReal))
    (congrArg₂ (· * ·) (Finset.sum_congr rfl fun (x : Fin 128) _ => ?_) sc_coe) ?_
  · rw [EReal.coe_mul]
    refine congrArg₂ (· * ·) ?_ ?_
    · exact rdA_at hA _ _ _ rfl (by show (i 0).val * 128 + x.val = 128 * (i 0).val + x.val; omega) (by have := x.isLt; have h0 : (i 0).val < 8 := (i 0).isLt; omega)
    · exact rdA_at hA _ _ _ rfl (by show 1024 + ((i 0).val * 128 + x.val) = 1024 + 128 * (i 0).val + x.val; omega) (by have := x.isLt; have h0 : (i 0).val < 8 := (i 0).isLt; omega)
  · rw [← coe_sum, ← EReal.coe_mul]; rfl

section
variable (A : FVec Ideal S4096x5120 .bf16) (i : S8x4096x4096.Idx) (x : ℝ) (hx : val_main_v11 (F := Ideal) A i = (x : EReal))
include hx

theorem l_at : val_main_v20_0 (F := Ideal) A i = ((ln x : ℝ) : EReal) := by
  pointwise [val_main_v20_0, val_main_v19, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1_0]
  rw [hx, neg_neg, if_neg (fun h => h rfl), sp_coe]

theorem s_at : val_main_v20_1 (F := Ideal) A i = ((1 - Real.exp (ln x) : ℝ) : EReal) := by
  pointwise [val_main_v20_1, val_main_v19, val_main_call0_call0_cst_0, val_main_call0_call0_v13, val_main_call0_call0_v14, val_main_call0_call0_cst_1, val_main_call0_call0_v15, val_main_call0_call0_v16, val_main_call0_call0_cst_2, val_main_call0_call0_v17, val_main_call0_call0_v18, val_main_call0_call0_cst_3, val_main_call0_call0_v19, val_main_call0_call0_v20, val_main_call0_call0_v21, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1_0]
  rw [hx, neg_neg]
  simp only [ne_eq, not_true_eq_false, if_false]
  rw [sp_pos, inf_bits, if_neg (EReal.coe_ne_top _), if_neg (EReal.coe_ne_top _), ← EReal.coe_sub, Ideal.exp_coe]
  congr 1
  rw [sub_neg_eq_add, Real.exp_add, exp_ln]
  have := one_add_exp_pos x
  field_simp
  ring

theorem l'_at : val_main_v24_0 (F := Ideal) A i = ((x + ln x : ℝ) : EReal) := by
  pointwise [val_main_v24_0, val_main_call3_v0, val_main_call3_call0_cst, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, val_main_call3_v1_0]
  rw [hx, if_neg (fun h => h rfl), ← EReal.coe_neg, sp_coe, ln_neg]

theorem s'_at : val_main_v24_1 (F := Ideal) A i = ((Real.exp (ln x) : ℝ) : EReal) := by
  pointwise [val_main_v24_1, val_main_call3_call0_cst_0, val_main_call3_call0_v13, val_main_call3_call0_v14, val_main_call3_call0_cst_1, val_main_call3_call0_v15, val_main_call3_call0_v16, val_main_call3_call0_cst_2, val_main_call3_call0_v17, val_main_call3_call0_v18, val_main_call3_call0_cst_3, val_main_call3_call0_v19, val_main_call3_call0_v20, val_main_call3_call0_v21, val_main_call3_v0, val_main_call3_call0_cst, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, val_main_call3_v1_0]
  rw [hx, ← EReal.coe_neg]
  simp only [ne_eq, not_true_eq_false, if_false]
  rw [sp_pos, inf_bits, if_neg (EReal.coe_ne_top _), if_neg (EReal.coe_ne_top _), ← EReal.coe_sub, Ideal.exp_coe]
  congr 2
  rw [ln_neg]; ring

end

theorem m_at (i : S8x4096x4096.Idx) : val_main_v21_1 (F := Ideal) i = BitVec.ofBool (decide ((i 2).val < (i 1).val)) := by
  have h1 : (i 1).val < 4096 := (i 1).isLt
  have h2 : (i 2).val < 4096 := (i 2).isLt
  pointwise [val_main_v21_1, val_main_v18, val_main_v17, val_main_v16, val_main_v15, val_main_v14, val_main_v13, val_main_v12]
  show BitVec.ofBool (BitVec.slt _ _) = _
  congr 1
  rw [BitVec.slt_eq_decide, toInt_mid h2, toInt_mid h1]
  simp

theorem sel_bit (b : Bool) (x : ℝ) (y : EReal) (hy : y = 0) :
    Scalar.select (BitVec.ofBool b) ((x : ℝ) : EReal) y = (((if b = true then x else 0 : ℝ)) : EReal) := by
  subst hy; cases b <;> simp [Scalar.select]

theorem sum_fin (n : ℕ) (f : ℕ → ℝ) : ∑ x : Fin n, f x.val = ∑ x ∈ Finset.range n, f x := (Finset.sum_range f).symm

theorem zero_bits : (id (constant (F := Ideal) S_ .f32 0#32) ix0 : EReal) = 0 := by
  simp [constant, Ideal.ofBits, Ideal.ieee]

theorem wexp (g : Hd) (r c : ℕ) (h : c < r) : Real.exp (g.zz r c + ln (g.zz r c) + (g.T r - g.P r c - g.ls r c)) = g.ww r c := by
  unfold Hd.ww
  rw [if_pos h]
  congr 1
  unfold Hd.P
  rw [Finset.sum_range_succ]
  have : g.ls r c = ln (g.zz r c) := by unfold Hd.ls; rw [if_pos h]
  rw [← this]
  ring

section
variable {A : FVec Ideal S4096x5120 .bf16} (hA : FinA A) {B : FVec Ideal S4096x2048 .bf16} (hB : FinB B)
include hA

theorem ls_at (i : S8x4096x4096.Idx) : val_main_v21_0 (F := Ideal) A i = (((hd A B (i 0).val).ls (i 1).val (i 2).val : ℝ) : EReal) := by
  pointwise [val_main_v21_0, val_main_call1_v2, val_main_call1_v0, val_main_cst_0]
  rw [m_at i, l_at A i _ (z_at hA B i)]
  refine (sel_bit _ _ _ zero_bits).trans (congrArg _ ?_)
  unfold Hd.ls
  simp only [decide_eq_true_eq]

theorem rev_at (i : S8x4096x4096.Idx) :
    val_main_v22 (F := Ideal) A i = (((hd A B (i 0).val).T (i 1).val - (hd A B (i 0).val).P (i 1).val (i 2).val : ℝ) : EReal) := by
  have h2 : (i 2).val < 4096 := (i 2).isLt
  refine (Cert.Hand.window_sum 0 4095 (val_main_v21_0 (F := Ideal) A) _ ?_ _ _ i (fun k => (hd A B (i 0).val).ls (i 1).val k) ?_).trans ?_
  · intro j; pointwise [val_main_call2_v0, val_main_call2_cst]
  · intro j e0 e1
    rw [ls_at hA (B := B) j, e0, e1]
  · rw [Cert.Hand.sum_from _ _ _ (by omega)]; rfl

theorem w_at (i : S8x4096x4096.Idx) :
    val_main_v26 (F := Ideal) A i = ((Real.exp ((hd A B (i 0).val).zz (i 1).val (i 2).val + ln ((hd A B (i 0).val).zz (i 1).val (i 2).val)
      + ((hd A B (i 0).val).T (i 1).val - (hd A B (i 0).val).P (i 1).val (i 2).val - (hd A B (i 0).val).ls (i 1).val (i 2).val)) : ℝ) : EReal) := by
  pointwise [val_main_v26, val_main_v25, val_main_v23]
  rw [l'_at A i _ (z_at hA B i), rev_at hA (B := B) i, ls_at hA (B := B) i, ← EReal.coe_sub, ← EReal.coe_add, Ideal.exp_coe]

theorem ww_at (i : S8x4096x4096.Idx) : val_main_v27_0 (F := Ideal) A i = (((hd A B (i 0).val).ww (i 1).val (i 2).val : ℝ) : EReal) := by
  pointwise [val_main_v27_0, val_main_call4_v2, val_main_call4_v0, val_main_cst_1]
  rw [show val_main_v27_1 (F := Ideal) i = val_main_v21_1 (F := Ideal) i from rfl, m_at i, w_at hA (B := B) i]
  refine (sel_bit _ _ _ zero_bits).trans (congrArg _ ?_)
  by_cases h : (i 2).val < (i 1).val
  · rw [decide_eq_true h, if_pos rfl, wexp _ _ _ h]
  · rw [decide_eq_false h, if_neg (by simp), Hd.ww_out _ (by omega)]

include hB

theorem dw_at (i : S8x4096x4096.Idx) : val_main_v35 (F := Ideal) A B i = (((hd A B (i 0).val).dw (i 1).val (i 2).val : ℝ) : EReal) := by
  pointwise [val_main_v35, val_main_v34, val_main_v33, val_main_v32, val_main_v31, val_main_v8, val_main_v7, val_main_v6]
  have h1 : (i 1).val < 4096 := (i 1).isLt
  have h2 : (i 2).val < 4096 := (i 2).isLt
  have h0 : (i 0).val < 8 := (i 0).isLt
  refine (Finset.sum_congr rfl fun x _ => congrArg₂ (· * ·) (rdB_at hB _ (i 1).val (128 * (i 0).val + x.val) rfl ?_ (by omega)) (rdA_at hA _ (i 2).val (2048 + 128 * (i 0).val + x.val) rfl ?_ (by omega))).trans ?_
  · show (i 0).val * 128 + x.val = _; omega
  · show 2048 + ((i 0).val * 128 + x.val) = _; omega
  · simp only [← EReal.coe_mul, ← coe_sum]
    refine congrArg _ (Finset.sum_congr rfl fun x _ => ?_)
    rfl

theorem ee_at (i : S8x4096x4096.Idx) : val_main_v39 (F := Ideal) A B i = (((hd A B (i 0).val).ee (i 1).val (i 2).val : ℝ) : EReal) := by
  pointwise [val_main_v39, val_main_v38, val_main_call5_v0, val_main_call5_cst]
  rw [show val_main_v27_1 (F := Ideal) i = val_main_v21_1 (F := Ideal) i from rfl, m_at i, w_at hA (B := B) i, dw_at hA hB i]
  refine (congrArg (fun y : EReal => Scalar.select _ y _) (EReal.coe_mul _ _).symm).trans ((sel_bit _ _ _ rfl).trans (congrArg _ ?_))
  unfold Hd.ee
  by_cases h : (i 2).val < (i 1).val
  · rw [decide_eq_true h, if_pos rfl, wexp _ _ _ h]
  · rw [decide_eq_false h, if_neg (by simp), Hd.ww_out _ (by omega)]; exact (mul_zero _).symm

theorem pre_at (i : S8x4096x4096.Idx) :
    val_main_v42 (F := Ideal) A B i = (((hd A B (i 0).val).E (i 1).val ((i 2).val + 1) : ℝ) : EReal) := by
  have h2 : (i 2).val < 4096 := (i 2).isLt
  refine (Cert.Hand.window_sum 4095 0 (val_main_v39 (F := Ideal) A B) _ ?_ _ _ i (fun k => (hd A B (i 0).val).ee (i 1).val k) ?_).trans ?_
  · intro j; pointwise [val_main_call7_v0, val_main_call7_cst]
  · intro j e0 e1
    rw [ee_at hA hB j, e0, e1]
  · rw [Cert.Hand.sum_upto _ 4095 _ (by omega)]; rfl

theorem dS_at (i : S8x4096x4096.Idx) : val_main_v49 (F := Ideal) A B i = (((hd A B (i 0).val).dS (i 1).val (i 2).val : ℝ) : EReal) := by
  pointwise [val_main_v49, val_main_v48, val_main_cst_2, val_main_v47, val_main_v46, val_main_v45, val_main_call9_v1, val_main_call9_v0, val_main_v44,
    val_main_call8_v0, val_main_call8_cst, val_main_v43, val_main_v41, val_main_v40, val_main_call6_v1, val_main_call6_v0]
  rw [m_at i, s_at A i _ (z_at hA B i), s'_at A i _ (z_at hA B i), ee_at hA hB i, pre_at hA hB i]
  refine (congrArg₂ (· * ·) (congrArg₂ (· + ·) rfl (congrArg (fun y : EReal => - - (- y * _))
    ((congrArg (fun y => Scalar.select _ y _) (EReal.coe_add _ _).symm).trans (sel_bit _ _ _ rfl)))) sc_coe).trans ?_
  simp only [← EReal.coe_neg, ← EReal.coe_mul, ← EReal.coe_add]
  refine congrArg _ ?_
  unfold Hd.dS
  by_cases h : (i 2).val < (i 1).val
  · have e : (hd A B (i 0).val).ls (i 1).val (i 2).val = ln ((hd A B (i 0).val).zz (i 1).val (i 2).val) := if_pos h
    rw [decide_eq_true h, if_pos rfl, e]
    unfold Hd.E
    rw [Finset.sum_range_succ]
    show _ = (_ - _) * sc
    ring
  · have e : (hd A B (i 0).val).ee (i 1).val (i 2).val = 0 := by
      unfold Hd.ee; rw [Hd.ww_out _ (by omega), mul_zero]
    have e' : (hd A B (i 0).val).ls (i 1).val (i 2).val = 0 := if_neg h
    rw [decide_eq_false h, if_neg (by simp), e, e', Real.exp_zero]
    ring

theorem dq_at (i : S4096x1024.Idx) : val_main_v55 (F := Ideal) A B i = (((hd A B ((i 1).val / 128)).dqp 4096 (i 0).val ((i 1).val % 128) : ℝ) : EReal) := by
  pointwise [val_main_v55, val_main_v54, val_main_v53, val_main_v52, val_main_v5, val_main_v4, val_main_v3]
  have h1 : (i 1).val < 1024 := (i 1).isLt
  refine (Finset.sum_congr rfl fun x _ => congrArg₂ (· * ·) (dS_at hA hB _) (rdA_at hA _ x.val (1024 + (i 1).val) rfl rfl (by omega))).trans ?_
  refine (Finset.sum_congr rfl fun x _ => (EReal.coe_mul _ _).symm).trans ((coe_sum _ _).symm.trans (congrArg _ ?_))
  refine (sum_fin _ fun x => (hd A B ((i 1).val / 128)).dS (i 0).val x * rdA A x (1024 + (i 1).val)).trans ?_
  unfold Hd.dqp
  refine Finset.sum_congr rfl fun x _ => congrArg _ ?_
  show rdA A _ _ = rdA A _ _
  congr 1; omega

theorem dk_at (i : S4096x1024.Idx) : val_main_v57 (F := Ideal) A B i = (((hd A B ((i 1).val / 128)).dkp 4096 (i 0).val ((i 1).val % 128) : ℝ) : EReal) := by
  pointwise [val_main_v57, val_main_v56, val_main_v51, val_main_v50, val_main_v2, val_main_v1, val_main_v0]
  have h1 : (i 1).val < 1024 := (i 1).isLt
  refine (Finset.sum_congr rfl fun x _ => congrArg₂ (· * ·) (dS_at hA hB _) (rdA_at hA _ x.val (i 1).val rfl rfl (by omega))).trans ?_
  refine (Finset.sum_congr rfl fun x _ => (EReal.coe_mul _ _).symm).trans ((coe_sum _ _).symm.trans (congrArg _ ?_))
  refine (sum_fin _ fun x => (hd A B ((i 1).val / 128)).dS x (i 0).val * rdA A x (i 1).val).trans ?_
  unfold Hd.dkp
  refine Finset.sum_congr rfl fun x _ => congrArg _ ?_
  show rdA A _ _ = rdA A _ _
  congr 1; omega

theorem dv_at (i : S4096x1024.Idx) : val_main_v59 (F := Ideal) A B i = (((hd A B ((i 1).val / 128)).dvp 4096 (i 0).val ((i 1).val % 128) : ℝ) : EReal) := by
  pointwise [val_main_v59, val_main_v58, val_main_v37, val_main_v36, val_main_v34, val_main_v33, val_main_v32, val_main_v31]
  have h1 : (i 1).val < 1024 := (i 1).isLt
  refine (Finset.sum_congr rfl fun x _ => congrArg₂ (· * ·) (rdB_at hB _ x.val (i 1).val rfl rfl (by omega)) (ww_at hA (B := B) _)).trans ?_
  refine (Finset.sum_congr rfl fun x _ => (EReal.coe_mul _ _).symm).trans ((coe_sum _ _).symm.trans (congrArg _ ?_))
  refine (sum_fin _ fun x => rdB B x (i 1).val * (hd A B ((i 1).val / 128)).ww x (i 0).val).trans ?_
  unfold Hd.dvp
  refine Finset.sum_congr rfl fun x _ => (mul_comm _ _).trans (congrArg _ ?_)
  show rdB B _ _ = rdB B _ _
  congr 1; omega

end

end Cert.ReferenceIdeal.Hand
end
-- ==== Proof.Claims.lean ====
module

public import proofs.«01_k».proof.Defs
public import proofs.«01_k».proof.Proof.Ref
public import proofs.«01_k».proof.Proof.Gen.ReferenceIdeal.Run
public import Idealize.ShloMosaic.Lib.ReduceAll

@[expose] public section

set_option maxRecDepth 16384
noncomputable section
namespace Cert.Hand
open Idealize.ShloMosaic Idealize.ShloMosaic.TcCoe Idealize.SL.Sem
open Cert.KernelIdeal.Hand

/-! # The precondition read, and the value claim -/

instance preFacts : Cert.Pre_finite.Facts where
  slices_S4096x5120_S4096x3072_0_0 := by decide
  bitsLt_bf16_f32 := by decide
  bcast_S_S4096x3072 := by decide
  reducesTo_S4096x3072_S_d0_1 := by decide
  h_S_ := by decide
  slices_S4096x2048_S4096x1024_0_0 := by decide
  bcast_S_S4096x1024 := by decide
  reducesTo_S4096x1024_S_d0_1 := by decide

/-- An absolute value below infinity is that of a number. -/
theorem finite_of_abs (x : EReal) (h : Ideal.cmp .olt (max x (-x)) (Ideal.ofBits .f32 2139095040#32) = 1#1) : x ≠ ⊤ ∧ x ≠ ⊥ := by
  rw [Cert.ReferenceIdeal.Hand.inf_bits] at h
  constructor
  · rintro rfl
    simp [Ideal.cmp] at h
  · rintro rfl
    simp [Ideal.cmp] at h

instance : Subsingleton Cert.Pre_finite.S_.Idx := ⟨fun a b => funext fun k => k.elim0⟩

theorem and_one (a b : BitVec 1) (h : a &&& b = 1#1) : a = 1#1 ∧ b = 1#1 := by
  revert a b; decide

theorem idx_ext {a b : ℕ} {i j : (⟨2, ![a, b]⟩ : Shape).Idx} {x y : ℕ} (hx : x = (j 0).val) (hy : y = (j 1).val) (h0 : (i 0).val = x) (h1 : (i 1).val = y) : i = j := by
  subst hx hy
  funext k
  match k with
  | ⟨0, _⟩ => exact Fin.ext h0
  | ⟨1, _⟩ => exact Fin.ext h1

theorem fin_of_pre (A : FVec Ideal Cert.Pre_finite.S4096x5120 .bf16) (B : FVec Ideal Cert.Pre_finite.S4096x2048 .bf16)
    (h : Cert.Pre_finite.fn (F := Ideal) A B = fun _ => 1#1) : FinA A ∧ FinB B := by
  have h0 := and_one _ _ (congrFun h ix0)
  constructor
  · intro i hi
    have e := Host.reduce_andi_all _ _ _ _ _ h0.1 (ix2 (i 0) (⟨(i 1).val, hi⟩ : Fin 3072))
    have r := finite_of_abs _ e
    have q : extractStridedSlice Cert.Pre_finite.S4096x3072 ![0, 0] A Cert.Pre_finite.Facts.slices_S4096x5120_S4096x3072_0_0
        (ix2 (i 0) (⟨(i 1).val, hi⟩ : Fin 3072)) = A i := congrArg A (idx_ext rfl rfl (Nat.zero_add _) (Nat.zero_add _))
    exact q ▸ r
  · intro i hi
    have e := Host.reduce_andi_all _ _ _ _ _ h0.2 (ix2 (i 0) (⟨(i 1).val, hi⟩ : Fin 1024))
    have r := finite_of_abs _ e
    have q : extractStridedSlice Cert.Pre_finite.S4096x1024 ![0, 0] B Cert.Pre_finite.Facts.slices_S4096x2048_S4096x1024_0_0
        (ix2 (i 0) (⟨(i 1).val, hi⟩ : Fin 1024)) = B i := congrArg B (idx_ext rfl rfl (Nat.zero_add _) (Nat.zero_add _))
    exact q ▸ r

theorem preserves : Cert.preserves_Kernel_KernelIdeal :=
  IdealRules.named_const.statement Cert.KernelIdeal.κ "mask" .f32 0xF149F2CA#32 ⊥ rfl

theorem frame_ref : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The three gradients of the kernel and of the mathematics are the same real numbers. -/
theorem algebraic : Cert.algebraic_KernelIdeal_ReferenceIdeal_pre_finite := by
  intro m ρ m' ρ' hpre hagree
  refine ⟨fun c => Cert.KernelIdeal.Value.G5 m c, fun c => Cert.KernelIdeal.Value.G6 m c, fun c => Cert.KernelIdeal.Value.G7 m c,
    Cert.KernelIdeal.Value.run m ρ, ?_⟩
  refine (θ_run Cert.ReferenceIdeal.defs _ _).mono (fun _ h c => ?_) (Cert.ReferenceIdeal.Value.run (F := Ideal) m' ρ')
  obtain ⟨h1, h2, h3, h4, h5⟩ := h c
  obtain ⟨ea, eb⟩ := hagree c
  obtain ⟨hA, hB⟩ := fin_of_pre _ _ (hpre c)
  have W := windows m c rfl rfl hA hB
  refine ⟨h1.trans ?_, h2.trans ?_, h3.trans ?_, h4, h5⟩
  · rw [Cert.ReferenceIdeal.Read.val_main_v55_eq, ea, eb]
    exact (funext fun i => Cert.ReferenceIdeal.Hand.dq_at hA hB i).trans (G5_val m c _ W).symm
  · rw [Cert.ReferenceIdeal.Read.val_main_v57_eq, ea, eb]
    exact (funext fun i => Cert.ReferenceIdeal.Hand.dk_at hA hB i).trans (G6_val m c _ W).symm
  · rw [Cert.ReferenceIdeal.Read.val_main_v59_eq, ea, eb]
    exact (funext fun i => Cert.ReferenceIdeal.Hand.dv_at hA hB i).trans (G7_val m c _ W).symm

end Cert.Hand
end
-- ==== Proof.Bits.lean ====
module

public import proofs.«01_k».proof.Defs
public import proofs.«01_k».proof.Proof.Gen.Kernel2Ideal.Frame
public import proofs.«01_k».proof.Proof.Gen.Kernel3Ideal.Frame
public import proofs.«01_k».proof.Proof.Gen.Kernel4Ideal.Frame
public import proofs.«01_k».proof.Proof.Gen.Kernel5Ideal.Frame
public import proofs.«01_k».proof.Proof.Gen.Kernel6Ideal.Frame
public import proofs.«01_k».proof.Proof.Gen.Kernel7Ideal.Frame
public import proofs.«01_k».proof.Proof.Gen.Kernel8Ideal.Frame
public import proofs.«01_k».proof.Proof.Gen.Kernel9Ideal.Frame
public import proofs.«01_k».proof.Proof.Gen.Kernel10Ideal.Frame
public import proofs.«01_k».proof.Proof.Gen.Kernel11Ideal.Frame
public import proofs.«01_k».proof.Proof.Gen.Kernel12Ideal.Frame
public import proofs.«01_k».proof.Proof.Gen.Kernel13Ideal.Frame
public import proofs.«01_k».proof.Proof.Gen.Kernel14Ideal.Frame
public import proofs.«01_k».proof.Proof.Gen.Kernel15Ideal.Frame
public import proofs.«01_k».proof.Proof.Gen.Kernel16Ideal.Frame
public import proofs.«01_k».proof.Proof.Gen.Kernel17Ideal.Frame
public import proofs.«01_k».proof.Proof.Gen.Kernel24Ideal.Frame
public import proofs.«01_k».proof.Proof.Gen.Kernel26Ideal.Frame
public import proofs.«01_k».proof.Proof.Gen.Kernel27Ideal.Frame
public import proofs.«01_k».proof.Proof.Gen.Kernel28Ideal.Frame
public import proofs.«01_k».proof.Proof.Gen.Kernel29Ideal.Frame

@[expose] public section

set_option maxRecDepth 16384
noncomputable section
open Idealize.ShloMosaic Idealize.ShloMosaic.TcCoe Idealize.SL.Sem

/-! # The frames over bits

Each launch after the first has one text over any float values, printed twice. Its facts and its run are those of
the copy named `Ideal`, taken at the bits. -/

namespace Cert.Kernel2.Hand

instance facts₀ : Cert.Kernel2.Facts₀ := { Cert.Kernel2Ideal.Gen.facts₀ with }
instance facts : Cert.Kernel2.Facts := { Cert.Kernel2Ideal.Gen.facts with }

/-- The two copies' kernels are one. -/
theorem defs_eq : Cert.Kernel2.defs₀ (F := Bits) = Cert.Kernel2Ideal.defs₀ (F := Bits) := by
  unfold Cert.Kernel2.defs₀ Cert.Kernel2Ideal.defs₀
  refine congrArg Defs.onTc ?_
  funext l a
  rcases l with ⟨_ | n, h⟩
  · rfl
  · exact absurd h (by omega)

theorem frame : Cert.quiescent_Kernel2 := fun m ρ _ => by
  have h := Cert.Kernel2Ideal.Gen.frame (F := Bits) m ρ
  unfold Cert.Kernel2Ideal.defs at h
  rw [← defs_eq] at h
  exact h

end Cert.Kernel2.Hand

namespace Cert.Kernel3.Hand

instance facts₀ : Cert.Kernel3.Facts₀ := { Cert.Kernel3Ideal.Gen.facts₀ with }
instance facts : Cert.Kernel3.Facts := { Cert.Kernel3Ideal.Gen.facts with }

/-- The two copies' kernels are one. -/
theorem defs_eq : Cert.Kernel3.defs₀ (F := Bits) = Cert.Kernel3Ideal.defs₀ (F := Bits) := by
  unfold Cert.Kernel3.defs₀ Cert.Kernel3Ideal.defs₀
  refine congrArg Defs.onTc ?_
  funext l a
  rcases l with ⟨_ | n, h⟩
  · rfl
  · exact absurd h (by omega)

theorem frame : Cert.quiescent_Kernel3 := fun m ρ _ => by
  have h := Cert.Kernel3Ideal.Gen.frame (F := Bits) m ρ
  unfold Cert.Kernel3Ideal.defs at h
  rw [← defs_eq] at h
  exact h

end Cert.Kernel3.Hand

namespace Cert.Kernel4.Hand

instance facts₀ : Cert.Kernel4.Facts₀ := { Cert.Kernel4Ideal.Gen.facts₀ with }
instance facts : Cert.Kernel4.Facts := { Cert.Kernel4Ideal.Gen.facts with }

/-- The two copies' kernels are one. -/
theorem defs_eq : Cert.Kernel4.defs₀ (F := Bits) = Cert.Kernel4Ideal.defs₀ (F := Bits) := by
  unfold Cert.Kernel4.defs₀ Cert.Kernel4Ideal.defs₀
  refine congrArg Defs.onTc ?_
  funext l a
  rcases l with ⟨_ | n, h⟩
  · rfl
  · exact absurd h (by omega)

theorem frame : Cert.quiescent_Kernel4 := fun m ρ _ => by
  have h := Cert.Kernel4Ideal.Gen.frame (F := Bits) m ρ
  unfold Cert.Kernel4Ideal.defs at h
  rw [← defs_eq] at h
  exact h

end Cert.Kernel4.Hand

namespace Cert.Kernel5.Hand

instance facts₀ : Cert.Kernel5.Facts₀ := { Cert.Kernel5Ideal.Gen.facts₀ with }
instance facts : Cert.Kernel5.Facts := { Cert.Kernel5Ideal.Gen.facts with }

/-- The two copies' kernels are one. -/
theorem defs_eq : Cert.Kernel5.defs₀ (F := Bits) = Cert.Kernel5Ideal.defs₀ (F := Bits) := by
  unfold Cert.Kernel5.defs₀ Cert.Kernel5Ideal.defs₀
  refine congrArg Defs.onTc ?_
  funext l a
  rcases l with ⟨_ | n, h⟩
  · rfl
  · exact absurd h (by omega)

theorem frame : Cert.quiescent_Kernel5 := fun m ρ _ => by
  have h := Cert.Kernel5Ideal.Gen.frame (F := Bits) m ρ
  unfold Cert.Kernel5Ideal.defs at h
  rw [← defs_eq] at h
  exact h

end Cert.Kernel5.Hand

namespace Cert.Kernel6.Hand

instance facts₀ : Cert.Kernel6.Facts₀ := { Cert.Kernel6Ideal.Gen.facts₀ with }
instance facts : Cert.Kernel6.Facts := { Cert.Kernel6Ideal.Gen.facts with }

/-- The two copies' kernels are one. -/
theorem defs_eq : Cert.Kernel6.defs₀ (F := Bits) = Cert.Kernel6Ideal.defs₀ (F := Bits) := by
  unfold Cert.Kernel6.defs₀ Cert.Kernel6Ideal.defs₀
  refine congrArg Defs.onTc ?_
  funext l a
  rcases l with ⟨_ | n, h⟩
  · rfl
  · exact absurd h (by omega)

theorem frame : Cert.quiescent_Kernel6 := fun m ρ _ => by
  have h := Cert.Kernel6Ideal.Gen.frame (F := Bits) m ρ
  unfold Cert.Kernel6Ideal.defs at h
  rw [← defs_eq] at h
  exact h

end Cert.Kernel6.Hand

namespace Cert.Kernel7.Hand

instance facts₀ : Cert.Kernel7.Facts₀ := { Cert.Kernel7Ideal.Gen.facts₀ with }
instance facts : Cert.Kernel7.Facts := { Cert.Kernel7Ideal.Gen.facts with }

/-- The two copies' kernels are one. -/
theorem defs_eq : Cert.Kernel7.defs₀ (F := Bits) = Cert.Kernel7Ideal.defs₀ (F := Bits) := by
  unfold Cert.Kernel7.defs₀ Cert.Kernel7Ideal.defs₀
  refine congrArg Defs.onTc ?_
  funext l a
  rcases l with ⟨_ | n, h⟩
  · rfl
  · exact absurd h (by omega)

theorem frame : Cert.quiescent_Kernel7 := fun m ρ _ => by
  have h := Cert.Kernel7Ideal.Gen.frame (F := Bits) m ρ
  unfold Cert.Kernel7Ideal.defs at h
  rw [← defs_eq] at h
  exact h

end Cert.Kernel7.Hand

namespace Cert.Kernel8.Hand

instance facts₀ : Cert.Kernel8.Facts₀ := { Cert.Kernel8Ideal.Gen.facts₀ with }
instance facts : Cert.Kernel8.Facts := { Cert.Kernel8Ideal.Gen.facts with }

/-- The two copies' kernels are one. -/
theorem defs_eq : Cert.Kernel8.defs₀ (F := Bits) = Cert.Kernel8Ideal.defs₀ (F := Bits) := by
  unfold Cert.Kernel8.defs₀ Cert.Kernel8Ideal.defs₀
  refine congrArg Defs.onTc ?_
  funext l a
  rcases l with ⟨_ | n, h⟩
  · rfl
  · exact absurd h (by omega)

theorem frame : Cert.quiescent_Kernel8 := fun m ρ _ => by
  have h := Cert.Kernel8Ideal.Gen.frame (F := Bits) m ρ
  unfold Cert.Kernel8Ideal.defs at h
  rw [← defs_eq] at h
  exact h

end Cert.Kernel8.Hand

namespace Cert.Kernel9.Hand

instance facts₀ : Cert.Kernel9.Facts₀ := { Cert.Kernel9Ideal.Gen.facts₀ with }
instance facts : Cert.Kernel9.Facts := { Cert.Kernel9Ideal.Gen.facts with }

/-- The two copies' kernels are one. -/
theorem defs_eq : Cert.Kernel9.defs₀ (F := Bits) = Cert.Kernel9Ideal.defs₀ (F := Bits) := by
  unfold Cert.Kernel9.defs₀ Cert.Kernel9Ideal.defs₀
  refine congrArg Defs.onTc ?_
  funext l a
  rcases l with ⟨_ | n, h⟩
  · rfl
  · exact absurd h (by omega)

theorem frame : Cert.quiescent_Kernel9 := fun m ρ _ => by
  have h := Cert.Kernel9Ideal.Gen.frame (F := Bits) m ρ
  unfold Cert.Kernel9Ideal.defs at h
  rw [← defs_eq] at h
  exact h

end Cert.Kernel9.Hand

namespace Cert.Kernel10.Hand

instance facts₀ : Cert.Kernel10.Facts₀ := { Cert.Kernel10Ideal.Gen.facts₀ with }
instance facts : Cert.Kernel10.Facts := { Cert.Kernel10Ideal.Gen.facts with }

/-- The two copies' kernels are one. -/
theorem defs_eq : Cert.Kernel10.defs₀ (F := Bits) = Cert.Kernel10Ideal.defs₀ (F := Bits) := by
  unfold Cert.Kernel10.defs₀ Cert.Kernel10Ideal.defs₀
  refine congrArg Defs.onTc ?_
  funext l a
  rcases l with ⟨_ | n, h⟩
  · rfl
  · exact absurd h (by omega)

theorem frame : Cert.quiescent_Kernel10 := fun m ρ _ => by
  have h := Cert.Kernel10Ideal.Gen.frame (F := Bits) m ρ
  unfold Cert.Kernel10Ideal.defs at h
  rw [← defs_eq] at h
  exact h

end Cert.Kernel10.Hand

namespace Cert.Kernel11.Hand

instance facts₀ : Cert.Kernel11.Facts₀ := { Cert.Kernel11Ideal.Gen.facts₀ with }
instance facts : Cert.Kernel11.Facts := { Cert.Kernel11Ideal.Gen.facts with }

/-- The two copies' kernels are one. -/
theorem defs_eq : Cert.Kernel11.defs₀ (F := Bits) = Cert.Kernel11Ideal.defs₀ (F := Bits) := by
  unfold Cert.Kernel11.defs₀ Cert.Kernel11Ideal.defs₀
  refine congrArg Defs.onTc ?_
  funext l a
  rcases l with ⟨_ | n, h⟩
  · rfl
  · exact absurd h (by omega)

theorem frame : Cert.quiescent_Kernel11 := fun m ρ _ => by
  have h := Cert.Kernel11Ideal.Gen.frame (F := Bits) m ρ
  unfold Cert.Kernel11Ideal.defs at h
  rw [← defs_eq] at h
  exact h

end Cert.Kernel11.Hand

namespace Cert.Kernel12.Hand

instance facts₀ : Cert.Kernel12.Facts₀ := { Cert.Kernel12Ideal.Gen.facts₀ with }
instance facts : Cert.Kernel12.Facts := { Cert.Kernel12Ideal.Gen.facts with }

/-- The two copies' kernels are one. -/
theorem defs_eq : Cert.Kernel12.defs₀ (F := Bits) = Cert.Kernel12Ideal.defs₀ (F := Bits) := by
  unfold Cert.Kernel12.defs₀ Cert.Kernel12Ideal.defs₀
  refine congrArg Defs.onTc ?_
  funext l a
  rcases l with ⟨_ | n, h⟩
  · rfl
  · exact absurd h (by omega)

theorem frame : Cert.quiescent_Kernel12 := fun m ρ _ => by
  have h := Cert.Kernel12Ideal.Gen.frame (F := Bits) m ρ
  unfold Cert.Kernel12Ideal.defs at h
  rw [← defs_eq] at h
  exact h

end Cert.Kernel12.Hand

namespace Cert.Kernel13.Hand

instance facts₀ : Cert.Kernel13.Facts₀ := { Cert.Kernel13Ideal.Gen.facts₀ with }
instance facts : Cert.Kernel13.Facts := { Cert.Kernel13Ideal.Gen.facts with }

/-- The two copies' kernels are one. -/
theorem defs_eq : Cert.Kernel13.defs₀ (F := Bits) = Cert.Kernel13Ideal.defs₀ (F := Bits) := by
  unfold Cert.Kernel13.defs₀ Cert.Kernel13Ideal.defs₀
  refine congrArg Defs.onTc ?_
  funext l a
  rcases l with ⟨_ | n, h⟩
  · rfl
  · exact absurd h (by omega)

theorem frame : Cert.quiescent_Kernel13 := fun m ρ _ => by
  have h := Cert.Kernel13Ideal.Gen.frame (F := Bits) m ρ
  unfold Cert.Kernel13Ideal.defs at h
  rw [← defs_eq] at h
  exact h

end Cert.Kernel13.Hand

namespace Cert.Kernel14.Hand

instance facts₀ : Cert.Kernel14.Facts₀ := { Cert.Kernel14Ideal.Gen.facts₀ with }
instance facts : Cert.Kernel14.Facts := { Cert.Kernel14Ideal.Gen.facts with }

/-- The two copies' kernels are one. -/
theorem defs_eq : Cert.Kernel14.defs₀ (F := Bits) = Cert.Kernel14Ideal.defs₀ (F := Bits) := by
  unfold Cert.Kernel14.defs₀ Cert.Kernel14Ideal.defs₀
  refine congrArg Defs.onTc ?_
  funext l a
  rcases l with ⟨_ | n, h⟩
  · rfl
  · exact absurd h (by omega)

theorem frame : Cert.quiescent_Kernel14 := fun m ρ _ => by
  have h := Cert.Kernel14Ideal.Gen.frame (F := Bits) m ρ
  unfold Cert.Kernel14Ideal.defs at h
  rw [← defs_eq] at h
  exact h

end Cert.Kernel14.Hand

namespace Cert.Kernel15.Hand

instance facts₀ : Cert.Kernel15.Facts₀ := { Cert.Kernel15Ideal.Gen.facts₀ with }
instance facts : Cert.Kernel15.Facts := { Cert.Kernel15Ideal.Gen.facts with }

/-- The two copies' kernels are one. -/
theorem defs_eq : Cert.Kernel15.defs₀ (F := Bits) = Cert.Kernel15Ideal.defs₀ (F := Bits) := by
  unfold Cert.Kernel15.defs₀ Cert.Kernel15Ideal.defs₀
  refine congrArg Defs.onTc ?_
  funext l a
  rcases l with ⟨_ | n, h⟩
  · rfl
  · exact absurd h (by omega)

theorem frame : Cert.quiescent_Kernel15 := fun m ρ _ => by
  have h := Cert.Kernel15Ideal.Gen.frame (F := Bits) m ρ
  unfold Cert.Kernel15Ideal.defs at h
  rw [← defs_eq] at h
  exact h

end Cert.Kernel15.Hand

namespace Cert.Kernel16.Hand

instance facts₀ : Cert.Kernel16.Facts₀ := { Cert.Kernel16Ideal.Gen.facts₀ with }
instance facts : Cert.Kernel16.Facts := { Cert.Kernel16Ideal.Gen.facts with }

/-- The two copies' kernels are one. -/
theorem defs_eq : Cert.Kernel16.defs₀ (F := Bits) = Cert.Kernel16Ideal.defs₀ (F := Bits) := by
  unfold Cert.Kernel16.defs₀ Cert.Kernel16Ideal.defs₀
  refine congrArg Defs.onTc ?_
  funext l a
  rcases l with ⟨_ | n, h⟩
  · rfl
  · exact absurd h (by omega)

theorem frame : Cert.quiescent_Kernel16 := fun m ρ _ => by
  have h := Cert.Kernel16Ideal.Gen.frame (F := Bits) m ρ
  unfold Cert.Kernel16Ideal.defs at h
  rw [← defs_eq] at h
  exact h

end Cert.Kernel16.Hand

namespace Cert.Kernel17.Hand

instance facts₀ : Cert.Kernel17.Facts₀ := { Cert.Kernel17Ideal.Gen.facts₀ with }
instance facts : Cert.Kernel17.Facts := { Cert.Kernel17Ideal.Gen.facts with }

/-- The two copies' kernels are one. -/
theorem defs_eq : Cert.Kernel17.defs₀ (F := Bits) = Cert.Kernel17Ideal.defs₀ (F := Bits) := by
  unfold Cert.Kernel17.defs₀ Cert.Kernel17Ideal.defs₀
  refine congrArg Defs.onTc ?_
  funext l a
  rcases l with ⟨_ | n, h⟩
  · rfl
  · exact absurd h (by omega)

theorem frame : Cert.quiescent_Kernel17 := fun m ρ _ => by
  have h := Cert.Kernel17Ideal.Gen.frame (F := Bits) m ρ
  unfold Cert.Kernel17Ideal.defs at h
  rw [← defs_eq] at h
  exact h

end Cert.Kernel17.Hand

namespace Cert.Kernel24.Hand

instance facts₀ : Cert.Kernel24.Facts₀ := { Cert.Kernel24Ideal.Gen.facts₀ with }
instance facts : Cert.Kernel24.Facts := { Cert.Kernel24Ideal.Gen.facts with }

/-- The two copies' kernels are one. -/
theorem defs_eq : Cert.Kernel24.defs₀ (F := Bits) = Cert.Kernel24Ideal.defs₀ (F := Bits) := by
  unfold Cert.Kernel24.defs₀ Cert.Kernel24Ideal.defs₀
  refine congrArg Defs.onTc ?_
  funext l a
  rcases l with ⟨_ | n, h⟩
  · rfl
  · exact absurd h (by omega)

theorem frame : Cert.quiescent_Kernel24 := fun m ρ _ => by
  have h := Cert.Kernel24Ideal.Gen.frame (F := Bits) m ρ
  unfold Cert.Kernel24Ideal.defs at h
  rw [← defs_eq] at h
  exact h

end Cert.Kernel24.Hand

namespace Cert.Kernel26.Hand

instance facts₀ : Cert.Kernel26.Facts₀ := { Cert.Kernel26Ideal.Gen.facts₀ with }
instance facts : Cert.Kernel26.Facts := { Cert.Kernel26Ideal.Gen.facts with }

/-- The two copies' kernels are one. -/
theorem defs_eq : Cert.Kernel26.defs₀ (F := Bits) = Cert.Kernel26Ideal.defs₀ (F := Bits) := by
  unfold Cert.Kernel26.defs₀ Cert.Kernel26Ideal.defs₀
  refine congrArg Defs.onTc ?_
  funext l a
  rcases l with ⟨_ | n, h⟩
  · rfl
  · exact absurd h (by omega)

theorem frame : Cert.quiescent_Kernel26 := fun m ρ _ => by
  have h := Cert.Kernel26Ideal.Gen.frame (F := Bits) m ρ
  unfold Cert.Kernel26Ideal.defs at h
  rw [← defs_eq] at h
  exact h

end Cert.Kernel26.Hand

namespace Cert.Kernel27.Hand

instance facts₀ : Cert.Kernel27.Facts₀ := { Cert.Kernel27Ideal.Gen.facts₀ with }
instance facts : Cert.Kernel27.Facts := { Cert.Kernel27Ideal.Gen.facts with }

/-- The two copies' kernels are one. -/
theorem defs_eq : Cert.Kernel27.defs₀ (F := Bits) = Cert.Kernel27Ideal.defs₀ (F := Bits) := by
  unfold Cert.Kernel27.defs₀ Cert.Kernel27Ideal.defs₀
  refine congrArg Defs.onTc ?_
  funext l a
  rcases l with ⟨_ | n, h⟩
  · rfl
  · exact absurd h (by omega)

theorem frame : Cert.quiescent_Kernel27 := fun m ρ _ => by
  have h := Cert.Kernel27Ideal.Gen.frame (F := Bits) m ρ
  unfold Cert.Kernel27Ideal.defs at h
  rw [← defs_eq] at h
  exact h

end Cert.Kernel27.Hand

namespace Cert.Kernel28.Hand

instance facts₀ : Cert.Kernel28.Facts₀ := { Cert.Kernel28Ideal.Gen.facts₀ with }
instance facts : Cert.Kernel28.Facts := { Cert.Kernel28Ideal.Gen.facts with }

/-- The two copies' kernels are one. -/
theorem defs_eq : Cert.Kernel28.defs₀ (F := Bits) = Cert.Kernel28Ideal.defs₀ (F := Bits) := by
  unfold Cert.Kernel28.defs₀ Cert.Kernel28Ideal.defs₀
  refine congrArg Defs.onTc ?_
  funext l a
  rcases l with ⟨_ | n, h⟩
  · rfl
  · exact absurd h (by omega)

theorem frame : Cert.quiescent_Kernel28 := fun m ρ _ => by
  have h := Cert.Kernel28Ideal.Gen.frame (F := Bits) m ρ
  unfold Cert.Kernel28Ideal.defs at h
  rw [← defs_eq] at h
  exact h

end Cert.Kernel28.Hand

namespace Cert.Kernel29.Hand

instance facts₀ : Cert.Kernel29.Facts₀ := { Cert.Kernel29Ideal.Gen.facts₀ with }
instance facts : Cert.Kernel29.Facts := { Cert.Kernel29Ideal.Gen.facts with }

/-- The two copies' kernels are one. -/
theorem defs_eq : Cert.Kernel29.defs₀ (F := Bits) = Cert.Kernel29Ideal.defs₀ (F := Bits) := by
  unfold Cert.Kernel29.defs₀ Cert.Kernel29Ideal.defs₀
  refine congrArg Defs.onTc ?_
  funext l a
  rcases l with ⟨_ | n, h⟩
  · rfl
  · exact absurd h (by omega)

theorem frame : Cert.quiescent_Kernel29 := fun m ρ _ => by
  have h := Cert.Kernel29Ideal.Gen.frame (F := Bits) m ρ
  unfold Cert.Kernel29Ideal.defs at h
  rw [← defs_eq] at h
  exact h

end Cert.Kernel29.Hand
-- ==== Proof.Act.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Quiescent

@[expose] public section

set_option maxRecDepth 16384
noncomputable section
open Idealize.ShloMosaic Idealize.ShloMosaic.TcCoe Idealize.SL.Sem
namespace Cert.Kernel4Ideal.Hand

/-- The mathematics of the gate runs and leaves its arguments. -/
theorem frame_ref : Cert.quiescent_Reference4Ideal := fun m ρ _ =>
  (θ_run Cert.Reference4Ideal.defs _ _).mono
    (fun r h => ⟨fun c => (h c).2.2.2.2, Idealize.ShloMosaic.sem_eq_zero_of_no_sems (by decide) r.2⟩)
    (Cert.Reference4Ideal.Value.run (F := Ideal) m ρ)

end Cert.Kernel4Ideal.Hand
end
end
-- ==== Proof.FwdBlock.lean ====
module

public import proofs.«01_k».proof.Proof.Gen.Kernel25Ideal.Loops
public import proofs.«01_k».proof.Proof.TripValue
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem
namespace Cert.Kernel25Ideal.Hand
open Cert.Kernel25Ideal Cert.Kernel25Ideal.Gen
open Cert.KernelIdeal.Hand (ln ln_coe kp slt_ofNat toInt_small sitofp_bit)

/-! # The attention's forward pass: the operations of one block, for one head

The body goes through the column blocks from the diagonal to the first. It carries the weighted sum of the values, the
sum of the logarithms to the right, and the next block's exponents and total. -/

section Ops
variable {F : FTy → Type} [FloatOps F] [Named F]

/-- The scores of a block of rows against a block of columns. -/
def fZ (q k : FVec F S256x128 .bf16) : FVec F S256x256 .f32 :=
  mulf (matmul dot_S256x128_S256x128_S256x256_1_1_0_0_n_n none q k (constant S256x256 .f32 0x00000000#32))
    (broadcast S256x256 (Scalar.ofBits .f32 0x3DB504F3#32))
/-- The logarithm of the share passed on. -/
def fL (z : FVec F S256x256 .f32) : FVec F S256x256 .f32 :=
  subf (minimumf (subf (broadcast S256x256 (Scalar.ofBits .f32 0x00000000#32)) z)
      (broadcast S256x256 (Scalar.ofBits .f32 0x00000000#32)))
    (log (addf (broadcast S256x256 (Scalar.ofBits .f32 0x3F800000#32))
      (exp (subf (broadcast S256x256 (Scalar.ofBits .f32 0x00000000#32)) (absf z)))))
/-- The same, zero where the mask is. -/
def fM (keep : IVec S256x256 1) (l : FVec F S256x256 .f32) : FVec F S256x256 .f32 :=
  select keep l (broadcast S256x256 (Scalar.ofBits .f32 0x00000000#32))
/-- Its sums over the later columns of the block, as two products with the 0/1 triangle. -/
def fC (later : FVec F S256x256 .bf16) (l : FVec F S256x256 .f32) : FVec F S256x256 .f32 :=
  addf (matmul dot_S256x256_S256x256_S256x256_1_0_0_1_n_n none (truncf .bf16 l bitsLt_bf16_f32) later
      (constant S256x256 .f32 0x00000000#32))
    (matmul dot_S256x256_S256x256_S256x256_1_0_0_1_n_n none
      (truncf .bf16 (subf l (extf .f32 (truncf .bf16 l bitsLt_bf16_f32) bitsLt_bf16_f32)) bitsLt_bf16_f32) later
      (constant S256x256 .f32 0x00000000#32))
/-- The exponent of the weight, without the later blocks' sum. -/
def fB (z l c : FVec F S256x256 .f32) : FVec F S256x256 .f32 := addf (addf z l) c
/-- The same, minus infinity where the mask is. -/
def fK (keep : IVec S256x256 1) (b : FVec F S256x256 .f32) : FVec F S256x256 .f32 :=
  select keep b (broadcast S256x256 (Named.named κ "mask" 0xF149F2CA#32))
/-- The block's total: its first column with the later ones. -/
def fT (c l : FVec F S256x256 .f32) : FVec F S256x1 .f32 :=
  addf (extractStridedSlice S256x1 ![0, 0] c slices_S256x256_o0_0_S256x1)
    (extractStridedSlice S256x1 ![0, 0] l slices_S256x256_o0_0_S256x1)
/-- The weighted sum of the values, with a block's part added. -/
def fW (acc : FVec F S256x128 .f32) (run : FVec F S256x1 .f32) (base : FVec F S256x256 .f32) (v : FVec F S256x128 .bf16) : FVec F S256x128 .f32 :=
  addf acc (matmul dot_S256x256_S256x128_S256x128_1_0_0_1_n_n none
    (truncf .bf16 (exp (addf base (broadcastTo S256x256 run broadcasts_S256x1_S256x256))) bitsLt_bf16_f32) v
    (constant S256x128 .f32 0x00000000#32))
/-- The left and the right half of a block's columns. -/
def fl (b : FVec F S256x256 .bf16) : FVec F S256x128 .bf16 :=
  extractStridedSlice S256x128 ![0, 0] b slices_S256x256_o0_0_S256x128
def fr (b : FVec F S256x256 .bf16) : FVec F S256x128 .bf16 :=
  extractStridedSlice S256x128 ![0, 128] b slices_S256x256_o0_128_S256x128
/-- The row totals, copied over the lanes. -/
def fO (run tot : FVec F S256x1 .f32) : FVec F S1x256x128 .f32 :=
  shapeCast S1x256x128 (broadcastTo S256x128 (shapeCast S256x1 (addf run tot) shapeCasts_S256x1_S256x1) broadcasts_S256x1_S256x128)
    shapeCasts_S256x128_S1x256x128
end Ops

/-! ## One head, over the extended reals

The entries may be infinite, so no sum below is taken back by a subtraction: the sums to the right of a column are sums
over an interval. -/

/-- `log (1 - σ x)`, in the form the body computes. -/
def lnE (x : EReal) : EReal := min (0 - x) 0 - Ideal.log (1 + Ideal.exp (0 - max x (-x)))

theorem lnE_coe (x : ℝ) : lnE x = ((ln x : ℝ) : EReal) := ln_coe x

theorem log_one : Ideal.log (1 + 0) = 0 := by
  rw [add_zero, ← EReal.coe_one, Ideal.log_coe, if_neg (by norm_num), Real.log_one, EReal.coe_zero]

theorem lnE_top : lnE ⊤ = ⊥ := by
  unfold lnE
  rw [EReal.neg_top, max_eq_left bot_le, zero_sub, EReal.neg_top, Ideal.exp_bot, log_one, sub_zero, min_eq_left bot_le]

theorem lnE_bot : lnE ⊥ = 0 := by
  unfold lnE
  rw [EReal.neg_bot, max_eq_right bot_le, zero_sub, EReal.neg_bot, zero_sub, EReal.neg_top, Ideal.exp_bot, log_one, sub_zero,
    min_eq_right le_top]

theorem lnE_ne (x : EReal) : lnE x ≠ ⊤ := by
  induction x with
  | bot => rw [lnE_bot]; exact EReal.zero_ne_top
  | coe x => rw [lnE_coe]; exact EReal.coe_ne_top _
  | top => rw [lnE_top]; exact bot_ne_top

/-- One head's queries, keys and values. -/
structure He where
  Q : ℕ → ℕ → EReal
  K : ℕ → ℕ → EReal
  V : ℕ → ℕ → EReal

namespace He
variable (h : He)
/-- The score of row `r` against row `c`. -/
def zz (r c : ℕ) : EReal := (∑ d : Fin 128, h.Q r d.val * h.K c d.val) * Ideal.ofBits .f32 0x3DB504F3#32
/-- The logarithm of the share that row `c` passes on, zero outside the mask. -/
def ls (r c : ℕ) : EReal := if c < r then lnE (h.zz r c) else 0
/-- Its sum over the columns from `a` to `b`. -/
def S (r a b : ℕ) : EReal := ∑ c ∈ Finset.Ico a b, h.ls r c
/-- The weight of row `c` in row `r`. -/
def ww (r c : ℕ) : EReal := if c < r then Ideal.exp (h.zz r c + h.ls r c + h.S r (c + 1) 4096) else 0
/-- The weighted sum of the values over the columns from `a` on. -/
def O (a r d : ℕ) : EReal := ∑ c ∈ Finset.Ico a 4096, h.ww r c * h.V c d

theorem ls_ne (r c : ℕ) : h.ls r c ≠ ⊤ := by
  unfold ls
  split
  · exact lnE_ne _
  · exact EReal.zero_ne_top

theorem S_join (r : ℕ) {a b c : ℕ} (h1 : a ≤ b) (h2 : b ≤ c) : h.S r a b + h.S r b c = h.S r a c :=
  Finset.sum_Ico_consecutive _ h1 h2

theorem S_out {r a b : ℕ} (hr : r ≤ a) : h.S r a b = 0 :=
  Finset.sum_eq_zero fun c hc => if_neg (by have := Finset.mem_Ico.1 hc; omega)

theorem O_out {r a d : ℕ} (hr : r ≤ a) : h.O a r d = 0 :=
  Finset.sum_eq_zero fun c hc => by
    unfold ww
    rw [if_neg (by have := Finset.mem_Ico.1 hc; omega), zero_mul]
end He

/-! ## Blocks of extended reals -/

/-- The values of `f` from row `R` and column `C` on. -/
def rv (φ : FTy) (a b : ℕ) (f : ℕ → ℕ → EReal) (R C : ℕ) : FVec Ideal ⟨2, ![a, b]⟩ φ := fun j => f (R + (j 0).val) (C + (j 1).val)
/-- A column: the values of `f` from row `R` on. -/
def rc (f : ℕ → EReal) (R : ℕ) : FVec Ideal S256x1 .f32 := fun j => f (R + (j 0).val)
/-- Two heads side by side: all rows, and the rows from `R` on. -/
def pf (f0 f1 : ℕ → ℕ → EReal) (r c : ℕ) : EReal := if c < 128 then f0 r c else f1 r (c - 128)
def pv (φ : FTy) (f0 f1 : ℕ → ℕ → EReal) : FVec Ideal S4096x256 φ := fun i => pf f0 f1 (i 0).val (i 1).val
def pb (φ : FTy) (f0 f1 : ℕ → ℕ → EReal) (R : ℕ) : FVec Ideal S256x256 φ := fun i => pf f0 f1 (R + (i 0).val) (i 1).val
/-- Two heads one after the other, a value for each row. -/
def tv (T0 T1 : ℕ → EReal) (R : ℕ) : FVec Ideal S2x256x128 .f32 := fun i => if (i 0).val = 0 then T0 (R + (i 1).val) else T1 (R + (i 1).val)

theorem pf_lt (f0 f1 : ℕ → ℕ → EReal) (r c : ℕ) (hc : c < 128) : pf f0 f1 r c = f0 r c := if_pos hc
theorem pf_ge (f0 f1 : ℕ → ℕ → EReal) (r c : ℕ) : pf f0 f1 r (128 + c) = f1 r c := by
  unfold pf; rw [if_neg (by omega), Nat.add_sub_cancel_left]
theorem pf_eq (f0 f1 f : ℕ → ℕ → EReal) (r cc : ℕ) (h0 : ∀ d, f0 r d = f r d) (h1 : ∀ d, f1 r d = f r (128 + d)) : pf f0 f1 r cc = f r cc := by
  by_cases h : cc < 128
  · rw [pf_lt _ _ _ _ h, h0]
  · obtain ⟨d, rfl⟩ : ∃ d, cc = 128 + d := ⟨cc - 128, by omega⟩
    rw [pf_ge, h1]

theorem ld_pv (f0 f1 : ℕ → ℕ → EReal) (off : Fin 2 → ℕ) (R : ℕ) (ho : off = ![R, 0])
    (inb : ∀ a, off a + S256x256.size a ≤ S4096x256.size a) :
    View.ld (Val := Elt Ideal) (e' := .bf16) (pv .bf16 f0 f1) (Rect.unit (s := S4096x256) off S256x256.size inb) = pb .bf16 f0 f1 R := by
  subst ho
  funext i
  pointwise [pv, pb]

theorem fl_pb (f0 f1 : ℕ → ℕ → EReal) (R : ℕ) : fl (pb .bf16 f0 f1 R) = rv .bf16 256 128 f0 R 0 := by
  funext i
  pointwise [fl, pb, rv]
  rw [pf_lt _ _ _ _ (i 1).isLt]

theorem fr_pb (f0 f1 : ℕ → ℕ → EReal) (R : ℕ) : fr (pb .bf16 f0 f1 R) = rv .bf16 256 128 f1 R 0 := by
  funext i
  pointwise [fr, pb, rv]
  rw [pf_ge]

/-! ## What the operations compute -/

theorem sgt_ofNat {a b : ℕ} (ha : a < 256) (hb : b < 256) :
    IntOp.cmpi CmpIPredicate.sgt (BitVec.ofNat 32 a) (BitVec.ofNat 32 b) = BitVec.ofBool (decide (b < a)) := by
  show BitVec.ofBool ((BitVec.ofNat 32 b).slt (BitVec.ofNat 32 a)) = _
  congr 1
  simp only [BitVec.slt]
  rw [decide_eq_decide]
  rw [toInt_small ha, toInt_small hb]; omega

/-- The triangle of ones. -/
theorem later_eq : k0_pay37 (F := Ideal) = fun i => (((if (i 1).val < (i 0).val then 1 else 0 : ℝ)) : EReal) := by
  funext i
  pointwise [k0_pay37]
  rw [sgt_ofNat (i 0).isLt (i 1).isLt, sitofp_bit]; simp

theorem keep_eq (n : ℕ) : k0_pay38 = kp n n := by
  funext i
  pointwise [k0_pay38, kp]
  rw [slt_ofNat (i 1).isLt (i 0).isLt]
  congr 1
  rw [decide_eq_decide]; omega

theorem named_mask : (Named.named κ "mask" 0xF149F2CA#32 : Ideal .f32) = (⊥ : EReal) :=
  IdealRules.named_const.ideal_named_scalar _ _ _ _ rfl

/-- The two halves of an entry, each times 0 or 1, add up to the entry or to nothing. -/
theorem halves (v : EReal) (hv : v ≠ ⊤) (p : Prop) [Decidable p] :
    v * (((if p then 1 else 0 : ℝ)) : EReal) + (v - v) * (((if p then 1 else 0 : ℝ)) : EReal) = if p then v else 0 := by
  by_cases h : p
  · rw [if_pos h, if_pos h, EReal.coe_one, mul_one, mul_one]
    induction v with
    | bot => rfl
    | coe x => rw [← EReal.coe_sub, sub_self, EReal.coe_zero, add_zero]
    | top => exact absurd rfl hv
  · rw [if_neg h, if_neg h, EReal.coe_zero, mul_zero, mul_zero, add_zero]

theorem sum_gt (f : ℕ → EReal) {n : ℕ} (b : Fin n) : ∑ k : Fin n, (if b.val < k.val then f k.val else 0) = ∑ k ∈ Finset.Ico (b.val + 1) n, f k := by
  rw [Fin.sum_univ_eq_sum_range (fun k => if b.val < k then f k else 0) n, ← Finset.sum_filter]
  congr 1; ext k; simp only [Finset.mem_filter, Finset.mem_range, Finset.mem_Ico]; omega

theorem sum_shift (f : ℕ → EReal) (C a b : ℕ) : ∑ k ∈ Finset.Ico a b, f (C + k) = ∑ k ∈ Finset.Ico (C + a) (C + b), f k := by
  rw [Finset.sum_Ico_add, add_comm a, add_comm b]

/-- The sums over the later columns of a block. -/
theorem fC_rv (f : ℕ → ℕ → EReal) (hf : ∀ r c, f r c ≠ ⊤) (R C : ℕ) :
    fC k0_pay37 (rv .f32 256 256 f R C) = fun i => ∑ k ∈ Finset.Ico (C + ((i 1).val + 1)) (C + 256), f (R + (i 0).val) k := by
  rw [later_eq]
  funext i
  pointwise [fC, rv]
  refine Finset.sum_add_distrib.symm.trans ?_
  refine (Finset.sum_congr rfl fun k _ => halves _ (hf _ _) _).trans ?_
  exact (sum_gt (fun k => f (R + (i 0).val) (C + k)) (n := 256) (i 1)).trans (sum_shift _ _ _ _)

section Head
variable (h : He)

/-- Of row block `n` and column block `j`: the exponents, the totals, the sum to the right of the block, the weighted
    sum of the values to the right of the block. -/
def baV (n j : ℕ) : FVec Ideal S256x256 .f32 := fun i =>
  if 256 * j + (i 1).val < 256 * n + (i 0).val then
    h.zz (256 * n + (i 0).val) (256 * j + (i 1).val) + h.ls (256 * n + (i 0).val) (256 * j + (i 1).val)
      + h.S (256 * n + (i 0).val) (256 * j + (i 1).val + 1) (256 * (j + 1))
  else ⊥
def toV (n j : ℕ) := rc (fun r => h.S r (256 * j) (256 * (j + 1))) (256 * n)
def ruV (n j : ℕ) := rc (fun r => h.S r (256 * (j + 1)) 4096) (256 * n)
def acV (n j : ℕ) := rv .f32 256 128 (h.O (256 * (j + 1))) (256 * n) 0
def qV (n : ℕ) := rv .bf16 256 128 h.Q (256 * n) 0
def kV (j : ℕ) := rv .bf16 256 128 h.K (256 * j) 0
def vV (j : ℕ) := rv .bf16 256 128 h.V (256 * j) 0
def zV (n j : ℕ) := rv .f32 256 256 h.zz (256 * n) (256 * j)
def lsV (n j : ℕ) := rv .f32 256 256 h.ls (256 * n) (256 * j)

theorem z_eq (n j : ℕ) : fZ (qV h n) (kV h j) = zV h n j := by
  funext i
  pointwise [fZ, qV, kV, zV, rv]
  simp only [zero_add, He.zz]

theorem fL_at (z : FVec Ideal S256x256 .f32) (i : S256x256.Idx) : fL z i = lnE (z i) := by
  pointwise [fL]
  rfl

theorem l_eq (n j : ℕ) (hj : j < n) : fL (zV h n j) = lsV h n j := by
  funext i
  rw [fL_at]
  unfold zV lsV rv He.ls
  have h0 : (i 0).val < 256 := (i 0).isLt
  have h1 : (i 1).val < 256 := (i 1).isLt
  rw [if_pos (by omega)]

theorem m_eq (n j : ℕ) : fM (kp n j) (fL (zV h n j)) = lsV h n j := by
  funext i
  pointwise [fM, kp]
  rw [fL_at]
  unfold zV lsV rv He.ls
  by_cases hc : 256 * j + (i 1).val < 256 * n + (i 0).val
  · simp [hc, Scalar.select]
  · simp [hc, Scalar.select]

theorem b_eq (n j : ℕ) (hj : j < n) : fB (zV h n j) (lsV h n j) (fC k0_pay37 (lsV h n j)) = baV h n j := by
  unfold lsV zV; rw [fC_rv _ h.ls_ne]
  funext i
  pointwise [fB, rv, baV]
  have h0 : (i 0).val < 256 := (i 0).isLt
  have h1 : (i 1).val < 256 := (i 1).isLt
  rw [if_pos (by omega)]
  rfl

theorem k_eq (n j : ℕ) : fK (kp n j) (fB (zV h n j) (lsV h n j) (fC k0_pay37 (lsV h n j))) = baV h n j := by
  unfold lsV zV; rw [fC_rv _ h.ls_ne]
  funext i
  pointwise [fK, fB, rv, baV, kp]
  rw [named_mask]
  by_cases hc : 256 * j + (i 1).val < 256 * n + (i 0).val
  · simp only [hc, decide_true, if_true]
    rfl
  · simp only [hc, decide_false, if_false]

theorem t_eq (n j : ℕ) : fT (fC k0_pay37 (lsV h n j)) (lsV h n j) = toV h n j := by
  unfold lsV; rw [fC_rv _ h.ls_ne]
  funext i
  pointwise [fT, toV, rv, rc]
  unfold He.S
  rw [mul_add, mul_one, add_comm]
  exact (Finset.sum_eq_sum_Ico_succ_bot (by omega) _).symm

theorem ru_eq (n j : ℕ) (hn : n < 16) (hj : j < n) : addf (ruV h n (j + 1)) (toV h n (j + 1)) = ruV h n j := by
  funext i
  pointwise [ruV, toV, rc]
  rw [add_comm, h.S_join _ (by omega) (by omega)]

theorem w_eq (n j : ℕ) (hj : j < 16) (acc' : FVec Ideal S256x128 .f32) (ha : acc' = rv .f32 256 128 (h.O (256 * j)) (256 * n) 0) :
    fW (acV h n j) (ruV h n j) (baV h n j) (vV h j) = acc' := by
  subst ha
  funext i
  pointwise [fW, acV, ruV, baV, vV, rv, rc]
  have e : ∀ x : Fin 256, Ideal.exp ((if 256 * j + x.val < 256 * n + (i 0).val then
      h.zz (256 * n + (i 0).val) (256 * j + x.val) + h.ls (256 * n + (i 0).val) (256 * j + x.val)
        + h.S (256 * n + (i 0).val) (256 * j + x.val + 1) (256 * (j + 1)) else ⊥)
      + h.S (256 * n + (i 0).val) (256 * (j + 1)) 4096) = h.ww (256 * n + (i 0).val) (256 * j + x.val) := by
    intro x
    have hx : x.val < 256 := x.isLt
    unfold He.ww
    by_cases hc : 256 * j + x.val < 256 * n + (i 0).val
    · rw [if_pos hc, if_pos hc, add_assoc, h.S_join _ (by omega) (by omega)]
    · rw [if_neg hc, if_neg hc, EReal.bot_add, Ideal.exp_bot]
  simp only [e, zero_add]
  unfold He.O
  rw [← Finset.sum_Ico_consecutive _ (show 256 * j ≤ 256 * (j + 1) by omega) (show 256 * (j + 1) ≤ 4096 by omega), add_comm]
  congr 1
  rw [Fin.sum_univ_eq_sum_range (fun k => h.ww _ (256 * j + k) * h.V (256 * j + k) _) 256, Finset.range_eq_Ico,
    sum_shift (fun k => h.ww _ k * h.V k _)]
  rfl

/-- To the right of the diagonal there is nothing. -/
theorem ru_start (n : ℕ) : (k0_pay54 (F := Ideal)) = ruV h n n := by
  funext i
  pointwise [k0_pay54, ruV, rc]
  have h0 : (i 0).val < 256 := (i 0).isLt
  rw [h.S_out (by omega)]

theorem ac_start (n : ℕ) : (k0_pay52 (F := Ideal)) = acV h n n := by
  funext i
  pointwise [k0_pay52, acV, rv]
  have h0 : (i 0).val < 256 := (i 0).isLt
  rw [h.O_out (by omega)]

end Head

end Cert.Kernel25Ideal.Hand
-- ==== Proof.FwdTrip.lean ====
module

public import proofs.«01_k».proof.Proof.Gen.Kernel25Ideal.Value
public import proofs.«01_k».proof.Proof.FwdBlock
public import proofs.«01_k».proof.Proof.CaseValue

@[expose] public section

set_option maxRecDepth 16384
noncomputable section
open Idealize.ShloMosaic Idealize.ShloMosaic.TcCoe Idealize.SL.Sem
namespace Cert.Kernel25Ideal.Hand
open Cert.Kernel25Ideal Cert.Kernel25Ideal.Gen
open Cert.KernelIdeal.Hand (kp)

/-! # The attention's forward pass: the loop, and what a grid point stores -/

section Open
variable {F : FTy → Type} [FloatOps F] [Named F]

/-- What the loop carries: for the two heads the weighted sums, the sums to the right, and the next block's exponents and
    totals. -/
abbrev Acc (F : FTy → Type) : Type := FVec F S256x128 .f32 × FVec F S256x128 .f32 × FVec F S256x1 .f32 × FVec F S256x1 .f32 × FVec F S256x256 .f32 × FVec F S256x256 .f32 × FVec F S256x1 .f32 × FVec F S256x1 .f32

/-- The carried values after a trip. -/
def tNext (later : FVec F S256x256 .bf16) (q0 q1 : FVec F S256x128 .bf16) (kj vj : FVec F S256x256 .bf16) (a : Acc F) : Acc F :=
  (fW a.1 a.2.2.1 a.2.2.2.2.1 (fl vj), fW a.2.1 a.2.2.2.1 a.2.2.2.2.2.1 (fr vj),
   addf a.2.2.1 a.2.2.2.2.2.2.1, addf a.2.2.2.1 a.2.2.2.2.2.2.2,
   fB (fZ q0 (fl kj)) (fL (fZ q0 (fl kj))) (fC later (fL (fZ q0 (fl kj)))),
   fB (fZ q1 (fr kj)) (fL (fZ q1 (fr kj))) (fC later (fL (fZ q1 (fr kj)))),
   fT (fC later (fL (fZ q0 (fl kj)))) (fL (fZ q0 (fl kj))),
   fT (fC later (fL (fZ q1 (fr kj)))) (fL (fZ q1 (fr kj))))

/-- The carried values before the loop: the block on the diagonal. -/
def ini (later : FVec F S256x256 .bf16) (q0 q1 : FVec F S256x128 .bf16) (kj : FVec F S256x256 .bf16) : Acc F :=
  let z0 := fZ q0 (fl kj)
  let z1 := fZ q1 (fr kj)
  let l0 := fM k0_pay38 (fL z0)
  let l1 := fM k0_pay38 (fL z1)
  (k0_pay52, k0_pay52, k0_pay54, k0_pay54, fK k0_pay38 (fB z0 l0 (fC later l0)), fK k0_pay38 (fB z1 l1 (fC later l1)),
   fT (fC later l0) l0, fT (fC later l1) l1)

theorem trip_acc (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg1 : BitVec 32) (v0 v1 : Vec F S256x128 .bf16) (v7 : FVec F S256x256 .bf16) (c0 : BitVec 32)
    (X3 : BufTy.Contents (Elt F) arg3.view.ty) (X4 : BufTy.Contents (Elt F) arg4.view.ty) (k : Fin (k0_t1_loop i).trips) (a : Acc F) :
    (trip_k0_t1 (F := F) Variants.none c none i arg2 harg2 arg3 harg3 arg4 harg4 arg5 harg5 arg6 harg6 arg1 v0 v1 v7 c0 X3 X4 k).1 a
      = tNext v7 v0 v1 (arg3.view.readAt (Elt F) (Rect.unit (s := S4096x256) (k0_off2 i k) S256x256.size (facts.k0_off2_inb i k)).toLoadRect X3)
          (arg4.view.readAt (Elt F) (Rect.unit (s := S4096x256) (k0_off3 i k) S256x256.size (facts.k0_off3_inb i k)).toLoadRect X4) a := by
  unfold trip_k0_t1
  rfl

/-- The two heads' queries, and the keys of the block on the diagonal. -/
def wq0 (M : Memref sig .tc .vmem S256x256 .bf16) (h : M.IsWhole) (x : Vec F S256x256 .bf16) : FVec F S256x128 .bf16 :=
  M.view.readAt (Elt F) (Rect.unit (s := S256x256) ![0, 0] S256x128.size inb_S256x256_S256x128_0_0).toLoadRect (h.unread x)
def wq1 (M : Memref sig .tc .vmem S256x256 .bf16) (h : M.IsWhole) (x : Vec F S256x256 .bf16) : FVec F S256x128 .bf16 :=
  M.view.readAt (Elt F) (Rect.unit (s := S256x256) ![0, 128] S256x128.size inb_S256x256_S256x128_0_128).toLoadRect (h.unread x)
def wkd (i : grid0.Coords) (M : Memref sig .tc .vmem S4096x256 .bf16) (h : M.IsWhole) (x : Vec F S4096x256 .bf16) : FVec F S256x256 .bf16 :=
  M.view.readAt (Elt F) (Rect.unit (s := S4096x256) (k0_off1 i) S256x256.size (facts.k0_off1_inb i)).toLoadRect (h.unread x)
/-- The values of the first block. -/
def wv0 (M : Memref sig .tc .vmem S4096x256 .bf16) (h : M.IsWhole) (x : Vec F S4096x256 .bf16) : FVec F S256x256 .bf16 :=
  M.view.readAt (Elt F) (Rect.unit (s := S4096x256) ![0, 0] S256x256.size inb_S4096x256_S256x256_0_0).toLoadRect (h.unread x)

/-- The values after the loop. -/
def sE (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (x0 : Vec F S256x256 .bf16) (x1 x2 : Vec F S4096x256 .bf16) : Acc F :=
  st_k0_t1 Variants.none c none i arg2 harg2 arg3 harg3 arg4 harg4 arg5 harg5 arg6 harg6 (BitVec.ofNat 32 (i 1).val) (wq0 arg2 harg2 x0) (wq1 arg2 harg2 x0) k0_pay37 0#32
    (harg3.unread x1) (harg4.unread x2) (ini k0_pay37 (wq0 arg2 harg2 x0) (wq1 arg2 harg2 x0) (wkd i arg3 harg3 x1)) (k0_t1_loop i).trips

/-- The values after the second loop, which makes no trip. -/
def sF (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (x0 : Vec F S256x256 .bf16) (x1 x2 : Vec F S4096x256 .bf16) (w : BitVec 32) (a : Acc F) : Acc F :=
  st_k0_t2 Variants.none c none i arg2 harg2 arg3 harg3 arg4 harg4 arg5 harg5 arg6 harg6 (BitVec.ofNat 32 (i 1).val) (wq0 arg2 harg2 x0) (wq1 arg2 harg2 x0) k0_pay37 w
    (harg3.unread x1) (harg4.unread x2) (a.1, a.2.1, a.2.2.1, a.2.2.2.1, a.2.2.2.2.1, a.2.2.2.2.2.1, a.2.2.2.2.2.2.1, a.2.2.2.2.2.2.2) (k0_t2_loop i).trips

theorem trips2_eq : ∀ i : grid0.Coords, (k0_t2_loop i).trips = 0 := by decide +kernel

theorem sF_eq (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (x0 : Vec F S256x256 .bf16) (x1 x2 : Vec F S4096x256 .bf16) (w : BitVec 32) (a : Acc F) :
    sF c i arg2 harg2 arg3 harg3 arg4 harg4 arg5 harg5 arg6 harg6 x0 x1 x2 w a = a := by
  unfold sF
  rw [trips2_eq, st_k0_t2_zero]

/-- What the body stores in its two results. -/
def outO (a : Acc F) (v : FVec F S256x256 .bf16) : List ((r : Rect S256x256) × (r.shape.Idx → Elt F .bf16)) :=
  [⟨Rect.unit (s := S256x256) ![0, 128] S256x128.size inb_S256x256_S256x128_0_128, truncf .bf16 (fW a.2.1 a.2.2.2.1 a.2.2.2.2.2.1 (fr v)) bitsLt_bf16_f32⟩,
   ⟨Rect.unit (s := S256x256) ![0, 0] S256x128.size inb_S256x256_S256x128_0_0, truncf .bf16 (fW a.1 a.2.2.1 a.2.2.2.2.1 (fl v)) bitsLt_bf16_f32⟩]
def outT (a : Acc F) : List ((r : Rect S2x256x128) × (r.shape.Idx → Elt F .f32)) :=
  [⟨Rect.unit (s := S2x256x128) ![1, 0, 0] S1x256x128.size inb_S2x256x128_S1x256x128_1_0_0, fO a.2.2.2.1 a.2.2.2.2.2.2.2⟩,
   ⟨Rect.unit (s := S2x256x128) ![0, 0, 0] S1x256x128.size inb_S2x256x128_S1x256x128_0_0_0, fO a.2.2.1 a.2.2.2.2.2.2.1⟩]

theorem run_o (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (x0 : Vec F S256x256 .bf16) (x1 x2 : Vec F S4096x256 .bf16) :
    (kernelRun0_A (F := F) c i arg2 harg2 arg3 harg3 arg4 harg4 arg5 harg5 arg6 harg6 x0 x1 x2).1 = outO (sE c i arg2 harg2 arg3 harg3 arg4 harg4 arg5 harg5 arg6 harg6 x0 x1 x2) (wv0 arg4 harg4 x2) := by
  have e : ∃ w, (kernelRun0_A (F := F) c i arg2 harg2 arg3 harg3 arg4 harg4 arg5 harg5 arg6 harg6 x0 x1 x2).1
      = outO (sF c i arg2 harg2 arg3 harg3 arg4 harg4 arg5 harg5 arg6 harg6 x0 x1 x2 w (sE c i arg2 harg2 arg3 harg3 arg4 harg4 arg5 harg5 arg6 harg6 x0 x1 x2)) (wv0 arg4 harg4 x2) := by
    unfold kernelRun0_A
    exact ⟨_, rfl⟩
  obtain ⟨w, e⟩ := e
  rw [e, sF_eq]

theorem run_t (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (x0 : Vec F S256x256 .bf16) (x1 x2 : Vec F S4096x256 .bf16) :
    (kernelRun0_A (F := F) c i arg2 harg2 arg3 harg3 arg4 harg4 arg5 harg5 arg6 harg6 x0 x1 x2).2.1 = outT (sE c i arg2 harg2 arg3 harg3 arg4 harg4 arg5 harg5 arg6 harg6 x0 x1 x2) := by
  have e : ∃ w, (kernelRun0_A (F := F) c i arg2 harg2 arg3 harg3 arg4 harg4 arg5 harg5 arg6 harg6 x0 x1 x2).2.1
      = outT (sF c i arg2 harg2 arg3 harg3 arg4 harg4 arg5 harg5 arg6 harg6 x0 x1 x2 w (sE c i arg2 harg2 arg3 harg3 arg4 harg4 arg5 harg5 arg6 harg6 x0 x1 x2)) := by
    unfold kernelRun0_A
    exact ⟨_, rfl⟩
  obtain ⟨w, e⟩ := e
  rw [e, sF_eq]
end Open

/-! ## At the extended reals -/

theorem trips_eq : ∀ i : grid0.Coords, (k0_t1_loop i).trips = (i 1).val := by decide +kernel
theorem off1_eq : ∀ i : grid0.Coords, k0_off1 i = ![256 * (i 1).val, 0] := by decide +kernel
theorem off2_eq : ∀ (i : grid0.Coords) (k : Fin (k0_t1_loop i).trips), k0_off2 i k = ![256 * ((i 1).val - k.val - 1), 0] := by decide +kernel
theorem off3_eq : ∀ (i : grid0.Coords) (k : Fin (k0_t1_loop i).trips), k0_off3 i k = ![256 * ((i 1).val - k.val), 0] := by decide +kernel

theorem wq0_eq (M : Memref sig .tc .vmem S256x256 .bf16) (h : M.IsWhole) (f0 f1 : ℕ → ℕ → EReal) (R : ℕ) :
    wq0 (F := Ideal) M h (pb .bf16 f0 f1 R) = rv .bf16 256 128 f0 R 0 := by
  unfold wq0
  rw [View.readAt_eq_ld, h.read_unread]
  funext i
  pointwise [pb, rv]
  rw [pf_lt _ _ _ _ (i 1).isLt]

theorem wq1_eq (M : Memref sig .tc .vmem S256x256 .bf16) (h : M.IsWhole) (f0 f1 : ℕ → ℕ → EReal) (R : ℕ) :
    wq1 (F := Ideal) M h (pb .bf16 f0 f1 R) = rv .bf16 256 128 f1 R 0 := by
  unfold wq1
  rw [View.readAt_eq_ld, h.read_unread]
  funext i
  pointwise [pb, rv]
  rw [pf_ge]

theorem wkd_eq (i : grid0.Coords) (M : Memref sig .tc .vmem S4096x256 .bf16) (h : M.IsWhole) (f0 f1 : ℕ → ℕ → EReal) :
    wkd (F := Ideal) i M h (pv .bf16 f0 f1) = pb .bf16 f0 f1 (256 * (i 1).val) := by
  unfold wkd
  rw [View.readAt_eq_ld, h.read_unread]
  exact ld_pv f0 f1 _ _ (off1_eq i) _

theorem wv0_eq (M : Memref sig .tc .vmem S4096x256 .bf16) (h : M.IsWhole) (f0 f1 : ℕ → ℕ → EReal) :
    wv0 (F := Ideal) M h (pv .bf16 f0 f1) = pb .bf16 f0 f1 (256 * 0) := by
  unfold wv0
  rw [View.readAt_eq_ld, h.read_unread]
  exact ld_pv f0 f1 _ _ rfl _

section Point
variable (g0 g1 : He)

/-- The carried values with column block `j` of row block `n` next. -/
def accV (n j : ℕ) : Acc Ideal :=
  (acV g0 n j, acV g1 n j, ruV g0 n j, ruV g1 n j, baV g0 n j, baV g1 n j, toV g0 n j, toV g1 n j)

theorem acc_next (h : He) (n j : ℕ) (hj : j + 1 < 16) : fW (acV h n (j + 1)) (ruV h n (j + 1)) (baV h n (j + 1)) (vV h (j + 1)) = acV h n j :=
  w_eq h n (j + 1) hj _ rfl

theorem ini_eq (n : ℕ) :
    ini (F := Ideal) k0_pay37 (qV g0 n) (qV g1 n) (pb .bf16 g0.K g1.K (256 * n)) = accV g0 g1 n n := by
  unfold ini
  dsimp only
  rw [fl_pb, fr_pb, show rv .bf16 256 128 g0.K (256 * n) 0 = kV g0 n from rfl, show rv .bf16 256 128 g1.K (256 * n) 0 = kV g1 n from rfl,
    z_eq, z_eq, keep_eq n, m_eq, m_eq, k_eq, k_eq, t_eq, t_eq]
  unfold accV
  rw [← ru_start g0 n, ← ru_start g1 n, ← ac_start g0 n, ← ac_start g1 n]

theorem next_eq (n j : ℕ) (hn : n < 16) (hj : j < n) :
    tNext (F := Ideal) k0_pay37 (qV g0 n) (qV g1 n) (pb .bf16 g0.K g1.K (256 * j)) (pb .bf16 g0.V g1.V (256 * (j + 1))) (accV g0 g1 n (j + 1))
      = accV g0 g1 n j := by
  unfold tNext
  rw [fl_pb g0.K g1.K, fr_pb g0.K g1.K, show rv .bf16 256 128 g0.K (256 * j) 0 = kV g0 j from rfl, show rv .bf16 256 128 g1.K (256 * j) 0 = kV g1 j from rfl,
    z_eq, z_eq, l_eq _ _ _ hj, l_eq _ _ _ hj, b_eq _ _ _ hj, b_eq _ _ _ hj, t_eq, t_eq, fl_pb, fr_pb]
  unfold accV
  dsimp only
  rw [ru_eq _ _ _ hn hj, ru_eq _ _ _ hn hj, show rv .bf16 256 128 g0.V (256 * (j + 1)) 0 = vV g0 (j + 1) from rfl,
    show rv .bf16 256 128 g1.V (256 * (j + 1)) 0 = vV g1 (j + 1) from rfl, acc_next _ _ _ (by omega), acc_next _ _ _ (by omega)]

/-- The loop, by induction on its trips. -/
theorem loop_val (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) (arg1 c0 : BitVec 32)
    (X3 : BufTy.Contents (Elt Ideal) arg3.view.ty) (X4 : BufTy.Contents (Elt Ideal) arg4.view.ty)
    (e3 : arg3.view.read (Elt Ideal) X3 = pv .bf16 g0.K g1.K) (e4 : arg4.view.read (Elt Ideal) X4 = pv .bf16 g0.V g1.V) :
    ∀ k : ℕ, k ≤ (i 1).val →
      st_k0_t1 (F := Ideal) Variants.none c none i arg2 harg2 arg3 harg3 arg4 harg4 arg5 harg5 arg6 harg6 arg1 (qV g0 (i 1).val) (qV g1 (i 1).val) k0_pay37 c0 X3 X4
        (accV g0 g1 (i 1).val (i 1).val) k = accV g0 g1 (i 1).val ((i 1).val - k) := by
  intro k
  induction k with
  | zero => intro _; rfl
  | succ k ih =>
    intro hk
    have hk' : k < (k0_t1_loop i).trips := by rw [trips_eq]; omega
    refine (st_k0_t1_succ (F := Ideal) Variants.none c none i arg2 harg2 arg3 harg3 arg4 harg4 arg5 harg5 arg6 harg6 arg1 _ _ _ c0 X3 X4 _ ⟨k, hk'⟩).trans ?_
    rw [ih (by omega)]
    refine (trip_acc (F := Ideal) c i arg2 harg2 arg3 harg3 arg4 harg4 arg5 harg5 arg6 harg6 arg1 _ _ _ c0 X3 X4 ⟨k, hk'⟩ _).trans ?_
    rw [View.readAt_eq_ld, View.readAt_eq_ld, e3, e4, ld_pv _ _ _ _ (off2_eq i ⟨k, hk'⟩), ld_pv _ _ _ _ (off3_eq i ⟨k, hk'⟩)]
    have e : (i 1).val - k = (i 1).val - (k + 1) + 1 := by omega
    dsimp only
    rw [show (i 1).val - k - 1 = (i 1).val - (k + 1) by omega, e]
    exact next_eq g0 g1 _ _ (i 1).isLt (by omega)

/-- The values after the loop: the first block is next. -/
theorem sE_val (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S2x256x128 .f32) (harg6 : arg6.IsWhole) :
    sE (F := Ideal) c i arg2 harg2 arg3 harg3 arg4 harg4 arg5 harg5 arg6 harg6 (pb .bf16 g0.Q g1.Q (256 * (i 1).val)) (pv .bf16 g0.K g1.K) (pv .bf16 g0.V g1.V)
      = accV g0 g1 (i 1).val 0 := by
  unfold sE
  rw [wq0_eq, wq1_eq, wkd_eq, trips_eq]
  have := loop_val g0 g1 c i arg2 harg2 arg3 harg3 arg4 harg4 arg5 harg5 arg6 harg6 (BitVec.ofNat 32 (i 1).val) 0#32 (harg3.unread (pv .bf16 g0.K g1.K)) (harg4.unread (pv .bf16 g0.V g1.V))
    (harg3.read_unread _) (harg4.read_unread _) (i 1).val le_rfl
  rw [Nat.sub_self, ← ini_eq g0 g1] at this
  exact this

end Point

/-- The first block's part completes the weighted sum. -/
theorem fin_o (h : He) (n : ℕ) :
    (truncf .bf16 (fW (acV h n 0) (ruV h n 0) (baV h n 0) (rv .bf16 256 128 h.V (256 * 0) 0)) bitsLt_bf16_f32 : FVec Ideal S256x128 .bf16)
      = rv .bf16 256 128 (h.O 0) (256 * n) 0 := by
  rw [show rv .bf16 256 128 h.V (256 * 0) 0 = vV h 0 from rfl, w_eq h n 0 (by omega) _ rfl]
  rfl

theorem fin_t (h : He) (n : ℕ) (y : S1x256x128.Idx) : fO (ruV h n 0) (toV h n 0) y = h.S (256 * n + (y 1).val) 0 4096 := by
  pointwise [fO, ruV, toV, rc]
  rw [add_comm, h.S_join _ (by omega) (by omega)]

/-- The block of the weighted sums, read back. -/
theorem o_val (g0 g1 : He) (n : ℕ) (M : Memref sig .tc .vmem S256x256 .bf16) (G : BufTy.Contents (Elt Ideal) M.view.ty) :
    M.view.read (Elt Ideal) (M.view.writes (Elt Ideal) G (outO (accV g0 g1 n 0) (pb .bf16 g0.V g1.V (256 * 0))))
      = pb .bf16 (g0.O 0) (g1.O 0) (256 * n) := by
  unfold outO
  rw [fl_pb, fr_pb]
  unfold accV
  dsimp only
  rw [fin_o, fin_o]
  funext y
  have hy0 : (y 0).val < 256 := (y 0).isLt
  have hy1 : (y 1).val < 256 := (y 1).isLt
  by_cases hc : (y 1).val < 128
  · refine (View.read_writes_cons_unit_of_not_mem (size := S256x128.size) M.view G inb_S256x256_S256x128_0_128 _ _ y rfl 1 (Or.inl hc)).trans ?_
    refine (View.read_writes_cons_unit_of_mem (size := S256x128.size) M.view G inb_S256x256_S256x128_0_0 _ _ y
        (ix2 (⟨(y 0).val, by omega⟩ : Fin 256) (⟨(y 1).val, hc⟩ : Fin 128)) rfl
        (Fin.forall_fin_two.2 ⟨by show (y 0).val = 0 + (y 0).val; omega,
          by show (y 1).val = 0 + (y 1).val; omega⟩)).trans ?_
    show g0.O 0 (256 * n + (y 0).val) (0 + (y 1).val) = _
    unfold pb
    rw [pf_lt _ _ _ _ hc, Nat.zero_add]
  · refine (View.read_writes_cons_unit_of_mem (size := S256x128.size) M.view G inb_S256x256_S256x128_0_128 _ _ y
        (ix2 (⟨(y 0).val, by omega⟩ : Fin 256) (⟨(y 1).val - 128, by omega⟩ : Fin 128)) rfl
        (Fin.forall_fin_two.2 ⟨by show (y 0).val = 0 + (y 0).val; omega,
          by show (y 1).val = 128 + ((y 1).val - 128); omega⟩)).trans ?_
    show g1.O 0 (256 * n + (y 0).val) (0 + ((y 1).val - 128)) = _
    unfold pb pf
    rw [if_neg hc, Nat.zero_add]

/-- The block of the totals, read back. -/
theorem t_val (g0 g1 : He) (n : ℕ) (M : Memref sig .tc .vmem S2x256x128 .f32) (G : BufTy.Contents (Elt Ideal) M.view.ty) :
    M.view.read (Elt Ideal) (M.view.writes (Elt Ideal) G (outT (accV g0 g1 n 0))) = tv (fun r => g0.S r 0 4096) (fun r => g1.S r 0 4096) (256 * n) := by
  unfold outT accV
  dsimp only
  funext y
  have hy0 : (y 0).val < 2 := (y 0).isLt
  have hy1 : (y 1).val < 256 := (y 1).isLt
  have hy2 : (y 2).val < 128 := (y 2).isLt
  by_cases hc : (y 0).val = 0
  · refine (View.read_writes_cons_unit_of_not_mem (size := S1x256x128.size) M.view G inb_S2x256x128_S1x256x128_1_0_0 _ _ y rfl 0
      (Or.inl (by show (y 0).val < 1; omega))).trans ?_
    refine (View.read_writes_cons_unit_of_mem (size := S1x256x128.size) M.view G inb_S2x256x128_S1x256x128_0_0_0 _ _ y
        (ix3 (⟨0, by omega⟩ : Fin 1) (⟨(y 1).val, by omega⟩ : Fin 256) (⟨(y 2).val, by omega⟩ : Fin 128)) rfl
        (fun a => match a with
          | ⟨0, _⟩ => by show (y 0).val = 0 + 0; omega
          | ⟨1, _⟩ => by show (y 1).val = 0 + (y 1).val; omega
          | ⟨2, _⟩ => by show (y 2).val = 0 + (y 2).val; omega)).trans ?_
    rw [fin_t]
    unfold tv
    rw [if_pos hc]
    rfl
  · refine (View.read_writes_cons_unit_of_mem (size := S1x256x128.size) M.view G inb_S2x256x128_S1x256x128_1_0_0 _ _ y
        (ix3 (⟨0, by omega⟩ : Fin 1) (⟨(y 1).val, by omega⟩ : Fin 256) (⟨(y 2).val, by omega⟩ : Fin 128)) rfl
        (fun a => match a with
          | ⟨0, _⟩ => by show (y 0).val = 1 + 0; omega
          | ⟨1, _⟩ => by show (y 1).val = 0 + (y 1).val; omega
          | ⟨2, _⟩ => by show (y 2).val = 0 + (y 2).val; omega)).trans ?_
    rw [fin_t]
    unfold tv
    rw [if_neg hc]
    rfl

end Cert.Kernel25Ideal.Hand
-- ==== Proof.Fwd.lean ====
module

public import proofs.«01_k».proof.Proof.Claims
public import proofs.«01_k».proof.Proof.FwdTrip
public import proofs.«01_k».proof.Proof.Gen.Reference25Ideal.Run
public import proofs.«01_k».proof.Proof.Gen.Reference25Ideal.Read

@[expose] public section

set_option maxRecDepth 16384
noncomputable section
open Idealize.ShloMosaic Idealize.ShloMosaic.TcCoe Idealize.SL.Sem

/-! # The attention's forward pass: the reference read, and the claims -/

namespace Cert.Reference25Ideal.Hand
open Cert.Reference25Ideal Cert.Reference25Ideal.Gen Cert.Reference25Ideal.Read
open Cert.KernelIdeal.Hand (ln toInt_mid sp_coe)
open Cert.ReferenceIdeal.Hand (ln_neg zero_bits)
open Cert.Kernel25Ideal.Hand (He lnE lnE_coe lnE_top lnE_bot log_one)

/-- An entry of the argument, zero outside of it. -/
def rd (A : FVec Ideal S4096x5120 .bf16) (r c : ℕ) : EReal :=
  if h : r < 4096 ∧ c < 5120 then A (ix2 (⟨r, h.1⟩ : Fin 4096) (⟨c, h.2⟩ : Fin 5120)) else 0

theorem rd_at (A : FVec Ideal S4096x5120 .bf16) (i : S4096x5120.Idx) (r c : ℕ) (hr : (i 0).val = r) (hc : (i 1).val = c) :
    (A i : EReal) = rd A r c := by
  subst hr hc
  have h : (i 0).val < 4096 ∧ (i 1).val < 5120 := ⟨(i 0).isLt, (i 1).isLt⟩
  unfold rd
  rw [dif_pos h]
  refine congrArg A (funext fun a => ?_)
  match a with
  | ⟨0, _⟩ => rfl
  | ⟨1, _⟩ => rfl

/-- Head `h` of the argument. -/
def he (A : FVec Ideal S4096x5120 .bf16) (h : ℕ) : He where
  Q := fun r d => rd A r (128 * h + d)
  K := fun r d => rd A r (1024 + 128 * h + d)
  V := fun r d => rd A r (2048 + 128 * h + d)

/-- The reference's form of the logarithm. -/
theorem sp_ext (x : EReal) : -(max x 0 + Ideal.log1p (Ideal.exp (-FloatOps.absf (F := Ideal) (φ := .f32) x))) = lnE x := by
  induction x with
  | bot =>
    rw [lnE_bot]
    show -(max ⊥ 0 + Ideal.log (1 + Ideal.exp (-max ⊥ (-⊥)))) = (0 : EReal)
    rw [EReal.neg_bot, max_eq_right bot_le, max_eq_right bot_le, EReal.neg_top, Ideal.exp_bot, log_one, add_zero, neg_zero]
  | coe x => rw [lnE_coe]; exact sp_coe x
  | top =>
    rw [lnE_top]
    show -(max ⊤ 0 + Ideal.log (1 + Ideal.exp (-max ⊤ (-⊤)))) = (⊥ : EReal)
    rw [EReal.neg_top, max_eq_left bot_le, max_eq_left le_top, EReal.neg_top, Ideal.exp_bot, log_one, add_zero, EReal.neg_top]

/-- The exponent of a weight: the reference takes the term itself back from the sum from the column on. -/
theorem expo (z s : EReal) : lnE (-z) + ((lnE z + s) - lnE z) = z + lnE z + s := by
  induction z with
  | bot => rw [EReal.neg_bot, lnE_top, EReal.bot_add, EReal.bot_add, EReal.bot_add]
  | coe z =>
    rw [← EReal.coe_neg, lnE_coe, lnE_coe, ln_neg]
    induction s with
    | bot => rw [EReal.add_bot, EReal.add_bot, EReal.bot_sub, EReal.add_bot]
    | coe s => rw [← EReal.coe_add, ← EReal.coe_sub, ← EReal.coe_add, ← EReal.coe_add, ← EReal.coe_add]; congr 1; ring
    | top => rw [EReal.coe_add_top, EReal.top_sub_coe, EReal.coe_add_top, ← EReal.coe_add, EReal.coe_add_top]
  | top => rw [EReal.neg_top, lnE_bot, lnE_top, EReal.bot_add, EReal.bot_sub, EReal.add_bot, EReal.add_bot, EReal.bot_add]

section
variable (A : FVec Ideal S4096x5120 .bf16)

/-- The scores, which both results compute. -/
theorem z_at (i : S8x4096x4096.Idx) : val_main_v11 (F := Ideal) A i = (he A (i 0).val).zz (i 1).val (i 2).val := by
  pointwise [val_main_v11, val_main_v10, val_main_v9, val_main_v5, val_main_v4, val_main_v3, val_main_v2, val_main_v1, val_main_v0, val_main_cst]
  unfold He.zz
  refine congrArg₂ (· * ·) (Finset.sum_congr rfl fun (x : Fin 128) _ => congrArg₂ (· * ·) ?_ ?_) rfl
  · exact rd_at A _ _ _ rfl (by show (i 0).val * 128 + x.val = 128 * (i 0).val + x.val; omega)
  · exact rd_at A _ _ _ rfl (by show 1024 + ((i 0).val * 128 + x.val) = 1024 + 128 * (i 0).val + x.val; omega)

theorem m_at (i : S8x4096x4096.Idx) : val_main_call1_v1 (F := Ideal) i = BitVec.ofBool (decide ((i 2).val < (i 1).val)) := by
  have h1 : (i 1).val < 4096 := (i 1).isLt
  have h2 : (i 2).val < 4096 := (i 2).isLt
  pointwise [val_main_call1_v1, val_main_v18, val_main_v17, val_main_v16, val_main_v15, val_main_v14, val_main_v13, val_main_v12]
  show BitVec.ofBool (BitVec.slt _ _) = _
  congr 1
  rw [BitVec.slt_eq_decide, toInt_mid h2, toInt_mid h1]
  simp

/-- A choice by a bit, with zero for the other. -/
theorem sel (p : Prop) [Decidable p] (x y : EReal) (hy : y = 0) : Scalar.select (BitVec.ofBool (decide p)) x y = if p then x else 0 := by
  subst hy
  by_cases h : p <;> simp [h, Scalar.select]

theorem ls_at (i : S8x4096x4096.Idx) : val_main_v21 (F := Ideal) A i = (he A (i 0).val).ls (i 1).val (i 2).val := by
  have e : val_main_v20 (F := Ideal) A i = lnE ((he A (i 0).val).zz (i 1).val (i 2).val) := by
    pointwise [val_main_v20, val_main_v19, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1]
    rw [z_at A i, neg_neg, if_neg (fun h => h rfl), sp_ext]
  pointwise [val_main_v21, val_main_call1_v2, val_main_call1_v0, val_main_cst_0]
  rw [m_at i, e]
  exact sel _ _ _ zero_bits

theorem rev_at (i : S8x4096x4096.Idx) : val_main_v22 (F := Ideal) A i = (he A (i 0).val).S (i 1).val (i 2).val 4096 := by
  have h2 : (i 2).val < 4096 := (i 2).isLt
  refine (Cert.Hand.window_sum_ext 0 4095 (val_main_v21 (F := Ideal) A) _ ?_ _ _ i (fun k => (he A (i 0).val).ls (i 1).val k) ?_).trans ?_
  · intro j; pointwise [val_main_call2_v0, val_main_call2_cst]
  · intro j e0 e1
    rw [ls_at A j, e0, e1]
  · exact Cert.Hand.sum_from_ext _ _ _ (by omega)

theorem ww_at (i : S8x4096x4096.Idx) : val_main_v27 (F := Ideal) A i = (he A (i 0).val).ww (i 1).val (i 2).val := by
  have h2 : (i 2).val < 4096 := (i 2).isLt
  have e : val_main_v24 (F := Ideal) A i = lnE (-(he A (i 0).val).zz (i 1).val (i 2).val) := by
    pointwise [val_main_v24, val_main_call3_v0, val_main_call3_call0_cst, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, val_main_call3_v1]
    rw [z_at A i, if_neg (fun h => h rfl), sp_ext]
  pointwise [val_main_v27, val_main_call4_v2, val_main_call4_v0, val_main_cst_1, val_main_v26, val_main_v25, val_main_v23]
  rw [show val_main_call4_v1 (F := Ideal) i = val_main_call1_v1 (F := Ideal) i from rfl, m_at i, e, rev_at A i, ls_at A i]
  refine (sel _ _ _ zero_bits).trans ?_
  unfold He.ww
  by_cases h : (i 2).val < (i 1).val
  · rw [if_pos h, if_pos h]
    have el : (he A (i 0).val).ls (i 1).val (i 2).val = lnE ((he A (i 0).val).zz (i 1).val (i 2).val) := if_pos h
    unfold He.S
    rw [Finset.sum_eq_sum_Ico_succ_bot h2, el, expo]
  · rw [if_neg h, if_neg h]

theorem o_at (i : S4096x1024.Idx) : val_main_v31 (F := Ideal) A i = (he A ((i 1).val / 128)).O 0 (i 0).val ((i 1).val % 128) := by
  pointwise [val_main_v31, val_main_v30, val_main_v29, val_main_v28, val_main_v8, val_main_v7, val_main_v6]
  have h1 : (i 1).val < 1024 := (i 1).isLt
  refine (Finset.sum_congr rfl fun x _ => congrArg₂ (· * ·) (rd_at A _ x.val (2048 + (i 1).val) rfl rfl) (ww_at A _)).trans ?_
  refine (Finset.sum_range fun x => rd A x (2048 + (i 1).val) * (he A ((i 1).val / 128)).ww (i 0).val x).symm.trans ?_
  unfold He.O
  rw [Finset.range_eq_Ico]
  refine Finset.sum_congr rfl fun x _ => (mul_comm _ _).trans (congrArg _ ?_)
  show rd A _ _ = rd A _ _
  congr 1; omega

theorem t_at (i : S8x4096x128.Idx) : val_main_v47 (F := Ideal) A i = (he A (i 0).val).S (i 1).val 0 4096 := by
  have e : val_main_v44 (F := Ideal) A = val_main_v21 (F := Ideal) A := rfl
  pointwise [val_main_v47, val_main_v46, val_main_v45, val_main_cst_4]
  unfold He.S
  rw [← Finset.range_eq_Ico, Finset.sum_range, e]
  refine Finset.sum_congr rfl fun x _ => ?_
  exact ls_at A _

end
end Cert.Reference25Ideal.Hand

namespace Cert.Kernel25Ideal.Hand
open Cert.Kernel25Ideal Cert.Kernel25Ideal.Gen Cert.Kernel25Ideal.Value
open Cert.Reference25Ideal.Hand (he rd rd_at)

theorem idx0 : ∀ t : Fin cfg0.N, win0_0.index t = ![t.val % 16, t.val / 16] := (by decide +kernel : ∀ t : Fin grid0.N, _)
theorem idx1 : ∀ t : Fin cfg0.N, win0_1.index t = ![0, 4 + t.val / 16] := (by decide +kernel : ∀ t : Fin grid0.N, _)
theorem idx2 : ∀ t : Fin cfg0.N, win0_2.index t = ![0, 8 + t.val / 16] := (by decide +kernel : ∀ t : Fin grid0.N, _)
theorem idx3 : ∀ t : Fin cfg0.N, win0_3.index t = ![t.val % 16, t.val / 16] := (by decide +kernel : ∀ t : Fin grid0.N, _)
theorem idx4 : ∀ t : Fin cfg0.N, win0_4.index t = ![t.val / 16, t.val % 16, 0] := (by decide +kernel : ∀ t : Fin grid0.N, _)
theorem row_of : ∀ t : Fin cfg0.N, (grid0.coords t 1).val = t.val % 16 := (by decide +kernel : ∀ t : Fin grid0.N, _)

section
variable (m : (ℓ : Loc nD τ sig) → Buf (Elt Ideal) ℓ) (c : Dev nD) {A : FVec Ideal S4096x5120 .bf16}
  (eA : m ((c : Thread nD τ).loc main_arg0) = A)
include eA

theorem win_q (t : Fin cfg0.N) : iblk m c 0 t = pb .bf16 (he A (2 * (t.val / 16))).Q (he A (2 * (t.val / 16) + 1)).Q (256 * (t.val % 16)) := by
  funext y
  have e : iblk m c 0 t y = A (((cfg0.win 0).blk t).view.emb y) := by
    rw [← eA]; rfl
  have ht : t.val < 64 := t.isLt
  have hy : (y 1).val < 256 := (y 1).isLt
  rw [e]
  unfold pb
  rw [pf_eq _ _ (fun r cc => rd A r (256 * (t.val / 16) + cc))]
  · refine rd_at A _ _ _ ?_ ?_
    · blk_simp [idx0 t]; omega
    · blk_simp [idx0 t]; omega
  · intro d; show rd A _ _ = rd A _ _; congr 1; omega
  · intro d; show rd A _ _ = rd A _ _; congr 1; omega

theorem win_k (t : Fin cfg0.N) : iblk m c 1 t = pv .bf16 (he A (2 * (t.val / 16))).K (he A (2 * (t.val / 16) + 1)).K := by
  funext y
  have e : iblk m c 1 t y = A (((cfg0.win 1).blk t).view.emb y) := by
    rw [← eA]; rfl
  have ht : t.val < 64 := t.isLt
  have hy : (y 1).val < 256 := (y 1).isLt
  rw [e]
  unfold pv
  rw [pf_eq _ _ (fun r cc => rd A r (1024 + 256 * (t.val / 16) + cc))]
  · refine rd_at A _ _ _ ?_ ?_
    · blk_simp [idx1 t]
    · blk_simp [idx1 t]; omega
  · intro d; show rd A _ _ = rd A _ _; congr 1; omega
  · intro d; show rd A _ _ = rd A _ _; congr 1; omega

theorem win_v (t : Fin cfg0.N) : iblk m c 2 t = pv .bf16 (he A (2 * (t.val / 16))).V (he A (2 * (t.val / 16) + 1)).V := by
  funext y
  have e : iblk m c 2 t y = A (((cfg0.win 2).blk t).view.emb y) := by
    rw [← eA]; rfl
  have ht : t.val < 64 := t.isLt
  have hy : (y 1).val < 256 := (y 1).isLt
  rw [e]
  unfold pv
  rw [pf_eq _ _ (fun r cc => rd A r (2048 + 256 * (t.val / 16) + cc))]
  · refine rd_at A _ _ _ ?_ ?_
    · blk_simp [idx2 t]
    · blk_simp [idx2 t]; omega
  · intro d; show rd A _ _ = rd A _ _; congr 1; omega
  · intro d; show rd A _ _ = rd A _ _; congr 1; omega

/-- The blocks a grid point leaves. -/
theorem outs (t : Fin cfg0.N) :
    (outsAt0 m c t).1 = pb .bf16 ((he A (2 * (t.val / 16))).O 0) ((he A (2 * (t.val / 16) + 1)).O 0) (256 * (t.val % 16))
    ∧ (outsAt0 m c t).2 = tv (fun r => (he A (2 * (t.val / 16))).S r 0 4096) (fun r => (he A (2 * (t.val / 16) + 1)).S r 0 4096) (256 * (t.val % 16)) := by
  unfold outsAt0
  rw [win_q m c eA, win_k m c eA, win_v m c eA, ← row_of t]
  constructor
  · dsimp only
    unfold out0_A_3
    refine (View.read_writes_of_cover _ _ (ms0_3 t).view (ms0_3 t).view.junk _ (cover0_A_3 c _ _ _ _ _ _ _ _ _ _ _ _ _ _)).trans ?_
    rw [run_o, sE_val, wv0_eq]
    exact o_val _ _ _ (ms0_3 t) (ms0_3 t).view.junk
  · dsimp only
    unfold out0_A_4
    refine (View.read_writes_of_cover _ _ (ms0_4 t).view (ms0_4 t).view.junk _ (cover0_A_4 c _ _ _ _ _ _ _ _ _ _ _ _ _ _)).trans ?_
    rw [run_t, sE_val]
    exact t_val _ _ _ (ms0_4 t) (ms0_4 t).view.junk

theorem final3 : (dats m 0 c).arrAt 3 cfg0.N = Cert.Reference25Ideal.Read.val_main_v31 (F := Ideal) A := by
  refine (dats m 0 c).arrAt_eq_of_covers 3 _ (by decide +kernel) fun t hf y => ?_
  refine Eq.trans ?_ (Cert.Reference25Ideal.Hand.o_at A (((cfg0.win 3).blk t).view.emb y)).symm
  have ht : t.val < 64 := t.isLt
  have h1 : (y 1).val < 256 := (y 1).isLt
  have e0 : (((cfg0.win 3).blk t).view.emb y 0).val = 256 * (t.val % 16) + (y 0).val := by blk_simp [idx3 t]; omega
  have e1 : (((cfg0.win 3).blk t).view.emb y 1).val = 256 * (t.val / 16) + (y 1).val := by blk_simp [idx3 t]; omega
  rw [e0, e1]
  show (dats m 0 c).after 3 t y = _
  rw [after0_3, (outs m c eA t).1]
  unfold pb pf
  by_cases h : (y 1).val < 128
  · rw [if_pos h, show (256 * (t.val / 16) + (y 1).val) / 128 = 2 * (t.val / 16) by omega,
      show (256 * (t.val / 16) + (y 1).val) % 128 = (y 1).val by omega]
  · rw [if_neg h, show (256 * (t.val / 16) + (y 1).val) / 128 = 2 * (t.val / 16) + 1 by omega,
      show (256 * (t.val / 16) + (y 1).val) % 128 = (y 1).val - 128 by omega]

theorem final4 : (dats m 0 c).arrAt 4 cfg0.N = Cert.Reference25Ideal.Read.val_main_v47 (F := Ideal) A := by
  refine (dats m 0 c).arrAt_eq_of_covers 4 _ (by decide +kernel) fun t hf y => ?_
  refine Eq.trans ?_ (Cert.Reference25Ideal.Hand.t_at A (((cfg0.win 4).blk t).view.emb y)).symm
  have ht : t.val < 64 := t.isLt
  have h0 : (y 0).val < 2 := (y 0).isLt
  have e0 : (((cfg0.win 4).blk t).view.emb y 0).val = 2 * (t.val / 16) + (y 0).val := by blk_simp [idx4 t]; omega
  have e1 : (((cfg0.win 4).blk t).view.emb y 1).val = 256 * (t.val % 16) + (y 1).val := by blk_simp [idx4 t]; omega
  rw [e0, e1]
  show (dats m 0 c).after 4 t y = _
  rw [after0_4, (outs m c eA t).2]
  unfold tv
  by_cases h : (y 0).val = 0
  · rw [if_pos h, h, Nat.add_zero]
  · rw [if_neg h, show (y 0).val = 1 by omega]

end

theorem preserves : Cert.preserves_Kernel25_Kernel25Ideal :=
  IdealRules.named_const.statement Cert.Kernel25Ideal.κ "mask" .f32 0xF149F2CA#32 ⊥ rfl

theorem frame_ref : Cert.quiescent_Reference25Ideal := fun m ρ _ =>
  (θ_run Cert.Reference25Ideal.defs _ _).mono (fun r h => ⟨fun c => (h c).2.2,
      Idealize.ShloMosaic.sem_eq_zero_of_no_sems (by decide) r.2⟩)
    (Cert.Reference25Ideal.Value.run (F := Ideal) m ρ)

/-- The weighted sums and the totals of the kernel and of the mathematics are the same. -/
theorem algebraic : Cert.algebraic_Kernel25Ideal_Reference25Ideal := by
  intro m ρ m' ρ' _ hagree
  refine ⟨fun c => (dats m 0 c).arrAt 3 cfg0.N, fun c => (dats m 0 c).arrAt 4 cfg0.N, Cert.Kernel25Ideal.Value.run_blocks m ρ, ?_⟩
  refine (θ_run Cert.Reference25Ideal.defs _ _).mono (fun _ h c => ?_) (Cert.Reference25Ideal.Value.run (F := Ideal) m' ρ')
  obtain ⟨h1, h2, h3⟩ := h c
  have ea := hagree c
  refine ⟨h1.trans ?_, h2.trans ?_, h3⟩
  · rw [Cert.Reference25Ideal.Read.val_main_v31_eq, ea]
    exact (final3 m c rfl).symm
  · rw [Cert.Reference25Ideal.Read.val_main_v47_eq, ea]
    exact (final4 m c rfl).symm

end Cert.Kernel25Ideal.Hand
end
-- ==== Proof.Sums.lean ====
module

public import Idealize.ShloMosaic.Lib.ValueIdx
public import Idealize.ShloMosaic.PureOps.Ideal.Laws

@[expose] public section

noncomputable section
namespace Cert.Hand

/-! # Sums of products -/

theorem sum_swap {n : ℕ} (f g : Fin n → EReal) : ∑ k, f k * g k = ∑ k, g k * f k :=
  Finset.sum_congr rfl fun k _ => mul_comm _ _

/-- Sums of products whose factors stand in opposite orders. -/
theorem sum_cross {n : ℕ} (f g f' g' : Fin n → EReal) (hf : ∀ k, f k = g' k) (hg : ∀ k, g k = f' k) :
    ∑ k, f k * g k = ∑ k, f' k * g' k :=
  Finset.sum_congr rfl fun k _ => by rw [hf, hg, mul_comm]

/-- A sum over two ranges in a row. -/
theorem sum_two (n n' N : ℕ) (h : N = n + n') (f : Fin N → EReal) :
    ∑ k, f k = ∑ k : Fin n, f ⟨k.val, by omega⟩ + ∑ k : Fin n', f ⟨n + k.val, by omega⟩ := by
  subst h
  exact Fin.sum_univ_add f

/-- A sum over four ranges in a row. -/
theorem sum_four (n N : ℕ) (h : N = 4 * n) (f : Fin N → EReal) :
    ∑ k, f k = ((∑ k : Fin n, f ⟨k.val, by omega⟩ + ∑ k : Fin n, f ⟨n + k.val, by omega⟩)
      + ∑ k : Fin n, f ⟨2 * n + k.val, by omega⟩) + ∑ k : Fin n, f ⟨3 * n + k.val, by omega⟩ := by
  rw [sum_two (3 * n) n N (by omega), sum_two (2 * n) n (3 * n) (by omega), sum_two n n (2 * n) (by omega)]

end Cert.Hand
end
-- ==== Proof.Mul2.lean ====
module

public import proofs.«01_k».proof.Defs
public import proofs.«01_k».proof.Proof.Sums
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit.Point

@[expose] public section

set_option maxRecDepth 16384
noncomputable section
open Idealize.ShloMosaic Idealize.ShloMosaic.TcCoe Idealize.SL.Sem
namespace Cert.Kernel2Ideal.Hand
open Cert.Hand Cert.Kernel2Ideal Cert.Kernel2Ideal.Gen

/-! # The gradient of the feed-forward layer's second weight -/

theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The array the products leave is the mathematics' gradient. -/
theorem final (m : (ℓ : Loc nD τ sig) → Buf (Elt Ideal) ℓ) (c : Dev nD) :
    (dats m 0 c).arrAt 2 cfg0.N
      = Cert.Reference2Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference2Ideal.Read.val_main_v6, Cert.Reference2Ideal.Read.val_main_v5, Cert.Reference2Ideal.Read.val_main_v4,
    Cert.Reference2Ideal.Read.val_main_v3, Cert.Reference2Ideal.Read.val_main_v0]
  refine (sum_swap _ _).trans ?_
  blk_point [iblk, V, idx0 t, idx1 t, idx2 t]

theorem frame_ref : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem algebraic : Cert.algebraic_Kernel2Ideal_Reference2Ideal := by
  intro m ρ m' ρ' hpre hagree
  refine ⟨fun c => (dats m 0 c).arrAt 2 cfg0.N, Cert.Kernel2Ideal.Value.run_blocks m ρ, ?_⟩
  refine (θ_run Cert.Reference2Ideal.defs _ _).mono (fun _ h c => ?_) (Cert.Reference2Ideal.Value.run (F := Ideal) m' ρ')
  obtain ⟨h1, h2⟩ := h c
  obtain ⟨ea, eb⟩ := hagree c
  refine ⟨h1.trans ?_, h2⟩
  rw [Cert.Reference2Ideal.Read.val_main_v6_eq, ea, eb]
  exact (final m c).symm

end Cert.Kernel2Ideal.Hand
end
-- ==== Proof.Mul3.lean ====
module

public import proofs.«01_k».proof.Defs
public import proofs.«01_k».proof.Proof.Sums
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit.Point

@[expose] public section

set_option maxRecDepth 16384
noncomputable section
open Idealize.ShloMosaic Idealize.ShloMosaic.TcCoe Idealize.SL.Sem
namespace Cert.Kernel3Ideal.Hand
open Cert.Hand Cert.Kernel3Ideal Cert.Kernel3Ideal.Gen

/-! # The gradient of the feed-forward layer's hidden values -/

theorem idx0 : ∀ t : Fin cfg0.N, win0_0.index t = ![t.val / 4, 0] := (by decide +kernel : ∀ t : Fin grid0.N, _)
theorem idx1 : ∀ t : Fin cfg0.N, win0_1.index t = ![0, t.val % 4, 0] := (by decide +kernel : ∀ t : Fin grid0.N, _)
theorem idx2 : ∀ t : Fin cfg0.N, win0_2.index t = ![t.val / 4, t.val % 4] := (by decide +kernel : ∀ t : Fin grid0.N, _)

/-- The array the products leave is the mathematics' gradient. -/
theorem final (m : (ℓ : Loc nD τ sig) → Buf (Elt Ideal) ℓ) (c : Dev nD) :
    (dats m 0 c).arrAt 2 cfg0.N
      = Cert.Reference3Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference3Ideal.Read.val_main_v6, Cert.Reference3Ideal.Read.val_main_v5, Cert.Reference3Ideal.Read.val_main_v4,
    Cert.Reference3Ideal.Read.val_main_v1, Cert.Reference3Ideal.Read.val_main_v0]
  blk_point [iblk, V, idx0 t, idx1 t, idx2 t]

theorem frame_ref : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem algebraic : Cert.algebraic_Kernel3Ideal_Reference3Ideal := by
  intro m ρ m' ρ' hpre hagree
  refine ⟨fun c => (dats m 0 c).arrAt 2 cfg0.N, Cert.Kernel3Ideal.Value.run_blocks m ρ, ?_⟩
  refine (θ_run Cert.Reference3Ideal.defs _ _).mono (fun _ h c => ?_) (Cert.Reference3Ideal.Value.run (F := Ideal) m' ρ')
  obtain ⟨h1, h2⟩ := h c
  obtain ⟨ea, eb⟩ := hagree c
  refine ⟨h1.trans ?_, h2⟩
  rw [Cert.Reference3Ideal.Read.val_main_v6_eq, ea, eb]
  exact (final m c).symm

end Cert.Kernel3Ideal.Hand
end
-- ==== Proof.Mul5.lean ====
module

public import proofs.«01_k».proof.Defs
public import proofs.«01_k».proof.Proof.Sums
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit.Point

@[expose] public section

set_option maxRecDepth 16384
noncomputable section
open Idealize.ShloMosaic Idealize.ShloMosaic.TcCoe Idealize.SL.Sem
namespace Cert.Kernel5Ideal.Hand
open Cert.Hand Cert.Kernel5Ideal Cert.Kernel5Ideal.Gen

/-! # The gradient of the feed-forward layer's first weight -/

theorem idx0 : ∀ t : Fin cfg0.N, win0_0.index t = ![0, t.val / 8] := (by decide +kernel : ∀ t : Fin grid0.N, _)
theorem idx1 : ∀ t : Fin cfg0.N, win0_1.index t = ![0, min (t.val % 8) 3] := (by decide +kernel : ∀ t : Fin grid0.N, _)
theorem idx2 : ∀ t : Fin cfg0.N, win0_2.index t = ![0, t.val % 8 - 4] := (by decide +kernel : ∀ t : Fin grid0.N, _)
theorem idx3 : ∀ t : Fin cfg0.N, win0_3.index t = ![t.val % 8 / 2, t.val / 8, t.val % 2] := (by decide +kernel : ∀ t : Fin grid0.N, _)

theorem place (t : Fin cfg0.N) (y : ((cfg0.win 3).xblock (cfg0.grid.coords t)).Idx) :
    (((cfg0.win 3).blk t).view.emb y 0).val * 2816 + (((cfg0.win 3).blk t).view.emb y 2).val = 1408 * (t.val % 8) + (y 2).val ∧ (y 2).val < 1408 := by
  have hy0 : (y 0).val < 1 := (y 0).isLt
  have hy2 : (y 2).val < 1408 := (y 2).isLt
  refine ⟨?_, hy2⟩
  blk_simp [idx3 t]; omega

/-- The array the products leave is the mathematics' gradient. -/
theorem final (m : (ℓ : Loc nD τ sig) → Buf (Elt Ideal) ℓ) (c : Dev nD) :
    (dats m 0 c).arrAt 3 cfg0.N
      = Cert.Reference5Ideal.Read.val_main_v12 (F := Ideal) (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [after0_3]
  by_cases h0 : t.val % 8 ≤ 3
  · rw [outsAt0_A m c t h0 (by omega)]; frame_out
    pointwise [k0_pay1, Cert.Reference5Ideal.Read.val_main_v12, Cert.Reference5Ideal.Read.val_main_v11, Cert.Reference5Ideal.Read.val_main_v10,
      Cert.Reference5Ideal.Read.val_main_v9, Cert.Reference5Ideal.Read.val_main_v8, Cert.Reference5Ideal.Read.val_main_v7, Cert.Reference5Ideal.Read.val_main_v6,
      Cert.Reference5Ideal.Read.val_main_v5, Cert.Reference5Ideal.Read.val_main_v0]
    refine sum_cross _ _ _ _ (fun x => ?_) (fun x => ?_)
    · blk_ext! [iblk, V, idx0 t, idx3 t]
    · refine Eq.trans ?_ (dif_pos (lt_of_eq_of_lt (place t y).1 (by have := (place t y).2; omega))).symm
      blk_ext! [iblk, V, idx1 t, idx2 t, idx3 t]
  · rw [outsAt0_B m c t h0 (by omega)]; frame_out
    pointwise [k0_pay2, Cert.Reference5Ideal.Read.val_main_v12, Cert.Reference5Ideal.Read.val_main_v11, Cert.Reference5Ideal.Read.val_main_v10,
      Cert.Reference5Ideal.Read.val_main_v9, Cert.Reference5Ideal.Read.val_main_v8, Cert.Reference5Ideal.Read.val_main_v7, Cert.Reference5Ideal.Read.val_main_v6,
      Cert.Reference5Ideal.Read.val_main_v5, Cert.Reference5Ideal.Read.val_main_v0]
    refine sum_cross _ _ _ _ (fun x => ?_) (fun x => ?_)
    · blk_ext! [iblk, V, idx0 t, idx3 t]
    · refine Eq.trans ?_ (dif_neg (not_lt.2 (le_of_le_of_eq (by omega) (place t y).1.symm))).symm
      blk_ext! [iblk, V, idx1 t, idx2 t, idx3 t]

theorem frame_ref : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem algebraic : Cert.algebraic_Kernel5Ideal_Reference5Ideal := by
  intro m ρ m' ρ' hpre hagree
  refine ⟨fun c => (dats m 0 c).arrAt 3 cfg0.N, Cert.Kernel5Ideal.Value.run_blocks m ρ, ?_⟩
  refine (θ_run Cert.Reference5Ideal.defs _ _).mono (fun _ h c => ?_) (Cert.Reference5Ideal.Value.run (F := Ideal) m' ρ')
  obtain ⟨h1, h2⟩ := h c
  obtain ⟨ea, eb, ec⟩ := hagree c
  refine ⟨h1.trans ?_, h2⟩
  rw [Cert.Reference5Ideal.Read.val_main_v12_eq, ea, eb, ec]
  exact (final m c).symm

end Cert.Kernel5Ideal.Hand
end
-- ==== Proof.Mul6.lean ====
module

public import proofs.«01_k».proof.Defs
public import proofs.«01_k».proof.Proof.Sums
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit.Point

@[expose] public section

set_option maxRecDepth 16384
noncomputable section
open Idealize.ShloMosaic Idealize.ShloMosaic.TcCoe Idealize.SL.Sem
namespace Cert.Kernel6Ideal.Hand
open Cert.Hand Cert.Kernel6Ideal Cert.Kernel6Ideal.Gen

/-! # The gradient of the feed-forward layer's input -/

theorem idx0 : ∀ t : Fin cfg0.N, win0_0.index t = ![t.val / 4, 0] := (by decide +kernel : ∀ t : Fin grid0.N, _)
theorem idx1 : ∀ t : Fin cfg0.N, win0_1.index t = ![t.val / 4, 0] := (by decide +kernel : ∀ t : Fin grid0.N, _)
theorem idx2 : ∀ t : Fin cfg0.N, win0_2.index t = ![0, 0, t.val % 4, 0] := (by decide +kernel : ∀ t : Fin grid0.N, _)
theorem idx3 : ∀ t : Fin cfg0.N, win0_3.index t = ![t.val / 4, t.val % 4] := (by decide +kernel : ∀ t : Fin grid0.N, _)
theorem idx4 : ∀ t : Fin cfg0.N, win0_4.index t = ![t.val / 4, t.val % 4] := (by decide +kernel : ∀ t : Fin grid0.N, _)

/-- The array the products leave is the mathematics' gradient. -/
theorem final (m : (ℓ : Loc nD τ sig) → Buf (Elt Ideal) ℓ) (c : Dev nD) :
    (dats m 0 c).arrAt 4 cfg0.N
      = Cert.Reference6Ideal.Read.val_main_v16 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  blk_simp
  rw [after0_4]; frame_out
  pointwise [k0_pay1, Cert.Reference6Ideal.Read.val_main_v16, Cert.Reference6Ideal.Read.val_main_v15, Cert.Reference6Ideal.Read.val_main_v14, Cert.Reference6Ideal.Read.val_main_v13, Cert.Reference6Ideal.Read.val_main_v12, Cert.Reference6Ideal.Read.val_main_v11, Cert.Reference6Ideal.Read.val_main_v10, Cert.Reference6Ideal.Read.val_main_v3, Cert.Reference6Ideal.Read.val_main_v2, Cert.Reference6Ideal.Read.val_main_v1, Cert.Reference6Ideal.Read.val_main_v0, Cert.Reference6Ideal.Read.val_main_cst_1]
  refine Eq.trans ?_ (congrArg₂ (fun a b : EReal => a + b) (congrArg₂ (fun a b : EReal => a + b)
    (sum_two 2816 2816 5632 rfl _).symm (sum_two 2816 2816 5632 rfl _).symm) rfl)
  refine (congrArg₂ (fun a b : EReal => a + b) (add_assoc _ _ _) rfl).trans ?_
  blk_point [iblk, V, idx0 t, idx1 t, idx2 t, idx3 t, idx4 t]

theorem frame_ref : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem algebraic : Cert.algebraic_Kernel6Ideal_Reference6Ideal := by
  intro m ρ m' ρ' hpre hagree
  refine ⟨fun c => (dats m 0 c).arrAt 4 cfg0.N, Cert.Kernel6Ideal.Value.run_blocks m ρ, ?_⟩
  refine (θ_run Cert.Reference6Ideal.defs _ _).mono (fun _ h c => ?_) (Cert.Reference6Ideal.Value.run (F := Ideal) m' ρ')
  obtain ⟨h1, h2⟩ := h c
  obtain ⟨ea, eb, ec, ed⟩ := hagree c
  refine ⟨h1.trans ?_, h2⟩
  rw [Cert.Reference6Ideal.Read.val_main_v16_eq, ea, eb, ec, ed]
  exact (final m c).symm

end Cert.Kernel6Ideal.Hand
end
-- ==== Proof.Mul7.lean ====
module

public import proofs.«01_k».proof.Defs
public import proofs.«01_k».proof.Proof.Sums
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit.Point

@[expose] public section

set_option maxRecDepth 16384
noncomputable section
open Idealize.ShloMosaic Idealize.ShloMosaic.TcCoe Idealize.SL.Sem
namespace Cert.Kernel7Ideal.Hand
open Cert.Hand Cert.Kernel7Ideal Cert.Kernel7Ideal.Gen

/-! # The gradient of a mixer's output -/

theorem idx0 : ∀ t : Fin cfg0.N, win0_0.index t = ![t.val / 2, 0] := (by decide +kernel : ∀ t : Fin grid0.N, _)
theorem idx1 : ∀ t : Fin cfg0.N, win0_1.index t = ![0, t.val % 2, 0] := (by decide +kernel : ∀ t : Fin grid0.N, _)
theorem idx2 : ∀ t : Fin cfg0.N, win0_2.index t = ![t.val / 2, t.val % 2] := (by decide +kernel : ∀ t : Fin grid0.N, _)

/-- The array the blocks' products leave is the mathematics' one. -/
theorem final (m : (ℓ : Loc nD τ sig) → Buf (Elt Ideal) ℓ) (c : Dev nD) :
    (dats m 0 c).arrAt 2 cfg0.N
      = Cert.Reference7Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference7Ideal.Read.val_main_v6, Cert.Reference7Ideal.Read.val_main_v5, Cert.Reference7Ideal.Read.val_main_v1,
    Cert.Reference7Ideal.Read.val_main_v4, Cert.Reference7Ideal.Read.val_main_v0]
  blk_point [iblk, V, idx0 t, idx1 t, idx2 t]

theorem frame_ref : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem algebraic : Cert.algebraic_Kernel7Ideal_Reference7Ideal := by
  intro m ρ m' ρ' hpre hagree
  refine ⟨fun c => (dats m 0 c).arrAt 2 cfg0.N, Cert.Kernel7Ideal.Value.run_blocks m ρ, ?_⟩
  refine (θ_run Cert.Reference7Ideal.defs _ _).mono (fun _ h c => ?_) (Cert.Reference7Ideal.Value.run (F := Ideal) m' ρ')
  obtain ⟨h1, h2⟩ := h c
  obtain ⟨ea, eb⟩ := hagree c
  refine ⟨h1.trans ?_, h2⟩
  rw [Cert.Reference7Ideal.Read.val_main_v6_eq, ea, eb]
  exact (final m c).symm

end Cert.Kernel7Ideal.Hand
end
-- ==== Proof.Mul8.lean ====
module

public import proofs.«01_k».proof.Defs
public import proofs.«01_k».proof.Proof.Sums
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit.Point

@[expose] public section

set_option maxRecDepth 16384
noncomputable section
open Idealize.ShloMosaic Idealize.ShloMosaic.TcCoe Idealize.SL.Sem
namespace Cert.Kernel8Ideal.Hand
open Cert.Hand Cert.Kernel8Ideal Cert.Kernel8Ideal.Gen

/-! # The gradient of a mixer's second weight -/

theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The array the blocks' products leave is the mathematics' one. -/
theorem final (m : (ℓ : Loc nD τ sig) → Buf (Elt Ideal) ℓ) (c : Dev nD) :
    (dats m 0 c).arrAt 2 cfg0.N
      = Cert.Reference8Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference8Ideal.Read.val_main_v6, Cert.Reference8Ideal.Read.val_main_v5, Cert.Reference8Ideal.Read.val_main_v4,
    Cert.Reference8Ideal.Read.val_main_v0, Cert.Reference8Ideal.Read.val_main_v3]
  refine (sum_swap _ _).trans ?_
  blk_point [iblk, V, idx0 t, idx1 t, idx2 t]

theorem frame_ref : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem algebraic : Cert.algebraic_Kernel8Ideal_Reference8Ideal := by
  intro m ρ m' ρ' hpre hagree
  refine ⟨fun c => (dats m 0 c).arrAt 2 cfg0.N, Cert.Kernel8Ideal.Value.run_blocks m ρ, ?_⟩
  refine (θ_run Cert.Reference8Ideal.defs _ _).mono (fun _ h c => ?_) (Cert.Reference8Ideal.Value.run (F := Ideal) m' ρ')
  obtain ⟨h1, h2⟩ := h c
  obtain ⟨ea, eb⟩ := hagree c
  refine ⟨h1.trans ?_, h2⟩
  rw [Cert.Reference8Ideal.Read.val_main_v6_eq, ea, eb]
  exact (final m c).symm

end Cert.Kernel8Ideal.Hand
end
-- ==== Proof.Mul9.lean ====
module

public import proofs.«01_k».proof.Defs
public import proofs.«01_k».proof.Proof.Sums
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit.Point

@[expose] public section

set_option maxRecDepth 16384
noncomputable section
open Idealize.ShloMosaic Idealize.ShloMosaic.TcCoe Idealize.SL.Sem
namespace Cert.Kernel9Ideal.Hand
open Cert.Hand Cert.Kernel9Ideal Cert.Kernel9Ideal.Gen

/-! # The gradient of the odd mixer's first weight -/

theorem idx0 : ∀ t : Fin cfg0.N, win0_0.index t = ![0, t.val / 4] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val % 4, t.val / 4, 0] := (by decide +kernel : ∀ t : Fin grid0.N, _)

/-- The array the blocks' products leave is the mathematics' one. -/
theorem final (m : (ℓ : Loc nD τ sig) → Buf (Elt Ideal) ℓ) (c : Dev nD) :
    (dats m 0 c).arrAt 2 cfg0.N
      = Cert.Reference9Ideal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference9Ideal.Read.val_main_v8, Cert.Reference9Ideal.Read.val_main_v7, Cert.Reference9Ideal.Read.val_main_v6,
    Cert.Reference9Ideal.Read.val_main_v5, Cert.Reference9Ideal.Read.val_main_v4, Cert.Reference9Ideal.Read.val_main_v0,
    Cert.Reference9Ideal.Read.val_main_v3]
  refine (sum_swap _ _).trans ?_
  blk_point [iblk, V, idx0 t, idx1 t, idx2 t]

theorem frame_ref : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

theorem algebraic : Cert.algebraic_Kernel9Ideal_Reference9Ideal := by
  intro m ρ m' ρ' hpre hagree
  refine ⟨fun c => (dats m 0 c).arrAt 2 cfg0.N, Cert.Kernel9Ideal.Value.run_blocks m ρ, ?_⟩
  refine (θ_run Cert.Reference9Ideal.defs _ _).mono (fun _ h c => ?_) (Cert.Reference9Ideal.Value.run (F := Ideal) m' ρ')
  obtain ⟨h1, h2⟩ := h c
  obtain ⟨ea, eb⟩ := hagree c
  refine ⟨h1.trans ?_, h2⟩
  rw [Cert.Reference9Ideal.Read.val_main_v8_eq, ea, eb]
  exact (final m c).symm

end Cert.Kernel9Ideal.Hand
end
-- ==== Proof.Norm.lean ====
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pipeline.ValueKit.Point
public import Idealize.ShloMosaic.Lib.Quiescent

@[expose] public section

set_option maxRecDepth 16384
noncomputable section
open Idealize.ShloMosaic Idealize.ShloMosaic.TcCoe Idealize.SL.Sem
namespace Cert.Kernel24Ideal.Hand
open Cert.Kernel24Ideal Cert.Kernel24Ideal.Gen

/-! # The gradient of the layer norm -/

/-- The mathematics of the norm's gradient runs and leaves its arguments. -/
theorem frame_ref : Cert.quiescent_Reference24Ideal := fun m ρ _ =>
  (θ_run Cert.Reference24Ideal.defs _ _).mono
    (fun r h => ⟨fun c => (h c).2.2.2.2, Idealize.ShloMosaic.sem_eq_zero_of_no_sems (by decide) r.2⟩)
    (Cert.Reference24Ideal.Value.run (F := Ideal) m ρ)

end Cert.Kernel24Ideal.Hand
end
end
-- ==== Proof.Mul10.lean ====
module

public import proofs.«01_k».proof.Defs
public import proofs.«01_k».proof.Proof.Sums
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit.Point

@[expose] public section

set_option maxRecDepth 16384
noncomputable section
open Idealize.ShloMosaic Idealize.ShloMosaic.TcCoe Idealize.SL.Sem
namespace Cert.Kernel10Ideal.Hand
open Cert.Hand Cert.Kernel10Ideal Cert.Kernel10Ideal.Gen

/-! # The gradient of the odd mixer's input -/

theorem idx0 : ∀ t : Fin cfg0.N, win0_0.index t = ![t.val / 4, 0] := (by decide +kernel : ∀ t : Fin grid0.N, _)
theorem idx1 : ∀ t : Fin cfg0.N, win0_1.index t = ![0, 0, t.val % 4, 0] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, t.val % 4] := (by decide +kernel : ∀ t : Fin grid0.N, _)

/-- The array the blocks' products leave is the mathematics' one. -/
theorem final (m : (ℓ : Loc nD τ sig) → Buf (Elt Ideal) ℓ) (c : Dev nD) :
    (dats m 0 c).arrAt 3 cfg0.N
      = Cert.Reference10Ideal.Read.val_main_v12 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay1, Cert.Reference10Ideal.Read.val_main_v12, Cert.Reference10Ideal.Read.val_main_v9,
    Cert.Reference10Ideal.Read.val_main_v11, Cert.Reference10Ideal.Read.val_main_v3, Cert.Reference10Ideal.Read.val_main_v8,
    Cert.Reference10Ideal.Read.val_main_v10, Cert.Reference10Ideal.Read.val_main_v2, Cert.Reference10Ideal.Read.val_main_cst_1,
    Cert.Reference10Ideal.Read.val_main_v1, Cert.Reference10Ideal.Read.val_main_v0]
  refine Eq.trans ?_ (congrArg₂ (fun a b : EReal => a + b) (sum_four 1024 4096 rfl _).symm rfl)
  blk_point [iblk, V, idx0 t, idx1 t, idx2 t, idx3 t]

theorem frame_ref : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

theorem algebraic : Cert.algebraic_Kernel10Ideal_Reference10Ideal := by
  intro m ρ m' ρ' hpre hagree
  refine ⟨fun c => (dats m 0 c).arrAt 3 cfg0.N, Cert.Kernel10Ideal.Value.run_blocks m ρ, ?_⟩
  refine (θ_run Cert.Reference10Ideal.defs _ _).mono (fun _ h c => ?_) (Cert.Reference10Ideal.Value.run (F := Ideal) m' ρ')
  obtain ⟨h1, h2⟩ := h c
  obtain ⟨ea, eb, ec⟩ := hagree c
  refine ⟨h1.trans ?_, h2⟩
  rw [Cert.Reference10Ideal.Read.val_main_v12_eq, ea, eb, ec]
  exact (final m c).symm

end Cert.Kernel10Ideal.Hand
end
-- ==== Proof.Mul11.lean ====
module

public import proofs.«01_k».proof.Defs
public import proofs.«01_k».proof.Proof.Sums
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit.Point

@[expose] public section

set_option maxRecDepth 16384
noncomputable section
open Idealize.ShloMosaic Idealize.ShloMosaic.TcCoe Idealize.SL.Sem
namespace Cert.Kernel11Ideal.Hand
open Cert.Hand Cert.Kernel11Ideal Cert.Kernel11Ideal.Gen

/-! # The gradient of the even mixer's first weight -/

theorem idx0 : ∀ t : Fin cfg0.N, win0_0.index t = ![0, t.val / 4] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val % 4, t.val / 4, 0] := (by decide +kernel : ∀ t : Fin grid0.N, _)

/-- The array the blocks' products leave is the mathematics' one. -/
theorem final (m : (ℓ : Loc nD τ sig) → Buf (Elt Ideal) ℓ) (c : Dev nD) :
    (dats m 0 c).arrAt 2 cfg0.N
      = Cert.Reference11Ideal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference11Ideal.Read.val_main_v8, Cert.Reference11Ideal.Read.val_main_v7,
    Cert.Reference11Ideal.Read.val_main_v6, Cert.Reference11Ideal.Read.val_main_v5, Cert.Reference11Ideal.Read.val_main_v4,
    Cert.Reference11Ideal.Read.val_main_v0, Cert.Reference11Ideal.Read.val_main_v3]
  refine (sum_swap _ _).trans ?_
  blk_point [iblk, V, idx0 t, idx1 t, idx2 t]

theorem frame_ref : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

theorem algebraic : Cert.algebraic_Kernel11Ideal_Reference11Ideal := by
  intro m ρ m' ρ' hpre hagree
  refine ⟨fun c => (dats m 0 c).arrAt 2 cfg0.N, Cert.Kernel11Ideal.Value.run_blocks m ρ, ?_⟩
  refine (θ_run Cert.Reference11Ideal.defs _ _).mono (fun _ h c => ?_) (Cert.Reference11Ideal.Value.run (F := Ideal) m' ρ')
  obtain ⟨h1, h2⟩ := h c
  obtain ⟨ea, eb⟩ := hagree c
  refine ⟨h1.trans ?_, h2⟩
  rw [Cert.Reference11Ideal.Read.val_main_v8_eq, ea, eb]
  exact (final m c).symm

end Cert.Kernel11Ideal.Hand
end
-- ==== Proof.Mul12.lean ====
module

public import proofs.«01_k».proof.Defs
public import proofs.«01_k».proof.Proof.Sums
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit.Point

@[expose] public section

set_option maxRecDepth 16384
noncomputable section
open Idealize.ShloMosaic Idealize.ShloMosaic.TcCoe Idealize.SL.Sem
namespace Cert.Kernel12Ideal.Hand
open Cert.Hand Cert.Kernel12Ideal Cert.Kernel12Ideal.Gen

/-! # The gradient of the even mixer's input -/

theorem idx0 : ∀ t : Fin cfg0.N, win0_0.index t = ![t.val / 4, 0] := (by decide +kernel : ∀ t : Fin grid0.N, _)
theorem idx1 : ∀ t : Fin cfg0.N, win0_1.index t = ![0, 0, t.val % 4, 0] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, t.val % 4] := (by decide +kernel : ∀ t : Fin grid0.N, _)

/-- The array the blocks' products leave is the mathematics' one. -/
theorem final (m : (ℓ : Loc nD τ sig) → Buf (Elt Ideal) ℓ) (c : Dev nD) :
    (dats m 0 c).arrAt 3 cfg0.N
      = Cert.Reference12Ideal.Read.val_main_v12 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay1, Cert.Reference12Ideal.Read.val_main_v12, Cert.Reference12Ideal.Read.val_main_v9,
    Cert.Reference12Ideal.Read.val_main_v11, Cert.Reference12Ideal.Read.val_main_v3, Cert.Reference12Ideal.Read.val_main_v8,
    Cert.Reference12Ideal.Read.val_main_v10, Cert.Reference12Ideal.Read.val_main_v2, Cert.Reference12Ideal.Read.val_main_cst_1,
    Cert.Reference12Ideal.Read.val_main_v1, Cert.Reference12Ideal.Read.val_main_v0]
  refine Eq.trans ?_ (congrArg₂ (fun a b : EReal => a + b) (sum_four 1280 5120 rfl _).symm rfl)
  blk_point [iblk, V, idx0 t, idx1 t, idx2 t, idx3 t]

theorem frame_ref : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

theorem algebraic : Cert.algebraic_Kernel12Ideal_Reference12Ideal := by
  intro m ρ m' ρ' hpre hagree
  refine ⟨fun c => (dats m 0 c).arrAt 3 cfg0.N, Cert.Kernel12Ideal.Value.run_blocks m ρ, ?_⟩
  refine (θ_run Cert.Reference12Ideal.defs _ _).mono (fun _ h c => ?_) (Cert.Reference12Ideal.Value.run (F := Ideal) m' ρ')
  obtain ⟨h1, h2⟩ := h c
  obtain ⟨ea, eb, ec⟩ := hagree c
  refine ⟨h1.trans ?_, h2⟩
  rw [Cert.Reference12Ideal.Read.val_main_v12_eq, ea, eb, ec]
  exact (final m c).symm

end Cert.Kernel12Ideal.Hand
end
-- ==== Proof.Mul13.lean ====
module

public import proofs.«01_k».proof.Defs
public import proofs.«01_k».proof.Proof.Sums
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit.Point

@[expose] public section

set_option maxRecDepth 16384
noncomputable section
open Idealize.ShloMosaic Idealize.ShloMosaic.TcCoe Idealize.SL.Sem
namespace Cert.Kernel13Ideal.Hand
open Cert.Hand Cert.Kernel13Ideal Cert.Kernel13Ideal.Gen

/-! # The feed-forward layer's first product -/

theorem idx0 : ∀ t : Fin cfg0.N, win0_0.index t = ![t.val / 8, 0] := (by decide +kernel : ∀ t : Fin grid0.N, _)
theorem idx1 : ∀ t : Fin cfg0.N, win0_1.index t = ![0, t.val % 8 / 2, 0, t.val % 2] := (by decide +kernel : ∀ t : Fin grid0.N, _)
theorem idx2 : ∀ t : Fin cfg0.N, win0_2.index t = ![t.val / 8, t.val % 8] := (by decide +kernel : ∀ t : Fin grid0.N, _)

/-- The array the blocks' products leave is the mathematics' one. -/
theorem final (m : (ℓ : Loc nD τ sig) → Buf (Elt Ideal) ℓ) (c : Dev nD) :
    (dats m 0 c).arrAt 2 cfg0.N
      = Cert.Reference13Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference13Ideal.Read.val_main_v6, Cert.Reference13Ideal.Read.val_main_v5,
    Cert.Reference13Ideal.Read.val_main_v0, Cert.Reference13Ideal.Read.val_main_v4, Cert.Reference13Ideal.Read.val_main_v3,
    Cert.Reference13Ideal.Read.val_main_v2, Cert.Reference13Ideal.Read.val_main_v1]
  blk_point [iblk, V, idx0 t, idx1 t, idx2 t]

theorem frame_ref : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)

theorem algebraic : Cert.algebraic_Kernel13Ideal_Reference13Ideal := by
  intro m ρ m' ρ' hpre hagree
  refine ⟨fun c => (dats m 0 c).arrAt 2 cfg0.N, Cert.Kernel13Ideal.Value.run_blocks m ρ, ?_⟩
  refine (θ_run Cert.Reference13Ideal.defs _ _).mono (fun _ h c => ?_) (Cert.Reference13Ideal.Value.run (F := Ideal) m' ρ')
  obtain ⟨h1, h2⟩ := h c
  obtain ⟨ea, eb⟩ := hagree c
  refine ⟨h1.trans ?_, h2⟩
  rw [Cert.Reference13Ideal.Read.val_main_v6_eq, ea, eb]
  exact (final m c).symm

end Cert.Kernel13Ideal.Hand
end
-- ==== Proof.Mul14.lean ====
module

public import proofs.«01_k».proof.Defs
public import proofs.«01_k».proof.Proof.Sums
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit.Point

@[expose] public section

set_option maxRecDepth 16384
noncomputable section
open Idealize.ShloMosaic Idealize.ShloMosaic.TcCoe Idealize.SL.Sem
namespace Cert.Kernel14Ideal.Hand
open Cert.Hand Cert.Kernel14Ideal Cert.Kernel14Ideal.Gen

/-! # The feed-forward layer's second product -/

theorem idx0 : ∀ t : Fin cfg0.N, win0_0.index t = ![t.val / 2, 0] := (by decide +kernel : ∀ t : Fin grid0.N, _)
theorem idx1 : ∀ t : Fin cfg0.N, win0_1.index t = ![0, 0, t.val % 2] := (by decide +kernel : ∀ t : Fin grid0.N, _)
theorem idx2 : ∀ t : Fin cfg0.N, win0_2.index t = ![t.val / 2, t.val % 2] := (by decide +kernel : ∀ t : Fin grid0.N, _)

/-- The array the blocks' products leave is the mathematics' one. -/
theorem final (m : (ℓ : Loc nD τ sig) → Buf (Elt Ideal) ℓ) (c : Dev nD) :
    (dats m 0 c).arrAt 2 cfg0.N
      = Cert.Reference14Ideal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference14Ideal.Read.val_main_v3, Cert.Reference14Ideal.Read.val_main_v0,
    Cert.Reference14Ideal.Read.val_main_v2, Cert.Reference14Ideal.Read.val_main_v1]
  blk_point [iblk, V, idx0 t, idx1 t, idx2 t]

theorem frame_ref : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)

theorem algebraic : Cert.algebraic_Kernel14Ideal_Reference14Ideal := by
  intro m ρ m' ρ' hpre hagree
  refine ⟨fun c => (dats m 0 c).arrAt 2 cfg0.N, Cert.Kernel14Ideal.Value.run_blocks m ρ, ?_⟩
  refine (θ_run Cert.Reference14Ideal.defs _ _).mono (fun _ h c => ?_) (Cert.Reference14Ideal.Value.run (F := Ideal) m' ρ')
  obtain ⟨h1, h2⟩ := h c
  obtain ⟨ea, eb⟩ := hagree c
  refine ⟨h1.trans ?_, h2⟩
  rw [Cert.Reference14Ideal.Read.val_main_v3_eq, ea, eb]
  exact (final m c).symm

end Cert.Kernel14Ideal.Hand
end
-- ==== Proof.Mul15.lean ====
module

public import proofs.«01_k».proof.Defs
public import proofs.«01_k».proof.Proof.Sums
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit.Point

@[expose] public section

set_option maxRecDepth 16384
noncomputable section
open Idealize.ShloMosaic Idealize.ShloMosaic.TcCoe Idealize.SL.Sem
namespace Cert.Kernel15Ideal.Hand
open Cert.Hand Cert.Kernel15Ideal Cert.Kernel15Ideal.Gen

/-! # The odd mixer's first product -/

theorem idx0 : ∀ t : Fin cfg0.N, win0_0.index t = ![t.val / 4, 0] := (by decide +kernel : ∀ t : Fin grid0.N, _)
theorem idx1 : ∀ t : Fin cfg0.N, win0_1.index t = ![0, t.val % 4, 0, 0] := (by decide +kernel : ∀ t : Fin grid0.N, _)
theorem idx2 : ∀ t : Fin cfg0.N, win0_2.index t = ![t.val / 4, t.val % 4] := (by decide +kernel : ∀ t : Fin grid0.N, _)

/-- The array the blocks' products leave is the mathematics' one. -/
theorem final (m : (ℓ : Loc nD τ sig) → Buf (Elt Ideal) ℓ) (c : Dev nD) :
    (dats m 0 c).arrAt 2 cfg0.N
      = Cert.Reference15Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference15Ideal.Read.val_main_v6, Cert.Reference15Ideal.Read.val_main_v5,
    Cert.Reference15Ideal.Read.val_main_v0, Cert.Reference15Ideal.Read.val_main_v4, Cert.Reference15Ideal.Read.val_main_v3,
    Cert.Reference15Ideal.Read.val_main_v2, Cert.Reference15Ideal.Read.val_main_v1]
  blk_point [iblk, V, idx0 t, idx1 t, idx2 t]

theorem frame_ref : Cert.quiescent_Reference15Ideal := fun m ρ _ =>
  (θ_run Cert.Reference15Ideal.defs _ _).mono (fun r h => ⟨fun c => (h c).2,
      Idealize.ShloMosaic.sem_eq_zero_of_no_sems (by decide) r.2⟩)
    (Cert.Reference15Ideal.Value.run (F := Ideal) m ρ)

theorem algebraic : Cert.algebraic_Kernel15Ideal_Reference15Ideal := by
  intro m ρ m' ρ' hpre hagree
  refine ⟨fun c => (dats m 0 c).arrAt 2 cfg0.N, Cert.Kernel15Ideal.Value.run_blocks m ρ, ?_⟩
  refine (θ_run Cert.Reference15Ideal.defs _ _).mono (fun _ h c => ?_) (Cert.Reference15Ideal.Value.run (F := Ideal) m' ρ')
  obtain ⟨h1, h2⟩ := h c
  obtain ⟨ea, eb⟩ := hagree c
  refine ⟨h1.trans ?_, h2⟩
  rw [Cert.Reference15Ideal.Read.val_main_v6_eq, ea, eb]
  exact (final m c).symm

end Cert.Kernel15Ideal.Hand
end
-- ==== Proof.Mul16.lean ====
module

public import proofs.«01_k».proof.Defs
public import proofs.«01_k».proof.Proof.Sums
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit.Point

@[expose] public section

set_option maxRecDepth 16384
noncomputable section
open Idealize.ShloMosaic Idealize.ShloMosaic.TcCoe Idealize.SL.Sem
namespace Cert.Kernel16Ideal.Hand
open Cert.Hand Cert.Kernel16Ideal Cert.Kernel16Ideal.Gen

/-! # A mixer's second product -/

theorem idx0 : ∀ t : Fin cfg0.N, win0_0.index t = ![t.val / 2, 0] := (by decide +kernel : ∀ t : Fin grid0.N, _)
theorem idx1 : ∀ t : Fin cfg0.N, win0_1.index t = ![0, 0, t.val % 2] := (by decide +kernel : ∀ t : Fin grid0.N, _)
theorem idx2 : ∀ t : Fin cfg0.N, win0_2.index t = ![t.val / 2, t.val % 2] := (by decide +kernel : ∀ t : Fin grid0.N, _)

/-- The array the blocks' products leave is the mathematics' one. -/
theorem final (m : (ℓ : Loc nD τ sig) → Buf (Elt Ideal) ℓ) (c : Dev nD) :
    (dats m 0 c).arrAt 2 cfg0.N
      = Cert.Reference16Ideal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference16Ideal.Read.val_main_v3, Cert.Reference16Ideal.Read.val_main_v0,
    Cert.Reference16Ideal.Read.val_main_v2, Cert.Reference16Ideal.Read.val_main_v1]
  blk_point [iblk, V, idx0 t, idx1 t, idx2 t]

theorem frame_ref : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run (F := Ideal) m ρ)

theorem algebraic : Cert.algebraic_Kernel16Ideal_Reference16Ideal := by
  intro m ρ m' ρ' hpre hagree
  refine ⟨fun c => (dats m 0 c).arrAt 2 cfg0.N, Cert.Kernel16Ideal.Value.run_blocks m ρ, ?_⟩
  refine (θ_run Cert.Reference16Ideal.defs _ _).mono (fun _ h c => ?_) (Cert.Reference16Ideal.Value.run (F := Ideal) m' ρ')
  obtain ⟨h1, h2⟩ := h c
  obtain ⟨ea, eb⟩ := hagree c
  refine ⟨h1.trans ?_, h2⟩
  rw [Cert.Reference16Ideal.Read.val_main_v3_eq, ea, eb]
  exact (final m c).symm

end Cert.Kernel16Ideal.Hand
end
-- ==== Proof.Mul17.lean ====
module

public import proofs.«01_k».proof.Defs
public import proofs.«01_k».proof.Proof.Sums
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit.Point

@[expose] public section

set_option maxRecDepth 16384
noncomputable section
open Idealize.ShloMosaic Idealize.ShloMosaic.TcCoe Idealize.SL.Sem
namespace Cert.Kernel17Ideal.Hand
open Cert.Hand Cert.Kernel17Ideal Cert.Kernel17Ideal.Gen

/-! # The even mixer's first product -/

theorem idx0 : ∀ t : Fin cfg0.N, win0_0.index t = ![t.val / 4, 0] := (by decide +kernel : ∀ t : Fin grid0.N, _)
theorem idx1 : ∀ t : Fin cfg0.N, win0_1.index t = ![0, t.val % 4, 0, 0] := (by decide +kernel : ∀ t : Fin grid0.N, _)
theorem idx2 : ∀ t : Fin cfg0.N, win0_2.index t = ![t.val / 4, t.val % 4] := (by decide +kernel : ∀ t : Fin grid0.N, _)

/-- The array the blocks' products leave is the mathematics' one. -/
theorem final (m : (ℓ : Loc nD τ sig) → Buf (Elt Ideal) ℓ) (c : Dev nD) :
    (dats m 0 c).arrAt 2 cfg0.N
      = Cert.Reference17Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference17Ideal.Read.val_main_v6, Cert.Reference17Ideal.Read.val_main_v5,
    Cert.Reference17Ideal.Read.val_main_v0, Cert.Reference17Ideal.Read.val_main_v4, Cert.Reference17Ideal.Read.val_main_v3,
    Cert.Reference17Ideal.Read.val_main_v2, Cert.Reference17Ideal.Read.val_main_v1]
  blk_point [iblk, V, idx0 t, idx1 t, idx2 t]

theorem frame_ref : Cert.quiescent_Reference17Ideal := fun m ρ _ =>
  (θ_run Cert.Reference17Ideal.defs _ _).mono (fun r h => ⟨fun c => (h c).2,
      Idealize.ShloMosaic.sem_eq_zero_of_no_sems (by decide) r.2⟩)
    (Cert.Reference17Ideal.Value.run (F := Ideal) m ρ)

theorem algebraic : Cert.algebraic_Kernel17Ideal_Reference17Ideal := by
  intro m ρ m' ρ' hpre hagree
  refine ⟨fun c => (dats m 0 c).arrAt 2 cfg0.N, Cert.Kernel17Ideal.Value.run_blocks m ρ, ?_⟩
  refine (θ_run Cert.Reference17Ideal.defs _ _).mono (fun _ h c => ?_) (Cert.Reference17Ideal.Value.run (F := Ideal) m' ρ')
  obtain ⟨h1, h2⟩ := h c
  obtain ⟨ea, eb⟩ := hagree c
  refine ⟨h1.trans ?_, h2⟩
  rw [Cert.Reference17Ideal.Read.val_main_v6_eq, ea, eb]
  exact (final m c).symm

end Cert.Kernel17Ideal.Hand
end
-- ==== Proof.ActFwd.lean ====
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pipeline.ValueKit.Point
public import Idealize.ShloMosaic.Lib.Quiescent
public import Idealize.ShloMosaic.Lib.WritesUnit

@[expose] public section

set_option maxRecDepth 16384
noncomputable section
open Idealize.ShloMosaic Idealize.ShloMosaic.TcCoe Idealize.SL.Sem
namespace Cert.Kernel27Ideal.Hand
open Cert.Kernel27Ideal Cert.Kernel27Ideal.Gen

/-! # The forward gate

A grid point keeps its block of the gate's rows, with the sixteen rows before them, in scratch, and writes its result in
sixteen pieces of thirty-two rows, each from three shifted reads of the scratch. -/

section Open
variable {F : FTy → Type} [FloatOps F]

/-- The two stores into the scratch: the rows before the block, and the block. -/
def scr (i : grid0.Coords) (w0 : Vec F S16x512 .bf16) (w1 : Vec F S512x512 .bf16) : List (View.Piece (Elt F) S528x512 .f32) :=
  [⟨Rect.unit (s := S528x512) ![16, 0] S512x512.size inb_S528x512_S512x512_16_0, k0_pay3 w1⟩,
   ⟨Rect.unit (s := S528x512) ![0, 0] S16x512.size inb_S528x512_S16x512_0_0, k0_pay2 i w0⟩]

theorem inb_out (k : ℕ) (h : k < 16) : ∀ a : Fin 2, (![32 * k, 0] : Fin 2 → ℕ) a + S32x512.size a ≤ S512x512.size a :=
  Fin.forall_fin_two.mpr ⟨by show 32 * k + 32 ≤ 512; omega, Nat.le_refl 512⟩

theorem inb_scr (k j : ℕ) (h : k < 16) (hj : j ≤ 16) : ∀ a : Fin 2, (![32 * k + j, 0] : Fin 2 → ℕ) a + S32x512.size a ≤ S528x512.size a :=
  Fin.forall_fin_two.mpr ⟨by show 32 * k + j + 32 ≤ 528; omega, Nat.le_refl 512⟩

variable (i : grid0.Coords) (arg2 : Memref sig .tc .vmem S16x512 .bf16) (harg2 : arg2.IsWhole) (arg3 : Memref sig .tc .vmem S512x512 .bf16) (harg3 : arg3.IsWhole)
  (arg4 : Memref sig .tc .vmem S512x512 .bf16) (harg4 : arg4.IsWhole) (arg5 : Memref sig .tc .vmem S3x512 .f32) (harg5 : arg5.IsWhole)
  (arg6 : Memref sig .tc .vmem S1x512 .f32) (harg6 : arg6.IsWhole)
  (arg8 : Memref sig .tc .vmem S528x512 .f32) (x0 : Vec F S16x512 .bf16) (x1 : Vec F S512x512 .bf16) (x2 : Vec F S512x512 .bf16)
  (x3 : Vec F S3x512 .f32) (x4 : Vec F S1x512 .f32)

/-- Thirty-two rows of the scratch. -/
def rows (k j : ℕ) (h : k < 16) (hj : j ≤ 16) : Vec F S32x512 .f32 :=
  arg8.view.readAt (Elt F) (Rect.unit (s := S528x512) ![32 * k + j, 0] S32x512.size (inb_scr k j h hj)).toLoadRect
    (arg8.view.writes (Elt F) arg8.view.junk (scr i (arg2.view.readAt (Elt F) (Rect.unit (s := S16x512) ![0, 0] S16x512.size inb_S16x512_S16x512_0_0).toLoadRect (harg2.unread x0))
      (arg3.view.readAt (Elt F) (Rect.unit (s := S512x512) ![0, 0] S512x512.size inb_S512x512_S512x512_0_0).toLoadRect (harg3.unread x1))))

/-- The `k`-th piece of the result. -/
def piece (k : ℕ) (h : k < 16) : View.Piece (Elt F) S512x512 .bf16 :=
  ⟨Rect.unit (s := S512x512) ![32 * k, 0] S32x512.size (inb_out k h),
   k0_pay7 (arg5.view.readAt (Elt F) (Rect.unit (s := S3x512) ![0, 0] S1x512.size inb_S3x512_S1x512_0_0).toLoadRect (harg5.unread x3))
     (arg5.view.readAt (Elt F) (Rect.unit (s := S3x512) ![1, 0] S1x512.size inb_S3x512_S1x512_1_0).toLoadRect (harg5.unread x3))
     (arg5.view.readAt (Elt F) (Rect.unit (s := S3x512) ![2, 0] S1x512.size inb_S3x512_S1x512_2_0).toLoadRect (harg5.unread x3))
     (arg6.view.readAt (Elt F) (Rect.unit (s := S1x512) ![0, 0] S1x512.size inb_S1x512_S1x512_0_0).toLoadRect (harg6.unread x4))
     (rows i arg2 harg2 arg3 harg3 arg8 x0 x1 k 14 h (by decide)) (rows i arg2 harg2 arg3 harg3 arg8 x0 x1 k 15 h (by decide))
     (rows i arg2 harg2 arg3 harg3 arg8 x0 x1 k 16 h (by decide))
     (arg4.view.readAt (Elt F) (Rect.unit (s := S512x512) ![32 * k, 0] S32x512.size (inb_out k h)).toLoadRect (harg4.unread x2))⟩

/-- All of them, the last first. -/
def pieces : List (View.Piece (Elt F) S512x512 .bf16) :=
  [piece i arg2 harg2 arg3 harg3 arg4 harg4 arg5 harg5 arg6 harg6 arg8 x0 x1 x2 x3 x4 15 (by decide), piece i arg2 harg2 arg3 harg3 arg4 harg4 arg5 harg5 arg6 harg6 arg8 x0 x1 x2 x3 x4 14 (by decide)
  , piece i arg2 harg2 arg3 harg3 arg4 harg4 arg5 harg5 arg6 harg6 arg8 x0 x1 x2 x3 x4 13 (by decide), piece i arg2 harg2 arg3 harg3 arg4 harg4 arg5 harg5 arg6 harg6 arg8 x0 x1 x2 x3 x4 12 (by decide)
  , piece i arg2 harg2 arg3 harg3 arg4 harg4 arg5 harg5 arg6 harg6 arg8 x0 x1 x2 x3 x4 11 (by decide), piece i arg2 harg2 arg3 harg3 arg4 harg4 arg5 harg5 arg6 harg6 arg8 x0 x1 x2 x3 x4 10 (by decide)
  , piece i arg2 harg2 arg3 harg3 arg4 harg4 arg5 harg5 arg6 harg6 arg8 x0 x1 x2 x3 x4 9 (by decide), piece i arg2 harg2 arg3 harg3 arg4 harg4 arg5 harg5 arg6 harg6 arg8 x0 x1 x2 x3 x4 8 (by decide)
  , piece i arg2 harg2 arg3 harg3 arg4 harg4 arg5 harg5 arg6 harg6 arg8 x0 x1 x2 x3 x4 7 (by decide), piece i arg2 harg2 arg3 harg3 arg4 harg4 arg5 harg5 arg6 harg6 arg8 x0 x1 x2 x3 x4 6 (by decide)
  , piece i arg2 harg2 arg3 harg3 arg4 harg4 arg5 harg5 arg6 harg6 arg8 x0 x1 x2 x3 x4 5 (by decide), piece i arg2 harg2 arg3 harg3 arg4 harg4 arg5 harg5 arg6 harg6 arg8 x0 x1 x2 x3 x4 4 (by decide)
  , piece i arg2 harg2 arg3 harg3 arg4 harg4 arg5 harg5 arg6 harg6 arg8 x0 x1 x2 x3 x4 3 (by decide), piece i arg2 harg2 arg3 harg3 arg4 harg4 arg5 harg5 arg6 harg6 arg8 x0 x1 x2 x3 x4 2 (by decide)
  , piece i arg2 harg2 arg3 harg3 arg4 harg4 arg5 harg5 arg6 harg6 arg8 x0 x1 x2 x3 x4 1 (by decide), piece i arg2 harg2 arg3 harg3 arg4 harg4 arg5 harg5 arg6 harg6 arg8 x0 x1 x2 x3 x4 0 (by decide)
  ]

theorem run_eq (c : Dev nD) (arg7 : Memref sig .tc .vmem S512x512 .bf16) (harg7 : arg7.IsWhole) (harg8 : arg8.IsWhole) :
    (kernelRun0_A (F := F) c i arg2 harg2 arg3 harg3 arg4 harg4 arg5 harg5 arg6 harg6 arg7 harg7 arg8 harg8 x0 x1 x2 x3 x4).1
      = pieces i arg2 harg2 arg3 harg3 arg4 harg4 arg5 harg5 arg6 harg6 arg8 x0 x1 x2 x3 x4 := by
  unfold kernelRun0_A
  rfl

end Open

/-! ## Words and the logistic function -/

theorem half : Ideal.ofBits .f32 0x3F000000#32 = ((1 / 2 : ℝ) : EReal) := by
  simp [Ideal.ofBits, Ideal.ieee, -EReal.coe_mul]; norm_num

theorem zero : Ideal.ofBits .f32 0x00000000#32 = 0 := by simp [Ideal.ofBits, Ideal.ieee, -EReal.coe_mul]

theorem logistic_real (x : ℝ) : 1 / 2 * Real.tanh (1 / 2 * x) + 1 / 2 = 1 / (1 + Real.exp (-x)) := by
  have hab : Real.exp (1 / 2 * x) * Real.exp (-(1 / 2 * x)) = 1 := by rw [← Real.exp_add, add_neg_cancel, Real.exp_zero]
  have hx : Real.exp (-x) = Real.exp (-(1 / 2 * x)) * Real.exp (-(1 / 2 * x)) := by rw [← Real.exp_add]; congr 1; ring
  have ha := Real.exp_pos (1 / 2 * x)
  have hb := Real.exp_pos (-(1 / 2 * x))
  rw [Real.tanh_eq_sinh_div_cosh, Real.sinh_eq, Real.cosh_eq, hx]
  generalize Real.exp (1 / 2 * x) = a at *
  generalize Real.exp (-(1 / 2 * x)) = b at *
  have e : 1 / 2 * ((a - b) / 2 / ((a + b) / 2)) + 1 / 2 = a / (a + b) := by
    have : a + b ≠ 0 := by positivity
    field_simp; ring
  rw [e, div_eq_div_iff (by positivity) (by positivity)]
  linear_combination b * hab

/-- The kernel's logistic function by the hyperbolic tangent, and the reference's by the exponential. -/
theorem logistic_ext (x : EReal) : Ideal.ofBits .f32 0x3F000000#32 * Ideal.tanh (Ideal.ofBits .f32 0x3F000000#32 * x) + Ideal.ofBits .f32 0x3F000000#32
    = Ideal.div 1 (1 + Ideal.exp (-x)) := by
  rw [half, ← EReal.coe_one]
  induction x with
  | bot =>
    rw [EReal.coe_mul_bot_of_pos (by norm_num), Ideal.tanh_bot, EReal.neg_bot, Ideal.exp_top, EReal.coe_add_top, Ideal.div, if_neg EReal.top_ne_zero,
      EReal.inv_top, mul_zero, ← EReal.coe_one, ← EReal.coe_neg, ← EReal.coe_mul, ← EReal.coe_add]
    norm_num
  | coe x =>
    rw [← EReal.coe_mul, Ideal.tanh_coe, ← EReal.coe_mul, ← EReal.coe_add, ← EReal.coe_neg, Ideal.exp_coe, ← EReal.coe_add,
      Ideal.div_coe (by have := Real.exp_pos (-x); positivity), logistic_real, ← EReal.coe_mul, one_mul]
  | top =>
    rw [EReal.coe_mul_top_of_pos (by norm_num), Ideal.tanh_top, EReal.neg_top, Ideal.exp_bot, add_zero, Ideal.div_coe one_ne_zero,
      mul_one, ← EReal.coe_add, ← EReal.coe_mul]
    norm_num

/-! ## A grid point's block -/

/-- The convolution's sum at a place: `P` the padded rows from fourteen before the block, `W` the weights, `B` the offset. -/
def gc (P W : ℕ → ℕ → EReal) (B : ℕ → EReal) (r c : ℕ) : EReal :=
  B c + W 0 c * P (r + 14) c + W 1 c * P (r + 15) c + W 2 c * P (r + 16) c

/-- The gated value. -/
def act (P W : ℕ → ℕ → EReal) (B : ℕ → EReal) (U : ℕ → ℕ → EReal) (r c : ℕ) : EReal :=
  gc P W B r c * Ideal.div 1 (1 + Ideal.exp (-gc P W B r c)) * U r c

section Block
variable (i : grid0.Coords) (P W : ℕ → ℕ → EReal) (B : ℕ → EReal) (U : ℕ → ℕ → EReal)

/-- The scratch holds the padded rows. -/
theorem scr_at (M : Memref sig .tc .vmem S528x512 .f32) (w0 : FVec Ideal S16x512 .bf16) (w1 : FVec Ideal S512x512 .bf16)
    (h0 : ∀ y : S16x512.Idx, (k0_pay2 (F := Ideal) i w0 y : EReal) = P (y 0).val (y 1).val)
    (h1 : ∀ y : S512x512.Idx, (w1 y : EReal) = P (16 + (y 0).val) (y 1).val) (y : S528x512.Idx) :
    (M.view.read (Elt Ideal) (M.view.writes (Elt Ideal) M.view.junk (scr (F := Ideal) i w0 w1)) y : EReal) = P (y 0).val (y 1).val := by
  unfold scr
  have hy : (y 0).val < 528 := (y 0).isLt
  by_cases h : (y 0).val < 16
  · refine (View.read_writes_cons_rows_of_not_mem _ _ _ _ _ y rfl rfl (.inl h)).trans ?_
    refine (View.read_writes_cons_rows_of_mem _ _ _ _ _ y (ix2 (⟨(y 0).val, h⟩ : Fin 16) (⟨(y 1).val, (y 1).isLt⟩ : Fin 512)) rfl
      (Nat.zero_add _).symm rfl).trans ?_
    exact h0 _
  · refine (View.read_writes_cons_rows_of_mem _ _ _ _ _ y (ix2 (⟨(y 0).val - 16, by omega⟩ : Fin 512) (⟨(y 1).val, (y 1).isLt⟩ : Fin 512)) rfl
      (by show (y 0).val = 16 + ((y 0).val - 16); omega) rfl).trans ?_
    pointwise [k0_pay3]
    refine (h1 _).trans ?_
    show P (16 + ((y 0).val - 16)) (y 1).val = _
    rw [Nat.add_sub_cancel' (by omega)]

variable (arg2 : Memref sig .tc .vmem S16x512 .bf16) (harg2 : arg2.IsWhole) (arg3 : Memref sig .tc .vmem S512x512 .bf16) (harg3 : arg3.IsWhole)
  (arg4 : Memref sig .tc .vmem S512x512 .bf16) (harg4 : arg4.IsWhole) (arg5 : Memref sig .tc .vmem S3x512 .f32) (harg5 : arg5.IsWhole)
  (arg6 : Memref sig .tc .vmem S1x512 .f32) (harg6 : arg6.IsWhole) (arg8 : Memref sig .tc .vmem S528x512 .f32)
  (x0 : FVec Ideal S16x512 .bf16) (x1 : FVec Ideal S512x512 .bf16) (x2 : FVec Ideal S512x512 .bf16) (x3 : FVec Ideal S3x512 .f32) (x4 : FVec Ideal S1x512 .f32)
  (h0 : ∀ y : S16x512.Idx, (k0_pay2 (F := Ideal) i x0 y : EReal) = P (y 0).val (y 1).val)
  (h1 : ∀ y : S512x512.Idx, (x1 y : EReal) = P (16 + (y 0).val) (y 1).val)
  (h2 : ∀ y : S512x512.Idx, (x2 y : EReal) = U (y 0).val (y 1).val)
  (h3 : ∀ y : S3x512.Idx, (x3 y : EReal) = W (y 0).val (y 1).val)
  (h4 : ∀ y : S1x512.Idx, (x4 y : EReal) = B (y 1).val)
include h0 h1

theorem rows_at (k j : ℕ) (h : k < 16) (hj : j ≤ 16) (x : S32x512.Idx) :
    (rows (F := Ideal) i arg2 harg2 arg3 harg3 arg8 x0 x1 k j h hj x : EReal) = P (32 * k + j + (x 0).val) (x 1).val := by
  unfold rows
  rw [View.readAt_apply]
  refine (scr_at i P arg8 _ _ (fun y => ?_) (fun y => ?_) _).trans ?_
  · rw [View.readAt_eq_ld, harg2.read_unread]
    refine Eq.trans (congrArg (fun w => k0_pay2 (F := Ideal) i w y) (funext fun z => ?_)) (h0 y)
    pointwise []
  · rw [View.readAt_eq_ld, harg3.read_unread]
    pointwise []
    exact h1 y
  · show P (32 * k + j + 1 * (x 0).val) (0 + 1 * (x 1).val) = _
    rw [Nat.one_mul, Nat.one_mul, Nat.zero_add]

include h2 h3 h4

theorem piece_at (k : ℕ) (h : k < 16) (x : S32x512.Idx) :
    ((piece (F := Ideal) i arg2 harg2 arg3 harg3 arg4 harg4 arg5 harg5 arg6 harg6 arg8 x0 x1 x2 x3 x4 k h).2 x : EReal)
      = act P W B U (32 * k + (x 0).val) (x 1).val := by
  unfold piece
  dsimp only
  simp only [View.readAt_eq_ld, harg4.read_unread, harg5.read_unread, harg6.read_unread]
  pointwise [k0_pay7]
  rw [logistic_ext]
  simp only [rows_at i P arg2 harg2 arg3 harg3 arg8 x0 x1 h0 h1, h2, h3, h4]
  unfold act gc
  simp only [Nat.add_right_comm _ (x 0).val]
  rfl

end Block

/-! ## The reference -/

section Ref
open Cert.Reference27Ideal.Read

/-- The padded rows of an array: nothing in the first sixteen. -/
def pad (A : FVec Ideal Cert.Reference27Ideal.S4096x11264 .bf16) (r c : ℕ) : EReal :=
  if h : 16 ≤ r ∧ r < 4112 ∧ c < 11264 then A (ix2 (⟨r - 16, by omega⟩ : Fin 4096) (⟨c, h.2.2⟩ : Fin 11264)) else 0

theorem pad_at (A : FVec Ideal Cert.Reference27Ideal.S4096x11264 .bf16) (y : Cert.Reference27Ideal.S4096x11264.Idx) (r c : ℕ) (hr : (y 0).val + 16 = r)
    (hc : (y 1).val = c) : (A y : EReal) = pad A r c := by
  subst hr hc
  have h0 : (y 0).val < 4096 := (y 0).isLt
  unfold pad
  rw [dif_pos ⟨by omega, by omega, (y 1).isLt⟩]
  refine congrArg A (funext fun a => ?_)
  match a with
  | ⟨0, _⟩ => exact Fin.ext (Nat.add_sub_cancel _ _).symm
  | ⟨1, _⟩ => rfl

theorem pad_zero (A : FVec Ideal Cert.Reference27Ideal.S4096x11264 .bf16) (r c : ℕ) (h : r < 16) : pad A r c = 0 :=
  dif_neg fun h' => by omega

theorem ref_pad (A : FVec Ideal Cert.Reference27Ideal.S4096x11264 .bf16) (y : Cert.Reference27Ideal.S4098x5632.Idx) :
    (val_main_v4 (F := Ideal) A y : EReal) = pad A ((y 0).val + 14) (y 1).val := by
  have hy : (y 0).val < 4098 := (y 0).isLt
  unfold val_main_v4
  by_cases h : (y 0).val < 2
  · refine (concatenate_pair_apply_left (s₁ := Cert.Reference27Ideal.S2x5632) (0 : Fin 2) _ _ _ y rfl (show Cert.Reference27Ideal.S2x5632.Idx from ix2 (⟨(y 0).val, h⟩ : Fin 2) (⟨(y 1).val, (y 1).isLt⟩ : Fin 5632))
      (Fin.forall_fin_two.mpr ⟨rfl, rfl⟩)).trans ?_
    rw [pad_zero _ _ _ (by omega)]
    pointwise [val_main_v3, val_main_cst]
  · refine (concatenate_pair_apply_right (s₁ := Cert.Reference27Ideal.S2x5632) (s₂ := Cert.Reference27Ideal.S4096x5632) (0 : Fin 2) _ _ _ y rfl rfl (show Cert.Reference27Ideal.S4096x5632.Idx from ix2 (⟨(y 0).val - 2, by omega⟩ : Fin 4096) (⟨(y 1).val, (y 1).isLt⟩ : Fin 5632))
      (Fin.forall_fin_two.mpr ⟨fun h => absurd rfl h, fun _ => rfl⟩) (by show (y 0).val - 2 + 2 = (y 0).val; omega)).trans ?_
    pointwise [val_main_v1, val_main_v0]
    exact pad_at A _ _ _ (by show (y 0).val - 2 + 16 = _; omega) rfl

theorem ref_at (A : FVec Ideal Cert.Reference27Ideal.S4096x11264 .bf16) (w : FVec Ideal Cert.Reference27Ideal.S3x5632 .f32) (b : FVec Ideal Cert.Reference27Ideal.S1x5632 .f32)
    (W : ℕ → ℕ → EReal) (B : ℕ → EReal)
    (hw : ∀ y : Cert.Reference27Ideal.S3x5632.Idx, (w y : EReal) = W (y 0).val (y 1).val)
    (hb : ∀ y : Cert.Reference27Ideal.S1x5632.Idx, (b y : EReal) = B (y 1).val) (y : Cert.Reference27Ideal.S4096x5632.Idx) :
    (val_main_v31 (F := Ideal) A w b y : EReal) = act (pad A) W B (fun r c => pad A (r + 16) (5632 + c)) (y 0).val (y 1).val := by
  have hs : (val_main_v28 (F := Ideal) A w b y : EReal) = gc (pad A) W B (y 0).val (y 1).val := by
    pointwise [val_main_v28, val_main_v27, val_main_v26, val_main_v25, val_main_v24, val_main_v23, val_main_v22, val_main_v21, val_main_v20, val_main_v19,
      val_main_v18, val_main_v17, val_main_v16, val_main_v15, val_main_v14, val_main_v13, val_main_v12, val_main_v11, val_main_cst_0, val_main_v10,
      val_main_v9, val_main_v8, val_main_v7, val_main_v6, val_main_v5]
    simp only [ref_pad, hw, hb]
    show pad A ((y 0).val + 14) (y 1).val * W 0 (y 1).val + pad A (1 + (y 0).val + 14) (y 1).val * W 1 (y 1).val
      + pad A (2 + (y 0).val + 14) (y 1).val * W 2 (y 1).val + B (y 1).val = _
    rw [show 1 + (y 0).val + 14 = (y 0).val + 15 by omega, show 2 + (y 0).val + 14 = (y 0).val + 16 by omega]
    unfold gc
    rw [add_comm _ (B _), mul_comm (pad A ((y 0).val + 14) _), mul_comm (pad A ((y 0).val + 15) _), mul_comm (pad A ((y 0).val + 16) _),
      ← add_assoc, ← add_assoc]
  pointwise [val_main_v31, val_main_v30, val_main_v29, val_main_call0_v5, val_main_call0_v4, val_main_call0_cst_0, val_main_call0_v3, val_main_call0_v2,
    val_main_call0_cst, val_main_call0_v1, val_main_call0_v0, val_main_v2, val_main_v0]
  rw [hs, pad_at A _ ((y 0).val + 16) (5632 + (y 1).val) rfl rfl]
  rfl

end Ref

/-! ## The arrays -/

/-- Where the windows' blocks lie at a point of the grid. -/
theorem idx : ∀ t : Fin cfg0.N, win0_0.index t = ![t.val % 8 * 32 - 1, t.val / 8] ∧ win0_1.index t = ![t.val % 8, t.val / 8]
    ∧ win0_2.index t = ![t.val % 8, t.val / 8 + 11] ∧ win0_3.index t = ![0, t.val / 8] ∧ win0_4.index t = ![0, t.val / 8]
    ∧ win0_5.index t = ![t.val % 8, t.val / 8] := (by decide +kernel : ∀ t : Fin grid0.N, _)

/-- The rows before the block are read only where there are any. -/
theorem first : ∀ t : Fin cfg0.N, (Scalar.cmpi .sgt (BitVec.ofNat 32 ((grid0.coords t) 1).val) 0#32 : BitVec 1) = if t.val % 8 = 0 then 0#1 else 1#1 :=
  (by decide +kernel : ∀ t : Fin grid0.N, _)

section Arrays
variable (m : (ℓ : Loc nD τ sig) → Buf (Elt Ideal) ℓ) (c : Dev nD)

/-- The arrays of the call by their coordinates. -/
def cw (w : FVec Ideal S3x5632 .f32) (r c : ℕ) : EReal := if h : r < 3 ∧ c < 5632 then w (ix2 (⟨r, h.1⟩ : Fin 3) (⟨c, h.2⟩ : Fin 5632)) else 0
def cb (b : FVec Ideal S1x5632 .f32) (c : ℕ) : EReal := if h : c < 5632 then b (ix2 (0 : Fin 1) (⟨c, h⟩ : Fin 5632)) else 0

theorem cw_at (w : FVec Ideal S3x5632 .f32) (y : S3x5632.Idx) (r c : ℕ) (hr : (y 0).val = r) (hc : (y 1).val = c) : (w y : EReal) = cw w r c := by
  subst hr hc
  unfold cw
  rw [dif_pos ⟨(y 0).isLt, (y 1).isLt⟩]
  refine congrArg w (funext fun a => ?_)
  match a with
  | ⟨0, _⟩ => rfl
  | ⟨1, _⟩ => rfl

theorem cb_at (b : FVec Ideal S1x5632 .f32) (y : S1x5632.Idx) (c : ℕ) (hc : (y 1).val = c) : (b y : EReal) = cb b c := by
  subst hc
  unfold cb
  rw [dif_pos (show (y 1).val < 5632 from (y 1).isLt)]
  refine congrArg b (funext fun a => ?_)
  match a with
  | ⟨0, _⟩ => exact Subsingleton.elim (α := Fin 1) _ _
  | ⟨1, _⟩ => rfl

variable {m c}
variable {A : FVec Ideal S4096x11264 .bf16} (eA : m ((c : Thread nD τ).loc main_arg0) = A)
  {w : FVec Ideal S3x5632 .f32} (ew : m ((c : Thread nD τ).loc main_arg1) = w)
  {b : FVec Ideal S1x5632 .f32} (eb : m ((c : Thread nD τ).loc main_arg2) = b)

include eA

theorem win0 (t : Fin cfg0.N) (y : S16x512.Idx) :
    (k0_pay2 (F := Ideal) (grid0.coords t) (iblk m c 0 t) y : EReal) = pad A (512 * (t.val % 8) + (y 0).val) (512 * (t.val / 8) + (y 1).val) := by
  have hy : (y 0).val < 16 := (y 0).isLt
  unfold k0_pay2
  dsimp only
  rw [first t]
  by_cases h : t.val % 8 = 0
  · rw [if_pos h, pad_zero _ _ _ (by omega)]
    simp only [Scalar.select, if_neg (show ¬(0#1 : BitVec 1) = 1 by decide)]
    pointwise []
  · rw [if_neg h]
    pointwise [Scalar.select]
    have e : iblk m c 0 t y = A (((cfg0.win 0).blk t).view.emb y) := by rw [← eA, ← V_main_arg0 m c]; rfl
    refine Eq.trans e (pad_at A _ _ _ ?_ ?_)
    · blk_simp [(idx t).1]; omega
    · blk_simp [(idx t).1]; omega

theorem win1 (t : Fin cfg0.N) (y : S512x512.Idx) :
    (iblk m c 1 t y : EReal) = pad A (512 * (t.val % 8) + (16 + (y 0).val)) (512 * (t.val / 8) + (y 1).val) := by
  have e : iblk m c 1 t y = A (((cfg0.win 1).blk t).view.emb y) := by rw [← eA, ← V_main_arg0 m c]; rfl
  refine e.trans (pad_at A _ _ _ ?_ ?_)
  · blk_simp [(idx t).2.1]; omega
  · blk_simp [(idx t).2.1]; omega

theorem win2 (t : Fin cfg0.N) (y : S512x512.Idx) :
    (iblk m c 2 t y : EReal) = pad A (512 * (t.val % 8) + (y 0).val + 16) (5632 + (512 * (t.val / 8) + (y 1).val)) := by
  have e : iblk m c 2 t y = A (((cfg0.win 2).blk t).view.emb y) := by rw [← eA, ← V_main_arg0 m c]; rfl
  refine e.trans (pad_at A _ _ _ ?_ ?_)
  · blk_simp [(idx t).2.2.1]; omega
  · blk_simp [(idx t).2.2.1]; omega

omit eA in
include ew in
theorem win3 (t : Fin cfg0.N) (y : S3x512.Idx) : (iblk m c 3 t y : EReal) = cw w (y 0).val (512 * (t.val / 8) + (y 1).val) := by
  have e : iblk m c 3 t y = w (((cfg0.win 3).blk t).view.emb y) := by rw [← ew, ← V_main_arg1 m c]; rfl
  refine e.trans (cw_at w _ _ _ ?_ ?_)
  · blk_simp [(idx t).2.2.2.1]
  · blk_simp [(idx t).2.2.2.1]; omega

omit eA in
include eb in
theorem win4 (t : Fin cfg0.N) (y : S1x512.Idx) : (iblk m c 4 t y : EReal) = cb b (512 * (t.val / 8) + (y 1).val) := by
  have e : iblk m c 4 t y = b (((cfg0.win 4).blk t).view.emb y) := by rw [← eb, ← V_main_arg2 m c]; rfl
  refine e.trans (cb_at b _ _ ?_)
  blk_simp [(idx t).2.2.2.2.1]; omega

include ew eb

/-- The block a grid point leaves. -/
theorem outs (t : Fin cfg0.N) (y : S512x512.Idx) :
    (outsAt0 m c t y : EReal) = act (pad A) (cw w) (cb b) (fun r c => pad A (r + 16) (5632 + c)) (512 * (t.val % 8) + (y 0).val) (512 * (t.val / 8) + (y 1).val) := by
  unfold outsAt0 out0_A_5
  refine (View.read_writes_apply_of_pieces _ _ (fun y : S512x512.Idx => act (fun r d => pad A (512 * (t.val % 8) + r) (512 * (t.val / 8) + d))
    (fun r d => cw w r (512 * (t.val / 8) + d)) (fun d => cb b (512 * (t.val / 8) + d))
    (fun r d => pad A (512 * (t.val % 8) + r + 16) (5632 + (512 * (t.val / 8) + d))) (y 0).val (y 1).val) _ ?_ y (cover0_A_5 c _ _ _ _ _ _ _ _ _ _ _ _ _ _ _ _ _ _ _ _ y)).trans ?_
  · rw [run_eq]
    have hp := piece_at (grid0.coords t) (fun r d => pad A (512 * (t.val % 8) + r) (512 * (t.val / 8) + d))
      (fun r d => cw w r (512 * (t.val / 8) + d)) (fun d => cb b (512 * (t.val / 8) + d))
      (fun r d => pad A (512 * (t.val % 8) + r + 16) (5632 + (512 * (t.val / 8) + d)))
      (ms0_0 t) (hs0_0 t) (ms0_1 t) (hs0_1 t) (ms0_2 t) (hs0_2 t) (ms0_3 t) (hs0_3 t) (ms0_4 t) (hs0_4 t) scM0_0 _ _ _ _ _
      (win0 eA t) (win1 eA t) (win2 eA t) (win3 ew t) (win4 eb t)
    have hq : ∀ k (h : k < 16) (x : S32x512.Idx), (((piece (F := Ideal) (grid0.coords t) (ms0_0 t) (hs0_0 t) (ms0_1 t) (hs0_1 t) (ms0_2 t) (hs0_2 t) (ms0_3 t)
        (hs0_3 t) (ms0_4 t) (hs0_4 t) scM0_0 (iblk m c 0 t) (iblk m c 1 t) (iblk m c 2 t) (iblk m c 3 t) (iblk m c 4 t) k h).1.emb x) 0).val = 32 * k + (x 0).val
        ∧ (((piece (F := Ideal) (grid0.coords t) (ms0_0 t) (hs0_0 t) (ms0_1 t) (hs0_1 t) (ms0_2 t) (hs0_2 t) (ms0_3 t)
        (hs0_3 t) (ms0_4 t) (hs0_4 t) scM0_0 (iblk m c 0 t) (iblk m c 1 t) (iblk m c 2 t) (iblk m c 3 t) (iblk m c 4 t) k h).1.emb x) 1).val = (x 1).val := fun k h x =>
      ⟨by show 32 * k + 1 * (x 0).val = _; omega, by show 0 + 1 * (x 1).val = _; omega⟩
    unfold pieces
    simp only [List.forall_mem_cons, List.not_mem_nil, false_implies, implies_true, and_true]
    refine ⟨?_, ?_, ?_, ?_, ?_, ?_, ?_, ?_, ?_, ?_, ?_, ?_, ?_, ?_, ?_, ?_⟩ <;>
      exact fun x => (hp _ _ x).trans (by dsimp only; rw [(hq _ _ x).1, (hq _ _ x).2])
  · unfold act gc
    simp only [Nat.add_assoc]

theorem final : (dats m 0 c).arrAt 5 cfg0.N = Cert.Reference27Ideal.Read.val_main_v31 (F := Ideal) A w b := by
  refine (dats m 0 c).arrAt_eq_of_covers 5 _ (by decide +kernel) fun t hf y => ?_
  refine Eq.trans ?_ (ref_at A w b (cw w) (cb b) (fun y => cw_at w y _ _ rfl rfl) (fun y => cb_at b y _ rfl) (((cfg0.win 5).blk t).view.emb y)).symm
  have e0 : (((cfg0.win 5).blk t).view.emb y 0).val = 512 * (t.val % 8) + (y 0).val := by blk_simp [(idx t).2.2.2.2.2]; omega
  have e1 : (((cfg0.win 5).blk t).view.emb y 1).val = 512 * (t.val / 8) + (y 1).val := by blk_simp [(idx t).2.2.2.2.2]; omega
  rw [e0, e1]
  show (dats m 0 c).after 5 t y = _
  rw [after0_5]
  exact outs eA ew eb t y

end Arrays

theorem frame_ref : Cert.quiescent_Reference27Ideal := fun m ρ _ =>
  (θ_run Cert.Reference27Ideal.defs _ _).mono
    (fun r h => ⟨fun c => (h c).2, Idealize.ShloMosaic.sem_eq_zero_of_no_sems (by decide) r.2⟩)
    (Cert.Reference27Ideal.Value.run (F := Ideal) m ρ)

theorem algebraic : Cert.algebraic_Kernel27Ideal_Reference27Ideal := by
  intro m ρ m' ρ' hpre hagree
  refine ⟨fun c => (dats m 0 c).arrAt 5 cfg0.N, Cert.Kernel27Ideal.Value.run_blocks m ρ, ?_⟩
  refine (θ_run Cert.Reference27Ideal.defs _ _).mono (fun _ h c => ?_) (Cert.Reference27Ideal.Value.run (F := Ideal) m' ρ')
  obtain ⟨h0, hk⟩ := h c
  obtain ⟨e0, e1, e2⟩ := hagree c
  refine ⟨h0.trans ?_, hk⟩
  rw [Cert.Reference27Ideal.Read.val_main_v31_eq, e0, e1, e2]
  exact (final rfl rfl rfl).symm

end Cert.Kernel27Ideal.Hand
end
-- ==== Proof.Adam.lean ====
module

public import Idealize.ShloMosaic.PureOps.IdealRules

@[expose] public section

noncomputable section
open Idealize.ShloMosaic
namespace Cert.Hand

/-! # The corrections of the moments

The optimiser divides the first moment by `1 - 0.9 ^ 10` and the second by `1 - 0.999 ^ 10`, each rounded to a word;
the kernel multiplies by the reciprocals of these words. -/

theorem word_first : Ideal.ofBits .f32 0x3F26BD02#32 = ((5463681 / 8388608 : ℝ) : EReal) := by
  simp [Ideal.ofBits, Ideal.ieee, -EReal.coe_mul]; norm_num

theorem word_second : Ideal.ofBits .f32 0x3C231ACC#32 = ((2672307 / 268435456 : ℝ) : EReal) := by
  simp [Ideal.ofBits, Ideal.ieee, -EReal.coe_mul]; norm_num

/-- Dividing by the first correction is multiplying by its reciprocal. -/
theorem div_first (x : EReal) : Ideal.div x (Ideal.ofBits .f32 0x3F26BD02#32) = x * ((8388608 / 5463681 : ℝ) : EReal) := by
  rw [word_first, Ideal.div_coe (by norm_num)]; norm_num

/-- Dividing by the second correction is multiplying by its reciprocal. -/
theorem div_second (x : EReal) : Ideal.div x (Ideal.ofBits .f32 0x3C231ACC#32) = x * ((268435456 / 2672307 : ℝ) : EReal) := by
  rw [word_second, Ideal.div_coe (by norm_num)]; norm_num

end Cert.Hand
end
end
-- ==== Proof.Adam18.lean ====
module

public import proofs.«01_k».proof.Defs
public import proofs.«01_k».proof.Proof.Adam
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit.Point
public import Idealize.ShloMosaic.Lib.Quiescent

@[expose] public section

set_option maxRecDepth 16384
noncomputable section
open Idealize.ShloMosaic Idealize.ShloMosaic.TcCoe Idealize.SL.Sem
namespace Cert.Kernel18Ideal.Hand
open Cert.Hand Cert.Kernel18Ideal Cert.Kernel18Ideal.Gen

/-! # The optimiser's step: the first mixer's first weight -/

/-- Every window follows the tiles in order. -/
theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] := (by decide +kernel : ∀ t : Fin grid0.N, _)

theorem named1 : (Named.named κ "c1" 0x3FC48605#32 : Ideal .f32) = ((8388608 / 5463681 : ℝ) : EReal) :=
  IdealRules.named_const.ideal_named_scalar _ _ _ _ rfl

theorem named2 : (Named.named κ "c2" 0x42C8E6D3#32 : Ideal .f32) = ((268435456 / 2672307 : ℝ) : EReal) :=
  IdealRules.named_const.ideal_named_scalar _ _ _ _ rfl

variable (m : (ℓ : Loc nD τ sig) → Buf (Elt Ideal) ℓ) (c : Dev nD)

/-! The four results: the gradient as it came, the step, the first and the second moment. -/

theorem final4 : (dats m 0 c).arrAt 4 cfg0.N
      = Cert.Reference18Ideal.Read.val_main_v0 (F := Ideal) (m ((c : Thread nD τ).loc main_arg1)) := by
  refine (dats m 0 c).arrAt_eq_of_covers 4 _ (by decide +kernel) fun t hf y => ?_
  obtain ⟨i0, i1, i2, i3, i4, i5, i6, i7⟩ := idx t
  blk_simp
  rw [after0_4]; frame_out
  pointwise [k0_pay1, Cert.Reference18Ideal.Read.val_main_v0]
  blk_point [iblk, V, i1, i4]

theorem final5 : (dats m 0 c).arrAt 5 cfg0.N
      = Cert.Reference18Ideal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨i0, i1, i2, i3, i4, i5, i6, i7⟩ := idx t
  blk_simp
  rw [after0_5]; frame_out
  pointwise [k0_pay4, k0_pay5, k0_pay6, named1, named2, div_first, div_second, Cert.Reference18Ideal.Read.val_main_v2, Cert.Reference18Ideal.Read.val_main_v3, Cert.Reference18Ideal.Read.val_main_v4, Cert.Reference18Ideal.Read.val_main_v5, Cert.Reference18Ideal.Read.val_main_v6, Cert.Reference18Ideal.Read.val_main_v1, Cert.Reference18Ideal.Read.val_main_cst, Cert.Reference18Ideal.Read.val_main_cst_0, Cert.Reference18Ideal.Read.val_main_v7, Cert.Reference18Ideal.Read.val_main_v8, Cert.Reference18Ideal.Read.val_main_v9, Cert.Reference18Ideal.Read.val_main_v10, Cert.Reference18Ideal.Read.val_main_v11, Cert.Reference18Ideal.Read.val_main_v12, Cert.Reference18Ideal.Read.val_main_cst_1, Cert.Reference18Ideal.Read.val_main_cst_2, Cert.Reference18Ideal.Read.val_main_v13, Cert.Reference18Ideal.Read.val_main_v14, Cert.Reference18Ideal.Read.val_main_v15, Cert.Reference18Ideal.Read.val_main_v16, Cert.Reference18Ideal.Read.val_main_v17, Cert.Reference18Ideal.Read.val_main_v18, Cert.Reference18Ideal.Read.val_main_v19, Cert.Reference18Ideal.Read.val_main_v20, Cert.Reference18Ideal.Read.val_main_v21, Cert.Reference18Ideal.Read.val_main_v22, Cert.Reference18Ideal.Read.val_main_v23, Cert.Reference18Ideal.Read.val_main_v24, Cert.Reference18Ideal.Read.val_main_v25, Cert.Reference18Ideal.Read.val_main_cst_3, Cert.Reference18Ideal.Read.val_main_cst_4, Cert.Reference18Ideal.Read.val_main_cst_5, Cert.Reference18Ideal.Read.val_main_cst_6, Cert.Reference18Ideal.Read.val_main_cst_7]
  blk_point [iblk, V, i0, i1, i2, i3, i5]

theorem final6 : (dats m 0 c).arrAt 6 cfg0.N
      = Cert.Reference18Ideal.Read.val_main_v6 (F := Ideal) (m ((c : Thread nD τ).loc main_arg1)) (m ((c : Thread nD τ).loc main_arg2)) := by
  refine (dats m 0 c).arrAt_eq_of_covers 6 _ (by decide +kernel) fun t hf y => ?_
  obtain ⟨i0, i1, i2, i3, i4, i5, i6, i7⟩ := idx t
  blk_simp
  rw [after0_6]; frame_out
  pointwise [k0_pay2, k0_pay4, Cert.Reference18Ideal.Read.val_main_v2, Cert.Reference18Ideal.Read.val_main_v3, Cert.Reference18Ideal.Read.val_main_v4, Cert.Reference18Ideal.Read.val_main_v5, Cert.Reference18Ideal.Read.val_main_v6, Cert.Reference18Ideal.Read.val_main_v1, Cert.Reference18Ideal.Read.val_main_cst, Cert.Reference18Ideal.Read.val_main_cst_0]
  blk_point [iblk, V, i1, i2, i6]

theorem final7 : (dats m 0 c).arrAt 7 cfg0.N
      = Cert.Reference18Ideal.Read.val_main_v12 (F := Ideal) (m ((c : Thread nD τ).loc main_arg1)) (m ((c : Thread nD τ).loc main_arg3)) := by
  refine (dats m 0 c).arrAt_eq_of_covers 7 _ (by decide +kernel) fun t hf y => ?_
  obtain ⟨i0, i1, i2, i3, i4, i5, i6, i7⟩ := idx t
  blk_simp
  rw [after0_7]; frame_out
  pointwise [k0_pay3, k0_pay5, Cert.Reference18Ideal.Read.val_main_v7, Cert.Reference18Ideal.Read.val_main_v8, Cert.Reference18Ideal.Read.val_main_v9, Cert.Reference18Ideal.Read.val_main_v10, Cert.Reference18Ideal.Read.val_main_v11, Cert.Reference18Ideal.Read.val_main_v12, Cert.Reference18Ideal.Read.val_main_v1, Cert.Reference18Ideal.Read.val_main_cst_1, Cert.Reference18Ideal.Read.val_main_cst_2]
  blk_point [iblk, V, i1, i3, i7]

theorem frame_ref : Cert.quiescent_Reference18Ideal := fun m ρ _ =>
  (θ_run Cert.Reference18Ideal.defs _ _).mono (fun r h => ⟨fun c => (h c).2.2.2.2,
      Idealize.ShloMosaic.sem_eq_zero_of_no_sems (by decide) r.2⟩)
    (Cert.Reference18Ideal.Value.run (F := Ideal) m ρ)

theorem preserves : Cert.preserves_Kernel18_Kernel18Ideal :=
  ⟨IdealRules.named_const.statement Cert.Kernel18Ideal.κ "c1" .f32 0x3FC48605#32 ((8388608 / 5463681 : ℝ) : EReal) rfl,
    IdealRules.named_const.statement Cert.Kernel18Ideal.κ "c2" .f32 0x42C8E6D3#32 ((268435456 / 2672307 : ℝ) : EReal) rfl⟩

theorem algebraic : Cert.algebraic_Kernel18Ideal_Reference18Ideal := by
  intro m ρ m' ρ' hpre hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.Kernel18Ideal.Value.run_blocks m ρ, ?_⟩
  refine (θ_run Cert.Reference18Ideal.defs _ _).mono (fun _ h c => ?_) (Cert.Reference18Ideal.Value.run (F := Ideal) m' ρ')
  obtain ⟨h0, h1, h2, h3, hk⟩ := h c
  obtain ⟨e0, e1, e2, e3⟩ := hagree c
  refine ⟨h0.trans ?_, h1.trans ?_, h2.trans ?_, h3.trans ?_, hk⟩
  · rw [Cert.Reference18Ideal.Read.val_main_v0_eq, e1]; exact (final4 m c).symm
  · rw [Cert.Reference18Ideal.Read.val_main_v25_eq, e0, e1, e2, e3]; exact (final5 m c).symm
  · rw [Cert.Reference18Ideal.Read.val_main_v6_eq, e1, e2]; exact (final6 m c).symm
  · rw [Cert.Reference18Ideal.Read.val_main_v12_eq, e1, e3]; exact (final7 m c).symm

end Cert.Kernel18Ideal.Hand
end
end
-- ==== Proof.Adam19.lean ====
module

public import proofs.«01_k».proof.Defs
public import proofs.«01_k».proof.Proof.Adam
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit.Point
public import Idealize.ShloMosaic.Lib.Quiescent

@[expose] public section

set_option maxRecDepth 16384
noncomputable section
open Idealize.ShloMosaic Idealize.ShloMosaic.TcCoe Idealize.SL.Sem
namespace Cert.Kernel19Ideal.Hand
open Cert.Hand Cert.Kernel19Ideal Cert.Kernel19Ideal.Gen

/-! # The optimiser's step: the second weights of the mixers -/

/-- Every window follows the tiles in order. -/
theorem idx : ∀ t : Fin cfg0.N, win0_0.index t = ![0, t.val / 2, t.val % 2] ∧ win0_1.index t = ![t.val / 2, t.val % 2] ∧ win0_2.index t = ![0, t.val / 2, t.val % 2]
    ∧ win0_3.index t = ![0, t.val / 2, t.val % 2] ∧ win0_4.index t = ![0, t.val / 2, t.val % 2] ∧ win0_5.index t = ![0, t.val / 2, t.val % 2]
    ∧ win0_6.index t = ![0, t.val / 2, t.val % 2] ∧ win0_7.index t = ![0, t.val / 2, t.val % 2] := (by decide +kernel : ∀ t : Fin grid0.N, _)

theorem named1 : (Named.named κ "c1" 0x3FC48605#32 : Ideal .f32) = ((8388608 / 5463681 : ℝ) : EReal) :=
  IdealRules.named_const.ideal_named_scalar _ _ _ _ rfl

theorem named2 : (Named.named κ "c2" 0x42C8E6D3#32 : Ideal .f32) = ((268435456 / 2672307 : ℝ) : EReal) :=
  IdealRules.named_const.ideal_named_scalar _ _ _ _ rfl

variable (m : (ℓ : Loc nD τ sig) → Buf (Elt Ideal) ℓ) (c : Dev nD)

/-! The four results: the gradient as it came, the step, the first and the second moment. -/

theorem final4 : (dats m 0 c).arrAt 4 cfg0.N
      = Cert.Reference19Ideal.Read.val_main_v0 (F := Ideal) (m ((c : Thread nD τ).loc main_arg1)) := by
  refine (dats m 0 c).arrAt_eq_of_covers 4 _ (by decide +kernel) fun t hf y => ?_
  obtain ⟨i0, i1, i2, i3, i4, i5, i6, i7⟩ := idx t
  blk_simp
  rw [after0_4]; frame_out
  pointwise [k0_pay1, Cert.Reference19Ideal.Read.val_main_v0]
  blk_point [iblk, V, i1, i4]

theorem final5 : (dats m 0 c).arrAt 5 cfg0.N
      = Cert.Reference19Ideal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨i0, i1, i2, i3, i4, i5, i6, i7⟩ := idx t
  blk_simp
  rw [after0_5]; frame_out
  pointwise [k0_pay4, k0_pay5, k0_pay6, named1, named2, div_first, div_second, Cert.Reference19Ideal.Read.val_main_v2, Cert.Reference19Ideal.Read.val_main_v3, Cert.Reference19Ideal.Read.val_main_v4, Cert.Reference19Ideal.Read.val_main_v5, Cert.Reference19Ideal.Read.val_main_v6, Cert.Reference19Ideal.Read.val_main_v1, Cert.Reference19Ideal.Read.val_main_cst, Cert.Reference19Ideal.Read.val_main_cst_0, Cert.Reference19Ideal.Read.val_main_v7, Cert.Reference19Ideal.Read.val_main_v8, Cert.Reference19Ideal.Read.val_main_v9, Cert.Reference19Ideal.Read.val_main_v10, Cert.Reference19Ideal.Read.val_main_v11, Cert.Reference19Ideal.Read.val_main_v12, Cert.Reference19Ideal.Read.val_main_cst_1, Cert.Reference19Ideal.Read.val_main_cst_2, Cert.Reference19Ideal.Read.val_main_v13, Cert.Reference19Ideal.Read.val_main_v14, Cert.Reference19Ideal.Read.val_main_v15, Cert.Reference19Ideal.Read.val_main_v16, Cert.Reference19Ideal.Read.val_main_v17, Cert.Reference19Ideal.Read.val_main_v18, Cert.Reference19Ideal.Read.val_main_v19, Cert.Reference19Ideal.Read.val_main_v20, Cert.Reference19Ideal.Read.val_main_v21, Cert.Reference19Ideal.Read.val_main_v22, Cert.Reference19Ideal.Read.val_main_v23, Cert.Reference19Ideal.Read.val_main_v24, Cert.Reference19Ideal.Read.val_main_v25, Cert.Reference19Ideal.Read.val_main_cst_3, Cert.Reference19Ideal.Read.val_main_cst_4, Cert.Reference19Ideal.Read.val_main_cst_5, Cert.Reference19Ideal.Read.val_main_cst_6, Cert.Reference19Ideal.Read.val_main_cst_7]
  blk_point [iblk, V, i0, i1, i2, i3, i5]

theorem final6 : (dats m 0 c).arrAt 6 cfg0.N
      = Cert.Reference19Ideal.Read.val_main_v6 (F := Ideal) (m ((c : Thread nD τ).loc main_arg1)) (m ((c : Thread nD τ).loc main_arg2)) := by
  refine (dats m 0 c).arrAt_eq_of_covers 6 _ (by decide +kernel) fun t hf y => ?_
  obtain ⟨i0, i1, i2, i3, i4, i5, i6, i7⟩ := idx t
  blk_simp
  rw [after0_6]; frame_out
  pointwise [k0_pay2, k0_pay4, Cert.Reference19Ideal.Read.val_main_v2, Cert.Reference19Ideal.Read.val_main_v3, Cert.Reference19Ideal.Read.val_main_v4, Cert.Reference19Ideal.Read.val_main_v5, Cert.Reference19Ideal.Read.val_main_v6, Cert.Reference19Ideal.Read.val_main_v1, Cert.Reference19Ideal.Read.val_main_cst, Cert.Reference19Ideal.Read.val_main_cst_0]
  blk_point [iblk, V, i1, i2, i6]

theorem final7 : (dats m 0 c).arrAt 7 cfg0.N
      = Cert.Reference19Ideal.Read.val_main_v12 (F := Ideal) (m ((c : Thread nD τ).loc main_arg1)) (m ((c : Thread nD τ).loc main_arg3)) := by
  refine (dats m 0 c).arrAt_eq_of_covers 7 _ (by decide +kernel) fun t hf y => ?_
  obtain ⟨i0, i1, i2, i3, i4, i5, i6, i7⟩ := idx t
  blk_simp
  rw [after0_7]; frame_out
  pointwise [k0_pay3, k0_pay5, Cert.Reference19Ideal.Read.val_main_v7, Cert.Reference19Ideal.Read.val_main_v8, Cert.Reference19Ideal.Read.val_main_v9, Cert.Reference19Ideal.Read.val_main_v10, Cert.Reference19Ideal.Read.val_main_v11, Cert.Reference19Ideal.Read.val_main_v12, Cert.Reference19Ideal.Read.val_main_v1, Cert.Reference19Ideal.Read.val_main_cst_1, Cert.Reference19Ideal.Read.val_main_cst_2]
  blk_point [iblk, V, i1, i3, i7]

theorem frame_ref : Cert.quiescent_Reference19Ideal := fun m ρ _ =>
  (θ_run Cert.Reference19Ideal.defs _ _).mono (fun r h => ⟨fun c => (h c).2.2.2.2,
      Idealize.ShloMosaic.sem_eq_zero_of_no_sems (by decide) r.2⟩)
    (Cert.Reference19Ideal.Value.run (F := Ideal) m ρ)

theorem preserves : Cert.preserves_Kernel19_Kernel19Ideal :=
  ⟨IdealRules.named_const.statement Cert.Kernel19Ideal.κ "c1" .f32 0x3FC48605#32 ((8388608 / 5463681 : ℝ) : EReal) rfl,
    IdealRules.named_const.statement Cert.Kernel19Ideal.κ "c2" .f32 0x42C8E6D3#32 ((268435456 / 2672307 : ℝ) : EReal) rfl⟩

theorem algebraic : Cert.algebraic_Kernel19Ideal_Reference19Ideal := by
  intro m ρ m' ρ' hpre hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.Kernel19Ideal.Value.run_blocks m ρ, ?_⟩
  refine (θ_run Cert.Reference19Ideal.defs _ _).mono (fun _ h c => ?_) (Cert.Reference19Ideal.Value.run (F := Ideal) m' ρ')
  obtain ⟨h0, h1, h2, h3, hk⟩ := h c
  obtain ⟨e0, e1, e2, e3⟩ := hagree c
  refine ⟨h0.trans ?_, h1.trans ?_, h2.trans ?_, h3.trans ?_, hk⟩
  · rw [Cert.Reference19Ideal.Read.val_main_v0_eq, e1]; exact (final4 m c).symm
  · rw [Cert.Reference19Ideal.Read.val_main_v25_eq, e0, e1, e2, e3]; exact (final5 m c).symm
  · rw [Cert.Reference19Ideal.Read.val_main_v6_eq, e1, e2]; exact (final6 m c).symm
  · rw [Cert.Reference19Ideal.Read.val_main_v12_eq, e1, e3]; exact (final7 m c).symm

end Cert.Kernel19Ideal.Hand
end
end
-- ==== Proof.Adam20.lean ====
module

public import proofs.«01_k».proof.Defs
public import proofs.«01_k».proof.Proof.Adam
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit.Point
public import Idealize.ShloMosaic.Lib.Quiescent

@[expose] public section

set_option maxRecDepth 16384
noncomputable section
open Idealize.ShloMosaic Idealize.ShloMosaic.TcCoe Idealize.SL.Sem
namespace Cert.Kernel20Ideal.Hand
open Cert.Hand Cert.Kernel20Ideal Cert.Kernel20Ideal.Gen

/-! # The optimiser's step: the second mixer's first weight -/

/-- Every window follows the tiles in order. -/
theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] := (by decide +kernel : ∀ t : Fin grid0.N, _)

theorem named1 : (Named.named κ "c1" 0x3FC48605#32 : Ideal .f32) = ((8388608 / 5463681 : ℝ) : EReal) :=
  IdealRules.named_const.ideal_named_scalar _ _ _ _ rfl

theorem named2 : (Named.named κ "c2" 0x42C8E6D3#32 : Ideal .f32) = ((268435456 / 2672307 : ℝ) : EReal) :=
  IdealRules.named_const.ideal_named_scalar _ _ _ _ rfl

variable (m : (ℓ : Loc nD τ sig) → Buf (Elt Ideal) ℓ) (c : Dev nD)

/-! The four results: the gradient as it came, the step, the first and the second moment. -/

theorem final4 : (dats m 0 c).arrAt 4 cfg0.N
      = Cert.Reference20Ideal.Read.val_main_v0 (F := Ideal) (m ((c : Thread nD τ).loc main_arg1)) := by
  refine (dats m 0 c).arrAt_eq_of_covers 4 _ (by decide +kernel) fun t hf y => ?_
  obtain ⟨i0, i1, i2, i3, i4, i5, i6, i7⟩ := idx t
  blk_simp
  rw [after0_4]; frame_out
  pointwise [k0_pay1, Cert.Reference20Ideal.Read.val_main_v0]
  blk_point [iblk, V, i1, i4]

theorem final5 : (dats m 0 c).arrAt 5 cfg0.N
      = Cert.Reference20Ideal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨i0, i1, i2, i3, i4, i5, i6, i7⟩ := idx t
  blk_simp
  rw [after0_5]; frame_out
  pointwise [k0_pay4, k0_pay5, k0_pay6, named1, named2, div_first, div_second, Cert.Reference20Ideal.Read.val_main_v2, Cert.Reference20Ideal.Read.val_main_v3, Cert.Reference20Ideal.Read.val_main_v4, Cert.Reference20Ideal.Read.val_main_v5, Cert.Reference20Ideal.Read.val_main_v6, Cert.Reference20Ideal.Read.val_main_v1, Cert.Reference20Ideal.Read.val_main_cst, Cert.Reference20Ideal.Read.val_main_cst_0, Cert.Reference20Ideal.Read.val_main_v7, Cert.Reference20Ideal.Read.val_main_v8, Cert.Reference20Ideal.Read.val_main_v9, Cert.Reference20Ideal.Read.val_main_v10, Cert.Reference20Ideal.Read.val_main_v11, Cert.Reference20Ideal.Read.val_main_v12, Cert.Reference20Ideal.Read.val_main_cst_1, Cert.Reference20Ideal.Read.val_main_cst_2, Cert.Reference20Ideal.Read.val_main_v13, Cert.Reference20Ideal.Read.val_main_v14, Cert.Reference20Ideal.Read.val_main_v15, Cert.Reference20Ideal.Read.val_main_v16, Cert.Reference20Ideal.Read.val_main_v17, Cert.Reference20Ideal.Read.val_main_v18, Cert.Reference20Ideal.Read.val_main_v19, Cert.Reference20Ideal.Read.val_main_v20, Cert.Reference20Ideal.Read.val_main_v21, Cert.Reference20Ideal.Read.val_main_v22, Cert.Reference20Ideal.Read.val_main_v23, Cert.Reference20Ideal.Read.val_main_v24, Cert.Reference20Ideal.Read.val_main_v25, Cert.Reference20Ideal.Read.val_main_cst_3, Cert.Reference20Ideal.Read.val_main_cst_4, Cert.Reference20Ideal.Read.val_main_cst_5, Cert.Reference20Ideal.Read.val_main_cst_6, Cert.Reference20Ideal.Read.val_main_cst_7]
  blk_point [iblk, V, i0, i1, i2, i3, i5]

theorem final6 : (dats m 0 c).arrAt 6 cfg0.N
      = Cert.Reference20Ideal.Read.val_main_v6 (F := Ideal) (m ((c : Thread nD τ).loc main_arg1)) (m ((c : Thread nD τ).loc main_arg2)) := by
  refine (dats m 0 c).arrAt_eq_of_covers 6 _ (by decide +kernel) fun t hf y => ?_
  obtain ⟨i0, i1, i2, i3, i4, i5, i6, i7⟩ := idx t
  blk_simp
  rw [after0_6]; frame_out
  pointwise [k0_pay2, k0_pay4, Cert.Reference20Ideal.Read.val_main_v2, Cert.Reference20Ideal.Read.val_main_v3, Cert.Reference20Ideal.Read.val_main_v4, Cert.Reference20Ideal.Read.val_main_v5, Cert.Reference20Ideal.Read.val_main_v6, Cert.Reference20Ideal.Read.val_main_v1, Cert.Reference20Ideal.Read.val_main_cst, Cert.Reference20Ideal.Read.val_main_cst_0]
  blk_point [iblk, V, i1, i2, i6]

theorem final7 : (dats m 0 c).arrAt 7 cfg0.N
      = Cert.Reference20Ideal.Read.val_main_v12 (F := Ideal) (m ((c : Thread nD τ).loc main_arg1)) (m ((c : Thread nD τ).loc main_arg3)) := by
  refine (dats m 0 c).arrAt_eq_of_covers 7 _ (by decide +kernel) fun t hf y => ?_
  obtain ⟨i0, i1, i2, i3, i4, i5, i6, i7⟩ := idx t
  blk_simp
  rw [after0_7]; frame_out
  pointwise [k0_pay3, k0_pay5, Cert.Reference20Ideal.Read.val_main_v7, Cert.Reference20Ideal.Read.val_main_v8, Cert.Reference20Ideal.Read.val_main_v9, Cert.Reference20Ideal.Read.val_main_v10, Cert.Reference20Ideal.Read.val_main_v11, Cert.Reference20Ideal.Read.val_main_v12, Cert.Reference20Ideal.Read.val_main_v1, Cert.Reference20Ideal.Read.val_main_cst_1, Cert.Reference20Ideal.Read.val_main_cst_2]
  blk_point [iblk, V, i1, i3, i7]

theorem frame_ref : Cert.quiescent_Reference20Ideal := fun m ρ _ =>
  (θ_run Cert.Reference20Ideal.defs _ _).mono (fun r h => ⟨fun c => (h c).2.2.2.2,
      Idealize.ShloMosaic.sem_eq_zero_of_no_sems (by decide) r.2⟩)
    (Cert.Reference20Ideal.Value.run (F := Ideal) m ρ)

theorem preserves : Cert.preserves_Kernel20_Kernel20Ideal :=
  ⟨IdealRules.named_const.statement Cert.Kernel20Ideal.κ "c1" .f32 0x3FC48605#32 ((8388608 / 5463681 : ℝ) : EReal) rfl,
    IdealRules.named_const.statement Cert.Kernel20Ideal.κ "c2" .f32 0x42C8E6D3#32 ((268435456 / 2672307 : ℝ) : EReal) rfl⟩

theorem algebraic : Cert.algebraic_Kernel20Ideal_Reference20Ideal := by
  intro m ρ m' ρ' hpre hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.Kernel20Ideal.Value.run_blocks m ρ, ?_⟩
  refine (θ_run Cert.Reference20Ideal.defs _ _).mono (fun _ h c => ?_) (Cert.Reference20Ideal.Value.run (F := Ideal) m' ρ')
  obtain ⟨h0, h1, h2, h3, hk⟩ := h c
  obtain ⟨e0, e1, e2, e3⟩ := hagree c
  refine ⟨h0.trans ?_, h1.trans ?_, h2.trans ?_, h3.trans ?_, hk⟩
  · rw [Cert.Reference20Ideal.Read.val_main_v0_eq, e1]; exact (final4 m c).symm
  · rw [Cert.Reference20Ideal.Read.val_main_v25_eq, e0, e1, e2, e3]; exact (final5 m c).symm
  · rw [Cert.Reference20Ideal.Read.val_main_v6_eq, e1, e2]; exact (final6 m c).symm
  · rw [Cert.Reference20Ideal.Read.val_main_v12_eq, e1, e3]; exact (final7 m c).symm

end Cert.Kernel20Ideal.Hand
end
end
-- ==== Proof.Adam21.lean ====
module

public import proofs.«01_k».proof.Defs
public import proofs.«01_k».proof.Proof.Adam
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit.Point
public import Idealize.ShloMosaic.Lib.Quiescent

@[expose] public section

set_option maxRecDepth 16384
noncomputable section
open Idealize.ShloMosaic Idealize.ShloMosaic.TcCoe Idealize.SL.Sem
namespace Cert.Kernel21Ideal.Hand
open Cert.Hand Cert.Kernel21Ideal Cert.Kernel21Ideal.Gen

/-! # The optimiser's step: the feed-forward part's first weight, both layers in one call -/

/-- The weight's windows follow the tiles in order, layer after layer. -/
theorem idx : ∀ t : Fin cfg0.N, win0_0.index t = ![t.val / 16, t.val / 2 % 8, t.val % 2] ∧ win0_3.index t = ![t.val / 16, t.val / 2 % 8, t.val % 2]
    ∧ win0_4.index t = ![t.val / 16, t.val / 2 % 8, t.val % 2] ∧ win0_5.index t = ![t.val / 16, t.val / 2 % 8, t.val % 2]
    ∧ win0_6.index t = ![t.val / 16, t.val / 2 % 8, t.val % 2] ∧ win0_7.index t = ![t.val / 16, t.val / 2 % 8, t.val % 2]
    ∧ win0_8.index t = ![t.val / 16, t.val / 2 % 8, t.val % 2] := (by decide +kernel : ∀ t : Fin grid0.N, _)

/-- In the first layer the first gradient's window follows them. -/
theorem idx_first : ∀ t : Fin cfg0.N, t.val < 16 → win0_1.index t = ![t.val / 2 % 8, t.val % 2] := (by decide +kernel : ∀ t : Fin grid0.N, _)

/-- In the second layer the second gradient's window does. -/
theorem idx_second : ∀ t : Fin cfg0.N, 16 ≤ t.val → win0_2.index t = ![t.val / 2 % 8, t.val % 2] := (by decide +kernel : ∀ t : Fin grid0.N, _)

/-- The first grid coordinate is the layer. -/
theorem layer : ∀ t : Fin cfg0.N, (cfg0.grid.coords t 0).val = t.val / 16 := (by decide +kernel : ∀ t : Fin grid0.N, _)

/-- What the call picks in the first layer is the first layer's gradient, -/
theorem pick_first (t : Fin cfg0.N) (h : t.val < 16) (v w : Vec Ideal S256x1408 .f32) : k0_pay5 (cfg0.grid.coords t) v w = v := by
  unfold k0_pay5
  rw [layer t, Nat.div_eq_of_lt h]; rfl

/-- and in the second the second's. -/
theorem pick_second (t : Fin cfg0.N) (h : 16 ≤ t.val) (v w : Vec Ideal S256x1408 .f32) : k0_pay5 (cfg0.grid.coords t) v w = w := by
  have : t.val / 16 = 1 := by have := t.isLt; have : cfg0.N = 32 := rfl; omega
  unfold k0_pay5
  rw [layer t, this]; rfl

theorem named1 : (Named.named κ "c1" 0x3FC48605#32 : Ideal .f32) = ((8388608 / 5463681 : ℝ) : EReal) :=
  IdealRules.named_const.ideal_named_scalar _ _ _ _ rfl

theorem named2 : (Named.named κ "c2" 0x42C8E6D3#32 : Ideal .f32) = ((268435456 / 2672307 : ℝ) : EReal) :=
  IdealRules.named_const.ideal_named_scalar _ _ _ _ rfl

variable (m : (ℓ : Loc nD τ sig) → Buf (Elt Ideal) ℓ) (c : Dev nD)

/-! The four results: the gradients stacked, the step, the first and the second moment. -/

theorem final5 : (dats m 0 c).arrAt 5 cfg0.N
      = Cert.Reference21Ideal.Read.val_main_v2 (F := Ideal) (m ((c : Thread nD τ).loc main_arg1)) (m ((c : Thread nD τ).loc main_arg2)) := by
  refine (dats m 0 c).arrAt_eq_of_covers 5 _ (by decide +kernel) fun t hf y => ?_
  obtain ⟨i0, i3, i4, i5, i6, i7, i8⟩ := idx t
  blk_simp
  rw [after0_5]; frame_out
  rcases Nat.lt_or_ge t.val 16 with h | h
  · have i1 := idx_first t h
    pointwise [k0_pay2, pick_first t h, Cert.Reference21Ideal.Read.val_main_v0, Cert.Reference21Ideal.Read.val_main_v1, Cert.Reference21Ideal.Read.val_main_v2]
    split_ifs with hc
    · blk_point [iblk, V, i1, i5]
    · exfalso; idx_bounds y; blk_simp [i5] at hc; omega
  · have i2 := idx_second t h
    pointwise [k0_pay2, pick_second t h, Cert.Reference21Ideal.Read.val_main_v0, Cert.Reference21Ideal.Read.val_main_v1, Cert.Reference21Ideal.Read.val_main_v2]
    split_ifs with hc
    · exfalso; idx_bounds y; blk_simp [i5] at hc; omega
    · blk_point [iblk, V, i2, i5]

theorem final6 : (dats m 0 c).arrAt 6 cfg0.N
      = Cert.Reference21Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨i0, i3, i4, i5, i6, i7, i8⟩ := idx t
  blk_simp
  rw [after0_6]; frame_out
  rcases Nat.lt_or_ge t.val 16 with h | h
  · have i1 := idx_first t h
    pointwise [k0_pay1, k0_pay6, k0_pay7, k0_pay8, named1, named2, div_first, div_second, pick_first t h, Cert.Reference21Ideal.Read.val_main_v0, Cert.Reference21Ideal.Read.val_main_v1, Cert.Reference21Ideal.Read.val_main_v2, Cert.Reference21Ideal.Read.val_main_v3, Cert.Reference21Ideal.Read.val_main_v4, Cert.Reference21Ideal.Read.val_main_v5, Cert.Reference21Ideal.Read.val_main_v6, Cert.Reference21Ideal.Read.val_main_v7, Cert.Reference21Ideal.Read.val_main_cst, Cert.Reference21Ideal.Read.val_main_cst_0, Cert.Reference21Ideal.Read.val_main_v8, Cert.Reference21Ideal.Read.val_main_v9, Cert.Reference21Ideal.Read.val_main_v10, Cert.Reference21Ideal.Read.val_main_v11, Cert.Reference21Ideal.Read.val_main_v12, Cert.Reference21Ideal.Read.val_main_v13, Cert.Reference21Ideal.Read.val_main_cst_1, Cert.Reference21Ideal.Read.val_main_cst_2, Cert.Reference21Ideal.Read.val_main_v14, Cert.Reference21Ideal.Read.val_main_v15, Cert.Reference21Ideal.Read.val_main_v16, Cert.Reference21Ideal.Read.val_main_v17, Cert.Reference21Ideal.Read.val_main_v18, Cert.Reference21Ideal.Read.val_main_v19, Cert.Reference21Ideal.Read.val_main_v20, Cert.Reference21Ideal.Read.val_main_v21, Cert.Reference21Ideal.Read.val_main_v22, Cert.Reference21Ideal.Read.val_main_v23, Cert.Reference21Ideal.Read.val_main_v24, Cert.Reference21Ideal.Read.val_main_v25, Cert.Reference21Ideal.Read.val_main_v26, Cert.Reference21Ideal.Read.val_main_cst_3, Cert.Reference21Ideal.Read.val_main_cst_4, Cert.Reference21Ideal.Read.val_main_cst_5, Cert.Reference21Ideal.Read.val_main_cst_6, Cert.Reference21Ideal.Read.val_main_cst_7]
    split_ifs with hc
    · blk_point [iblk, V, i1, i0, i3, i4, i6]
    · exfalso; idx_bounds y; blk_simp [i6] at hc; omega
  · have i2 := idx_second t h
    pointwise [k0_pay1, k0_pay6, k0_pay7, k0_pay8, named1, named2, div_first, div_second, pick_second t h, Cert.Reference21Ideal.Read.val_main_v0, Cert.Reference21Ideal.Read.val_main_v1, Cert.Reference21Ideal.Read.val_main_v2, Cert.Reference21Ideal.Read.val_main_v3, Cert.Reference21Ideal.Read.val_main_v4, Cert.Reference21Ideal.Read.val_main_v5, Cert.Reference21Ideal.Read.val_main_v6, Cert.Reference21Ideal.Read.val_main_v7, Cert.Reference21Ideal.Read.val_main_cst, Cert.Reference21Ideal.Read.val_main_cst_0, Cert.Reference21Ideal.Read.val_main_v8, Cert.Reference21Ideal.Read.val_main_v9, Cert.Reference21Ideal.Read.val_main_v10, Cert.Reference21Ideal.Read.val_main_v11, Cert.Reference21Ideal.Read.val_main_v12, Cert.Reference21Ideal.Read.val_main_v13, Cert.Reference21Ideal.Read.val_main_cst_1, Cert.Reference21Ideal.Read.val_main_cst_2, Cert.Reference21Ideal.Read.val_main_v14, Cert.Reference21Ideal.Read.val_main_v15, Cert.Reference21Ideal.Read.val_main_v16, Cert.Reference21Ideal.Read.val_main_v17, Cert.Reference21Ideal.Read.val_main_v18, Cert.Reference21Ideal.Read.val_main_v19, Cert.Reference21Ideal.Read.val_main_v20, Cert.Reference21Ideal.Read.val_main_v21, Cert.Reference21Ideal.Read.val_main_v22, Cert.Reference21Ideal.Read.val_main_v23, Cert.Reference21Ideal.Read.val_main_v24, Cert.Reference21Ideal.Read.val_main_v25, Cert.Reference21Ideal.Read.val_main_v26, Cert.Reference21Ideal.Read.val_main_cst_3, Cert.Reference21Ideal.Read.val_main_cst_4, Cert.Reference21Ideal.Read.val_main_cst_5, Cert.Reference21Ideal.Read.val_main_cst_6, Cert.Reference21Ideal.Read.val_main_cst_7]
    split_ifs with hc
    · exfalso; idx_bounds y; blk_simp [i6] at hc; omega
    · blk_point [iblk, V, i2, i0, i3, i4, i6]

theorem final7 : (dats m 0 c).arrAt 7 cfg0.N
      = Cert.Reference21Ideal.Read.val_main_v7 (F := Ideal) (m ((c : Thread nD τ).loc main_arg1)) (m ((c : Thread nD τ).loc main_arg2)) (m ((c : Thread nD τ).loc main_arg3)) := by
  refine (dats m 0 c).arrAt_eq_of_covers 7 _ (by decide +kernel) fun t hf y => ?_
  obtain ⟨i0, i3, i4, i5, i6, i7, i8⟩ := idx t
  blk_simp
  rw [after0_7]; frame_out
  rcases Nat.lt_or_ge t.val 16 with h | h
  · have i1 := idx_first t h
    pointwise [k0_pay3, k0_pay6, pick_first t h, Cert.Reference21Ideal.Read.val_main_v0, Cert.Reference21Ideal.Read.val_main_v1, Cert.Reference21Ideal.Read.val_main_v2, Cert.Reference21Ideal.Read.val_main_v3, Cert.Reference21Ideal.Read.val_main_v4, Cert.Reference21Ideal.Read.val_main_v5, Cert.Reference21Ideal.Read.val_main_v6, Cert.Reference21Ideal.Read.val_main_v7, Cert.Reference21Ideal.Read.val_main_cst, Cert.Reference21Ideal.Read.val_main_cst_0]
    split_ifs with hc
    · blk_point [iblk, V, i1, i3, i7]
    · exfalso; idx_bounds y; blk_simp [i7] at hc; omega
  · have i2 := idx_second t h
    pointwise [k0_pay3, k0_pay6, pick_second t h, Cert.Reference21Ideal.Read.val_main_v0, Cert.Reference21Ideal.Read.val_main_v1, Cert.Reference21Ideal.Read.val_main_v2, Cert.Reference21Ideal.Read.val_main_v3, Cert.Reference21Ideal.Read.val_main_v4, Cert.Reference21Ideal.Read.val_main_v5, Cert.Reference21Ideal.Read.val_main_v6, Cert.Reference21Ideal.Read.val_main_v7, Cert.Reference21Ideal.Read.val_main_cst, Cert.Reference21Ideal.Read.val_main_cst_0]
    split_ifs with hc
    · exfalso; idx_bounds y; blk_simp [i7] at hc; omega
    · blk_point [iblk, V, i2, i3, i7]

theorem final8 : (dats m 0 c).arrAt 8 cfg0.N
      = Cert.Reference21Ideal.Read.val_main_v13 (F := Ideal) (m ((c : Thread nD τ).loc main_arg1)) (m ((c : Thread nD τ).loc main_arg2)) (m ((c : Thread nD τ).loc main_arg4)) := by
  refine (dats m 0 c).arrAt_eq_of_covers 8 _ (by decide +kernel) fun t hf y => ?_
  obtain ⟨i0, i3, i4, i5, i6, i7, i8⟩ := idx t
  blk_simp
  rw [after0_8]; frame_out
  rcases Nat.lt_or_ge t.val 16 with h | h
  · have i1 := idx_first t h
    pointwise [k0_pay4, k0_pay7, pick_first t h, Cert.Reference21Ideal.Read.val_main_v0, Cert.Reference21Ideal.Read.val_main_v1, Cert.Reference21Ideal.Read.val_main_v2, Cert.Reference21Ideal.Read.val_main_v8, Cert.Reference21Ideal.Read.val_main_v9, Cert.Reference21Ideal.Read.val_main_v10, Cert.Reference21Ideal.Read.val_main_v11, Cert.Reference21Ideal.Read.val_main_v12, Cert.Reference21Ideal.Read.val_main_v13, Cert.Reference21Ideal.Read.val_main_cst_1, Cert.Reference21Ideal.Read.val_main_cst_2]
    split_ifs with hc
    · blk_point [iblk, V, i1, i4, i8]
    · exfalso; idx_bounds y; blk_simp [i8] at hc; omega
  · have i2 := idx_second t h
    pointwise [k0_pay4, k0_pay7, pick_second t h, Cert.Reference21Ideal.Read.val_main_v0, Cert.Reference21Ideal.Read.val_main_v1, Cert.Reference21Ideal.Read.val_main_v2, Cert.Reference21Ideal.Read.val_main_v8, Cert.Reference21Ideal.Read.val_main_v9, Cert.Reference21Ideal.Read.val_main_v10, Cert.Reference21Ideal.Read.val_main_v11, Cert.Reference21Ideal.Read.val_main_v12, Cert.Reference21Ideal.Read.val_main_v13, Cert.Reference21Ideal.Read.val_main_cst_1, Cert.Reference21Ideal.Read.val_main_cst_2]
    split_ifs with hc
    · exfalso; idx_bounds y; blk_simp [i8] at hc; omega
    · blk_point [iblk, V, i2, i4, i8]

theorem frame_ref : Cert.quiescent_Reference21Ideal := fun m ρ _ =>
  (θ_run Cert.Reference21Ideal.defs _ _).mono (fun r h => ⟨fun c => (h c).2.2.2.2,
      Idealize.ShloMosaic.sem_eq_zero_of_no_sems (by decide) r.2⟩)
    (Cert.Reference21Ideal.Value.run (F := Ideal) m ρ)

theorem preserves : Cert.preserves_Kernel21_Kernel21Ideal :=
  ⟨IdealRules.named_const.statement Cert.Kernel21Ideal.κ "c1" .f32 0x3FC48605#32 ((8388608 / 5463681 : ℝ) : EReal) rfl,
    IdealRules.named_const.statement Cert.Kernel21Ideal.κ "c2" .f32 0x42C8E6D3#32 ((268435456 / 2672307 : ℝ) : EReal) rfl⟩

theorem algebraic : Cert.algebraic_Kernel21Ideal_Reference21Ideal := by
  intro m ρ m' ρ' hpre hagree
  refine ⟨fun c => (dats m 0 c).arrAt 5 cfg0.N, fun c => (dats m 0 c).arrAt 6 cfg0.N, fun c => (dats m 0 c).arrAt 7 cfg0.N,
    fun c => (dats m 0 c).arrAt 8 cfg0.N, Cert.Kernel21Ideal.Value.run_blocks m ρ, ?_⟩
  refine (θ_run Cert.Reference21Ideal.defs _ _).mono (fun _ h c => ?_) (Cert.Reference21Ideal.Value.run (F := Ideal) m' ρ')
  obtain ⟨h0, h1, h2, h3, hk⟩ := h c
  obtain ⟨e0, e1, e2, e3, e4⟩ := hagree c
  refine ⟨h0.trans ?_, h1.trans ?_, h2.trans ?_, h3.trans ?_, hk⟩
  · rw [Cert.Reference21Ideal.Read.val_main_v2_eq, e1, e2]; exact (final5 m c).symm
  · rw [Cert.Reference21Ideal.Read.val_main_v26_eq, e0, e1, e2, e3, e4]; exact (final6 m c).symm
  · rw [Cert.Reference21Ideal.Read.val_main_v7_eq, e1, e2, e3]; exact (final7 m c).symm
  · rw [Cert.Reference21Ideal.Read.val_main_v13_eq, e1, e2, e4]; exact (final8 m c).symm

end Cert.Kernel21Ideal.Hand
end
end
-- ==== Proof.Adam22.lean ====
module

public import proofs.«01_k».proof.Defs
public import proofs.«01_k».proof.Proof.Adam
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit.Point
public import Idealize.ShloMosaic.Lib.Quiescent

@[expose] public section

set_option maxRecDepth 16384
noncomputable section
open Idealize.ShloMosaic Idealize.ShloMosaic.TcCoe Idealize.SL.Sem
namespace Cert.Kernel22Ideal.Hand
open Cert.Hand Cert.Kernel22Ideal Cert.Kernel22Ideal.Gen

/-! # The optimiser's step: the feed-forward part's second weight, both layers in one call -/

/-- The weight's windows follow the tiles in order, layer after layer. -/
theorem idx : ∀ t : Fin cfg0.N, win0_0.index t = ![t.val / 16, t.val / 2 % 8, t.val % 2] ∧ win0_3.index t = ![t.val / 16, t.val / 2 % 8, t.val % 2]
    ∧ win0_4.index t = ![t.val / 16, t.val / 2 % 8, t.val % 2] ∧ win0_5.index t = ![t.val / 16, t.val / 2 % 8, t.val % 2]
    ∧ win0_6.index t = ![t.val / 16, t.val / 2 % 8, t.val % 2] ∧ win0_7.index t = ![t.val / 16, t.val / 2 % 8, t.val % 2]
    ∧ win0_8.index t = ![t.val / 16, t.val / 2 % 8, t.val % 2] := (by decide +kernel : ∀ t : Fin grid0.N, _)

/-- In the first layer the first gradient's window follows them. -/
theorem idx_first : ∀ t : Fin cfg0.N, t.val < 16 → win0_1.index t = ![t.val / 2 % 8, t.val % 2] := (by decide +kernel : ∀ t : Fin grid0.N, _)

/-- In the second layer the second gradient's window does. -/
theorem idx_second : ∀ t : Fin cfg0.N, 16 ≤ t.val → win0_2.index t = ![t.val / 2 % 8, t.val % 2] := (by decide +kernel : ∀ t : Fin grid0.N, _)

/-- The first grid coordinate is the layer. -/
theorem layer : ∀ t : Fin cfg0.N, (cfg0.grid.coords t 0).val = t.val / 16 := (by decide +kernel : ∀ t : Fin grid0.N, _)

/-- What the call picks in the first layer is the first layer's gradient, -/
theorem pick_first (t : Fin cfg0.N) (h : t.val < 16) (v w : Vec Ideal S176x1024 .f32) : k0_pay5 (cfg0.grid.coords t) v w = v := by
  unfold k0_pay5
  rw [layer t, Nat.div_eq_of_lt h]; rfl

/-- and in the second the second's. -/
theorem pick_second (t : Fin cfg0.N) (h : 16 ≤ t.val) (v w : Vec Ideal S176x1024 .f32) : k0_pay5 (cfg0.grid.coords t) v w = w := by
  have : t.val / 16 = 1 := by have := t.isLt; have : cfg0.N = 32 := rfl; omega
  unfold k0_pay5
  rw [layer t, this]; rfl

theorem named1 : (Named.named κ "c1" 0x3FC48605#32 : Ideal .f32) = ((8388608 / 5463681 : ℝ) : EReal) :=
  IdealRules.named_const.ideal_named_scalar _ _ _ _ rfl

theorem named2 : (Named.named κ "c2" 0x42C8E6D3#32 : Ideal .f32) = ((268435456 / 2672307 : ℝ) : EReal) :=
  IdealRules.named_const.ideal_named_scalar _ _ _ _ rfl

variable (m : (ℓ : Loc nD τ sig) → Buf (Elt Ideal) ℓ) (c : Dev nD)

/-! The four results: the gradients stacked, the step, the first and the second moment. -/

theorem final5 : (dats m 0 c).arrAt 5 cfg0.N
      = Cert.Reference22Ideal.Read.val_main_v2 (F := Ideal) (m ((c : Thread nD τ).loc main_arg1)) (m ((c : Thread nD τ).loc main_arg2)) := by
  refine (dats m 0 c).arrAt_eq_of_covers 5 _ (by decide +kernel) fun t hf y => ?_
  obtain ⟨i0, i3, i4, i5, i6, i7, i8⟩ := idx t
  blk_simp
  rw [after0_5]; frame_out
  rcases Nat.lt_or_ge t.val 16 with h | h
  · have i1 := idx_first t h
    pointwise [k0_pay2, pick_first t h, Cert.Reference22Ideal.Read.val_main_v0, Cert.Reference22Ideal.Read.val_main_v1, Cert.Reference22Ideal.Read.val_main_v2]
    split_ifs with hc
    · blk_point [iblk, V, i1, i5]
    · exfalso; idx_bounds y; blk_simp [i5] at hc; omega
  · have i2 := idx_second t h
    pointwise [k0_pay2, pick_second t h, Cert.Reference22Ideal.Read.val_main_v0, Cert.Reference22Ideal.Read.val_main_v1, Cert.Reference22Ideal.Read.val_main_v2]
    split_ifs with hc
    · exfalso; idx_bounds y; blk_simp [i5] at hc; omega
    · blk_point [iblk, V, i2, i5]

theorem final6 : (dats m 0 c).arrAt 6 cfg0.N
      = Cert.Reference22Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨i0, i3, i4, i5, i6, i7, i8⟩ := idx t
  blk_simp
  rw [after0_6]; frame_out
  rcases Nat.lt_or_ge t.val 16 with h | h
  · have i1 := idx_first t h
    pointwise [k0_pay1, k0_pay6, k0_pay7, k0_pay8, named1, named2, div_first, div_second, pick_first t h, Cert.Reference22Ideal.Read.val_main_v0, Cert.Reference22Ideal.Read.val_main_v1, Cert.Reference22Ideal.Read.val_main_v2, Cert.Reference22Ideal.Read.val_main_v3, Cert.Reference22Ideal.Read.val_main_v4, Cert.Reference22Ideal.Read.val_main_v5, Cert.Reference22Ideal.Read.val_main_v6, Cert.Reference22Ideal.Read.val_main_v7, Cert.Reference22Ideal.Read.val_main_cst, Cert.Reference22Ideal.Read.val_main_cst_0, Cert.Reference22Ideal.Read.val_main_v8, Cert.Reference22Ideal.Read.val_main_v9, Cert.Reference22Ideal.Read.val_main_v10, Cert.Reference22Ideal.Read.val_main_v11, Cert.Reference22Ideal.Read.val_main_v12, Cert.Reference22Ideal.Read.val_main_v13, Cert.Reference22Ideal.Read.val_main_cst_1, Cert.Reference22Ideal.Read.val_main_cst_2, Cert.Reference22Ideal.Read.val_main_v14, Cert.Reference22Ideal.Read.val_main_v15, Cert.Reference22Ideal.Read.val_main_v16, Cert.Reference22Ideal.Read.val_main_v17, Cert.Reference22Ideal.Read.val_main_v18, Cert.Reference22Ideal.Read.val_main_v19, Cert.Reference22Ideal.Read.val_main_v20, Cert.Reference22Ideal.Read.val_main_v21, Cert.Reference22Ideal.Read.val_main_v22, Cert.Reference22Ideal.Read.val_main_v23, Cert.Reference22Ideal.Read.val_main_v24, Cert.Reference22Ideal.Read.val_main_v25, Cert.Reference22Ideal.Read.val_main_v26, Cert.Reference22Ideal.Read.val_main_cst_3, Cert.Reference22Ideal.Read.val_main_cst_4, Cert.Reference22Ideal.Read.val_main_cst_5, Cert.Reference22Ideal.Read.val_main_cst_6, Cert.Reference22Ideal.Read.val_main_cst_7]
    split_ifs with hc
    · blk_point [iblk, V, i1, i0, i3, i4, i6]
    · exfalso; idx_bounds y; blk_simp [i6] at hc; omega
  · have i2 := idx_second t h
    pointwise [k0_pay1, k0_pay6, k0_pay7, k0_pay8, named1, named2, div_first, div_second, pick_second t h, Cert.Reference22Ideal.Read.val_main_v0, Cert.Reference22Ideal.Read.val_main_v1, Cert.Reference22Ideal.Read.val_main_v2, Cert.Reference22Ideal.Read.val_main_v3, Cert.Reference22Ideal.Read.val_main_v4, Cert.Reference22Ideal.Read.val_main_v5, Cert.Reference22Ideal.Read.val_main_v6, Cert.Reference22Ideal.Read.val_main_v7, Cert.Reference22Ideal.Read.val_main_cst, Cert.Reference22Ideal.Read.val_main_cst_0, Cert.Reference22Ideal.Read.val_main_v8, Cert.Reference22Ideal.Read.val_main_v9, Cert.Reference22Ideal.Read.val_main_v10, Cert.Reference22Ideal.Read.val_main_v11, Cert.Reference22Ideal.Read.val_main_v12, Cert.Reference22Ideal.Read.val_main_v13, Cert.Reference22Ideal.Read.val_main_cst_1, Cert.Reference22Ideal.Read.val_main_cst_2, Cert.Reference22Ideal.Read.val_main_v14, Cert.Reference22Ideal.Read.val_main_v15, Cert.Reference22Ideal.Read.val_main_v16, Cert.Reference22Ideal.Read.val_main_v17, Cert.Reference22Ideal.Read.val_main_v18, Cert.Reference22Ideal.Read.val_main_v19, Cert.Reference22Ideal.Read.val_main_v20, Cert.Reference22Ideal.Read.val_main_v21, Cert.Reference22Ideal.Read.val_main_v22, Cert.Reference22Ideal.Read.val_main_v23, Cert.Reference22Ideal.Read.val_main_v24, Cert.Reference22Ideal.Read.val_main_v25, Cert.Reference22Ideal.Read.val_main_v26, Cert.Reference22Ideal.Read.val_main_cst_3, Cert.Reference22Ideal.Read.val_main_cst_4, Cert.Reference22Ideal.Read.val_main_cst_5, Cert.Reference22Ideal.Read.val_main_cst_6, Cert.Reference22Ideal.Read.val_main_cst_7]
    split_ifs with hc
    · exfalso; idx_bounds y; blk_simp [i6] at hc; omega
    · blk_point [iblk, V, i2, i0, i3, i4, i6]

theorem final7 : (dats m 0 c).arrAt 7 cfg0.N
      = Cert.Reference22Ideal.Read.val_main_v7 (F := Ideal) (m ((c : Thread nD τ).loc main_arg1)) (m ((c : Thread nD τ).loc main_arg2)) (m ((c : Thread nD τ).loc main_arg3)) := by
  refine (dats m 0 c).arrAt_eq_of_covers 7 _ (by decide +kernel) fun t hf y => ?_
  obtain ⟨i0, i3, i4, i5, i6, i7, i8⟩ := idx t
  blk_simp
  rw [after0_7]; frame_out
  rcases Nat.lt_or_ge t.val 16 with h | h
  · have i1 := idx_first t h
    pointwise [k0_pay3, k0_pay6, pick_first t h, Cert.Reference22Ideal.Read.val_main_v0, Cert.Reference22Ideal.Read.val_main_v1, Cert.Reference22Ideal.Read.val_main_v2, Cert.Reference22Ideal.Read.val_main_v3, Cert.Reference22Ideal.Read.val_main_v4, Cert.Reference22Ideal.Read.val_main_v5, Cert.Reference22Ideal.Read.val_main_v6, Cert.Reference22Ideal.Read.val_main_v7, Cert.Reference22Ideal.Read.val_main_cst, Cert.Reference22Ideal.Read.val_main_cst_0]
    split_ifs with hc
    · blk_point [iblk, V, i1, i3, i7]
    · exfalso; idx_bounds y; blk_simp [i7] at hc; omega
  · have i2 := idx_second t h
    pointwise [k0_pay3, k0_pay6, pick_second t h, Cert.Reference22Ideal.Read.val_main_v0, Cert.Reference22Ideal.Read.val_main_v1, Cert.Reference22Ideal.Read.val_main_v2, Cert.Reference22Ideal.Read.val_main_v3, Cert.Reference22Ideal.Read.val_main_v4, Cert.Reference22Ideal.Read.val_main_v5, Cert.Reference22Ideal.Read.val_main_v6, Cert.Reference22Ideal.Read.val_main_v7, Cert.Reference22Ideal.Read.val_main_cst, Cert.Reference22Ideal.Read.val_main_cst_0]
    split_ifs with hc
    · exfalso; idx_bounds y; blk_simp [i7] at hc; omega
    · blk_point [iblk, V, i2, i3, i7]

theorem final8 : (dats m 0 c).arrAt 8 cfg0.N
      = Cert.Reference22Ideal.Read.val_main_v13 (F := Ideal) (m ((c : Thread nD τ).loc main_arg1)) (m ((c : Thread nD τ).loc main_arg2)) (m ((c : Thread nD τ).loc main_arg4)) := by
  refine (dats m 0 c).arrAt_eq_of_covers 8 _ (by decide +kernel) fun t hf y => ?_
  obtain ⟨i0, i3, i4, i5, i6, i7, i8⟩ := idx t
  blk_simp
  rw [after0_8]; frame_out
  rcases Nat.lt_or_ge t.val 16 with h | h
  · have i1 := idx_first t h
    pointwise [k0_pay4, k0_pay7, pick_first t h, Cert.Reference22Ideal.Read.val_main_v0, Cert.Reference22Ideal.Read.val_main_v1, Cert.Reference22Ideal.Read.val_main_v2, Cert.Reference22Ideal.Read.val_main_v8, Cert.Reference22Ideal.Read.val_main_v9, Cert.Reference22Ideal.Read.val_main_v10, Cert.Reference22Ideal.Read.val_main_v11, Cert.Reference22Ideal.Read.val_main_v12, Cert.Reference22Ideal.Read.val_main_v13, Cert.Reference22Ideal.Read.val_main_cst_1, Cert.Reference22Ideal.Read.val_main_cst_2]
    split_ifs with hc
    · blk_point [iblk, V, i1, i4, i8]
    · exfalso; idx_bounds y; blk_simp [i8] at hc; omega
  · have i2 := idx_second t h
    pointwise [k0_pay4, k0_pay7, pick_second t h, Cert.Reference22Ideal.Read.val_main_v0, Cert.Reference22Ideal.Read.val_main_v1, Cert.Reference22Ideal.Read.val_main_v2, Cert.Reference22Ideal.Read.val_main_v8, Cert.Reference22Ideal.Read.val_main_v9, Cert.Reference22Ideal.Read.val_main_v10, Cert.Reference22Ideal.Read.val_main_v11, Cert.Reference22Ideal.Read.val_main_v12, Cert.Reference22Ideal.Read.val_main_v13, Cert.Reference22Ideal.Read.val_main_cst_1, Cert.Reference22Ideal.Read.val_main_cst_2]
    split_ifs with hc
    · exfalso; idx_bounds y; blk_simp [i8] at hc; omega
    · blk_point [iblk, V, i2, i4, i8]

theorem frame_ref : Cert.quiescent_Reference22Ideal := fun m ρ _ =>
  (θ_run Cert.Reference22Ideal.defs _ _).mono (fun r h => ⟨fun c => (h c).2.2.2.2,
      Idealize.ShloMosaic.sem_eq_zero_of_no_sems (by decide) r.2⟩)
    (Cert.Reference22Ideal.Value.run (F := Ideal) m ρ)

theorem preserves : Cert.preserves_Kernel22_Kernel22Ideal :=
  ⟨IdealRules.named_const.statement Cert.Kernel22Ideal.κ "c1" .f32 0x3FC48605#32 ((8388608 / 5463681 : ℝ) : EReal) rfl,
    IdealRules.named_const.statement Cert.Kernel22Ideal.κ "c2" .f32 0x42C8E6D3#32 ((268435456 / 2672307 : ℝ) : EReal) rfl⟩

theorem algebraic : Cert.algebraic_Kernel22Ideal_Reference22Ideal := by
  intro m ρ m' ρ' hpre hagree
  refine ⟨fun c => (dats m 0 c).arrAt 5 cfg0.N, fun c => (dats m 0 c).arrAt 6 cfg0.N, fun c => (dats m 0 c).arrAt 7 cfg0.N,
    fun c => (dats m 0 c).arrAt 8 cfg0.N, Cert.Kernel22Ideal.Value.run_blocks m ρ, ?_⟩
  refine (θ_run Cert.Reference22Ideal.defs _ _).mono (fun _ h c => ?_) (Cert.Reference22Ideal.Value.run (F := Ideal) m' ρ')
  obtain ⟨h0, h1, h2, h3, hk⟩ := h c
  obtain ⟨e0, e1, e2, e3, e4⟩ := hagree c
  refine ⟨h0.trans ?_, h1.trans ?_, h2.trans ?_, h3.trans ?_, hk⟩
  · rw [Cert.Reference22Ideal.Read.val_main_v2_eq, e1, e2]; exact (final5 m c).symm
  · rw [Cert.Reference22Ideal.Read.val_main_v26_eq, e0, e1, e2, e3, e4]; exact (final6 m c).symm
  · rw [Cert.Reference22Ideal.Read.val_main_v7_eq, e1, e2, e3]; exact (final7 m c).symm
  · rw [Cert.Reference22Ideal.Read.val_main_v13_eq, e1, e2, e4]; exact (final8 m c).symm

end Cert.Kernel22Ideal.Hand
end
end
-- ==== Proof.Adam23.lean ====
module

public import proofs.«01_k».proof.Defs
public import proofs.«01_k».proof.Proof.Adam
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit.Point
public import Idealize.ShloMosaic.Lib.Quiescent

@[expose] public section

set_option maxRecDepth 16384
noncomputable section
open Idealize.ShloMosaic Idealize.ShloMosaic.TcCoe Idealize.SL.Sem
namespace Cert.Kernel23Ideal.Hand
open Cert.Hand Cert.Kernel23Ideal Cert.Kernel23Ideal.Gen

/-! # The optimiser's step: the small weights, packed -/

/-- Every window follows the tiles in order. -/
theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] := (by decide +kernel : ∀ t : Fin grid0.N, _)

theorem named1 : (Named.named κ "c1" 0x3FC48605#32 : Ideal .f32) = ((8388608 / 5463681 : ℝ) : EReal) :=
  IdealRules.named_const.ideal_named_scalar _ _ _ _ rfl

theorem named2 : (Named.named κ "c2" 0x42C8E6D3#32 : Ideal .f32) = ((268435456 / 2672307 : ℝ) : EReal) :=
  IdealRules.named_const.ideal_named_scalar _ _ _ _ rfl

variable (m : (ℓ : Loc nD τ sig) → Buf (Elt Ideal) ℓ) (c : Dev nD)

/-! The four results: the gradient as it came, the step, the first and the second moment. -/

theorem final4 : (dats m 0 c).arrAt 4 cfg0.N
      = Cert.Reference23Ideal.Read.val_main_v0 (F := Ideal) (m ((c : Thread nD τ).loc main_arg1)) := by
  refine (dats m 0 c).arrAt_eq_of_covers 4 _ (by decide +kernel) fun t hf y => ?_
  obtain ⟨i0, i1, i2, i3, i4, i5, i6, i7⟩ := idx t
  blk_simp
  rw [after0_4]; frame_out
  pointwise [k0_pay1, Cert.Reference23Ideal.Read.val_main_v0]
  blk_point [iblk, V, i1, i4]

theorem final5 : (dats m 0 c).arrAt 5 cfg0.N
      = Cert.Reference23Ideal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨i0, i1, i2, i3, i4, i5, i6, i7⟩ := idx t
  blk_simp
  rw [after0_5]; frame_out
  pointwise [k0_pay4, k0_pay5, k0_pay6, named1, named2, div_first, div_second, Cert.Reference23Ideal.Read.val_main_v2, Cert.Reference23Ideal.Read.val_main_v3, Cert.Reference23Ideal.Read.val_main_v4, Cert.Reference23Ideal.Read.val_main_v5, Cert.Reference23Ideal.Read.val_main_v6, Cert.Reference23Ideal.Read.val_main_v1, Cert.Reference23Ideal.Read.val_main_cst, Cert.Reference23Ideal.Read.val_main_cst_0, Cert.Reference23Ideal.Read.val_main_v7, Cert.Reference23Ideal.Read.val_main_v8, Cert.Reference23Ideal.Read.val_main_v9, Cert.Reference23Ideal.Read.val_main_v10, Cert.Reference23Ideal.Read.val_main_v11, Cert.Reference23Ideal.Read.val_main_v12, Cert.Reference23Ideal.Read.val_main_cst_1, Cert.Reference23Ideal.Read.val_main_cst_2, Cert.Reference23Ideal.Read.val_main_v13, Cert.Reference23Ideal.Read.val_main_v14, Cert.Reference23Ideal.Read.val_main_v15, Cert.Reference23Ideal.Read.val_main_v16, Cert.Reference23Ideal.Read.val_main_v17, Cert.Reference23Ideal.Read.val_main_v18, Cert.Reference23Ideal.Read.val_main_v19, Cert.Reference23Ideal.Read.val_main_v20, Cert.Reference23Ideal.Read.val_main_v21, Cert.Reference23Ideal.Read.val_main_v22, Cert.Reference23Ideal.Read.val_main_v23, Cert.Reference23Ideal.Read.val_main_v24, Cert.Reference23Ideal.Read.val_main_v25, Cert.Reference23Ideal.Read.val_main_cst_3, Cert.Reference23Ideal.Read.val_main_cst_4, Cert.Reference23Ideal.Read.val_main_cst_5, Cert.Reference23Ideal.Read.val_main_cst_6, Cert.Reference23Ideal.Read.val_main_cst_7]
  blk_point [iblk, V, i0, i1, i2, i3, i5]

theorem final6 : (dats m 0 c).arrAt 6 cfg0.N
      = Cert.Reference23Ideal.Read.val_main_v6 (F := Ideal) (m ((c : Thread nD τ).loc main_arg1)) (m ((c : Thread nD τ).loc main_arg2)) := by
  refine (dats m 0 c).arrAt_eq_of_covers 6 _ (by decide +kernel) fun t hf y => ?_
  obtain ⟨i0, i1, i2, i3, i4, i5, i6, i7⟩ := idx t
  blk_simp
  rw [after0_6]; frame_out
  pointwise [k0_pay2, k0_pay4, Cert.Reference23Ideal.Read.val_main_v2, Cert.Reference23Ideal.Read.val_main_v3, Cert.Reference23Ideal.Read.val_main_v4, Cert.Reference23Ideal.Read.val_main_v5, Cert.Reference23Ideal.Read.val_main_v6, Cert.Reference23Ideal.Read.val_main_v1, Cert.Reference23Ideal.Read.val_main_cst, Cert.Reference23Ideal.Read.val_main_cst_0]
  blk_point [iblk, V, i1, i2, i6]

theorem final7 : (dats m 0 c).arrAt 7 cfg0.N
      = Cert.Reference23Ideal.Read.val_main_v12 (F := Ideal) (m ((c : Thread nD τ).loc main_arg1)) (m ((c : Thread nD τ).loc main_arg3)) := by
  refine (dats m 0 c).arrAt_eq_of_covers 7 _ (by decide +kernel) fun t hf y => ?_
  obtain ⟨i0, i1, i2, i3, i4, i5, i6, i7⟩ := idx t
  blk_simp
  rw [after0_7]; frame_out
  pointwise [k0_pay3, k0_pay5, Cert.Reference23Ideal.Read.val_main_v7, Cert.Reference23Ideal.Read.val_main_v8, Cert.Reference23Ideal.Read.val_main_v9, Cert.Reference23Ideal.Read.val_main_v10, Cert.Reference23Ideal.Read.val_main_v11, Cert.Reference23Ideal.Read.val_main_v12, Cert.Reference23Ideal.Read.val_main_v1, Cert.Reference23Ideal.Read.val_main_cst_1, Cert.Reference23Ideal.Read.val_main_cst_2]
  blk_point [iblk, V, i1, i3, i7]

theorem frame_ref : Cert.quiescent_Reference23Ideal := fun m ρ _ =>
  (θ_run Cert.Reference23Ideal.defs _ _).mono (fun r h => ⟨fun c => (h c).2.2.2.2,
      Idealize.ShloMosaic.sem_eq_zero_of_no_sems (by decide) r.2⟩)
    (Cert.Reference23Ideal.Value.run (F := Ideal) m ρ)

theorem preserves : Cert.preserves_Kernel23_Kernel23Ideal :=
  ⟨IdealRules.named_const.statement Cert.Kernel23Ideal.κ "c1" .f32 0x3FC48605#32 ((8388608 / 5463681 : ℝ) : EReal) rfl,
    IdealRules.named_const.statement Cert.Kernel23Ideal.κ "c2" .f32 0x42C8E6D3#32 ((268435456 / 2672307 : ℝ) : EReal) rfl⟩

theorem algebraic : Cert.algebraic_Kernel23Ideal_Reference23Ideal := by
  intro m ρ m' ρ' hpre hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.Kernel23Ideal.Value.run_blocks m ρ, ?_⟩
  refine (θ_run Cert.Reference23Ideal.defs _ _).mono (fun _ h c => ?_) (Cert.Reference23Ideal.Value.run (F := Ideal) m' ρ')
  obtain ⟨h0, h1, h2, h3, hk⟩ := h c
  obtain ⟨e0, e1, e2, e3⟩ := hagree c
  refine ⟨h0.trans ?_, h1.trans ?_, h2.trans ?_, h3.trans ?_, hk⟩
  · rw [Cert.Reference23Ideal.Read.val_main_v0_eq, e1]; exact (final4 m c).symm
  · rw [Cert.Reference23Ideal.Read.val_main_v25_eq, e0, e1, e2, e3]; exact (final5 m c).symm
  · rw [Cert.Reference23Ideal.Read.val_main_v6_eq, e1, e2]; exact (final6 m c).symm
  · rw [Cert.Reference23Ideal.Read.val_main_v12_eq, e1, e3]; exact (final7 m c).symm

end Cert.Kernel23Ideal.Hand
end
end
-- ==== Proof.ConvFwd.lean ====
module

public import proofs.«01_k».proof.Defs
public import proofs.«01_k».proof.Proof.ActFwd
public import proofs.«01_k».proof.Proof.Gen.Kernel28Ideal.Value
public import proofs.«01_k».proof.Proof.Gen.Reference28Ideal.Run
public import proofs.«01_k».proof.Proof.Gen.Reference28Ideal.Read
public import Idealize.ShloMosaic.Lib.Pipeline.ValueKit.Point
public import Idealize.ShloMosaic.Lib.Quiescent
public import Idealize.ShloMosaic.Lib.WritesUnit

@[expose] public section

set_option maxRecDepth 16384
noncomputable section
open Idealize.ShloMosaic Idealize.ShloMosaic.TcCoe Idealize.SL.Sem
namespace Cert.Kernel28Ideal.Hand
open Cert.Kernel28Ideal Cert.Kernel28Ideal.Gen

/-! # The forward convolution of the even mixer

A grid point keeps the gated rows of its block, with the thirty-two rows before them, in scratch. Its first result is the
convolution's sum from thirty-one shifted reads of the scratch, its second the norm of each of its rows through `silu`. -/

section Open
variable {F : FTy → Type} [FloatOps F]

/-- The two stores into the scratch: the gated rows before the block, and the block's. -/
def scr (i : grid0.Coords) (a g : Vec F S32x1024 .bf16) (a' g' : Vec F S256x1024 .bf16) : List (View.Piece (Elt F) S288x1024 .f32) :=
  [⟨Rect.unit (s := S288x1024) ![32, 0] S256x1024.size inb_S288x1024_S256x1024_32_0, k0_pay3 a' g'⟩,
   ⟨Rect.unit (s := S288x1024) ![0, 0] S32x1024.size inb_S288x1024_S32x1024_0_0, k0_pay2 i a g⟩]

theorem inb_w (k : ℕ) (h : k < 31) : ∀ a : Fin 2, (![k, 0] : Fin 2 → ℕ) a + S1x1024.size a ≤ S31x1024.size a :=
  Fin.forall_fin_two.mpr ⟨by show k + 1 ≤ 31; omega, Nat.le_refl 1024⟩

theorem inb_scr (k : ℕ) (h : k < 31) : ∀ a : Fin 2, (![k + 2, 0] : Fin 2 → ℕ) a + S256x1024.size a ≤ S288x1024.size a :=
  Fin.forall_fin_two.mpr ⟨by show k + 2 + 256 ≤ 288; omega, Nat.le_refl 1024⟩

variable (i : grid0.Coords) (arg2 : Memref sig .tc .vmem S32x1024 .bf16) (harg2 : arg2.IsWhole) (arg3 : Memref sig .tc .vmem S256x1024 .bf16) (harg3 : arg3.IsWhole)
  (arg4 : Memref sig .tc .vmem S32x1024 .bf16) (harg4 : arg4.IsWhole) (arg5 : Memref sig .tc .vmem S256x1024 .bf16) (harg5 : arg5.IsWhole)
  (arg6 : Memref sig .tc .vmem S31x1024 .f32) (harg6 : arg6.IsWhole) (arg7 : Memref sig .tc .vmem S1x1024 .f32) (harg7 : arg7.IsWhole)
  (arg12 : Memref sig .tc .vmem S288x1024 .f32) (x0 : Vec F S32x1024 .bf16) (x1 : Vec F S256x1024 .bf16) (x2 : Vec F S32x1024 .bf16)
  (x3 : Vec F S256x1024 .bf16) (x4 : Vec F S31x1024 .f32) (x5 : Vec F S1x1024 .f32)

/-- A row of the weights. -/
def wrow (k : ℕ) (h : k < 31) : Vec F S1x1024 .f32 :=
  arg6.view.readAt (Elt F) (Rect.unit (s := S31x1024) ![k, 0] S1x1024.size (inb_w k h)).toLoadRect (harg6.unread x4)

/-- The rows of the scratch that a weight meets. -/
def rows (k : ℕ) (h : k < 31) : Vec F S256x1024 .f32 :=
  arg12.view.readAt (Elt F) (Rect.unit (s := S288x1024) ![k + 2, 0] S256x1024.size (inb_scr k h)).toLoadRect
    (arg12.view.writes (Elt F) arg12.view.junk (scr i (arg2.view.readAt (Elt F) (Rect.unit (s := S32x1024) ![0, 0] S32x1024.size inb_S32x1024_S32x1024_0_0).toLoadRect (harg2.unread x0))
      (arg4.view.readAt (Elt F) (Rect.unit (s := S32x1024) ![0, 0] S32x1024.size inb_S32x1024_S32x1024_0_0).toLoadRect (harg4.unread x2))
      (arg3.view.readAt (Elt F) (Rect.unit (s := S256x1024) ![0, 0] S256x1024.size inb_S256x1024_S256x1024_0_0).toLoadRect (harg3.unread x1))
      (arg5.view.readAt (Elt F) (Rect.unit (s := S256x1024) ![0, 0] S256x1024.size inb_S256x1024_S256x1024_0_0).toLoadRect (harg5.unread x3))))

/-- The sum over the first twenty-six rows of the weights. -/
def part : Vec F S256x1024 .f32 :=
  let wr (k : Fin 31) := wrow arg6 harg6 x4 k.1 k.2
  let ro (k : Fin 31) := rows i arg2 harg2 arg3 harg3 arg4 harg4 arg5 harg5 arg12 x0 x1 x2 x3 k.1 k.2
  k0_pay8 (k0_pay6 (k0_pay5 (k0_pay4 (arg7.view.readAt (Elt F) (Rect.unit (s := S1x1024) ![0, 0] S1x1024.size inb_S1x1024_S1x1024_0_0).toLoadRect (harg7.unread x5))
      (wr 0) (ro 0) (wr 1) (ro 1) (wr 2) (ro 2) (wr 3) (ro 3) (wr 4) (ro 4) (wr 5) (ro 5))
      (wr 6) (ro 6) (wr 7) (ro 7) (wr 8) (ro 8) (wr 9) (ro 9) (wr 10) (ro 10) (wr 11) (ro 11) (wr 12) (ro 12))
      (wr 13) (ro 13) (wr 14) (ro 14) (wr 15) (ro 15) (wr 16) (ro 16) (wr 17) (ro 17) (wr 18) (ro 18))
    (k0_pay7 (wr 19) (ro 19)) (wr 20) (ro 20) (wr 21) (ro 21) (wr 22) (ro 22) (wr 23) (ro 23) (wr 24) (ro 24) (wr 25) (ro 25)

/-- The convolution's sum. -/
def acc : Vec F S256x1024 .f32 :=
  let wr (k : Fin 31) := wrow arg6 harg6 x4 k.1 k.2
  let ro (k : Fin 31) := rows i arg2 harg2 arg3 harg3 arg4 harg4 arg5 harg5 arg12 x0 x1 x2 x3 k.1 k.2
  k0_pay9 (part i arg2 harg2 arg3 harg3 arg4 harg4 arg5 harg5 arg6 harg6 arg7 harg7 arg12 x0 x1 x2 x3 x4 x5) (wr 26) (ro 26) (wr 27) (ro 27) (wr 28) (ro 28) (wr 29) (ro 29) (wr 30) (ro 30)

/-- The normed sum. -/
def nrm (arg8 : Memref sig .tc .vmem S1x1024 .f32) (harg8 : arg8.IsWhole) (arg9 : Memref sig .tc .vmem S1x1024 .f32) (harg9 : arg9.IsWhole)
    (x6 x7 : Vec F S1x1024 .f32) : Vec F S256x1024 .bf16 :=
  let wr (k : Fin 31) := wrow arg6 harg6 x4 k.1 k.2
  let ro (k : Fin 31) := rows i arg2 harg2 arg3 harg3 arg4 harg4 arg5 harg5 arg12 x0 x1 x2 x3 k.1 k.2
  let p := part i arg2 harg2 arg3 harg3 arg4 harg4 arg5 harg5 arg6 harg6 arg7 harg7 arg12 x0 x1 x2 x3 x4 x5
  k0_pay1 (k0_pay10 p (wr 26) (ro 26) (wr 27) (ro 27) (wr 28) (ro 28) (wr 29) (ro 29) (wr 30) (ro 30))
    (k0_pay11 p (wr 26) (ro 26) (wr 27) (ro 27) (wr 28) (ro 28) (wr 29) (ro 29) (wr 30) (ro 30)) (Scalar.ofBits .f32 0x3727C5AC#32)
    (arg8.view.readAt (Elt F) (Rect.unit (s := S1x1024) ![0, 0] S1x1024.size inb_S1x1024_S1x1024_0_0).toLoadRect (harg8.unread x6))
    (arg9.view.readAt (Elt F) (Rect.unit (s := S1x1024) ![0, 0] S1x1024.size inb_S1x1024_S1x1024_0_0).toLoadRect (harg9.unread x7))

theorem run_eq (c : Dev nD) (arg8 : Memref sig .tc .vmem S1x1024 .f32) (harg8 : arg8.IsWhole) (arg9 : Memref sig .tc .vmem S1x1024 .f32) (harg9 : arg9.IsWhole)
    (arg10 : Memref sig .tc .vmem S256x1024 .f32) (harg10 : arg10.IsWhole) (arg11 : Memref sig .tc .vmem S256x1024 .bf16) (harg11 : arg11.IsWhole)
    (harg12 : arg12.IsWhole) (x6 x7 : Vec F S1x1024 .f32) :
    (kernelRun0_A (F := F) c i arg2 harg2 arg3 harg3 arg4 harg4 arg5 harg5 arg6 harg6 arg7 harg7 arg8 harg8 arg9 harg9 arg10 harg10 arg11 harg11 arg12 harg12 x0 x1 x2 x3 x4 x5 x6 x7).1
      = [⟨Rect.unit (s := S256x1024) ![0, 0] S256x1024.size inb_S256x1024_S256x1024_0_0,
          acc i arg2 harg2 arg3 harg3 arg4 harg4 arg5 harg5 arg6 harg6 arg7 harg7 arg12 x0 x1 x2 x3 x4 x5⟩]
    ∧ (kernelRun0_A (F := F) c i arg2 harg2 arg3 harg3 arg4 harg4 arg5 harg5 arg6 harg6 arg7 harg7 arg8 harg8 arg9 harg9 arg10 harg10 arg11 harg11 arg12 harg12 x0 x1 x2 x3 x4 x5 x6 x7).2.1
      = [⟨Rect.unit (s := S256x1024) ![0, 0] S256x1024.size inb_S256x1024_S256x1024_0_0,
          nrm i arg2 harg2 arg3 harg3 arg4 harg4 arg5 harg5 arg6 harg6 arg7 harg7 arg12 x0 x1 x2 x3 x4 x5 arg8 harg8 arg9 harg9 x6 x7⟩] := by
  unfold kernelRun0_A
  exact ⟨rfl, rfl⟩

end Open

/-! ## A grid point's block -/

open Cert.Kernel27Ideal.Hand (logistic_ext)

/-- The convolution's sum at a place: `P` the gated rows from thirty-two before the block, `W` the weights, `B` the offset. -/
def conv (P W : ℕ → ℕ → EReal) (B : ℕ → EReal) (r c : ℕ) : EReal := B c + ∑ k ∈ Finset.range 31, W k c * P (r + (k + 2)) c

/-- A row's norm at a place, through `silu`. -/
def normed (f : ℕ → EReal) (g b : EReal) (c : ℕ) : EReal :=
  let m := Ideal.div (∑ k : Fin 1024, f k.val) (Ideal.ofBits FTy.f32 1149239296#32)
  let v := Ideal.div (∑ k : Fin 1024, (f k.val - m) * (f k.val - m)) (Ideal.ofBits FTy.f32 1149239296#32)
  let z := (f c - m) * Ideal.rsqrt (v + Ideal.ofBits FTy.f32 925353388#32) * g + b
  z * Ideal.div 1 (1 + Ideal.exp (-z))

theorem nrm_pay (p : FVec Ideal S256x1024 .f32) (w0 : FVec Ideal S1x1024 .f32) (r0 : FVec Ideal S256x1024 .f32) (w1 : FVec Ideal S1x1024 .f32)
    (r1 : FVec Ideal S256x1024 .f32) (w2 : FVec Ideal S1x1024 .f32) (r2 : FVec Ideal S256x1024 .f32) (w3 : FVec Ideal S1x1024 .f32)
    (r3 : FVec Ideal S256x1024 .f32) (w4 : FVec Ideal S1x1024 .f32) (r4 : FVec Ideal S256x1024 .f32) (g b : FVec Ideal S1x1024 .f32) (r : Fin 256) (f : ℕ → EReal)
    (hf : ∀ c : Fin 1024, (k0_pay9 (F := Ideal) p w0 r0 w1 r1 w2 r2 w3 r3 w4 r4 (ix2 r c) : EReal) = f c.val) (c : Fin 1024) :
    (k0_pay1 (F := Ideal) (k0_pay10 p w0 r0 w1 r1 w2 r2 w3 r3 w4 r4) (k0_pay11 p w0 r0 w1 r1 w2 r2 w3 r3 w4 r4) (Scalar.ofBits .f32 0x3727C5AC#32) g b (ix2 r c) : EReal)
      = normed f (g (ix2 (0 : Fin 1) c)) (b (ix2 (0 : Fin 1) c)) c.val := by
  pointwise [k0_pay1, k0_pay10, k0_pay11]
  simp only [hf, logistic_ext]
  rfl

section Block
variable (i : grid0.Coords) (P W : ℕ → ℕ → EReal) (B : ℕ → EReal)

/-- The scratch holds the gated rows. -/
theorem scr_at (M : Memref sig .tc .vmem S288x1024 .f32) (a g : FVec Ideal S32x1024 .bf16) (a' g' : FVec Ideal S256x1024 .bf16)
    (h0 : ∀ y : S32x1024.Idx, (k0_pay2 (F := Ideal) i a g y : EReal) = P (y 0).val (y 1).val)
    (h1 : ∀ y : S256x1024.Idx, (k0_pay3 (F := Ideal) a' g' y : EReal) = P (32 + (y 0).val) (y 1).val) (y : S288x1024.Idx) :
    (M.view.read (Elt Ideal) (M.view.writes (Elt Ideal) M.view.junk (scr (F := Ideal) i a g a' g')) y : EReal) = P (y 0).val (y 1).val := by
  unfold scr
  have hy : (y 0).val < 288 := (y 0).isLt
  by_cases h : (y 0).val < 32
  · refine (View.read_writes_cons_rows_of_not_mem _ _ _ _ _ y rfl rfl (.inl h)).trans ?_
    refine (View.read_writes_cons_rows_of_mem _ _ _ _ _ y (ix2 (⟨(y 0).val, h⟩ : Fin 32) (⟨(y 1).val, (y 1).isLt⟩ : Fin 1024)) rfl
      (Nat.zero_add _).symm rfl).trans ?_
    exact h0 _
  · refine (View.read_writes_cons_rows_of_mem _ _ _ _ _ y (ix2 (⟨(y 0).val - 32, by omega⟩ : Fin 256) (⟨(y 1).val, (y 1).isLt⟩ : Fin 1024)) rfl
      (by show (y 0).val = 32 + ((y 0).val - 32); omega) rfl).trans ?_
    refine (h1 _).trans ?_
    show P (32 + ((y 0).val - 32)) (y 1).val = _
    rw [Nat.add_sub_cancel' (by omega)]

variable (arg2 : Memref sig .tc .vmem S32x1024 .bf16) (harg2 : arg2.IsWhole) (arg3 : Memref sig .tc .vmem S256x1024 .bf16) (harg3 : arg3.IsWhole)
  (arg4 : Memref sig .tc .vmem S32x1024 .bf16) (harg4 : arg4.IsWhole) (arg5 : Memref sig .tc .vmem S256x1024 .bf16) (harg5 : arg5.IsWhole)
  (arg6 : Memref sig .tc .vmem S31x1024 .f32) (harg6 : arg6.IsWhole) (arg7 : Memref sig .tc .vmem S1x1024 .f32) (harg7 : arg7.IsWhole)
  (arg12 : Memref sig .tc .vmem S288x1024 .f32) (x0 : FVec Ideal S32x1024 .bf16) (x1 : FVec Ideal S256x1024 .bf16) (x2 : FVec Ideal S32x1024 .bf16)
  (x3 : FVec Ideal S256x1024 .bf16) (x4 : FVec Ideal S31x1024 .f32) (x5 : FVec Ideal S1x1024 .f32)
  (h0 : ∀ y : S32x1024.Idx, (k0_pay2 (F := Ideal) i x0 x2 y : EReal) = P (y 0).val (y 1).val)
  (h1 : ∀ y : S256x1024.Idx, (k0_pay3 (F := Ideal) x1 x3 y : EReal) = P (32 + (y 0).val) (y 1).val)
  (h4 : ∀ y : S31x1024.Idx, (x4 y : EReal) = W (y 0).val (y 1).val)
  (h5 : ∀ y : S1x1024.Idx, (x5 y : EReal) = B (y 1).val)

include h4 in
theorem wrow_at (k : ℕ) (h : k < 31) (x : S1x1024.Idx) : (wrow (F := Ideal) arg6 harg6 x4 k h x : EReal) = W k (x 1).val := by
  unfold wrow
  rw [View.readAt_eq_ld, harg6.read_unread]
  refine (h4 _).trans ?_
  show W (k + 1 * (x 0).val) (0 + 1 * (x 1).val) = _
  rw [show (x 0).val = 0 from Nat.lt_one_iff.mp (x 0).isLt, Nat.mul_zero, Nat.add_zero, Nat.one_mul, Nat.zero_add]

include h0 h1

theorem rows_at (k : ℕ) (h : k < 31) (x : S256x1024.Idx) :
    (rows (F := Ideal) i arg2 harg2 arg3 harg3 arg4 harg4 arg5 harg5 arg12 x0 x1 x2 x3 k h x : EReal) = P ((x 0).val + (k + 2)) (x 1).val := by
  unfold rows
  rw [View.readAt_apply]
  refine (scr_at i P arg12 _ _ _ _ (fun y => ?_) (fun y => ?_) _).trans ?_
  · simp only [View.readAt_eq_ld, harg2.read_unread, harg4.read_unread]
    refine Eq.trans (congrArg₂ (fun v w => k0_pay2 (F := Ideal) i v w y) (funext fun z => ?_) (funext fun z => ?_)) (h0 y) <;> pointwise []
  · simp only [View.readAt_eq_ld, harg3.read_unread, harg5.read_unread]
    refine Eq.trans (congrArg₂ (fun v w => k0_pay3 (F := Ideal) v w y) (funext fun z => ?_) (funext fun z => ?_)) (h1 y) <;> pointwise []
  · show P (k + 2 + 1 * (x 0).val) (0 + 1 * (x 1).val) = _
    rw [Nat.one_mul, Nat.one_mul, Nat.zero_add, Nat.add_comm]

include h4 h5

theorem acc_at (x : S256x1024.Idx) :
    (acc (F := Ideal) i arg2 harg2 arg3 harg3 arg4 harg4 arg5 harg5 arg6 harg6 arg7 harg7 arg12 x0 x1 x2 x3 x4 x5 x : EReal)
      = conv P W B (x 0).val (x 1).val := by
  unfold acc part
  dsimp only
  simp only [View.readAt_eq_ld, harg7.read_unread]
  pointwise [k0_pay4, k0_pay5, k0_pay6, k0_pay7, k0_pay8, k0_pay9]
  simp only [rows_at i P arg2 harg2 arg3 harg3 arg4 harg4 arg5 harg5 arg12 x0 x1 x2 x3 h0 h1, wrow_at W arg6 harg6 x4 h4, h5]
  unfold conv
  simp only [Finset.sum_range_succ, Finset.sum_range_zero, zero_add, ← add_assoc]
  rfl

theorem nrm_at (arg8 : Memref sig .tc .vmem S1x1024 .f32) (harg8 : arg8.IsWhole) (arg9 : Memref sig .tc .vmem S1x1024 .f32) (harg9 : arg9.IsWhole)
    (x6 x7 : FVec Ideal S1x1024 .f32) (r : Fin 256) (c : Fin 1024) :
    (nrm (F := Ideal) i arg2 harg2 arg3 harg3 arg4 harg4 arg5 harg5 arg6 harg6 arg7 harg7 arg12 x0 x1 x2 x3 x4 x5 arg8 harg8 arg9 harg9 x6 x7 (ix2 r c) : EReal)
      = normed (conv P W B r.val) (x6 (ix2 (0 : Fin 1) c)) (x7 (ix2 (0 : Fin 1) c)) c.val := by
  have ha : ∀ c : Fin 1024,
      (acc (F := Ideal) i arg2 harg2 arg3 harg3 arg4 harg4 arg5 harg5 arg6 harg6 arg7 harg7 arg12 x0 x1 x2 x3 x4 x5 (ix2 r c) : EReal) = conv P W B r.val c.val :=
    fun c => acc_at i P W B arg2 harg2 arg3 harg3 arg4 harg4 arg5 harg5 arg6 harg6 arg7 harg7 arg12 x0 x1 x2 x3 x4 x5 h0 h1 h4 h5 _
  unfold acc at ha
  unfold nrm
  dsimp only at ha ⊢
  simp only [View.readAt_eq_ld, harg8.read_unread, harg9.read_unread]
  refine (nrm_pay _ _ _ _ _ _ _ _ _ _ _ _ _ r (conv P W B r.val) ha c).trans ?_
  pointwise []

end Block

/-! ## The reference -/

section Ref
open Cert.Reference28Ideal.Read

def rd (A : FVec Ideal Cert.Reference28Ideal.S4096x5120 .bf16) (r c : ℕ) : EReal :=
  if h : r < 4096 ∧ c < 5120 then A (ix2 (⟨r, h.1⟩ : Fin 4096) (⟨c, h.2⟩ : Fin 5120)) else 0

theorem rd_at (A : FVec Ideal Cert.Reference28Ideal.S4096x5120 .bf16) (y : Cert.Reference28Ideal.S4096x5120.Idx) (r c : ℕ) (hr : (y 0).val = r)
    (hc : (y 1).val = c) : (A y : EReal) = rd A r c := by
  subst hr hc
  unfold rd
  rw [dif_pos ⟨(y 0).isLt, (y 1).isLt⟩]
  refine congrArg A (funext fun a => ?_)
  match a with
  | ⟨0, _⟩ => rfl
  | ⟨1, _⟩ => rfl

/-- The gated rows, after thirty-two of nothing. -/
def glu (A : FVec Ideal Cert.Reference28Ideal.S4096x5120 .bf16) (r c : ℕ) : EReal :=
  if r < 32 then 0 else rd A (r - 32) (3072 + c) * Ideal.div 1 (1 + Ideal.exp (-rd A (r - 32) (4096 + c)))

theorem ref_glu (A : FVec Ideal Cert.Reference28Ideal.S4096x5120 .bf16) (y : Cert.Reference28Ideal.S4126x1024.Idx) :
    (val_main_v12 (F := Ideal) A y : EReal) = glu A ((y 0).val + 2) (y 1).val := by
  have hy : (y 0).val < 4126 := (y 0).isLt
  unfold val_main_v12 glu
  by_cases h : (y 0).val < 30
  · refine (concatenate_pair_apply_left (s₁ := Cert.Reference28Ideal.S30x1024) (0 : Fin 2) _ _ _ y rfl
      (show Cert.Reference28Ideal.S30x1024.Idx from ix2 (⟨(y 0).val, h⟩ : Fin 30) (⟨(y 1).val, (y 1).isLt⟩ : Fin 1024))
      (Fin.forall_fin_two.mpr ⟨rfl, rfl⟩)).trans ?_
    rw [if_pos (by omega)]
    pointwise [val_main_v11, val_main_cst_1]
  · refine (concatenate_pair_apply_right (s₁ := Cert.Reference28Ideal.S30x1024) (s₂ := Cert.Reference28Ideal.S4096x1024) (0 : Fin 2) _ _ _ y rfl rfl
      (show Cert.Reference28Ideal.S4096x1024.Idx from ix2 (⟨(y 0).val - 30, by omega⟩ : Fin 4096) (⟨(y 1).val, (y 1).isLt⟩ : Fin 1024))
      (Fin.forall_fin_two.mpr ⟨fun h => absurd rfl h, fun _ => rfl⟩) (by show (y 0).val - 30 + 30 = (y 0).val; omega)).trans ?_
    rw [if_neg (by omega)]
    pointwise [val_main_v10, val_main_v9, val_main_v8, val_main_v7, val_main_v6, val_main_v5, val_main_v4, val_main_v3, val_main_v2, val_main_v1, val_main_v0,
      val_main_cst, val_main_cst_0]
    rw [rd_at A _ ((y 0).val + 2 - 32) (3072 + (y 1).val) (by show (y 0).val - 30 = _; omega) rfl,
      rd_at A _ ((y 0).val + 2 - 32) (4096 + (y 1).val) (by show (y 0).val - 30 = _; omega) (by show 3072 + (1024 + (y 1).val) = _; omega)]

/-- The weights and the offset by numbers. -/
def wgt (W : FVec Ideal Cert.Reference28Ideal.S31x1024 .f32) (r c : ℕ) : EReal :=
  if h : r < 31 ∧ c < 1024 then W (ix2 (⟨r, h.1⟩ : Fin 31) (⟨c, h.2⟩ : Fin 1024)) else 0

theorem wgt_at (W : FVec Ideal Cert.Reference28Ideal.S31x1024 .f32) (r : Fin 31) (c : Fin 1024) : (W (ix2 r c) : EReal) = wgt W r.val c.val := by
  unfold wgt
  rw [dif_pos ⟨r.isLt, c.isLt⟩]

def off (B : FVec Ideal Cert.Reference28Ideal.S1x1024 .f32) (c : ℕ) : EReal := if h : c < 1024 then B (ix2 (0 : Fin 1) (⟨c, h⟩ : Fin 1024)) else 0

theorem off_at (B : FVec Ideal Cert.Reference28Ideal.S1x1024 .f32) (c : Fin 1024) : (B (ix2 (0 : Fin 1) c) : EReal) = off B c.val := by
  unfold off
  rw [dif_pos c.isLt]

/-- The convolution of the gated rows. -/
def sums (A : FVec Ideal Cert.Reference28Ideal.S4096x5120 .bf16) (W : FVec Ideal Cert.Reference28Ideal.S31x1024 .f32)
    (B : FVec Ideal Cert.Reference28Ideal.S1x1024 .f32) : ℕ → ℕ → EReal := conv (glu A) (wgt W) (off B)

theorem ref_sums (A : FVec Ideal Cert.Reference28Ideal.S4096x5120 .bf16) (W : FVec Ideal Cert.Reference28Ideal.S31x1024 .f32)
    (B : FVec Ideal Cert.Reference28Ideal.S1x1024 .f32) (r : Fin 4096) (c : Fin 1024) :
    (val_main_v232 (F := Ideal) A W B (ix2 r c) : EReal) = sums A W B r.val c.val := by
  have hG : ∀ a b : ℕ, glu A (a + b + 2) = glu A (b + (a + 2)) := fun a b => congrArg (glu A) (by omega)
  pointwise [val_main_v13,val_main_v14,val_main_v15,val_main_v16,val_main_v17,val_main_v18,val_main_v19,val_main_v20,val_main_v21,val_main_v22,val_main_v23,val_main_v24,val_main_v25,val_main_v26,val_main_v27,val_main_v28,val_main_v29,val_main_v30,val_main_v31,val_main_v32,val_main_v33,val_main_v34,val_main_v35,val_main_v36,val_main_v37,val_main_v38,val_main_v39,val_main_v40,val_main_v41,val_main_v42,val_main_v43,val_main_v44,val_main_v45,val_main_v46,val_main_v47,val_main_v48,val_main_v49,val_main_v50,val_main_v51,val_main_v52,val_main_v53,val_main_v54,val_main_v55,val_main_v56,val_main_v57,val_main_v58,val_main_v59,val_main_v60,val_main_v61,val_main_v62,val_main_v63,val_main_v64,val_main_v65,val_main_v66,val_main_v67,val_main_v68,val_main_v69,val_main_v70,val_main_v71,val_main_v72,val_main_v73,val_main_v74,val_main_v75,val_main_v76,val_main_v77,val_main_v78,val_main_v79,val_main_v80,val_main_v81,val_main_v82,val_main_v83,val_main_v84,val_main_v85,val_main_v86,val_main_v87,val_main_v88,val_main_v89,val_main_v90,val_main_v91,val_main_v92,val_main_v93,val_main_v94,val_main_v95,val_main_v96,val_main_v97,val_main_v98,val_main_v99,val_main_v100,val_main_v101,val_main_v102,val_main_v103,val_main_v104,val_main_v105,val_main_v106,val_main_v107,val_main_v108,val_main_v109,val_main_v110,val_main_v111,val_main_v112,val_main_v113,val_main_v114,val_main_v115,val_main_v116,val_main_v117,val_main_v118,val_main_v119,val_main_v120,val_main_v121,val_main_v122,val_main_v123,val_main_v124,val_main_v125,val_main_v126,val_main_v127,val_main_v128,val_main_v129,val_main_v130,val_main_v131,val_main_v132,val_main_v133,val_main_v134,val_main_v135,val_main_v136,val_main_v137,val_main_v138,val_main_v139,val_main_v140,val_main_v141,val_main_v142,val_main_v143,val_main_v144,val_main_v145,val_main_v146,val_main_v147,val_main_v148,val_main_v149,val_main_v150,val_main_v151,val_main_v152,val_main_v153,val_main_v154,val_main_v155,val_main_v156,val_main_v157,val_main_v158,val_main_v159,val_main_v160,val_main_v161,val_main_v162,val_main_v163,val_main_v164,val_main_v165,val_main_v166,val_main_v167,val_main_v168,val_main_v169,val_main_v170,val_main_v171,val_main_v172,val_main_v173,val_main_v174,val_main_v175,val_main_v176,val_main_v177,val_main_v178,val_main_v179,val_main_v180,val_main_v181,val_main_v182,val_main_v183,val_main_v184,val_main_v185,val_main_v186,val_main_v187,val_main_v188,val_main_v189,val_main_v190,val_main_v191,val_main_v192,val_main_v193,val_main_v194,val_main_v195,val_main_v196,val_main_v197,val_main_v198,val_main_v199,val_main_v200,val_main_v201,val_main_v202,val_main_v203,val_main_v204,val_main_v205,val_main_v206,val_main_v207,val_main_v208,val_main_v209,val_main_v210,val_main_v211,val_main_v212,val_main_v213,val_main_v214,val_main_v215,val_main_v216,val_main_v217,val_main_v218,val_main_v219,val_main_v220,val_main_v221,val_main_v222,val_main_v223,val_main_v224,val_main_v225,val_main_v226,val_main_v227,val_main_v228,val_main_v229,val_main_v230,val_main_v231,val_main_v232, val_main_cst_2]
  simp only [ref_glu, wgt_at, off_at]
  refine (add_comm _ _).trans ?_
  unfold sums conv
  simp only [Finset.sum_range_succ, Finset.sum_range_zero, zero_add, mul_comm (glu A _ _), hG]
  rfl

theorem ref_normed (A : FVec Ideal Cert.Reference28Ideal.S4096x5120 .bf16) (W : FVec Ideal Cert.Reference28Ideal.S31x1024 .f32)
    (B g b : FVec Ideal Cert.Reference28Ideal.S1x1024 .f32) (r : Fin 4096) (c : Fin 1024) :
    (val_main_v256 (F := Ideal) A W B g b (ix2 r c) : EReal)
      = normed (sums A W B r.val) (g (ix2 (0 : Fin 1) c)) (b (ix2 (0 : Fin 1) c)) c.val := by
  have ha : ∀ (r : Fin 4096) (c : Fin 1024), (val_main_v232 (F := Ideal) A W B (ix2 r c) : EReal) = sums A W B r.val c.val := ref_sums A W B
  pointwise [val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256,val_main_call0_cst, val_main_call0_cst_0, val_main_call0_v0, val_main_call0_v1, val_main_call0_v2, val_main_call0_v3, val_main_call0_v4, val_main_call0_v5, val_main_cst_3, val_main_cst_4, val_main_cst_5, val_main_cst_6, val_main_cst_7]
  simp only [ha]
  unfold normed
  rfl

theorem ref_at (A : FVec Ideal Cert.Reference28Ideal.S4096x5120 .bf16) (W : FVec Ideal Cert.Reference28Ideal.S31x1024 .f32)
    (B : FVec Ideal Cert.Reference28Ideal.S1x1024 .f32) (y : Cert.Reference28Ideal.S4096x1024.Idx) :
    (val_main_v232 (F := Ideal) A W B y : EReal) = sums A W B (y 0).val (y 1).val := by
  refine Eq.trans (congrArg (val_main_v232 (F := Ideal) A W B) (funext fun a => ?_)) (ref_sums A W B (y 0) (y 1))
  match a with
  | ⟨0, _⟩ => rfl
  | ⟨1, _⟩ => rfl

theorem ref_normed_at (A : FVec Ideal Cert.Reference28Ideal.S4096x5120 .bf16) (W : FVec Ideal Cert.Reference28Ideal.S31x1024 .f32)
    (B g b : FVec Ideal Cert.Reference28Ideal.S1x1024 .f32) (y : Cert.Reference28Ideal.S4096x1024.Idx) :
    (val_main_v256 (F := Ideal) A W B g b y : EReal) = normed (sums A W B (y 0).val) (off g (y 1).val) (off b (y 1).val) (y 1).val := by
  refine Eq.trans (congrArg (val_main_v256 (F := Ideal) A W B g b) (funext fun a => ?_)) ((ref_normed A W B g b (y 0) (y 1)).trans ?_)
  · match a with
    | ⟨0, _⟩ => rfl
    | ⟨1, _⟩ => rfl
  · rw [off_at g (y 1), off_at b (y 1)]

end Ref

/-! ## The arrays -/

/-- Where the windows' blocks lie at a point of the grid. -/
theorem idx : ∀ t : Fin cfg0.N, win0_0.index t = ![t.val * 8 - 1, 3] ∧ win0_1.index t = ![t.val, 3]
    ∧ win0_2.index t = ![t.val * 8 - 1, 4] ∧ win0_3.index t = ![t.val, 4] ∧ win0_4.index t = ![0, 0] ∧ win0_5.index t = ![0, 0]
    ∧ win0_6.index t = ![0, 0] ∧ win0_7.index t = ![0, 0] ∧ win0_8.index t = ![t.val, 0] ∧ win0_9.index t = ![t.val, 0] :=
  (by decide +kernel : ∀ t : Fin grid0.N, _)

/-- The rows before the block are read only where there are any. -/
theorem first : ∀ t : Fin cfg0.N, (Scalar.cmpi .sgt (BitVec.ofNat 32 ((grid0.coords t) 1).val) 0#32 : BitVec 1) = if t.val = 0 then 0#1 else 1#1 :=
  (by decide +kernel : ∀ t : Fin grid0.N, _)

section Arrays
variable {m : (ℓ : Loc nD τ sig) → Buf (Elt Ideal) ℓ} {c : Dev nD}
variable {A : FVec Ideal S4096x5120 .bf16} (eA : m ((c : Thread nD τ).loc main_arg0) = A)
  {w : FVec Ideal S31x1024 .f32} (ew : m ((c : Thread nD τ).loc main_arg1) = w)
  {o : FVec Ideal S1x1024 .f32} (eo : m ((c : Thread nD τ).loc main_arg2) = o)
  {g : FVec Ideal S1x1024 .f32} (eg : m ((c : Thread nD τ).loc main_arg3) = g)
  {b : FVec Ideal S1x1024 .f32} (eb : m ((c : Thread nD τ).loc main_arg4) = b)

include eA

theorem win0 (t : Fin cfg0.N) (y : S32x1024.Idx) :
    (k0_pay2 (F := Ideal) (grid0.coords t) (iblk m c 0 t) (iblk m c 2 t) y : EReal) = glu A (256 * t.val + (y 0).val) (y 1).val := by
  have hy : (y 0).val < 32 := (y 0).isLt
  unfold k0_pay2 glu
  dsimp only
  rw [first t]
  by_cases h : t.val = 0
  · rw [if_pos h, if_pos (by omega)]
    simp only [Scalar.select, if_neg (show ¬(0#1 : BitVec 1) = 1 by decide)]
    pointwise []
  · rw [if_neg h, if_neg (by omega)]
    pointwise [Scalar.select]
    refine (congrFun (if_pos (show (1#1 : BitVec 1) = 1 from rfl)) y).trans ?_
    pointwise []
    have e0 : iblk m c 0 t y = A (((cfg0.win 0).blk t).view.emb y) := by rw [← eA, ← V_main_arg0 m c]; rfl
    have e2 : iblk m c 2 t y = A (((cfg0.win 2).blk t).view.emb y) := by rw [← eA, ← V_main_arg0 m c]; rfl
    rw [logistic_ext, e0, e2]
    rw [rd_at A (((cfg0.win 0).blk t).view.emb y) (256 * t.val + (y 0).val - 32) (3072 + (y 1).val) (by blk_simp [(idx t).1]; omega) (by blk_simp [(idx t).1]),
      rd_at A (((cfg0.win 2).blk t).view.emb y) (256 * t.val + (y 0).val - 32) (4096 + (y 1).val) (by blk_simp [(idx t).2.2.1]; omega) (by blk_simp [(idx t).2.2.1])]

theorem win1 (t : Fin cfg0.N) (y : S256x1024.Idx) :
    (k0_pay3 (F := Ideal) (iblk m c 1 t) (iblk m c 3 t) y : EReal) = glu A (256 * t.val + (32 + (y 0).val)) (y 1).val := by
  unfold glu
  rw [if_neg (by omega)]
  pointwise [k0_pay3]
  have e1 : iblk m c 1 t y = A (((cfg0.win 1).blk t).view.emb y) := by rw [← eA, ← V_main_arg0 m c]; rfl
  have e3 : iblk m c 3 t y = A (((cfg0.win 3).blk t).view.emb y) := by rw [← eA, ← V_main_arg0 m c]; rfl
  rw [logistic_ext, e1, e3]
  rw [rd_at A (((cfg0.win 1).blk t).view.emb y) (256 * t.val + (32 + (y 0).val) - 32) (3072 + (y 1).val) (by blk_simp [(idx t).2.1]; omega) (by blk_simp [(idx t).2.1]),
    rd_at A (((cfg0.win 3).blk t).view.emb y) (256 * t.val + (32 + (y 0).val) - 32) (4096 + (y 1).val) (by blk_simp [(idx t).2.2.2.1]; omega) (by blk_simp [(idx t).2.2.2.1])]

omit eA in
include ew in
theorem win4 (t : Fin cfg0.N) (y : S31x1024.Idx) : (iblk m c 4 t y : EReal) = wgt w (y 0).val (y 1).val := by
  have e : iblk m c 4 t y = w (((cfg0.win 4).blk t).view.emb y) := by rw [← ew, ← V_main_arg1 m c]; rfl
  refine Eq.trans e (Eq.trans (congrArg w (funext fun a => Fin.ext ?_)) (wgt_at w (y 0) (y 1)))
  match a with
  | ⟨0, _⟩ => blk_simp [(idx t).2.2.2.2.1]; rfl
  | ⟨1, _⟩ => blk_simp [(idx t).2.2.2.2.1]; rfl

omit eA in
include eo in
theorem win5 (t : Fin cfg0.N) : (iblk m c 5 t : FVec Ideal S1x1024 .f32) = o := by
  funext y
  have e : iblk m c 5 t y = o (((cfg0.win 5).blk t).view.emb y) := by rw [← eo, ← V_main_arg2 m c]; rfl
  refine Eq.trans e (congrArg o (funext fun a => Fin.ext ?_))
  match a with
  | ⟨0, _⟩ => blk_simp [(idx t).2.2.2.2.2.1]
  | ⟨1, _⟩ => blk_simp [(idx t).2.2.2.2.2.1]

omit eA in
include eg in
theorem win6 (t : Fin cfg0.N) : (iblk m c 6 t : FVec Ideal S1x1024 .f32) = g := by
  funext y
  have e : iblk m c 6 t y = g (((cfg0.win 6).blk t).view.emb y) := by rw [← eg, ← V_main_arg3 m c]; rfl
  refine Eq.trans e (congrArg g (funext fun a => Fin.ext ?_))
  match a with
  | ⟨0, _⟩ => blk_simp [(idx t).2.2.2.2.2.2.1]
  | ⟨1, _⟩ => blk_simp [(idx t).2.2.2.2.2.2.1]

omit eA in
include eb in
theorem win7 (t : Fin cfg0.N) : (iblk m c 7 t : FVec Ideal S1x1024 .f32) = b := by
  funext y
  have e : iblk m c 7 t y = b (((cfg0.win 7).blk t).view.emb y) := by rw [← eb, ← V_main_arg4 m c]; rfl
  refine Eq.trans e (congrArg b (funext fun a => Fin.ext ?_))
  match a with
  | ⟨0, _⟩ => blk_simp [(idx t).2.2.2.2.2.2.2.1]
  | ⟨1, _⟩ => blk_simp [(idx t).2.2.2.2.2.2.2.1]

omit eA in
theorem off_row (o : FVec Ideal S1x1024 .f32) (y : S1x1024.Idx) : (o y : EReal) = off o (y 1).val := by
  refine Eq.trans (congrArg o (funext fun a => ?_)) (off_at o (y 1))
  match a with
  | ⟨0, _⟩ => exact Subsingleton.elim (α := Fin 1) _ _
  | ⟨1, _⟩ => rfl

omit eA in
/-- The convolution over the rows from the block on. -/
theorem conv_shift (t : ℕ) (W : ℕ → ℕ → EReal) (B : ℕ → EReal) (r c : ℕ) :
    conv (fun r d => glu A (256 * t + r) d) W B r c = conv (glu A) W B (256 * t + r) c := by
  unfold conv
  simp only [Nat.add_assoc]

include ew eo

/-- What a grid point leaves of the sum. -/
theorem outs8 (t : Fin cfg0.N) (y : S256x1024.Idx) : ((outsAt0 m c t).1 y : EReal) = sums A w o (256 * t.val + (y 0).val) (y 1).val := by
  unfold outsAt0
  dsimp only
  unfold out0_A_8
  refine (View.read_writes_apply_of_pieces _ _ (fun y : S256x1024.Idx => conv (fun r d => glu A (256 * t.val + r) d) (wgt w) (off o) (y 0).val (y 1).val) _ ?_ y
    (cover0_A_8 c _ _ _ _ _ _ _ _ _ _ _ _ _ _ _ _ _ _ _ _ _ _ _ _ _ _ _ _ _ _ _ y)).trans (conv_shift t.val _ _ _ _)
  rw [(run_eq _ _ _ _ _ _ _ _ _ _ _ _ _ _ _ _ _ _ _ _ c _ _ _ _ _ _ _ _ _ _ _ ).1]
  simp only [List.forall_mem_cons, List.not_mem_nil, false_implies, implies_true, and_true]
  intro x
  refine (acc_at (grid0.coords t) (fun r d => glu A (256 * t.val + r) d) (wgt w) (off o) (ms0_0 t) (hs0_0 t) (ms0_1 t) (hs0_1 t) (ms0_2 t) (hs0_2 t) (ms0_3 t) (hs0_3 t) (ms0_4 t) (hs0_4 t) (ms0_5 t) (hs0_5 t) scM0_0
    (iblk m c 0 t) (iblk m c 1 t) (iblk m c 2 t) (iblk m c 3 t) (iblk m c 4 t) (iblk m c 5 t) (win0 eA t) (win1 eA t) (win4 ew t) (fun y => by rw [win5 eo t]; exact off_row o y) x).trans ?_
  refine congrArg₂ (conv (fun r d => glu A (256 * t.val + r) d) (wgt w) (off o)) ?_ ?_
  · show (x 0).val = 0 + 1 * (x 0).val; omega
  · show (x 1).val = 0 + 1 * (x 1).val; omega

include eg eb

/-- What a grid point leaves of the norm. -/
theorem outs9 (t : Fin cfg0.N) (y : S256x1024.Idx) : ((outsAt0 m c t).2 y : EReal)
    = normed (sums A w o (256 * t.val + (y 0).val)) (off g (y 1).val) (off b (y 1).val) (y 1).val := by
  unfold outsAt0
  dsimp only
  unfold out0_A_9
  refine (View.read_writes_apply_of_pieces _ _ (fun y : S256x1024.Idx => normed (conv (fun r d => glu A (256 * t.val + r) d) (wgt w) (off o) (y 0).val)
    (off g (y 1).val) (off b (y 1).val) (y 1).val) _ ?_ y (cover0_A_9 c _ _ _ _ _ _ _ _ _ _ _ _ _ _ _ _ _ _ _ _ _ _ _ _ _ _ _ _ _ _ _ y)).trans
    (congrArg (fun f => normed f _ _ _) (funext fun d => conv_shift t.val _ _ _ d))
  rw [(run_eq _ _ _ _ _ _ _ _ _ _ _ _ _ _ _ _ _ _ _ _ c _ _ _ _ _ _ _ _ _ _ _ ).2]
  simp only [List.forall_mem_cons, List.not_mem_nil, false_implies, implies_true, and_true]
  intro x
  refine (congrArg (nrm (F := Ideal) (grid0.coords t) (ms0_0 t) (hs0_0 t) (ms0_1 t) (hs0_1 t) (ms0_2 t) (hs0_2 t) (ms0_3 t) (hs0_3 t) (ms0_4 t) (hs0_4 t) (ms0_5 t) (hs0_5 t) scM0_0
    (iblk m c 0 t) (iblk m c 1 t) (iblk m c 2 t) (iblk m c 3 t) (iblk m c 4 t) (iblk m c 5 t) (ms0_6 t) (hs0_6 t) (ms0_7 t) (hs0_7 t) (iblk m c 6 t) (iblk m c 7 t)) (funext fun a => ?_)).trans
    ((nrm_at (grid0.coords t) (fun r d => glu A (256 * t.val + r) d) (wgt w) (off o) (ms0_0 t) (hs0_0 t) (ms0_1 t) (hs0_1 t) (ms0_2 t) (hs0_2 t) (ms0_3 t) (hs0_3 t) (ms0_4 t) (hs0_4 t) (ms0_5 t) (hs0_5 t) scM0_0
    (iblk m c 0 t) (iblk m c 1 t) (iblk m c 2 t) (iblk m c 3 t) (iblk m c 4 t) (iblk m c 5 t) (win0 eA t) (win1 eA t) (win4 ew t) (fun y => by rw [win5 eo t]; exact off_row o y)
    (ms0_6 t) (hs0_6 t) (ms0_7 t) (hs0_7 t) _ _ (x 0) (x 1)).trans ?_)
  · match a with
    | ⟨0, _⟩ => rfl
    | ⟨1, _⟩ => rfl
  · rw [win6 eg t, win7 eb t, off_at g (x 1), off_at b (x 1)]
    have e0 : ∀ k : Fin 2, ((Rect.unit (s := S256x1024) ![0, 0] S256x1024.size inb_S256x1024_S256x1024_0_0).emb x k).val = (x k).val :=
      Fin.forall_fin_two.mpr ⟨by show 0 + 1 * (x 0).val = _; omega, by show 0 + 1 * (x 1).val = _; omega⟩
    rw [e0 0, e0 1]

omit eg eb in
theorem final8 : (dats m 0 c).arrAt 8 cfg0.N = Cert.Reference28Ideal.Read.val_main_v232 (F := Ideal) A w o := by
  refine (dats m 0 c).arrAt_eq_of_covers 8 _ (by decide +kernel) fun t hf y => ?_
  have e0 : (((cfg0.win 8).blk t).view.emb y 0).val = 256 * t.val + (y 0).val := by blk_simp [(idx t).2.2.2.2.2.2.2.2.1]; omega
  have e1 : (((cfg0.win 8).blk t).view.emb y 1).val = (y 1).val := by blk_simp [(idx t).2.2.2.2.2.2.2.2.1]
  refine Eq.trans ?_ (ref_at A w o (((cfg0.win 8).blk t).view.emb y)).symm
  rw [e0, e1]
  show (dats m 0 c).after 8 t y = _
  rw [after0_8]
  exact outs8 eA ew eo t y

theorem final9 : (dats m 0 c).arrAt 9 cfg0.N = Cert.Reference28Ideal.Read.val_main_v256 (F := Ideal) A w o g b := by
  refine (dats m 0 c).arrAt_eq_of_covers 9 _ (by decide +kernel) fun t hf y => ?_
  have e0 : (((cfg0.win 9).blk t).view.emb y 0).val = 256 * t.val + (y 0).val := by blk_simp [(idx t).2.2.2.2.2.2.2.2.2]; omega
  have e1 : (((cfg0.win 9).blk t).view.emb y 1).val = (y 1).val := by blk_simp [(idx t).2.2.2.2.2.2.2.2.2]
  refine Eq.trans ?_ (ref_normed_at A w o g b (((cfg0.win 9).blk t).view.emb y)).symm
  rw [e0, e1]
  show (dats m 0 c).after 9 t y = _
  rw [after0_9]
  exact outs9 eA ew eo eg eb t y

end Arrays

theorem frame_ref : Cert.quiescent_Reference28Ideal := fun m ρ _ =>
  (θ_run Cert.Reference28Ideal.defs _ _).mono
    (fun r h => ⟨fun c => (h c).2.2, Idealize.ShloMosaic.sem_eq_zero_of_no_sems (by decide) r.2⟩)
    (Cert.Reference28Ideal.Value.run (F := Ideal) m ρ)

theorem algebraic : Cert.algebraic_Kernel28Ideal_Reference28Ideal := by
  intro m ρ m' ρ' hpre hagree
  refine ⟨fun c => (dats m 0 c).arrAt 8 cfg0.N, fun c => (dats m 0 c).arrAt 9 cfg0.N, Cert.Kernel28Ideal.Value.run_blocks m ρ, ?_⟩
  refine (θ_run Cert.Reference28Ideal.defs _ _).mono (fun _ h c => ?_) (Cert.Reference28Ideal.Value.run (F := Ideal) m' ρ')
  obtain ⟨h0, h1, hk⟩ := h c
  obtain ⟨e0, e1, e2, e3, e4⟩ := hagree c
  refine ⟨h0.trans ?_, h1.trans ?_, hk⟩
  · refine (Cert.Reference28Ideal.Read.val_main_v232_eq _).trans (Eq.trans ?_ (final8 (c := c) rfl rfl rfl).symm)
    exact congr (congr (congrArg (Cert.Reference28Ideal.Read.val_main_v232 (F := Ideal)) e0) e1) e2
  · refine (Cert.Reference28Ideal.Read.val_main_v256_eq _).trans (Eq.trans ?_ (final9 (c := c) rfl rfl rfl rfl rfl).symm)
    exact congr (congr (congr (congr (congrArg (Cert.Reference28Ideal.Read.val_main_v256 (F := Ideal)) e0) e1) e2) e3) e4

end Cert.Kernel28Ideal.Hand
end
-- ==== Proof.NormFwd.lean ====
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pipeline.ValueKit.Point
public import Idealize.ShloMosaic.Lib.Quiescent

@[expose] public section

set_option maxRecDepth 16384
noncomputable section
open Idealize.ShloMosaic Idealize.ShloMosaic.TcCoe Idealize.SL.Sem
namespace Cert.Kernel26Ideal.Hand
open Cert.Kernel26Ideal Cert.Kernel26Ideal.Gen

/-! # The norm of the scaled residual sum -/

/-- The two rows every block reads stand still; the others follow the blocks of rows in order. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0]
    ∧ win0_6.index t = ![t.val, 0] ∧ win0_7.index t = ![t.val, 0] := (by decide +kernel : ∀ t : Fin grid0.N, _)

/-- The reference norms once for the saved rows and once for the result: the rows are the same. -/
theorem rows_eq (x0 x1 : (⟨S4096x2048, .f32⟩ : BufTy).Contents (Elt Ideal)) :
    Cert.Reference26Ideal.Read.val_main_v34 (F := Ideal) x0 x1 = Cert.Reference26Ideal.Read.val_main_v43 (F := Ideal) x0 x1 := rfl

variable (m : (ℓ : Loc nD τ sig) → Buf (Elt Ideal) ℓ) (c : Dev nD)

/-! The four results: the norm, its rounding, the normalised rows and the reciprocal deviations. -/

theorem final7 : (dats m 0 c).arrAt 7 cfg0.N
      = Cert.Reference26Ideal.Read.val_main_v16 (F := Ideal) (m ((c : Thread nD τ).loc main_arg0)) (m ((c : Thread nD τ).loc main_arg1)) := by
  refine (dats m 0 c).arrAt_eq_of_covers 7 _ (by decide +kernel) fun t hf y => ?_
  obtain ⟨i0, i1, i2, i3, i4, i5, i6, i7⟩ := idx t
  blk_simp
  rw [after0_7]; frame_out
  pointwise [k0_pay1, k0_pay2, Cert.Reference26Ideal.Read.val_main_cst, Cert.Reference26Ideal.Read.val_main_v0, Cert.Reference26Ideal.Read.val_main_v1, Cert.Reference26Ideal.Read.val_main_v2, Cert.Reference26Ideal.Read.val_main_cst_0, Cert.Reference26Ideal.Read.val_main_v3, Cert.Reference26Ideal.Read.val_main_v4, Cert.Reference26Ideal.Read.val_main_cst_1, Cert.Reference26Ideal.Read.val_main_v5, Cert.Reference26Ideal.Read.val_main_v6, Cert.Reference26Ideal.Read.val_main_v7, Cert.Reference26Ideal.Read.val_main_v8, Cert.Reference26Ideal.Read.val_main_v9, Cert.Reference26Ideal.Read.val_main_cst_2, Cert.Reference26Ideal.Read.val_main_v10, Cert.Reference26Ideal.Read.val_main_v11, Cert.Reference26Ideal.Read.val_main_cst_3, Cert.Reference26Ideal.Read.val_main_v12, Cert.Reference26Ideal.Read.val_main_v13, Cert.Reference26Ideal.Read.val_main_cst_4, Cert.Reference26Ideal.Read.val_main_v14, Cert.Reference26Ideal.Read.val_main_v15, Cert.Reference26Ideal.Read.val_main_v16]
  blk_point [iblk, V, i0, i1, i7]

theorem final6 : (dats m 0 c).arrAt 6 cfg0.N
      = Cert.Reference26Ideal.Read.val_main_v43 (F := Ideal) (m ((c : Thread nD τ).loc main_arg0)) (m ((c : Thread nD τ).loc main_arg1)) := by
  refine (dats m 0 c).arrAt_eq_of_covers 6 _ (by decide +kernel) fun t hf y => ?_
  obtain ⟨i0, i1, i2, i3, i4, i5, i6, i7⟩ := idx t
  blk_simp
  rw [after0_6]; frame_out
  pointwise [k0_pay1, k0_pay2, k0_pay3, Cert.Reference26Ideal.Read.val_main_cst, Cert.Reference26Ideal.Read.val_main_v0, Cert.Reference26Ideal.Read.val_main_v1, Cert.Reference26Ideal.Read.val_main_v2, Cert.Reference26Ideal.Read.val_main_cst_0, Cert.Reference26Ideal.Read.val_main_v3, Cert.Reference26Ideal.Read.val_main_v4, Cert.Reference26Ideal.Read.val_main_cst_1, Cert.Reference26Ideal.Read.val_main_v5, Cert.Reference26Ideal.Read.val_main_v6, Cert.Reference26Ideal.Read.val_main_v7, Cert.Reference26Ideal.Read.val_main_v8, Cert.Reference26Ideal.Read.val_main_v9, Cert.Reference26Ideal.Read.val_main_cst_2, Cert.Reference26Ideal.Read.val_main_v10, Cert.Reference26Ideal.Read.val_main_v11, Cert.Reference26Ideal.Read.val_main_cst_3, Cert.Reference26Ideal.Read.val_main_v12, Cert.Reference26Ideal.Read.val_main_v13, Cert.Reference26Ideal.Read.val_main_cst_4, Cert.Reference26Ideal.Read.val_main_v14, Cert.Reference26Ideal.Read.val_main_v15, Cert.Reference26Ideal.Read.val_main_v16, Cert.Reference26Ideal.Read.val_main_v40, Cert.Reference26Ideal.Read.val_main_v41, Cert.Reference26Ideal.Read.val_main_v42, Cert.Reference26Ideal.Read.val_main_v43]
  blk_point [iblk, V, i0, i1, i6]

theorem final4 : (dats m 0 c).arrAt 4 cfg0.N
      = Cert.Reference26Ideal.Read.val_main_v38 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  obtain ⟨i0, i1, i2, i3, i4, i5, i6, i7⟩ := idx t
  blk_simp
  rw [after0_4]; frame_out
  rw [Cert.Reference26Ideal.Read.val_main_v38, Cert.Reference26Ideal.Read.val_main_v36, rows_eq]
  pointwise [k0_pay1, k0_pay2, k0_pay3, k0_pay4, Cert.Reference26Ideal.Read.val_main_cst, Cert.Reference26Ideal.Read.val_main_v0, Cert.Reference26Ideal.Read.val_main_v1, Cert.Reference26Ideal.Read.val_main_v2, Cert.Reference26Ideal.Read.val_main_cst_0, Cert.Reference26Ideal.Read.val_main_v3, Cert.Reference26Ideal.Read.val_main_v4, Cert.Reference26Ideal.Read.val_main_cst_1, Cert.Reference26Ideal.Read.val_main_v5, Cert.Reference26Ideal.Read.val_main_v6, Cert.Reference26Ideal.Read.val_main_v7, Cert.Reference26Ideal.Read.val_main_v8, Cert.Reference26Ideal.Read.val_main_v9, Cert.Reference26Ideal.Read.val_main_cst_2, Cert.Reference26Ideal.Read.val_main_v10, Cert.Reference26Ideal.Read.val_main_v11, Cert.Reference26Ideal.Read.val_main_cst_3, Cert.Reference26Ideal.Read.val_main_v12, Cert.Reference26Ideal.Read.val_main_v13, Cert.Reference26Ideal.Read.val_main_cst_4, Cert.Reference26Ideal.Read.val_main_v14, Cert.Reference26Ideal.Read.val_main_v15, Cert.Reference26Ideal.Read.val_main_v16, Cert.Reference26Ideal.Read.val_main_v40, Cert.Reference26Ideal.Read.val_main_v41, Cert.Reference26Ideal.Read.val_main_v42, Cert.Reference26Ideal.Read.val_main_v43, Cert.Reference26Ideal.Read.val_main_v35, Cert.Reference26Ideal.Read.val_main_v37]
  blk_point [iblk, V, i0, i1, i2, i3, i4]

theorem final5 : (dats m 0 c).arrAt 5 cfg0.N
      = Cert.Reference26Ideal.Read.val_main_v39 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  obtain ⟨i0, i1, i2, i3, i4, i5, i6, i7⟩ := idx t
  blk_simp
  rw [after0_5]; frame_out
  rw [Cert.Reference26Ideal.Read.val_main_v39, Cert.Reference26Ideal.Read.val_main_v38, Cert.Reference26Ideal.Read.val_main_v36, rows_eq]
  pointwise [k0_pay1, k0_pay2, k0_pay3, k0_pay4, k0_pay5, Cert.Reference26Ideal.Read.val_main_cst, Cert.Reference26Ideal.Read.val_main_v0, Cert.Reference26Ideal.Read.val_main_v1, Cert.Reference26Ideal.Read.val_main_v2, Cert.Reference26Ideal.Read.val_main_cst_0, Cert.Reference26Ideal.Read.val_main_v3, Cert.Reference26Ideal.Read.val_main_v4, Cert.Reference26Ideal.Read.val_main_cst_1, Cert.Reference26Ideal.Read.val_main_v5, Cert.Reference26Ideal.Read.val_main_v6, Cert.Reference26Ideal.Read.val_main_v7, Cert.Reference26Ideal.Read.val_main_v8, Cert.Reference26Ideal.Read.val_main_v9, Cert.Reference26Ideal.Read.val_main_cst_2, Cert.Reference26Ideal.Read.val_main_v10, Cert.Reference26Ideal.Read.val_main_v11, Cert.Reference26Ideal.Read.val_main_cst_3, Cert.Reference26Ideal.Read.val_main_v12, Cert.Reference26Ideal.Read.val_main_v13, Cert.Reference26Ideal.Read.val_main_cst_4, Cert.Reference26Ideal.Read.val_main_v14, Cert.Reference26Ideal.Read.val_main_v15, Cert.Reference26Ideal.Read.val_main_v16, Cert.Reference26Ideal.Read.val_main_v40, Cert.Reference26Ideal.Read.val_main_v41, Cert.Reference26Ideal.Read.val_main_v42, Cert.Reference26Ideal.Read.val_main_v43, Cert.Reference26Ideal.Read.val_main_v35, Cert.Reference26Ideal.Read.val_main_v37]
  blk_point [iblk, V, i0, i1, i2, i3, i5]

theorem frame_ref : Cert.quiescent_Reference26Ideal := fun m ρ _ =>
  (θ_run Cert.Reference26Ideal.defs _ _).mono (fun r h => ⟨fun c => (h c).2.2.2.2,
      Idealize.ShloMosaic.sem_eq_zero_of_no_sems (by decide) r.2⟩)
    (Cert.Reference26Ideal.Value.run (F := Ideal) m ρ)

theorem algebraic : Cert.algebraic_Kernel26Ideal_Reference26Ideal := by
  intro m ρ m' ρ' hpre hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.Kernel26Ideal.Value.run_blocks m ρ, ?_⟩
  refine (θ_run Cert.Reference26Ideal.defs _ _).mono (fun _ h c => ?_) (Cert.Reference26Ideal.Value.run (F := Ideal) m' ρ')
  obtain ⟨h0, h1, h2, h3, hk⟩ := h c
  obtain ⟨e0, e1, e2, e3⟩ := hagree c
  refine ⟨h0.trans ?_, h1.trans ?_, h2.trans ?_, h3.trans ?_, hk⟩
  · rw [Cert.Reference26Ideal.Read.val_main_v38_eq, e0, e1, e2, e3]; exact (final4 m c).symm
  · rw [Cert.Reference26Ideal.Read.val_main_v39_eq, e0, e1, e2, e3]; exact (final5 m c).symm
  · rw [Cert.Reference26Ideal.Read.val_main_v43_eq, e0, e1]; exact (final6 m c).symm
  · rw [Cert.Reference26Ideal.Read.val_main_v16_eq, e0, e1]; exact (final7 m c).symm

end Cert.Kernel26Ideal.Hand
end
-- ==== Proof.PoolFwd.lean ====
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import Idealize.ShloMosaic.Lib.Pipeline.ValueKit.Point
public import Idealize.ShloMosaic.Lib.Quiescent
public import Idealize.ShloMosaic.Lib.WritesUnit
public import Idealize.ShloMosaic.Lib.PlanTiles.Rows

@[expose] public section

set_option maxRecDepth 16384
noncomputable section
open Idealize.ShloMosaic Idealize.ShloMosaic.TcCoe Idealize.SL.Sem
namespace Cert.Kernel29Ideal.Hand
open Cert.Kernel29Ideal Cert.Kernel29Ideal.Gen

/-! # The forward pooling and convolution of the odd mixer

A grid point keeps two padded blocks in scratch: the products that the convolution of three rows reads, and the rows that
the four poolings read. A pooling's quarter of the columns is the mean of the last two, four, eight or sixteen rows, less
the row itself, through a matrix and a scale. The kernel multiplies by the reciprocal of the count of rows and sums from the
newest row to the oldest; the reference divides and sums from the oldest. -/

/-! ## The formulas -/

/-- The convolution of three rows at a place: `X` the products from sixteen rows before the block on. -/
def conv (X W : ℕ → ℕ → EReal) (r c : ℕ) : EReal := W 0 c * X (r + 14) c + W 1 c * X (r + 15) c + W 2 c * X (r + 16) c

/-- How many rows a window of `w` holds at row `n`. -/
def count (w n : ℕ) : EReal := (((min (n + 1) w : ℕ) : ℝ) : EReal)

/-- A window's mean less its last row: `X` the rows from sixteen before the block on, `n` the row in the array. -/
def pooled (X : ℕ → ℕ → EReal) (w n r c : ℕ) : EReal :=
  (∑ k ∈ Finset.range w, X (r + (17 - w + k)) c) * Ideal.div 1 (count w n) - X (r + 16) c

/-- A pooling through its matrix: quarter `q`, column `c` of the quarter. -/
def mixed (X : ℕ → ℕ → EReal) (U : ℕ → ℕ → ℕ → EReal) (q w n r c : ℕ) : EReal :=
  ∑ k : Fin 256, pooled X w n r (256 * q + k.val) * U q k.val c

theorem count_pos {w n : ℕ} (hw : 0 < w) : (((min (n + 1) w : ℕ) : ℝ)) ≠ 0 := by
  have : 0 < min (n + 1) w := lt_min (Nat.succ_pos n) hw
  exact_mod_cast this.ne'

/-- Dividing by a count is multiplying by its reciprocal. -/
theorem div_count (x : EReal) {w : ℕ} (n : ℕ) (hw : 0 < w) : Ideal.div x (count w n) = x * Ideal.div 1 (count w n) := by
  unfold count
  rw [Ideal.div_coe (count_pos hw), Ideal.div_coe (count_pos hw), one_mul]

/-- The count as the words have it. -/
theorem count_word {a b : ℕ} (ha : a + 1 < 2 ^ 31) (hb : b < 2 ^ 31) :
    (FloatOps.sitofp (F := Ideal) FTy.f32 (IntOp.minsi (IntOp.addi (BitVec.ofNat 32 a) 1#32) (BitVec.ofNat 32 b)) : EReal) = count b a := by
  show (((IntOp.minsi (IntOp.addi (BitVec.ofNat 32 a) 1#32) (BitVec.ofNat 32 b) : BitVec 32).toInt : ℝ) : EReal) = count b a
  rw [show IntOp.addi (BitVec.ofNat 32 a) 1#32 = BitVec.ofNat 32 (a + 1) from (BitVec.ofNat_add a 1).symm, PlanTiles.minsi_word ha hb]
  unfold count
  have h : (BitVec.ofNat 32 (min b (a + 1))).toInt = ((min (a + 1) b : ℕ) : ℤ) := by
    have hm : min b (a + 1) < 2 ^ 31 := lt_of_le_of_lt (min_le_left _ _) hb
    rw [min_comm (a + 1) b, BitVec.toInt_eq_toNat_of_lt (by rw [BitVec.toNat_ofNat, Nat.mod_eq_of_lt (by omega)]; omega), BitVec.toNat_ofNat, Nat.mod_eq_of_lt (by omega)]
  rw [h]
  simp

/-! ## The reference -/

section Ref
open Cert.Reference29Ideal.Read

def rd (A : FVec Ideal Cert.Reference29Ideal.S4096x4096 .bf16) (r c : ℕ) : EReal :=
  if h : r < 4096 ∧ c < 4096 then A (ix2 (⟨r, h.1⟩ : Fin 4096) (⟨c, h.2⟩ : Fin 4096)) else 0

theorem rd_at (A : FVec Ideal Cert.Reference29Ideal.S4096x4096 .bf16) (y : Cert.Reference29Ideal.S4096x4096.Idx) (r c : ℕ) (hr : (y 0).val = r)
    (hc : (y 1).val = c) : (A y : EReal) = rd A r c := by
  subst hr hc
  unfold rd
  rw [dif_pos ⟨(y 0).isLt, (y 1).isLt⟩]
  refine congrArg A (funext fun a => ?_)
  match a with
  | ⟨0, _⟩ => rfl
  | ⟨1, _⟩ => rfl

theorem rd_ix (A : FVec Ideal Cert.Reference29Ideal.S4096x4096 .bf16) (r c : Fin 4096) : (A (ix2 r c) : EReal) = rd A r.val c.val := rd_at A _ _ _ rfl rfl

/-- The products that the convolution reads, after sixteen rows of nothing. -/
def prod (A : FVec Ideal Cert.Reference29Ideal.S4096x4096 .bf16) (r c : ℕ) : EReal :=
  if r < 16 then 0 else rd A (r - 16) (1024 + c) * rd A (r - 16) (2048 + c)

/-- The rows that the poolings read, after sixteen rows of nothing. -/
def pool (A : FVec Ideal Cert.Reference29Ideal.S4096x4096 .bf16) (r c : ℕ) : EReal :=
  if r < 16 then 0 else rd A (r - 16) (3072 + c)

theorem ref_prod (A : FVec Ideal Cert.Reference29Ideal.S4096x4096 .bf16) (y : Cert.Reference29Ideal.S4098x1024.Idx) :
    (val_main_v7 (F := Ideal) A y : EReal) = prod A ((y 0).val + 14) (y 1).val := by
  have hy : (y 0).val < 4098 := (y 0).isLt
  unfold val_main_v7 prod
  by_cases h : (y 0).val < 2
  · refine (concatenate_pair_apply_left (s₁ := Cert.Reference29Ideal.S2x1024) (0 : Fin 2) _ _ _ y rfl
      (show Cert.Reference29Ideal.S2x1024.Idx from ix2 (⟨(y 0).val, h⟩ : Fin 2) (⟨(y 1).val, (y 1).isLt⟩ : Fin 1024))
      (Fin.forall_fin_two.mpr ⟨rfl, rfl⟩)).trans ?_
    rw [if_pos (by omega)]
    pointwise [val_main_v6, val_main_cst]
  · refine (concatenate_pair_apply_right (s₁ := Cert.Reference29Ideal.S2x1024) (s₂ := Cert.Reference29Ideal.S4096x1024) (0 : Fin 2) _ _ _ y rfl rfl
      (show Cert.Reference29Ideal.S4096x1024.Idx from ix2 (⟨(y 0).val - 2, by omega⟩ : Fin 4096) (⟨(y 1).val, (y 1).isLt⟩ : Fin 1024))
      (Fin.forall_fin_two.mpr ⟨fun h => absurd rfl h, fun _ => rfl⟩) (by show (y 0).val - 2 + 2 = (y 0).val; omega)).trans ?_
    rw [if_neg (by omega)]
    pointwise [val_main_v5, val_main_v3, val_main_v2, val_main_v0]
    rw [rd_at A _ ((y 0).val + 14 - 16) (1024 + (y 1).val) (by show (y 0).val - 2 = _; omega) rfl,
      rd_at A _ ((y 0).val + 14 - 16) (2048 + (y 1).val) (by show (y 0).val - 2 = _; omega) rfl]

/-- The weights, the matrices and the scale by numbers. -/
def wgt (W : FVec Ideal Cert.Reference29Ideal.S3x1024 .f32) (r c : ℕ) : EReal :=
  if h : r < 3 ∧ c < 1024 then W (ix2 (⟨r, h.1⟩ : Fin 3) (⟨c, h.2⟩ : Fin 1024)) else 0

theorem wgt_at (W : FVec Ideal Cert.Reference29Ideal.S3x1024 .f32) (r : Fin 3) (c : Fin 1024) : (W (ix2 r c) : EReal) = wgt W r.val c.val := by
  unfold wgt
  rw [dif_pos ⟨r.isLt, c.isLt⟩]

/-- A matrix's entry by numbers. -/
def mat (U : FVec Ideal Cert.Reference29Ideal.S4x256x256 .bf16) (q r c : ℕ) : EReal :=
  if h : q < 4 ∧ r < 256 ∧ c < 256 then U (ix3 (⟨q, h.1⟩ : Fin 4) (⟨r, h.2.1⟩ : Fin 256) (⟨c, h.2.2⟩ : Fin 256)) else 0

theorem mat_at (U : FVec Ideal Cert.Reference29Ideal.S4x256x256 .bf16) (q : Fin 4) (r c : Fin 256) : (U (ix3 q r c) : EReal) = mat U q.val r.val c.val := by
  unfold mat
  rw [dif_pos ⟨q.isLt, r.isLt, c.isLt⟩]

def scl (S : FVec Ideal Cert.Reference29Ideal.S1x1024 .f32) (c : ℕ) : EReal := if h : c < 1024 then S (ix2 (0 : Fin 1) (⟨c, h⟩ : Fin 1024)) else 0

theorem scl_at (S : FVec Ideal Cert.Reference29Ideal.S1x1024 .f32) (c : Fin 1024) : (S (ix2 (0 : Fin 1) c) : EReal) = scl S c.val := by
  unfold scl
  rw [dif_pos c.isLt]

theorem ref_conv (A : FVec Ideal Cert.Reference29Ideal.S4096x4096 .bf16) (W : FVec Ideal Cert.Reference29Ideal.S3x1024 .f32) (r : Fin 4096) (c : Fin 1024) :
    (val_main_v30 (F := Ideal) A W (ix2 r c) : EReal) = rd A r.val c.val * conv (prod A) (wgt W) r.val c.val := by
  have hr : ∀ a b : ℕ, a + r.val + b = r.val + (a + b) := fun a b => by omega
  pointwise [val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v1, val_main_v0, val_main_cst_0]
  simp only [ref_prod, wgt_at]
  rw [rd_at A _ r.val c.val (by simp) (by simp)]
  unfold conv
  simp only [ix2_0, ix2_1, hr, mul_comm (wgt W _ _)]
  rfl

/-- Rows of nothing before an array's rows. -/
theorem pad_at (a : ℕ) (z : FVec Ideal ⟨2, ![a, 256]⟩ .f32) (p : FVec Ideal ⟨2, ![4096, 256]⟩ .f32)
    (h : Shape.Concatenates [⟨2, ![a, 256]⟩, ⟨2, ![4096, 256]⟩] ⟨2, ![4096 + a, 256]⟩ 0) (y : (⟨2, ![4096 + a, 256]⟩ : Shape).Idx) (f : ℕ → ℕ → EReal)
    (hz : ∀ x, (z x : EReal) = 0) (hp : ∀ x, (p x : EReal) = f (x 0).val (x 1).val) :
    (concatenate ⟨2, ![4096 + a, 256]⟩ 0 [⟨⟨2, ![a, 256]⟩, z⟩, ⟨⟨2, ![4096, 256]⟩, p⟩] h y : EReal)
      = if (y 0).val < a then 0 else f ((y 0).val - a) (y 1).val := by
  have hy : (y 0).val < 4096 + a := (y 0).isLt
  by_cases h : (y 0).val < a
  · rw [if_pos h]
    exact (concatenate_pair_apply_left (s₁ := ⟨2, ![a, 256]⟩) (0 : Fin 2) _ _ _ y rfl
      (ix2 (⟨(y 0).val, h⟩ : Fin a) (⟨(y 1).val, (y 1).isLt⟩ : Fin 256)) (Fin.forall_fin_two.mpr ⟨rfl, rfl⟩)).trans (hz _)
  · rw [if_neg h]
    exact (concatenate_pair_apply_right (s₁ := ⟨2, ![a, 256]⟩) (s₂ := ⟨2, ![4096, 256]⟩) (0 : Fin 2) _ _ _ y rfl rfl
      (ix2 (⟨(y 0).val - a, by omega⟩ : Fin 4096) (⟨(y 1).val, (y 1).isLt⟩ : Fin 256))
      (Fin.forall_fin_two.mpr ⟨fun h => absurd rfl h, fun _ => rfl⟩) (by show (y 0).val - a + a = (y 0).val; omega)).trans (hp _)

/-- A padded quarter in the numbering from sixteen rows before. -/
theorem pad_pool (A : FVec Ideal Cert.Reference29Ideal.S4096x4096 .bf16) {a b : ℕ} (hab : a + b = 16) (r q c : ℕ) :
    (if r < a then 0 else rd A (r - a) (3072 + (q + c))) = pool A (r + b) (q + c) := by
  unfold pool
  by_cases h : r < a
  · rw [if_pos h, if_pos (by omega)]
  · rw [if_neg h, if_neg (by omega), show r + b - 16 = r - a by omega]

theorem ref_pad0 (A : FVec Ideal Cert.Reference29Ideal.S4096x4096 .bf16) (y : Cert.Reference29Ideal.S4097x256.Idx) :
    (val_main_v36 (F := Ideal) A y : EReal) = pool A ((y 0).val + 15) (0 + (y 1).val) := by
  refine (pad_at 1 _ _ _ y (fun r c => rd A r (3072 + (0 + c))) (fun x => ?_) (fun x => ?_)).trans (pad_pool A rfl _ _ _)
  · pointwise [val_main_v35, val_main_cst_1]
  · pointwise [val_main_v31, val_main_v4, val_main_v0]
    exact rd_at A _ _ _ rfl rfl

theorem ref_pad1 (A : FVec Ideal Cert.Reference29Ideal.S4096x4096 .bf16) (y : Cert.Reference29Ideal.S4099x256.Idx) :
    (val_main_v53 (F := Ideal) A y : EReal) = pool A ((y 0).val + 13) (256 + (y 1).val) := by
  refine (pad_at 3 _ _ _ y (fun r c => rd A r (3072 + (256 + c))) (fun x => ?_) (fun x => ?_)).trans (pad_pool A rfl _ _ _)
  · pointwise [val_main_v52, val_main_cst_4]
  · pointwise [val_main_v32, val_main_v4, val_main_v0]
    exact rd_at A _ _ _ rfl rfl

theorem ref_pad2 (A : FVec Ideal Cert.Reference29Ideal.S4096x4096 .bf16) (y : Cert.Reference29Ideal.S4103x256.Idx) :
    (val_main_v74 (F := Ideal) A y : EReal) = pool A ((y 0).val + 9) (512 + (y 1).val) := by
  refine (pad_at 7 _ _ _ y (fun r c => rd A r (3072 + (512 + c))) (fun x => ?_) (fun x => ?_)).trans (pad_pool A rfl _ _ _)
  · pointwise [val_main_v73, val_main_cst_8]
  · pointwise [val_main_v33, val_main_v4, val_main_v0]
    exact rd_at A _ _ _ rfl rfl

theorem ref_pad3 (A : FVec Ideal Cert.Reference29Ideal.S4096x4096 .bf16) (y : Cert.Reference29Ideal.S4111x256.Idx) :
    (val_main_v103 (F := Ideal) A y : EReal) = pool A ((y 0).val + 1) (768 + (y 1).val) := by
  refine (pad_at 15 _ _ _ y (fun r c => rd A r (3072 + (768 + c))) (fun x => ?_) (fun x => ?_)).trans (pad_pool A rfl _ _ _)
  · pointwise [val_main_v102, val_main_cst_12]
  · pointwise [val_main_v34, val_main_v4, val_main_v0]
    exact rd_at A _ _ _ rfl rfl

theorem place (k r b : ℕ) : k + r + b = r + (k + b) := by omega

theorem now (A : FVec Ideal Cert.Reference29Ideal.S4096x4096 .bf16) (r c : ℕ) : pool A (r + 16) c = rd A r (3072 + c) := by
  unfold pool
  rw [if_neg (by omega), Nat.add_sub_cancel]

theorem ref_pool0 (A : FVec Ideal Cert.Reference29Ideal.S4096x4096 .bf16) (r : Fin 4096) (c : Fin 256) :
    (val_main_v51 (F := Ideal) A (ix2 r c) : EReal) = pooled (pool A) 2 r.val r.val (0 + c.val) := by
  pointwise [val_main_v31, val_main_v37, val_main_v38, val_main_v39, val_main_v40, val_main_v41, val_main_v42, val_main_v43, val_main_v44, val_main_v45, val_main_v46, val_main_v47, val_main_v48, val_main_v49, val_main_v50, val_main_v51, val_main_v4, val_main_v0, val_main_c, val_main_c_3, val_main_cst_2]
  simp only [count_word (a := r.val) (b := 2) (by omega) (by omega), ref_pad0, rd_ix, ix2_0, ix2_1, place]
  rw [div_count _ r.val (show 0 < 2 by omega)]
  unfold pooled
  simp only [Finset.sum_range_succ, Finset.sum_range_zero, zero_add, now]

theorem ref_pool1 (A : FVec Ideal Cert.Reference29Ideal.S4096x4096 .bf16) (r : Fin 4096) (c : Fin 256) :
    (val_main_v72 (F := Ideal) A (ix2 r c) : EReal) = pooled (pool A) 4 r.val r.val (256 + c.val) := by
  pointwise [val_main_v32, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v4, val_main_v0, val_main_c_6, val_main_c_7, val_main_cst_5]
  simp only [count_word (a := r.val) (b := 4) (by omega) (by omega), ref_pad1, rd_ix, ix2_0, ix2_1, place]
  rw [div_count _ r.val (show 0 < 4 by omega)]
  unfold pooled
  simp only [Finset.sum_range_succ, Finset.sum_range_zero, zero_add, now]

theorem ref_pool2 (A : FVec Ideal Cert.Reference29Ideal.S4096x4096 .bf16) (r : Fin 4096) (c : Fin 256) :
    (val_main_v101 (F := Ideal) A (ix2 r c) : EReal) = pooled (pool A) 8 r.val r.val (512 + c.val) := by
  pointwise [val_main_v33, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v4, val_main_v0, val_main_c_10, val_main_c_11, val_main_cst_9]
  simp only [count_word (a := r.val) (b := 8) (by omega) (by omega), ref_pad2, rd_ix, ix2_0, ix2_1, place]
  rw [div_count _ r.val (show 0 < 8 by omega)]
  unfold pooled
  simp only [Finset.sum_range_succ, Finset.sum_range_zero, zero_add, now]

theorem ref_pool3 (A : FVec Ideal Cert.Reference29Ideal.S4096x4096 .bf16) (r : Fin 4096) (c : Fin 256) :
    (val_main_v146 (F := Ideal) A (ix2 r c) : EReal) = pooled (pool A) 16 r.val r.val (768 + c.val) := by
  pointwise [val_main_v34, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v4, val_main_v0, val_main_c_14, val_main_c_15, val_main_cst_13]
  simp only [count_word (a := r.val) (b := 16) (by omega) (by omega), ref_pad3, rd_ix, ix2_0, ix2_1, place]
  rw [div_count _ r.val (show 0 < 16 by omega)]
  unfold pooled
  simp only [Finset.sum_range_succ, Finset.sum_range_zero, zero_add, now]

/-- A pooling through its matrix, in the array's rows. -/
def mixing (A : FVec Ideal Cert.Reference29Ideal.S4096x4096 .bf16) (U : FVec Ideal Cert.Reference29Ideal.S4x256x256 .bf16) (q w n c : ℕ) : EReal :=
  mixed (pool A) (mat U) q w n n c

theorem ref_mix0 (A : FVec Ideal Cert.Reference29Ideal.S4096x4096 .bf16) (U : FVec Ideal Cert.Reference29Ideal.S4x256x256 .bf16) (r : Fin 4096) (c : Fin 256) :
    (val_main_v150 (F := Ideal) A U (ix2 r c) : EReal) = mixing A U 0 2 r.val c.val := by
  pointwise [val_main_v147, val_main_v148, val_main_v149, val_main_v150]
  simp only [ref_pool0, mat_at]
  rfl

theorem ref_mix1 (A : FVec Ideal Cert.Reference29Ideal.S4096x4096 .bf16) (U : FVec Ideal Cert.Reference29Ideal.S4x256x256 .bf16) (r : Fin 4096) (c : Fin 256) :
    (val_main_v154 (F := Ideal) A U (ix2 r c) : EReal) = mixing A U 1 4 r.val c.val := by
  pointwise [val_main_v151, val_main_v152, val_main_v153, val_main_v154]
  simp only [ref_pool1, mat_at]
  rfl

theorem ref_mix2 (A : FVec Ideal Cert.Reference29Ideal.S4096x4096 .bf16) (U : FVec Ideal Cert.Reference29Ideal.S4x256x256 .bf16) (r : Fin 4096) (c : Fin 256) :
    (val_main_v158 (F := Ideal) A U (ix2 r c) : EReal) = mixing A U 2 8 r.val c.val := by
  pointwise [val_main_v155, val_main_v156, val_main_v157, val_main_v158]
  simp only [ref_pool2, mat_at]
  rfl

theorem ref_mix3 (A : FVec Ideal Cert.Reference29Ideal.S4096x4096 .bf16) (U : FVec Ideal Cert.Reference29Ideal.S4x256x256 .bf16) (r : Fin 4096) (c : Fin 256) :
    (val_main_v162 (F := Ideal) A U (ix2 r c) : EReal) = mixing A U 3 16 r.val c.val := by
  pointwise [val_main_v159, val_main_v160, val_main_v161, val_main_v162]
  simp only [ref_pool3, mat_at]
  rfl

/-- What the reference holds at a place: the convolution's columns, then the four poolings'. -/
def out (A : FVec Ideal Cert.Reference29Ideal.S4096x4096 .bf16) (W : FVec Ideal Cert.Reference29Ideal.S3x1024 .f32) (U : FVec Ideal Cert.Reference29Ideal.S4x256x256 .bf16)
    (S : FVec Ideal Cert.Reference29Ideal.S1x1024 .f32) (r c : ℕ) : EReal :=
  if c < 1024 then rd A r c * conv (prod A) (wgt W) r c
  else mixing A U ((c - 1024) / 256) (2 ^ ((c - 1024) / 256 + 1)) r ((c - 1024) % 256) * scl S (c - 1024)

theorem ref_mix (A : FVec Ideal Cert.Reference29Ideal.S4096x4096 .bf16) (U : FVec Ideal Cert.Reference29Ideal.S4x256x256 .bf16) (r : Fin 4096) (c : Fin 1024) :
    (val_main_v163 (F := Ideal) A U (ix2 r c) : EReal) = mixing A U (c.val / 256) (2 ^ (c.val / 256 + 1)) r.val (c.val % 256) := by
  have hc : c.val < 1024 := c.isLt
  let y : Fin 256 := ⟨c.val % 256, Nat.mod_lt _ (by omega)⟩
  have off : ∀ b : Fin 2, b ≠ 1 → ((ix2 r y : (⟨2, ![4096, 256]⟩ : Shape).Idx) b).val = ((ix2 r c : (⟨2, ![4096, 1024]⟩ : Shape).Idx) b).val :=
    Fin.forall_fin_two.mpr ⟨fun _ => rfl, fun h => absurd rfl h⟩
  have hq : c.val / 256 = 0 ∨ c.val / 256 = 1 ∨ c.val / 256 = 2 ∨ c.val / 256 = 3 := by omega
  unfold val_main_v163
  rcases hq with h | h | h | h <;> rw [h]
  · refine Eq.trans (concatenate_apply_piece (t := Cert.Reference29Ideal.S4096x1024) (1 : Fin 2) _ _ (ix2 r c) 0 ?_ Cert.Reference29Ideal.S4096x256 _ rfl rfl 0 rfl (ix2 r y) off ?_) (ref_mix0 A U r y)
    · show 0 < 4; omega
    · show 0 + c.val % 256 = c.val; omega
  · refine Eq.trans (concatenate_apply_piece (t := Cert.Reference29Ideal.S4096x1024) (1 : Fin 2) _ _ (ix2 r c) 1 ?_ Cert.Reference29Ideal.S4096x256 _ rfl rfl 256 rfl (ix2 r y) off ?_) (ref_mix1 A U r y)
    · show 1 < 4; omega
    · show 256 + c.val % 256 = c.val; omega
  · refine Eq.trans (concatenate_apply_piece (t := Cert.Reference29Ideal.S4096x1024) (1 : Fin 2) _ _ (ix2 r c) 2 ?_ Cert.Reference29Ideal.S4096x256 _ rfl rfl 512 rfl (ix2 r y) off ?_) (ref_mix2 A U r y)
    · show 2 < 4; omega
    · show 512 + c.val % 256 = c.val; omega
  · refine Eq.trans (concatenate_apply_piece (t := Cert.Reference29Ideal.S4096x1024) (1 : Fin 2) _ _ (ix2 r c) 3 ?_ Cert.Reference29Ideal.S4096x256 _ rfl rfl 768 rfl (ix2 r y) off ?_) (ref_mix3 A U r y)
    · show 3 < 4; omega
    · show 768 + c.val % 256 = c.val; omega

theorem ref_out (A : FVec Ideal Cert.Reference29Ideal.S4096x4096 .bf16) (W : FVec Ideal Cert.Reference29Ideal.S3x1024 .f32) (U : FVec Ideal Cert.Reference29Ideal.S4x256x256 .bf16)
    (S : FVec Ideal Cert.Reference29Ideal.S1x1024 .f32) (y : Cert.Reference29Ideal.S4096x2048.Idx) :
    (val_main_v167 (F := Ideal) A W U S y : EReal) = out A W U S (y 0).val (y 1).val := by
  have hy : (y 1).val < 2048 := (y 1).isLt
  unfold out
  pointwise [val_main_v167]
  unfold val_main_v166
  by_cases h : (y 1).val < 1024
  · rw [if_pos h]
    refine (concatenate_pair_apply_left (s₁ := Cert.Reference29Ideal.S4096x1024) (1 : Fin 2) _ _ _ y rfl
      (show Cert.Reference29Ideal.S4096x1024.Idx from ix2 (⟨(y 0).val, (y 0).isLt⟩ : Fin 4096) (⟨(y 1).val, h⟩ : Fin 1024))
      (Fin.forall_fin_two.mpr ⟨rfl, rfl⟩)).trans ?_
    exact ref_conv A W _ _
  · rw [if_neg h]
    refine (concatenate_pair_apply_right (s₁ := Cert.Reference29Ideal.S4096x1024) (s₂ := Cert.Reference29Ideal.S4096x1024) (1 : Fin 2) _ _ _ y rfl rfl
      (show Cert.Reference29Ideal.S4096x1024.Idx from ix2 (⟨(y 0).val, (y 0).isLt⟩ : Fin 4096) (⟨(y 1).val - 1024, by omega⟩ : Fin 1024))
      (Fin.forall_fin_two.mpr ⟨fun _ => rfl, fun h => absurd rfl h⟩) (by show (y 1).val - 1024 + 1024 = (y 1).val; omega)).trans ?_
    pointwise [val_main_v165, val_main_v164]
    exact congrArg₂ (fun a b : EReal => a * b) (ref_mix A U (y 0) ⟨(y 1).val - 1024, by omega⟩) (scl_at S ⟨(y 1).val - 1024, by omega⟩)

end Ref

section Open
variable {F : FTy → Type} [FloatOps F]

/-- The two stores into each scratch buffer: the rows before the block, and the block's. -/
def scrM (i : grid0.Coords) (a g : Vec F S16x1024 .bf16) (a' g' : Vec F S256x1024 .bf16) : List (View.Piece (Elt F) S272x1024 .f32) :=
  [⟨Rect.unit (s := S272x1024) ![16, 0] S256x1024.size inb_S272x1024_S256x1024_16_0, k0_pay3 a' g'⟩,
   ⟨Rect.unit (s := S272x1024) ![0, 0] S16x1024.size inb_S272x1024_S16x1024_0_0, k0_pay2 i a g⟩]

def scrP (i : grid0.Coords) (p : Vec F S16x1024 .bf16) (p' : Vec F S256x1024 .bf16) : List (View.Piece (Elt F) S272x1024 .f32) :=
  [⟨Rect.unit (s := S272x1024) ![16, 0] S256x1024.size inb_S272x1024_S256x1024_16_0, k0_pay7 p'⟩,
   ⟨Rect.unit (s := S272x1024) ![0, 0] S16x1024.size inb_S272x1024_S16x1024_0_0, k0_pay6 (BitVec.ofNat 32 (i 1).val) p⟩]

theorem inb_w (k : Fin 3) : ∀ a : Fin 2, (![k.val, 0] : Fin 2 → ℕ) a + S1x1024.size a ≤ S3x1024.size a :=
  Fin.forall_fin_two.mpr ⟨by show k.val + 1 ≤ 3; omega, Nat.le_refl 1024⟩

theorem inb_M (k : Fin 17) : ∀ a : Fin 2, (![k.val, 0] : Fin 2 → ℕ) a + S256x1024.size a ≤ S272x1024.size a :=
  Fin.forall_fin_two.mpr ⟨by show k.val + 256 ≤ 272; omega, Nat.le_refl 1024⟩

theorem inb_P (k : Fin 17) (q : Fin 4) : ∀ a : Fin 2, (![k.val, 256 * q.val] : Fin 2 → ℕ) a + S256x256.size a ≤ S272x1024.size a :=
  Fin.forall_fin_two.mpr ⟨by show k.val + 256 ≤ 272; omega, by show 256 * q.val + 256 ≤ 1024; omega⟩

theorem inb_U (q : Fin 4) : ∀ a : Fin 3, (![q.val, 0, 0] : Fin 3 → ℕ) a + S1x256x256.size a ≤ S4x256x256.size a
  | ⟨0, _⟩ => by show q.val + 1 ≤ 4; omega
  | ⟨1, _⟩ => Nat.le_refl 256
  | ⟨2, _⟩ => Nat.le_refl 256

theorem inb_S (q : Fin 4) : ∀ a : Fin 2, (![0, 256 * q.val] : Fin 2 → ℕ) a + S1x256.size a ≤ S1x1024.size a :=
  Fin.forall_fin_two.mpr ⟨Nat.le_refl 1, by show 256 * q.val + 256 ≤ 1024; omega⟩

variable (i : grid0.Coords) (arg2 : Memref sig .tc .vmem S256x1024 .bf16) (harg2 : arg2.IsWhole) (arg3 : Memref sig .tc .vmem S16x1024 .bf16) (harg3 : arg3.IsWhole)
  (arg4 : Memref sig .tc .vmem S256x1024 .bf16) (harg4 : arg4.IsWhole) (arg5 : Memref sig .tc .vmem S16x1024 .bf16) (harg5 : arg5.IsWhole)
  (arg6 : Memref sig .tc .vmem S256x1024 .bf16) (harg6 : arg6.IsWhole) (arg7 : Memref sig .tc .vmem S16x1024 .bf16) (harg7 : arg7.IsWhole)
  (arg8 : Memref sig .tc .vmem S256x1024 .bf16) (harg8 : arg8.IsWhole) (arg9 : Memref sig .tc .vmem S3x1024 .f32) (harg9 : arg9.IsWhole)
  (arg10 : Memref sig .tc .vmem S4x256x256 .bf16) (harg10 : arg10.IsWhole) (arg11 : Memref sig .tc .vmem S1x1024 .f32) (harg11 : arg11.IsWhole)
  (arg13 arg14 : Memref sig .tc .vmem S272x1024 .f32)
  (x0 : Vec F S256x1024 .bf16) (x1 : Vec F S16x1024 .bf16) (x2 : Vec F S256x1024 .bf16) (x3 : Vec F S16x1024 .bf16) (x4 : Vec F S256x1024 .bf16)
  (x5 : Vec F S16x1024 .bf16) (x6 : Vec F S256x1024 .bf16) (x7 : Vec F S3x1024 .f32) (x8 : Vec F S4x256x256 .bf16) (x9 : Vec F S1x1024 .f32)

/-- A row of the convolution's weights. -/
def wrow (k : Fin 3) : Vec F S1x1024 .f32 :=
  arg9.view.readAt (Elt F) (Rect.unit (s := S3x1024) ![k.val, 0] S1x1024.size (inb_w k)).toLoadRect (harg9.unread x7)

/-- The rows of the products that a weight meets. -/
def mrows (k : Fin 17) : Vec F S256x1024 .f32 :=
  arg13.view.readAt (Elt F) (Rect.unit (s := S272x1024) ![k.val, 0] S256x1024.size (inb_M k)).toLoadRect
    (arg13.view.writes (Elt F) arg13.view.junk (scrM i (arg3.view.readAt (Elt F) (Rect.unit (s := S16x1024) ![0, 0] S16x1024.size inb_S16x1024_S16x1024_0_0).toLoadRect (harg3.unread x1))
      (arg5.view.readAt (Elt F) (Rect.unit (s := S16x1024) ![0, 0] S16x1024.size inb_S16x1024_S16x1024_0_0).toLoadRect (harg5.unread x3))
      (arg4.view.readAt (Elt F) (Rect.unit (s := S256x1024) ![0, 0] S256x1024.size inb_S256x1024_S256x1024_0_0).toLoadRect (harg4.unread x2))
      (arg6.view.readAt (Elt F) (Rect.unit (s := S256x1024) ![0, 0] S256x1024.size inb_S256x1024_S256x1024_0_0).toLoadRect (harg6.unread x4))))

/-- A quarter of the pooled rows, from a row of the scratch on. -/
def prows (q : Fin 4) (k : Fin 17) : Vec F S256x256 .f32 :=
  arg14.view.readAt (Elt F) (Rect.unit (s := S272x1024) ![k.val, 256 * q.val] S256x256.size (inb_P k q)).toLoadRect
    (arg14.view.writes (Elt F) arg14.view.junk (scrP i (arg7.view.readAt (Elt F) (Rect.unit (s := S16x1024) ![0, 0] S16x1024.size inb_S16x1024_S16x1024_0_0).toLoadRect (harg7.unread x5))
      (arg8.view.readAt (Elt F) (Rect.unit (s := S256x1024) ![0, 0] S256x1024.size inb_S256x1024_S256x1024_0_0).toLoadRect (harg8.unread x6))))

/-- A pooling's matrix. -/
def umat (q : Fin 4) : Vec F S1x256x256 .bf16 :=
  arg10.view.readAt (Elt F) (Rect.unit (s := S4x256x256) ![q.val, 0, 0] S1x256x256.size (inb_U q)).toLoadRect (harg10.unread x8)

/-- A pooling's scale. -/
def srow (q : Fin 4) : Vec F S1x256 .f32 :=
  arg11.view.readAt (Elt F) (Rect.unit (s := S1x1024) ![0, 256 * q.val] S1x256.size (inb_S q)).toLoadRect (harg11.unread x9)

/-- The convolution's store from its reads. -/
def cols (w : Fin 3 → Vec F S1x1024 .f32) (m : Fin 17 → Vec F S256x1024 .f32) (b : Vec F S256x1024 .bf16) : Vec F S256x1024 .bf16 :=
  k0_pay5 (k0_pay4 (w 0) (m 14) (w 1) (m 15)) (w 2) (m 16) b

/-- The poolings' stores from their reads. -/
def mix0 (a : BitVec 32) (p : Fin 17 → Vec F S256x256 .f32) (u : Vec F S1x256x256 .bf16) (s : Vec F S1x256 .f32) : Vec F S256x256 .bf16 :=
  k0_pay10 (k0_pay8 (p 16) (p 15)) (k0_pay9 (F := F) a) (p 16) u s

def mix1 (a : BitVec 32) (p : Fin 17 → Vec F S256x256 .f32) (u : Vec F S1x256x256 .bf16) (s : Vec F S1x256 .f32) : Vec F S256x256 .bf16 :=
  k0_pay12 (k0_pay11 a (p 16) (p 15) (p 14) (p 13) (p 16)) u s

def mix2 (a : BitVec 32) (p : Fin 17 → Vec F S256x256 .f32) (u : Vec F S1x256x256 .bf16) (s : Vec F S1x256 .f32) : Vec F S256x256 .bf16 :=
  k0_pay15 (k0_pay13 (p 16) (p 15) (p 14) (p 13) (p 12) (p 11) (p 10) (p 9)) (k0_pay14 a) (p 16) u s

def mix3 (a : BitVec 32) (p : Fin 17 → Vec F S256x256 .f32) (u : Vec F S1x256x256 .bf16) (s : Vec F S1x256 .f32) : Vec F S256x256 .bf16 :=
  k0_pay1 (k0_pay17 a (k0_pay16 (p 16) (p 15) (p 14) (p 13) (p 12) (p 11) (p 10) (p 9)) (p 8) (p 7) (p 6) (p 5) (p 4) (p 3) (p 2) (p 1) (p 16) u) s

theorem run_eq (c : Dev nD) (arg12 : Memref sig .tc .vmem S256x2048 .bf16) (harg12 : arg12.IsWhole) (harg13 : arg13.IsWhole) (harg14 : arg14.IsWhole) :
    (kernelRun0_A (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1
      = [⟨Rect.unit (s := S256x2048) ![0, 1792] S256x256.size inb_S256x2048_S256x256_0_1792, mix3 (BitVec.ofNat 32 (i 1).val) (prows i arg7 harg7 arg8 harg8 arg14 x5 x6 3) (umat arg10 harg10 x8 3) (srow arg11 harg11 x9 3)⟩,
         ⟨Rect.unit (s := S256x2048) ![0, 1536] S256x256.size inb_S256x2048_S256x256_0_1536, mix2 (BitVec.ofNat 32 (i 1).val) (prows i arg7 harg7 arg8 harg8 arg14 x5 x6 2) (umat arg10 harg10 x8 2) (srow arg11 harg11 x9 2)⟩,
         ⟨Rect.unit (s := S256x2048) ![0, 1280] S256x256.size inb_S256x2048_S256x256_0_1280, mix1 (BitVec.ofNat 32 (i 1).val) (prows i arg7 harg7 arg8 harg8 arg14 x5 x6 1) (umat arg10 harg10 x8 1) (srow arg11 harg11 x9 1)⟩,
         ⟨Rect.unit (s := S256x2048) ![0, 1024] S256x256.size inb_S256x2048_S256x256_0_1024, mix0 (BitVec.ofNat 32 (i 1).val) (prows i arg7 harg7 arg8 harg8 arg14 x5 x6 0) (umat arg10 harg10 x8 0) (srow arg11 harg11 x9 0)⟩,
         ⟨Rect.unit (s := S256x2048) ![0, 0] S256x1024.size inb_S256x2048_S256x1024_0_0, cols (wrow arg9 harg9 x7) (mrows i arg3 harg3 arg4 harg4 arg5 harg5 arg6 harg6 arg13 x1 x2 x3 x4)
          (arg2.view.readAt (Elt F) (Rect.unit (s := S256x1024) ![0, 0] S256x1024.size inb_S256x1024_S256x1024_0_0).toLoadRect (harg2.unread x0))⟩] := by
  unfold kernelRun0_A
  rfl

end Open

/-! ## A grid point's stores -/

section Block
variable (X W : ℕ → ℕ → EReal) (U : ℕ → ℕ → ℕ → EReal) (S : ℕ → EReal)

theorem row_word (t r : ℕ) : IntOp.addi (Scalar.muli (BitVec.ofNat 32 t) 256#32) (BitVec.ofNat 32 r) = BitVec.ofNat 32 (256 * t + r) := by
  show BitVec.ofNat 32 t * BitVec.ofNat 32 256 + BitVec.ofNat 32 r = _
  rw [BitVec.ofNat_add, BitVec.ofNat_mul, BitVec.mul_comm]

/-- A window's rows from the newest on. -/
theorem newest (r c w : ℕ) (hw : w ≤ 17) : ∑ k ∈ Finset.range w, X (r + (17 - w + k)) c = ∑ k ∈ Finset.range w, X (r + (16 - k)) c := by
  rw [← Finset.sum_range_reflect]
  refine Finset.sum_congr rfl fun k hk => ?_
  have := Finset.mem_range.mp hk
  rw [show 17 - w + (w - 1 - k) = 16 - k by omega]

theorem cols_at (w : Fin 3 → FVec Ideal S1x1024 .f32) (m : Fin 17 → FVec Ideal S256x1024 .f32) (b : FVec Ideal S256x1024 .bf16)
    (hw : ∀ (k : Fin 3) (c : Fin 1024), (w k (ix2 (0 : Fin 1) c) : EReal) = W k.val c.val)
    (hm : ∀ (k : Fin 17) (r : Fin 256) (c : Fin 1024), (m k (ix2 r c) : EReal) = X (r.val + k.val) c.val) (r : Fin 256) (c : Fin 1024) :
    (cols (F := Ideal) w m b (ix2 r c) : EReal) = b (ix2 r c) * conv X W r.val c.val := by
  unfold cols
  pointwise [k0_pay4, k0_pay5]
  simp only [hw, hm]
  rfl

section Mix
variable (t : ℕ) (ht : t < 16) (q : Fin 4) (p : Fin 17 → FVec Ideal S256x256 .f32) (u : FVec Ideal S1x256x256 .bf16) (s : FVec Ideal S1x256 .f32)
  (hp : ∀ (k : Fin 17) (r c : Fin 256), (p k (ix2 r c) : EReal) = X (r.val + k.val) (256 * q.val + c.val))
  (hu : ∀ k c : Fin 256, (u (ix3 (0 : Fin 1) k c) : EReal) = U q.val k.val c.val)
  (hs : ∀ c : Fin 256, (s (ix2 (0 : Fin 1) c) : EReal) = S (256 * q.val + c.val)) (r c : Fin 256)
include ht hp hu hs

theorem mix0_at : (mix0 (F := Ideal) (BitVec.ofNat 32 t) p u s (ix2 r c) : EReal) = mixed X U q.val 2 (256 * t + r.val) r.val c.val * S (256 * q.val + c.val) := by
  unfold mix0
  pointwise [k0_pay8, k0_pay9, k0_pay10]
  simp only [hp, hu, hs, row_word, count_word (a := 256 * t + r.val) (b := 2) (by omega) (by omega)]
  unfold mixed pooled
  simp only [newest X _ _ 2 (by omega), Finset.sum_range_succ, Finset.sum_range_zero, zero_add]
  rfl

theorem mix1_at : (mix1 (F := Ideal) (BitVec.ofNat 32 t) p u s (ix2 r c) : EReal) = mixed X U q.val 4 (256 * t + r.val) r.val c.val * S (256 * q.val + c.val) := by
  unfold mix1
  pointwise [k0_pay11, k0_pay12]
  simp only [hp, hu, hs, row_word, count_word (a := 256 * t + r.val) (b := 4) (by omega) (by omega)]
  unfold mixed pooled
  simp only [newest X _ _ 4 (by omega), Finset.sum_range_succ, Finset.sum_range_zero, zero_add]
  rfl

theorem mix2_at : (mix2 (F := Ideal) (BitVec.ofNat 32 t) p u s (ix2 r c) : EReal) = mixed X U q.val 8 (256 * t + r.val) r.val c.val * S (256 * q.val + c.val) := by
  unfold mix2
  pointwise [k0_pay13, k0_pay14, k0_pay15]
  simp only [hp, hu, hs, row_word, count_word (a := 256 * t + r.val) (b := 8) (by omega) (by omega)]
  unfold mixed pooled
  simp only [newest X _ _ 8 (by omega), Finset.sum_range_succ, Finset.sum_range_zero, zero_add]
  rfl

theorem mix3_at : (mix3 (F := Ideal) (BitVec.ofNat 32 t) p u s (ix2 r c) : EReal) = mixed X U q.val 16 (256 * t + r.val) r.val c.val * S (256 * q.val + c.val) := by
  unfold mix3
  pointwise [k0_pay1, k0_pay16, k0_pay17]
  simp only [hp, hu, hs, row_word, count_word (a := 256 * t + r.val) (b := 16) (by omega) (by omega)]
  unfold mixed pooled
  simp only [newest X _ _ 16 (by omega), Finset.sum_range_succ, Finset.sum_range_zero, zero_add]
  rfl

end Mix

section Reads

/-- A scratch buffer holds its padded rows. -/
theorem scr_at (M : Memref sig .tc .vmem S272x1024 .f32) (a : FVec Ideal S16x1024 .f32) (b : FVec Ideal S256x1024 .f32)
    (h0 : ∀ y : S16x1024.Idx, (a y : EReal) = X (y 0).val (y 1).val) (h1 : ∀ y : S256x1024.Idx, (b y : EReal) = X (16 + (y 0).val) (y 1).val) (y : S272x1024.Idx) :
    (M.view.read (Elt Ideal) (M.view.writes (Elt Ideal) M.view.junk
      [⟨Rect.unit (s := S272x1024) ![16, 0] S256x1024.size inb_S272x1024_S256x1024_16_0, b⟩,
       ⟨Rect.unit (s := S272x1024) ![0, 0] S16x1024.size inb_S272x1024_S16x1024_0_0, a⟩]) y : EReal) = X (y 0).val (y 1).val := by
  have hy : (y 0).val < 272 := (y 0).isLt
  by_cases h : (y 0).val < 16
  · refine (View.read_writes_cons_rows_of_not_mem _ _ _ _ _ y rfl rfl (.inl h)).trans ?_
    refine (View.read_writes_cons_rows_of_mem _ _ _ _ _ y (ix2 (⟨(y 0).val, h⟩ : Fin 16) (⟨(y 1).val, (y 1).isLt⟩ : Fin 1024)) rfl
      (Nat.zero_add _).symm rfl).trans ?_
    exact h0 _
  · refine (View.read_writes_cons_rows_of_mem _ _ _ _ _ y (ix2 (⟨(y 0).val - 16, by omega⟩ : Fin 256) (⟨(y 1).val, (y 1).isLt⟩ : Fin 1024)) rfl
      (by show (y 0).val = 16 + ((y 0).val - 16); omega) rfl).trans ?_
    refine (h1 _).trans ?_
    show X (16 + ((y 0).val - 16)) (y 1).val = _
    rw [Nat.add_sub_cancel' (by omega)]

theorem wrow_at (arg9 : Memref sig .tc .vmem S3x1024 .f32) (harg9 : arg9.IsWhole) (x7 : FVec Ideal S3x1024 .f32)
    (h : ∀ y : S3x1024.Idx, (x7 y : EReal) = W (y 0).val (y 1).val) (k : Fin 3) (c : Fin 1024) :
    (wrow (F := Ideal) arg9 harg9 x7 k (ix2 (0 : Fin 1) c) : EReal) = W k.val c.val := by
  unfold wrow
  rw [View.readAt_eq_ld, harg9.read_unread]
  refine (h _).trans ?_
  show W (k.val + 1 * 0) (0 + 1 * c.val) = _
  simp

theorem umat_at (arg10 : Memref sig .tc .vmem S4x256x256 .bf16) (harg10 : arg10.IsWhole) (x8 : FVec Ideal S4x256x256 .bf16)
    (h : ∀ y : S4x256x256.Idx, (x8 y : EReal) = U (y 0).val (y 1).val (y 2).val) (q : Fin 4) (k c : Fin 256) :
    (umat (F := Ideal) arg10 harg10 x8 q (ix3 (0 : Fin 1) k c) : EReal) = U q.val k.val c.val := by
  unfold umat
  rw [View.readAt_eq_ld, harg10.read_unread]
  refine (h _).trans ?_
  show U (q.val + 1 * 0) (0 + 1 * k.val) (0 + 1 * c.val) = _
  simp

theorem srow_at (arg11 : Memref sig .tc .vmem S1x1024 .f32) (harg11 : arg11.IsWhole) (x9 : FVec Ideal S1x1024 .f32)
    (h : ∀ y : S1x1024.Idx, (x9 y : EReal) = S (y 1).val) (q : Fin 4) (c : Fin 256) :
    (srow (F := Ideal) arg11 harg11 x9 q (ix2 (0 : Fin 1) c) : EReal) = S (256 * q.val + c.val) := by
  unfold srow
  rw [View.readAt_eq_ld, harg11.read_unread]
  refine (h _).trans ?_
  show S (256 * q.val + 1 * c.val) = _
  rw [Nat.one_mul]

theorem mrows_at (i : grid0.Coords) (arg3 : Memref sig .tc .vmem S16x1024 .bf16) (harg3 : arg3.IsWhole)
    (arg4 : Memref sig .tc .vmem S256x1024 .bf16) (harg4 : arg4.IsWhole) (arg5 : Memref sig .tc .vmem S16x1024 .bf16) (harg5 : arg5.IsWhole)
    (arg6 : Memref sig .tc .vmem S256x1024 .bf16) (harg6 : arg6.IsWhole) (arg13 : Memref sig .tc .vmem S272x1024 .f32)
    (x1 : FVec Ideal S16x1024 .bf16) (x2 : FVec Ideal S256x1024 .bf16) (x3 : FVec Ideal S16x1024 .bf16) (x4 : FVec Ideal S256x1024 .bf16)
    (h0 : ∀ y : S16x1024.Idx, (k0_pay2 (F := Ideal) i x1 x3 y : EReal) = X (y 0).val (y 1).val)
    (h1 : ∀ y : S256x1024.Idx, (k0_pay3 (F := Ideal) x2 x4 y : EReal) = X (16 + (y 0).val) (y 1).val) (k : Fin 17) (r : Fin 256) (c : Fin 1024) :
    (mrows (F := Ideal) i arg3 harg3 arg4 harg4 arg5 harg5 arg6 harg6 arg13 x1 x2 x3 x4 k (ix2 r c) : EReal) = X (r.val + k.val) c.val := by
  unfold mrows scrM
  rw [View.readAt_apply]
  refine (scr_at X arg13 _ _ (fun y => ?_) (fun y => ?_) _).trans ?_
  · simp only [View.readAt_eq_ld, harg3.read_unread, harg5.read_unread]
    refine Eq.trans (congrArg₂ (fun v w => k0_pay2 (F := Ideal) i v w y) (funext fun z => ?_) (funext fun z => ?_)) (h0 y) <;> pointwise []
  · simp only [View.readAt_eq_ld, harg4.read_unread, harg6.read_unread]
    refine Eq.trans (congrArg₂ (fun v w => k0_pay3 (F := Ideal) v w y) (funext fun z => ?_) (funext fun z => ?_)) (h1 y) <;> pointwise []
  · show X (k.val + 1 * r.val) (0 + 1 * c.val) = _
    rw [Nat.one_mul, Nat.one_mul, Nat.zero_add, Nat.add_comm]

theorem prows_at (i : grid0.Coords) (arg7 : Memref sig .tc .vmem S16x1024 .bf16) (harg7 : arg7.IsWhole)
    (arg8 : Memref sig .tc .vmem S256x1024 .bf16) (harg8 : arg8.IsWhole) (arg14 : Memref sig .tc .vmem S272x1024 .f32)
    (x5 : FVec Ideal S16x1024 .bf16) (x6 : FVec Ideal S256x1024 .bf16)
    (h0 : ∀ y : S16x1024.Idx, (k0_pay6 (F := Ideal) (BitVec.ofNat 32 (i 1).val) x5 y : EReal) = X (y 0).val (y 1).val)
    (h1 : ∀ y : S256x1024.Idx, (k0_pay7 (F := Ideal) x6 y : EReal) = X (16 + (y 0).val) (y 1).val) (q : Fin 4) (k : Fin 17) (r c : Fin 256) :
    (prows (F := Ideal) i arg7 harg7 arg8 harg8 arg14 x5 x6 q k (ix2 r c) : EReal) = X (r.val + k.val) (256 * q.val + c.val) := by
  unfold prows scrP
  rw [View.readAt_apply]
  refine (scr_at X arg14 _ _ (fun y => ?_) (fun y => ?_) _).trans ?_
  · simp only [View.readAt_eq_ld, harg7.read_unread]
    refine Eq.trans (congrArg (fun v => k0_pay6 (F := Ideal) _ v y) (funext fun z => ?_)) (h0 y); pointwise []
  · simp only [View.readAt_eq_ld, harg8.read_unread]
    refine Eq.trans (congrArg (fun v => k0_pay7 (F := Ideal) v y) (funext fun z => ?_)) (h1 y); pointwise []
  · show X (k.val + 1 * r.val) (256 * q.val + 1 * c.val) = _
    rw [Nat.one_mul, Nat.one_mul, Nat.add_comm k.val]

end Reads
end Block

/-! ## The arrays -/

/-- Where the windows' blocks lie at a point of the grid. -/
theorem idx : ∀ t : Fin cfg0.N, (win0_0.index t = ![t.val, 0] ∧ win0_1.index t = ![t.val * 16 - 1, 1] ∧ win0_2.index t = ![t.val, 1]
    ∧ win0_3.index t = ![t.val * 16 - 1, 2] ∧ win0_4.index t = ![t.val, 2]) ∧ (win0_5.index t = ![t.val * 16 - 1, 3] ∧ win0_6.index t = ![t.val, 3])
    ∧ win0_7.index t = ![0, 0] ∧ win0_8.index t = ![0, 0, 0] ∧ win0_9.index t = ![0, 0] ∧ win0_10.index t = ![t.val, 0] :=
  (by decide +kernel : ∀ t : Fin grid0.N, _)

theorem coord : ∀ t : Fin cfg0.N, ((grid0.coords t) 1).val = t.val ∧ t.val < 16 := (by decide +kernel : ∀ t : Fin grid0.N, _)

/-- The rows before the block are read only where there are any. -/
theorem first : ∀ t : Fin cfg0.N, (Scalar.cmpi .sgt (BitVec.ofNat 32 ((grid0.coords t) 1).val) 0#32 : BitVec 1) = if t.val = 0 then 0#1 else 1#1 :=
  (by decide +kernel : ∀ t : Fin grid0.N, _)

section Arrays
variable {m : (ℓ : Loc nD τ sig) → Buf (Elt Ideal) ℓ} {c : Dev nD}
variable {A : FVec Ideal S4096x4096 .bf16} (eA : m ((c : Thread nD τ).loc main_arg0) = A)
  {W : FVec Ideal S3x1024 .f32} (eW : m ((c : Thread nD τ).loc main_arg1) = W)
  {U : FVec Ideal S4x256x256 .bf16} (eU : m ((c : Thread nD τ).loc main_arg2) = U)
  {S : FVec Ideal S1x1024 .f32} (eS : m ((c : Thread nD τ).loc main_arg3) = S)

include eA

theorem winM (t : Fin cfg0.N) (y : S16x1024.Idx) :
    (k0_pay2 (F := Ideal) (grid0.coords t) (iblk m c 1 t) (iblk m c 3 t) y : EReal) = prod A (256 * t.val + (y 0).val) (y 1).val := by
  have hy : (y 0).val < 16 := (y 0).isLt
  unfold k0_pay2 prod
  dsimp only
  rw [first t]
  by_cases h : t.val = 0
  · rw [if_pos h, if_pos (by omega)]
    simp only [Scalar.select, if_neg (show ¬(0#1 : BitVec 1) = 1 by decide)]
    pointwise []
  · rw [if_neg h, if_neg (by omega)]
    pointwise [Scalar.select]
    refine (congrFun (if_pos (show (1#1 : BitVec 1) = 1 from rfl)) y).trans ?_
    pointwise []
    have e0 : iblk m c 1 t y = A (((cfg0.win 1).blk t).view.emb y) := by rw [← eA, ← V_main_arg0 m c]; rfl
    have e2 : iblk m c 3 t y = A (((cfg0.win 3).blk t).view.emb y) := by rw [← eA, ← V_main_arg0 m c]; rfl
    rw [e0, e2]
    rw [rd_at A (((cfg0.win 1).blk t).view.emb y) (256 * t.val + (y 0).val - 16) (1024 + (y 1).val) (by blk_simp [(idx t).1.2.1]; omega) (by blk_simp [(idx t).1.2.1]),
      rd_at A (((cfg0.win 3).blk t).view.emb y) (256 * t.val + (y 0).val - 16) (2048 + (y 1).val) (by blk_simp [(idx t).1.2.2.2.1]; omega) (by blk_simp [(idx t).1.2.2.2.1])]

theorem winM' (t : Fin cfg0.N) (y : S256x1024.Idx) :
    (k0_pay3 (F := Ideal) (iblk m c 2 t) (iblk m c 4 t) y : EReal) = prod A (256 * t.val + (16 + (y 0).val)) (y 1).val := by
  unfold prod
  rw [if_neg (by omega)]
  pointwise [k0_pay3]
  have e1 : iblk m c 2 t y = A (((cfg0.win 2).blk t).view.emb y) := by rw [← eA, ← V_main_arg0 m c]; rfl
  have e3 : iblk m c 4 t y = A (((cfg0.win 4).blk t).view.emb y) := by rw [← eA, ← V_main_arg0 m c]; rfl
  rw [e1, e3]
  rw [rd_at A (((cfg0.win 2).blk t).view.emb y) (256 * t.val + (16 + (y 0).val) - 16) (1024 + (y 1).val) (by blk_simp [(idx t).1.2.2.1]; omega) (by blk_simp [(idx t).1.2.2.1]),
    rd_at A (((cfg0.win 4).blk t).view.emb y) (256 * t.val + (16 + (y 0).val) - 16) (2048 + (y 1).val) (by blk_simp [(idx t).1.2.2.2.2]; omega) (by blk_simp [(idx t).1.2.2.2.2])]

theorem winP (t : Fin cfg0.N) (y : S16x1024.Idx) :
    (k0_pay6 (F := Ideal) (BitVec.ofNat 32 ((grid0.coords t) 1).val) (iblk m c 5 t) y : EReal) = pool A (256 * t.val + (y 0).val) (y 1).val := by
  have hy : (y 0).val < 16 := (y 0).isLt
  unfold k0_pay6 pool
  dsimp only
  rw [first t]
  by_cases h : t.val = 0
  · rw [if_pos h, if_pos (by omega)]
    simp only [Scalar.select, if_neg (show ¬(0#1 : BitVec 1) = 1 by decide)]
    pointwise []
  · rw [if_neg h, if_neg (by omega)]
    pointwise [Scalar.select]
    refine (congrFun (if_pos (show (1#1 : BitVec 1) = 1 from rfl)) y).trans ?_
    pointwise []
    have e0 : iblk m c 5 t y = A (((cfg0.win 5).blk t).view.emb y) := by rw [← eA, ← V_main_arg0 m c]; rfl
    rw [e0]
    rw [rd_at A (((cfg0.win 5).blk t).view.emb y) (256 * t.val + (y 0).val - 16) (3072 + (y 1).val) (by blk_simp [(idx t).2.1.1]; omega) (by blk_simp [(idx t).2.1.1])]

theorem winP' (t : Fin cfg0.N) (y : S256x1024.Idx) :
    (k0_pay7 (F := Ideal) (iblk m c 6 t) y : EReal) = pool A (256 * t.val + (16 + (y 0).val)) (y 1).val := by
  unfold pool
  rw [if_neg (by omega)]
  pointwise [k0_pay7]
  have e1 : iblk m c 6 t y = A (((cfg0.win 6).blk t).view.emb y) := by rw [← eA, ← V_main_arg0 m c]; rfl
  rw [e1]
  rw [rd_at A (((cfg0.win 6).blk t).view.emb y) (256 * t.val + (16 + (y 0).val) - 16) (3072 + (y 1).val) (by blk_simp [(idx t).2.1.2]; omega) (by blk_simp [(idx t).2.1.2])]

theorem winB (t : Fin cfg0.N) (y : S256x1024.Idx) : (iblk m c 0 t y : EReal) = rd A (256 * t.val + (y 0).val) (y 1).val := by
  have e : iblk m c 0 t y = A (((cfg0.win 0).blk t).view.emb y) := by rw [← eA, ← V_main_arg0 m c]; rfl
  exact Eq.trans e (rd_at A _ _ _ (by blk_simp [(idx t).1.1]; omega) (by blk_simp [(idx t).1.1]))

omit eA in
include eW in
theorem winW (t : Fin cfg0.N) (y : S3x1024.Idx) : (iblk m c 7 t y : EReal) = wgt W (y 0).val (y 1).val := by
  have e : iblk m c 7 t y = W (((cfg0.win 7).blk t).view.emb y) := by rw [← eW, ← V_main_arg1 m c]; rfl
  refine Eq.trans e (Eq.trans (congrArg W (funext fun a => Fin.ext ?_)) (wgt_at W (y 0) (y 1)))
  match a with
  | ⟨0, _⟩ => blk_simp [(idx t).2.2.1]; rfl
  | ⟨1, _⟩ => blk_simp [(idx t).2.2.1]; rfl

omit eA in
include eU in
theorem winU (t : Fin cfg0.N) (y : S4x256x256.Idx) : (iblk m c 8 t y : EReal) = mat U (y 0).val (y 1).val (y 2).val := by
  have e : iblk m c 8 t y = U (((cfg0.win 8).blk t).view.emb y) := by rw [← eU, ← V_main_arg2 m c]; rfl
  refine Eq.trans e (Eq.trans (congrArg U (funext fun a => Fin.ext ?_)) (mat_at U (y 0) (y 1) (y 2)))
  match a with
  | ⟨0, _⟩ => blk_simp [(idx t).2.2.2.1]; rfl
  | ⟨1, _⟩ => blk_simp [(idx t).2.2.2.1]; rfl
  | ⟨2, _⟩ => blk_simp [(idx t).2.2.2.1]; rfl

omit eA in
include eS in
theorem winS (t : Fin cfg0.N) (y : S1x1024.Idx) : (iblk m c 9 t y : EReal) = scl S (y 1).val := by
  have e : iblk m c 9 t y = S (((cfg0.win 9).blk t).view.emb y) := by rw [← eS, ← V_main_arg3 m c]; rfl
  refine Eq.trans e (Eq.trans (congrArg S (funext fun a => Fin.ext ?_)) (scl_at S (y 1)))
  match a with
  | ⟨0, _⟩ => blk_simp [(idx t).2.2.2.2.1]; rfl
  | ⟨1, _⟩ => blk_simp [(idx t).2.2.2.2.1]; rfl

omit eA in
/-- The poolings over the rows from the block on. -/
theorem mixed_shift (t : ℕ) (q w r d : ℕ) : mixed (fun r d => pool A (256 * t + r) d) (mat U) q w (256 * t + r) r d = mixing A U q w (256 * t + r) d := by
  unfold mixing mixed pooled
  simp only [Nat.add_assoc]

omit eA in
theorem out_mix (q w n d : ℕ) (hq : q < 4) (hd : d < 256) (hw : w = 2 ^ (q + 1)) :
    out A W U S n (1024 + 256 * q + d) = mixing A U q w n d * scl S (256 * q + d) := by
  subst hw
  unfold out
  rw [if_neg (by omega), show (1024 + 256 * q + d - 1024) / 256 = q by omega, show (1024 + 256 * q + d - 1024) % 256 = d by omega,
    show 1024 + 256 * q + d - 1024 = 256 * q + d by omega]

omit eA in
theorem point (t : ℕ) (q : Fin 4) (w : ℕ) (r d : Fin 256) (hw : w = 2 ^ (q.val + 1)) (r' d' : ℕ) (hr : r' = r.val) (hd : d' = 1024 + 256 * q.val + d.val) :
    mixed (fun r d => pool A (256 * t + r) d) (mat U) q.val w (256 * t + r.val) r.val d.val * scl S (256 * q.val + d.val) = out A W U S (256 * t + r') d' := by
  subst hr hd
  rw [mixed_shift, out_mix q.val w _ d.val q.isLt d.isLt hw]

include eW eU eS

/-- What a grid point leaves. -/
theorem outs (t : Fin cfg0.N) (y : S256x2048.Idx) : (outsAt0 m c t y : EReal) = out A W U S (256 * t.val + (y 0).val) (y 1).val := by
  unfold outsAt0 out0_A_10
  refine View.read_writes_apply_of_pieces _ _ (fun y => show Elt Ideal .bf16 from out A W U S (256 * t.val + (y 0).val) (y 1).val) _ ?_ y
    (cover0_A_10 c _ _ _ _ _ _ _ _ _ _ _ _ _ _ _ _ _ _ _ _ _ _ _ _ _ _ _ _ _ _ _ _ _ _ _ _ _ y)
  rw [run_eq]
  have hp : ∀ (q : Fin 4) (k : Fin 17) (r d : Fin 256), (prows (F := Ideal) (grid0.coords t) (ms0_5 t) (hs0_5 t) (ms0_6 t) (hs0_6 t) scM0_1 (iblk m c 5 t) (iblk m c 6 t) q k (ix2 r d) : EReal)
      = pool A (256 * t.val + (r.val + k.val)) (256 * q.val + d.val) :=
    prows_at (fun r d => pool A (256 * t.val + r) d) (grid0.coords t) _ _ _ _ _ _ _ (winP eA t) (winP' eA t)
  have hu : ∀ (q : Fin 4) (k d : Fin 256), (umat (F := Ideal) (ms0_8 t) (hs0_8 t) (iblk m c 8 t) q (ix3 (0 : Fin 1) k d) : EReal) = mat U q.val k.val d.val :=
    umat_at (mat U) _ _ _ (winU eU t)
  have hs : ∀ (q : Fin 4) (d : Fin 256), (srow (F := Ideal) (ms0_9 t) (hs0_9 t) (iblk m c 9 t) q (ix2 (0 : Fin 1) d) : EReal) = scl S (256 * q.val + d.val) :=
    srow_at (scl S) _ _ _ (winS eS t)
  have ht := (coord t).2
  rw [(coord t).1]
  simp only [List.forall_mem_cons, List.not_mem_nil, false_implies, implies_true, and_true]
  refine ⟨fun x => ?_, fun x => ?_, fun x => ?_, fun x => ?_, fun x => ?_⟩
  · refine (congrArg (mix3 (F := Ideal) _ _ _ _) (eq_ix2 x)).trans ((mix3_at (fun r d => pool A (256 * t.val + r) d) (mat U) (scl S) t.val ht 3 _ _ _ (hp 3) (hu 3) (hs 3) (x 0) (x 1)).trans ?_)
    exact (point t.val 3 16 (x 0) (x 1) rfl _ _ (by show 0 + 1 * (x 0).val = _; omega) (by show 1792 + 1 * (x 1).val = 1024 + 256 * 3 + _; omega))
  · refine (congrArg (mix2 (F := Ideal) _ _ _ _) (eq_ix2 x)).trans ((mix2_at (fun r d => pool A (256 * t.val + r) d) (mat U) (scl S) t.val ht 2 _ _ _ (hp 2) (hu 2) (hs 2) (x 0) (x 1)).trans ?_)
    exact (point t.val 2 8 (x 0) (x 1) rfl _ _ (by show 0 + 1 * (x 0).val = _; omega) (by show 1536 + 1 * (x 1).val = 1024 + 256 * 2 + _; omega))
  · refine (congrArg (mix1 (F := Ideal) _ _ _ _) (eq_ix2 x)).trans ((mix1_at (fun r d => pool A (256 * t.val + r) d) (mat U) (scl S) t.val ht 1 _ _ _ (hp 1) (hu 1) (hs 1) (x 0) (x 1)).trans ?_)
    exact (point t.val 1 4 (x 0) (x 1) rfl _ _ (by show 0 + 1 * (x 0).val = _; omega) (by show 1280 + 1 * (x 1).val = 1024 + 256 * 1 + _; omega))
  · refine (congrArg (mix0 (F := Ideal) _ _ _ _) (eq_ix2 x)).trans ((mix0_at (fun r d => pool A (256 * t.val + r) d) (mat U) (scl S) t.val ht 0 _ _ _ (hp 0) (hu 0) (hs 0) (x 0) (x 1)).trans ?_)
    exact (point t.val 0 2 (x 0) (x 1) rfl _ _ (by show 0 + 1 * (x 0).val = _; omega) (by show 1024 + 1 * (x 1).val = 1024 + 256 * 0 + _; omega))
  · refine (congrArg (cols (F := Ideal) _ _ _) (eq_ix2 x)).trans ((cols_at (fun r d => prod A (256 * t.val + r) d) (wgt W) _ _ _
      (wrow_at (wgt W) (ms0_7 t) (hs0_7 t) _ (winW eW t)) (mrows_at (fun r d => prod A (256 * t.val + r) d) (grid0.coords t) _ _ _ _ _ _ _ _ _ _ _ _ _ (winM eA t) (winM' eA t)) (x 0) (x 1)).trans ?_)
    have h0 : ((Rect.unit (s := S256x2048) ![0, 0] S256x1024.size inb_S256x2048_S256x1024_0_0).emb x 0).val = (x 0).val := by show 0 + 1 * (x 0).val = _; omega
    have h1 : ((Rect.unit (s := S256x2048) ![0, 0] S256x1024.size inb_S256x2048_S256x1024_0_0).emb x 1).val = (x 1).val := by show 0 + 1 * (x 1).val = _; omega
    have hx : (x 1).val < 1024 := (x 1).isLt
    refine Eq.trans ?_ (congrArg₂ (fun a b => out A W U S (256 * t.val + a) b) h0 h1).symm
    unfold out conv
    rw [if_pos hx, View.readAt_eq_ld, (hs0_0 t).read_unread]
    refine congrArg₂ (fun a b : EReal => a * b) ((winB eA t _).trans ?_) ?_
    · show rd A (256 * t.val + (0 + 1 * (x 0).val)) (0 + 1 * (x 1).val) = _
      rw [Nat.one_mul, Nat.one_mul, Nat.zero_add, Nat.zero_add]
    · simp only [Nat.add_assoc]

theorem final : (dats m 0 c).arrAt 10 cfg0.N = Cert.Reference29Ideal.Read.val_main_v167 (F := Ideal) A W U S := by
  refine (dats m 0 c).arrAt_eq_of_covers 10 _ (by decide +kernel) fun t hf y => ?_
  have e0 : (((cfg0.win 10).blk t).view.emb y 0).val = 256 * t.val + (y 0).val := by blk_simp [(idx t).2.2.2.2.2]; omega
  have e1 : (((cfg0.win 10).blk t).view.emb y 1).val = (y 1).val := by blk_simp [(idx t).2.2.2.2.2]
  refine Eq.trans ?_ (ref_out A W U S (((cfg0.win 10).blk t).view.emb y)).symm
  rw [e0, e1]
  show (dats m 0 c).after 10 t y = _
  rw [after0_10]
  exact outs eA eW eU eS t y

end Arrays

theorem frame_ref : Cert.quiescent_Reference29Ideal := fun m ρ _ =>
  (θ_run Cert.Reference29Ideal.defs _ _).mono
    (fun r h => ⟨fun c => (h c).2, Idealize.ShloMosaic.sem_eq_zero_of_no_sems (by decide) r.2⟩)
    (Cert.Reference29Ideal.Value.run (F := Ideal) m ρ)

theorem algebraic : Cert.algebraic_Kernel29Ideal_Reference29Ideal := by
  intro m ρ m' ρ' hpre hagree
  refine ⟨fun c => (dats m 0 c).arrAt 10 cfg0.N, Cert.Kernel29Ideal.Value.run_blocks m ρ, ?_⟩
  refine (θ_run Cert.Reference29Ideal.defs _ _).mono (fun _ h c => ?_) (Cert.Reference29Ideal.Value.run (F := Ideal) m' ρ')
  obtain ⟨h0, hk⟩ := h c
  obtain ⟨e0, e1, e2, e3⟩ := hagree c
  refine ⟨h0.trans ?_, hk⟩
  refine (Cert.Reference29Ideal.Read.val_main_v167_eq _).trans (Eq.trans ?_ (final (c := c) rfl rfl rfl rfl).symm)
  exact congr (congr (congr (congrArg (Cert.Reference29Ideal.Read.val_main_v167 (F := Ideal)) e0) e1) e2) e3

end Cert.Kernel29Ideal.Hand
end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel25.Frame
public import proofs.«01_k».proof.Proof.Claims
public import proofs.«01_k».proof.Proof.Bits
public import proofs.«01_k».proof.Proof.Act
public import proofs.«01_k».proof.Proof.Fwd
public import proofs.«01_k».proof.Proof.Mul2
public import proofs.«01_k».proof.Proof.Mul3
public import proofs.«01_k».proof.Proof.Mul5
public import proofs.«01_k».proof.Proof.Mul6
public import proofs.«01_k».proof.Proof.Mul7
public import proofs.«01_k».proof.Proof.Mul8
public import proofs.«01_k».proof.Proof.Mul9
public import proofs.«01_k».proof.Proof.Norm
public import proofs.«01_k».proof.Proof.Mul10
public import proofs.«01_k».proof.Proof.Mul11
public import proofs.«01_k».proof.Proof.Mul12
public import proofs.«01_k».proof.Proof.Mul13
public import proofs.«01_k».proof.Proof.Mul14
public import proofs.«01_k».proof.Proof.Mul15
public import proofs.«01_k».proof.Proof.Mul16
public import proofs.«01_k».proof.Proof.Mul17
public import proofs.«01_k».proof.Proof.ActFwd
public import proofs.«01_k».proof.Proof.Adam18
public import proofs.«01_k».proof.Proof.Adam19
public import proofs.«01_k».proof.Proof.Adam20
public import proofs.«01_k».proof.Proof.Adam21
public import proofs.«01_k».proof.Proof.Adam22
public import proofs.«01_k».proof.Proof.Adam23
public import proofs.«01_k».proof.Proof.ConvFwd
public import proofs.«01_k».proof.Proof.NormFwd
public import proofs.«01_k».proof.Proof.PoolFwd

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Hand.facts, Cert.Kernel2Ideal.Gen.facts, Cert.Reference2Ideal.Gen.facts,
  Cert.Kernel3.Hand.facts, Cert.Kernel3Ideal.Gen.facts, Cert.Reference3Ideal.Gen.facts,
  Cert.Kernel4.Hand.facts, Cert.Kernel4Ideal.Gen.facts, Cert.Reference4Ideal.Gen.facts,
  Cert.Kernel5.Hand.facts, Cert.Kernel5Ideal.Gen.facts, Cert.Reference5Ideal.Gen.facts,
  Cert.Kernel6.Hand.facts, Cert.Kernel6Ideal.Gen.facts, Cert.Reference6Ideal.Gen.facts,
  Cert.Kernel7.Hand.facts, Cert.Kernel7Ideal.Gen.facts, Cert.Reference7Ideal.Gen.facts,
  Cert.Kernel8.Hand.facts, Cert.Kernel8Ideal.Gen.facts, Cert.Reference8Ideal.Gen.facts,
  Cert.Kernel9.Hand.facts, Cert.Kernel9Ideal.Gen.facts, Cert.Reference9Ideal.Gen.facts,
  Cert.Kernel10.Hand.facts, Cert.Kernel10Ideal.Gen.facts, Cert.Reference10Ideal.Gen.facts,
  Cert.Kernel11.Hand.facts, Cert.Kernel11Ideal.Gen.facts, Cert.Reference11Ideal.Gen.facts,
  Cert.Kernel12.Hand.facts, Cert.Kernel12Ideal.Gen.facts, Cert.Reference12Ideal.Gen.facts,
  Cert.Kernel13.Hand.facts, Cert.Kernel13Ideal.Gen.facts, Cert.Reference13Ideal.Gen.facts,
  Cert.Kernel14.Hand.facts, Cert.Kernel14Ideal.Gen.facts, Cert.Reference14Ideal.Gen.facts,
  Cert.Kernel15.Hand.facts, Cert.Kernel15Ideal.Gen.facts, Cert.Reference15Ideal.Gen.facts,
  Cert.Kernel16.Hand.facts, Cert.Kernel16Ideal.Gen.facts, Cert.Reference16Ideal.Gen.facts,
  Cert.Kernel17.Hand.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Hand.facts, Cert.Kernel24Ideal.Gen.facts, Cert.Reference24Ideal.Gen.facts,
  Cert.Kernel25.Gen.facts, Cert.Kernel25Ideal.Gen.facts, Cert.Reference25Ideal.Gen.facts,
  Cert.Kernel26.Hand.facts, Cert.Kernel26Ideal.Gen.facts, Cert.Reference26Ideal.Gen.facts,
  Cert.Kernel27.Hand.facts, Cert.Kernel27Ideal.Gen.facts, Cert.Reference27Ideal.Gen.facts,
  Cert.Kernel28.Hand.facts, Cert.Kernel28Ideal.Gen.facts, Cert.Reference28Ideal.Gen.facts,
  Cert.Kernel29.Hand.facts, Cert.Kernel29Ideal.Gen.facts, Cert.Reference29Ideal.Gen.facts,
  Cert.Hand.preFacts,
  fun m ρ _ => Cert.Kernel.Gen.frame m ρ, fun m ρ _ => Cert.Kernel.Gen.frame m ρ,
  fun m ρ _ => Cert.KernelIdeal.Gen.frame m ρ, fun m ρ _ => Cert.KernelIdeal.Gen.frame m ρ,
  Cert.Hand.frame_ref, fun m ρ _ => Cert.Hand.frame_ref m ρ trivial,
  Cert.Kernel2.Hand.frame, fun m ρ _ => Cert.Kernel2Ideal.Gen.frame m ρ, Cert.Kernel2Ideal.Hand.frame_ref,
  Cert.Kernel3.Hand.frame, fun m ρ _ => Cert.Kernel3Ideal.Gen.frame m ρ, Cert.Kernel3Ideal.Hand.frame_ref,
  Cert.Kernel4.Hand.frame, fun m ρ _ => Cert.Kernel4Ideal.Gen.frame m ρ, Cert.Kernel4Ideal.Hand.frame_ref,
  Cert.Kernel5.Hand.frame, fun m ρ _ => Cert.Kernel5Ideal.Gen.frame m ρ, Cert.Kernel5Ideal.Hand.frame_ref,
  Cert.Kernel6.Hand.frame, fun m ρ _ => Cert.Kernel6Ideal.Gen.frame m ρ, Cert.Kernel6Ideal.Hand.frame_ref,
  Cert.Kernel7.Hand.frame, fun m ρ _ => Cert.Kernel7Ideal.Gen.frame m ρ, Cert.Kernel7Ideal.Hand.frame_ref,
  Cert.Kernel8.Hand.frame, fun m ρ _ => Cert.Kernel8Ideal.Gen.frame m ρ, Cert.Kernel8Ideal.Hand.frame_ref,
  Cert.Kernel9.Hand.frame, fun m ρ _ => Cert.Kernel9Ideal.Gen.frame m ρ, Cert.Kernel9Ideal.Hand.frame_ref,
  Cert.Kernel10.Hand.frame, fun m ρ _ => Cert.Kernel10Ideal.Gen.frame m ρ, Cert.Kernel10Ideal.Hand.frame_ref,
  Cert.Kernel11.Hand.frame, fun m ρ _ => Cert.Kernel11Ideal.Gen.frame m ρ, Cert.Kernel11Ideal.Hand.frame_ref,
  Cert.Kernel12.Hand.frame, fun m ρ _ => Cert.Kernel12Ideal.Gen.frame m ρ, Cert.Kernel12Ideal.Hand.frame_ref,
  Cert.Kernel13.Hand.frame, fun m ρ _ => Cert.Kernel13Ideal.Gen.frame m ρ, Cert.Kernel13Ideal.Hand.frame_ref,
  Cert.Kernel14.Hand.frame, fun m ρ _ => Cert.Kernel14Ideal.Gen.frame m ρ, Cert.Kernel14Ideal.Hand.frame_ref,
  Cert.Kernel15.Hand.frame, fun m ρ _ => Cert.Kernel15Ideal.Gen.frame m ρ, Cert.Kernel15Ideal.Hand.frame_ref,
  Cert.Kernel16.Hand.frame, fun m ρ _ => Cert.Kernel16Ideal.Gen.frame m ρ, Cert.Kernel16Ideal.Hand.frame_ref,
  Cert.Kernel17.Hand.frame, fun m ρ _ => Cert.Kernel17Ideal.Gen.frame m ρ, Cert.Kernel17Ideal.Hand.frame_ref,
  fun m ρ _ => Cert.Kernel18.Gen.frame m ρ, fun m ρ _ => Cert.Kernel18Ideal.Gen.frame m ρ, Cert.Kernel18Ideal.Hand.frame_ref,
  fun m ρ _ => Cert.Kernel19.Gen.frame m ρ, fun m ρ _ => Cert.Kernel19Ideal.Gen.frame m ρ, Cert.Kernel19Ideal.Hand.frame_ref,
  fun m ρ _ => Cert.Kernel20.Gen.frame m ρ, fun m ρ _ => Cert.Kernel20Ideal.Gen.frame m ρ, Cert.Kernel20Ideal.Hand.frame_ref,
  fun m ρ _ => Cert.Kernel21.Gen.frame m ρ, fun m ρ _ => Cert.Kernel21Ideal.Gen.frame m ρ, Cert.Kernel21Ideal.Hand.frame_ref,
  fun m ρ _ => Cert.Kernel22.Gen.frame m ρ, fun m ρ _ => Cert.Kernel22Ideal.Gen.frame m ρ, Cert.Kernel22Ideal.Hand.frame_ref,
  fun m ρ _ => Cert.Kernel23.Gen.frame m ρ, fun m ρ _ => Cert.Kernel23Ideal.Gen.frame m ρ, Cert.Kernel23Ideal.Hand.frame_ref,
  Cert.Kernel24.Hand.frame, fun m ρ _ => Cert.Kernel24Ideal.Gen.frame m ρ, Cert.Kernel24Ideal.Hand.frame_ref,
  fun m ρ _ => Cert.Kernel25.Gen.frame m ρ, fun m ρ _ => Cert.Kernel25Ideal.Gen.frame m ρ, Cert.Kernel25Ideal.Hand.frame_ref,
  Cert.Kernel26.Hand.frame, fun m ρ _ => Cert.Kernel26Ideal.Gen.frame m ρ, Cert.Kernel26Ideal.Hand.frame_ref,
  Cert.Kernel27.Hand.frame, fun m ρ _ => Cert.Kernel27Ideal.Gen.frame m ρ, Cert.Kernel27Ideal.Hand.frame_ref,
  Cert.Kernel28.Hand.frame, fun m ρ _ => Cert.Kernel28Ideal.Gen.frame m ρ, Cert.Kernel28Ideal.Hand.frame_ref,
  Cert.Kernel29.Hand.frame, fun m ρ _ => Cert.Kernel29Ideal.Gen.frame m ρ, Cert.Kernel29Ideal.Hand.frame_ref,
  Cert.Hand.preserves, Cert.Hand.algebraic,
  trivial, Cert.Kernel2Ideal.Hand.algebraic,
  trivial, Cert.Kernel3Ideal.Hand.algebraic,
  trivial,
  trivial, Cert.Kernel5Ideal.Hand.algebraic,
  trivial, Cert.Kernel6Ideal.Hand.algebraic,
  trivial, Cert.Kernel7Ideal.Hand.algebraic,
  trivial, Cert.Kernel8Ideal.Hand.algebraic,
  trivial, Cert.Kernel9Ideal.Hand.algebraic,
  trivial, Cert.Kernel10Ideal.Hand.algebraic,
  trivial, Cert.Kernel11Ideal.Hand.algebraic,
  trivial, Cert.Kernel12Ideal.Hand.algebraic,
  trivial, Cert.Kernel13Ideal.Hand.algebraic,
  trivial, Cert.Kernel14Ideal.Hand.algebraic,
  trivial, Cert.Kernel15Ideal.Hand.algebraic,
  trivial, Cert.Kernel16Ideal.Hand.algebraic,
  trivial, Cert.Kernel17Ideal.Hand.algebraic,
  Cert.Kernel18Ideal.Hand.preserves, Cert.Kernel18Ideal.Hand.algebraic,
  Cert.Kernel19Ideal.Hand.preserves, Cert.Kernel19Ideal.Hand.algebraic,
  Cert.Kernel20Ideal.Hand.preserves, Cert.Kernel20Ideal.Hand.algebraic,
  Cert.Kernel21Ideal.Hand.preserves, Cert.Kernel21Ideal.Hand.algebraic,
  Cert.Kernel22Ideal.Hand.preserves, Cert.Kernel22Ideal.Hand.algebraic,
  Cert.Kernel23Ideal.Hand.preserves, Cert.Kernel23Ideal.Hand.algebraic,
  trivial,
  Cert.Kernel25Ideal.Hand.preserves, Cert.Kernel25Ideal.Hand.algebraic,
  trivial, Cert.Kernel26Ideal.Hand.algebraic,
  trivial, Cert.Kernel27Ideal.Hand.algebraic,
  trivial, Cert.Kernel28Ideal.Hand.algebraic,
  trivial, Cert.Kernel29Ideal.Hand.algebraic⟩

end Cert.Proof

end
